-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_keys [hPre_finite_queries_keys : Cert.Pre_finite_queries_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_keys [hPre_finite_queries_keys : Cert.Pre_finite_queries_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_SsmCtx (m : (ℓ : Loc Cert.SsmCtx.nD Cert.SsmCtx.τ Cert.SsmCtx.sig) → Buf (Elt Bits) ℓ) : Prop :=
  True

def Pre_SsmCtxIdeal (m : (ℓ : Loc Cert.SsmCtxIdeal.nD Cert.SsmCtxIdeal.τ Cert.SsmCtxIdeal.sig) → Buf (Elt Ideal) ℓ) : Prop :=
  True

def Pre_SsmCtxRefIdeal (m : (ℓ : Loc Cert.SsmCtxRefIdeal.nD Cert.SsmCtxRefIdeal.τ Cert.SsmCtxRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_queries_keys [hAttnIdeal : Cert.AttnIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_queries_keys [hAttnRefIdeal : Cert.AttnRefIdeal.Facts] [hPre_finite_queries_keys : Cert.Pre_finite_queries_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_SsmCtx [hSsmCtx : Cert.SsmCtx.Facts] : Prop :=
  ∀ (m : (ℓ : Loc Cert.SsmCtx.nD Cert.SsmCtx.τ Cert.SsmCtx.sig) → Buf (Elt Bits) ℓ) (g : Dev Cert.SsmCtx.nD → PrngReg), Pre_SsmCtx m →
    θ_run (Cert.SsmCtx.defs (F := Bits)) (onTc (τ := Cert.SsmCtx.τ) (Cert.SsmCtx.main (F := Bits))) ⟨m, fun _ => 0, g⟩ (fun r => (∀ c : Dev Cert.SsmCtx.nD,
      r.2.mem ((c.tc : Thread Cert.SsmCtx.nD Cert.SsmCtx.τ).loc Cert.SsmCtx.main_arg0) = m ((c.tc : Thread Cert.SsmCtx.nD Cert.SsmCtx.τ).loc Cert.SsmCtx.main_arg0)
      ∧ r.2.mem ((c.tc : Thread Cert.SsmCtx.nD Cert.SsmCtx.τ).loc Cert.SsmCtx.main_arg1) = m ((c.tc : Thread Cert.SsmCtx.nD Cert.SsmCtx.τ).loc Cert.SsmCtx.main_arg1)
      ∧ r.2.mem ((c.tc : Thread Cert.SsmCtx.nD Cert.SsmCtx.τ).loc Cert.SsmCtx.main_arg2) = m ((c.tc : Thread Cert.SsmCtx.nD Cert.SsmCtx.τ).loc Cert.SsmCtx.main_arg2)
      ∧ r.2.mem ((c.tc : Thread Cert.SsmCtx.nD Cert.SsmCtx.τ).loc Cert.SsmCtx.main_arg3) = m ((c.tc : Thread Cert.SsmCtx.nD Cert.SsmCtx.τ).loc Cert.SsmCtx.main_arg3)
      ∧ r.2.mem ((c.tc : Thread Cert.SsmCtx.nD Cert.SsmCtx.τ).loc Cert.SsmCtx.main_arg4) = m ((c.tc : Thread Cert.SsmCtx.nD Cert.SsmCtx.τ).loc Cert.SsmCtx.main_arg4)
      ∧ r.2.mem ((c.tc : Thread Cert.SsmCtx.nD Cert.SsmCtx.τ).loc Cert.SsmCtx.main_arg5) = m ((c.tc : Thread Cert.SsmCtx.nD Cert.SsmCtx.τ).loc Cert.SsmCtx.main_arg5)
      ∧ r.2.mem ((c.tc : Thread Cert.SsmCtx.nD Cert.SsmCtx.τ).loc Cert.SsmCtx.main_arg6) = m ((c.tc : Thread Cert.SsmCtx.nD Cert.SsmCtx.τ).loc Cert.SsmCtx.main_arg6)
      ∧ r.2.mem ((c.tc : Thread Cert.SsmCtx.nD Cert.SsmCtx.τ).loc Cert.SsmCtx.main_arg7) = m ((c.tc : Thread Cert.SsmCtx.nD Cert.SsmCtx.τ).loc Cert.SsmCtx.main_arg7)
      ∧ r.2.mem ((c.tc : Thread Cert.SsmCtx.nD Cert.SsmCtx.τ).loc Cert.SsmCtx.main_arg8) = m ((c.tc : Thread Cert.SsmCtx.nD Cert.SsmCtx.τ).loc Cert.SsmCtx.main_arg8))
      ∧ r.2.sem = fun _ => 0)

def quiescent_SsmCtxIdeal [hSsmCtxIdeal : Cert.SsmCtxIdeal.Facts] : Prop :=
  ∀ (m : (ℓ : Loc Cert.SsmCtxIdeal.nD Cert.SsmCtxIdeal.τ Cert.SsmCtxIdeal.sig) → Buf (Elt Ideal) ℓ) (g : Dev Cert.SsmCtxIdeal.nD → PrngReg), Pre_SsmCtxIdeal m →
    θ_run (Cert.SsmCtxIdeal.defs (F := Ideal)) (onTc (τ := Cert.SsmCtxIdeal.τ) (Cert.SsmCtxIdeal.main (F := Ideal))) ⟨m, fun _ => 0, g⟩ (fun r => (∀ c : Dev Cert.SsmCtxIdeal.nD,
      r.2.mem ((c.tc : Thread Cert.SsmCtxIdeal.nD Cert.SsmCtxIdeal.τ).loc Cert.SsmCtxIdeal.main_arg0) = m ((c.tc : Thread Cert.SsmCtxIdeal.nD Cert.SsmCtxIdeal.τ).loc Cert.SsmCtxIdeal.main_arg0)
      ∧ r.2.mem ((c.tc : Thread Cert.SsmCtxIdeal.nD Cert.SsmCtxIdeal.τ).loc Cert.SsmCtxIdeal.main_arg1) = m ((c.tc : Thread Cert.SsmCtxIdeal.nD Cert.SsmCtxIdeal.τ).loc Cert.SsmCtxIdeal.main_arg1)
      ∧ r.2.mem ((c.tc : Thread Cert.SsmCtxIdeal.nD Cert.SsmCtxIdeal.τ).loc Cert.SsmCtxIdeal.main_arg2) = m ((c.tc : Thread Cert.SsmCtxIdeal.nD Cert.SsmCtxIdeal.τ).loc Cert.SsmCtxIdeal.main_arg2)
      ∧ r.2.mem ((c.tc : Thread Cert.SsmCtxIdeal.nD Cert.SsmCtxIdeal.τ).loc Cert.SsmCtxIdeal.main_arg3) = m ((c.tc : Thread Cert.SsmCtxIdeal.nD Cert.SsmCtxIdeal.τ).loc Cert.SsmCtxIdeal.main_arg3)
      ∧ r.2.mem ((c.tc : Thread Cert.SsmCtxIdeal.nD Cert.SsmCtxIdeal.τ).loc Cert.SsmCtxIdeal.main_arg4) = m ((c.tc : Thread Cert.SsmCtxIdeal.nD Cert.SsmCtxIdeal.τ).loc Cert.SsmCtxIdeal.main_arg4)
      ∧ r.2.mem ((c.tc : Thread Cert.SsmCtxIdeal.nD Cert.SsmCtxIdeal.τ).loc Cert.SsmCtxIdeal.main_arg5) = m ((c.tc : Thread Cert.SsmCtxIdeal.nD Cert.SsmCtxIdeal.τ).loc Cert.SsmCtxIdeal.main_arg5)
      ∧ r.2.mem ((c.tc : Thread Cert.SsmCtxIdeal.nD Cert.SsmCtxIdeal.τ).loc Cert.SsmCtxIdeal.main_arg6) = m ((c.tc : Thread Cert.SsmCtxIdeal.nD Cert.SsmCtxIdeal.τ).loc Cert.SsmCtxIdeal.main_arg6)
      ∧ r.2.mem ((c.tc : Thread Cert.SsmCtxIdeal.nD Cert.SsmCtxIdeal.τ).loc Cert.SsmCtxIdeal.main_arg7) = m ((c.tc : Thread Cert.SsmCtxIdeal.nD Cert.SsmCtxIdeal.τ).loc Cert.SsmCtxIdeal.main_arg7)
      ∧ r.2.mem ((c.tc : Thread Cert.SsmCtxIdeal.nD Cert.SsmCtxIdeal.τ).loc Cert.SsmCtxIdeal.main_arg8) = m ((c.tc : Thread Cert.SsmCtxIdeal.nD Cert.SsmCtxIdeal.τ).loc Cert.SsmCtxIdeal.main_arg8))
      ∧ r.2.sem = fun _ => 0)

def quiescent_SsmCtxRefIdeal [hSsmCtxRefIdeal : Cert.SsmCtxRefIdeal.Facts] : Prop :=
  ∀ (m : (ℓ : Loc Cert.SsmCtxRefIdeal.nD Cert.SsmCtxRefIdeal.τ Cert.SsmCtxRefIdeal.sig) → Buf (Elt Ideal) ℓ) (g : Dev Cert.SsmCtxRefIdeal.nD → PrngReg), Pre_SsmCtxRefIdeal m →
    θ_run (Cert.SsmCtxRefIdeal.defs (F := Ideal)) (onTc (τ := Cert.SsmCtxRefIdeal.τ) (Cert.SsmCtxRefIdeal.main (F := Ideal))) ⟨m, fun _ => 0, g⟩ (fun r => (∀ c : Dev Cert.SsmCtxRefIdeal.nD,
      r.2.mem ((c.tc : Thread Cert.SsmCtxRefIdeal.nD Cert.SsmCtxRefIdeal.τ).loc Cert.SsmCtxRefIdeal.main_arg0) = m ((c.tc : Thread Cert.SsmCtxRefIdeal.nD Cert.SsmCtxRefIdeal.τ).loc Cert.SsmCtxRefIdeal.main_arg0)
      ∧ r.2.mem ((c.tc : Thread Cert.SsmCtxRefIdeal.nD Cert.SsmCtxRefIdeal.τ).loc Cert.SsmCtxRefIdeal.main_arg1) = m ((c.tc : Thread Cert.SsmCtxRefIdeal.nD Cert.SsmCtxRefIdeal.τ).loc Cert.SsmCtxRefIdeal.main_arg1)
      ∧ r.2.mem ((c.tc : Thread Cert.SsmCtxRefIdeal.nD Cert.SsmCtxRefIdeal.τ).loc Cert.SsmCtxRefIdeal.main_arg2) = m ((c.tc : Thread Cert.SsmCtxRefIdeal.nD Cert.SsmCtxRefIdeal.τ).loc Cert.SsmCtxRefIdeal.main_arg2)
      ∧ r.2.mem ((c.tc : Thread Cert.SsmCtxRefIdeal.nD Cert.SsmCtxRefIdeal.τ).loc Cert.SsmCtxRefIdeal.main_arg3) = m ((c.tc : Thread Cert.SsmCtxRefIdeal.nD Cert.SsmCtxRefIdeal.τ).loc Cert.SsmCtxRefIdeal.main_arg3)
      ∧ r.2.mem ((c.tc : Thread Cert.SsmCtxRefIdeal.nD Cert.SsmCtxRefIdeal.τ).loc Cert.SsmCtxRefIdeal.main_arg4) = m ((c.tc : Thread Cert.SsmCtxRefIdeal.nD Cert.SsmCtxRefIdeal.τ).loc Cert.SsmCtxRefIdeal.main_arg4)
      ∧ r.2.mem ((c.tc : Thread Cert.SsmCtxRefIdeal.nD Cert.SsmCtxRefIdeal.τ).loc Cert.SsmCtxRefIdeal.main_arg5) = m ((c.tc : Thread Cert.SsmCtxRefIdeal.nD Cert.SsmCtxRefIdeal.τ).loc Cert.SsmCtxRefIdeal.main_arg5)
      ∧ r.2.mem ((c.tc : Thread Cert.SsmCtxRefIdeal.nD Cert.SsmCtxRefIdeal.τ).loc Cert.SsmCtxRefIdeal.main_arg6) = m ((c.tc : Thread Cert.SsmCtxRefIdeal.nD Cert.SsmCtxRefIdeal.τ).loc Cert.SsmCtxRefIdeal.main_arg6)
      ∧ r.2.mem ((c.tc : Thread Cert.SsmCtxRefIdeal.nD Cert.SsmCtxRefIdeal.τ).loc Cert.SsmCtxRefIdeal.main_arg7) = m ((c.tc : Thread Cert.SsmCtxRefIdeal.nD Cert.SsmCtxRefIdeal.τ).loc Cert.SsmCtxRefIdeal.main_arg7)
      ∧ r.2.mem ((c.tc : Thread Cert.SsmCtxRefIdeal.nD Cert.SsmCtxRefIdeal.τ).loc Cert.SsmCtxRefIdeal.main_arg8) = m ((c.tc : Thread Cert.SsmCtxRefIdeal.nD Cert.SsmCtxRefIdeal.τ).loc Cert.SsmCtxRefIdeal.main_arg8))
      ∧ r.2.sem = fun _ => 0)

def preserves_Attn_AttnIdeal : Prop :=
  IdealRules.named_const.Statement Cert.AttnIdeal.κ "scale_log2e" .f32 0x3E0293EE#32 (((Real.sqrt 128)⁻¹ * (Real.log 2)⁻¹ : ℝ) : EReal)

def algebraic_AttnIdeal_AttnRefIdeal_pre_finite_queries_keys [hAttnIdeal : Cert.AttnIdeal.Facts] [hAttnRefIdeal : Cert.AttnRefIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v31) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v23)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v64) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)) →
    ∃ (v0 : (c : Dev Cert.SsmIdeal.nD) → Buf (Elt Ideal) ((c.tc : Thread Cert.SsmIdeal.nD Cert.SsmIdeal.τ).loc Cert.SsmIdeal.main_v8_0)) (v1 : (c : Dev Cert.SsmIdeal.nD) → Buf (Elt Ideal) ((c.tc : Thread Cert.SsmIdeal.nD Cert.SsmIdeal.τ).loc Cert.SsmIdeal.main_v8_1)) (v2 : (c : Dev Cert.SsmIdeal.nD) → Buf (Elt Ideal) ((c.tc : Thread Cert.SsmIdeal.nD Cert.SsmIdeal.τ).loc Cert.SsmIdeal.main_v8_2)) (v3 : (c : Dev Cert.SsmIdeal.nD) → Buf (Elt Ideal) ((c.tc : Thread Cert.SsmIdeal.nD Cert.SsmIdeal.τ).loc Cert.SsmIdeal.main_v8_3)) (v4 : (c : Dev Cert.SsmIdeal.nD) → Buf (Elt Ideal) ((c.tc : Thread Cert.SsmIdeal.nD Cert.SsmIdeal.τ).loc Cert.SsmIdeal.main_v8_4)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v8_0) = v0 c
          ∧ r.2.mem ((c.tc : Thread Cert.SsmIdeal.nD Cert.SsmIdeal.τ).loc Cert.SsmIdeal.main_v8_1) = v1 c
          ∧ r.2.mem ((c.tc : Thread Cert.SsmIdeal.nD Cert.SsmIdeal.τ).loc Cert.SsmIdeal.main_v8_2) = v2 c
          ∧ r.2.mem ((c.tc : Thread Cert.SsmIdeal.nD Cert.SsmIdeal.τ).loc Cert.SsmIdeal.main_v8_3) = v3 c
          ∧ r.2.mem ((c.tc : Thread Cert.SsmIdeal.nD Cert.SsmIdeal.τ).loc Cert.SsmIdeal.main_v8_4) = v4 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v61) = v0 c
          ∧ r.2.mem ((c.tc : Thread Cert.SsmRefIdeal.nD Cert.SsmRefIdeal.τ).loc Cert.SsmRefIdeal.main_v53) = v1 c
          ∧ r.2.mem ((c.tc : Thread Cert.SsmRefIdeal.nD Cert.SsmRefIdeal.τ).loc Cert.SsmRefIdeal.main_v62) = v2 c
          ∧ r.2.mem ((c.tc : Thread Cert.SsmRefIdeal.nD Cert.SsmRefIdeal.τ).loc Cert.SsmRefIdeal.main_v63) = v3 c
          ∧ r.2.mem ((c.tc : Thread Cert.SsmRefIdeal.nD Cert.SsmRefIdeal.τ).loc Cert.SsmRefIdeal.main_v60) = v4 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)) (v2 : (c : Dev Cert.QkvIdeal.nD) → Buf (Elt Ideal) ((c.tc : Thread Cert.QkvIdeal.nD Cert.QkvIdeal.τ).loc Cert.QkvIdeal.main_v7_2)) (v3 : (c : Dev Cert.QkvIdeal.nD) → Buf (Elt Ideal) ((c.tc : Thread Cert.QkvIdeal.nD Cert.QkvIdeal.τ).loc Cert.QkvIdeal.main_v7_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_v7_2) = v2 c
          ∧ r.2.mem ((c.tc : Thread Cert.QkvIdeal.nD Cert.QkvIdeal.τ).loc Cert.QkvIdeal.main_v7_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v20) = v0 c
          ∧ r.2.mem ((c.tc : Thread Cert.QkvRefIdeal.nD Cert.QkvRefIdeal.τ).loc Cert.QkvRefIdeal.main_v84) = v1 c
          ∧ r.2.mem ((c.tc : Thread Cert.QkvRefIdeal.nD Cert.QkvRefIdeal.τ).loc Cert.QkvRefIdeal.main_v85) = v2 c
          ∧ r.2.mem ((c.tc : Thread Cert.QkvRefIdeal.nD Cert.QkvRefIdeal.τ).loc Cert.QkvRefIdeal.main_v86) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v18)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v18) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v161) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_SsmCtx_SsmCtxIdeal : Prop :=
  True

def algebraic_SsmCtxIdeal_SsmCtxRefIdeal [hSsmCtxIdeal : Cert.SsmCtxIdeal.Facts] [hSsmCtxRefIdeal : Cert.SsmCtxRefIdeal.Facts] : Prop :=
  ∀ (m : (ℓ : Loc Cert.SsmCtxIdeal.nD Cert.SsmCtxIdeal.τ Cert.SsmCtxIdeal.sig) → Buf (Elt Ideal) ℓ) (g : Dev Cert.SsmCtxIdeal.nD → PrngReg)
    (m' : (ℓ : Loc Cert.SsmCtxRefIdeal.nD Cert.SsmCtxRefIdeal.τ Cert.SsmCtxRefIdeal.sig) → Buf (Elt Ideal) ℓ) (g' : Dev Cert.SsmCtxRefIdeal.nD → PrngReg), Pre_SsmCtxIdeal m →
    (∀ c : Dev Cert.SsmCtxIdeal.nD,
      m' ((c.tc : Thread Cert.SsmCtxRefIdeal.nD Cert.SsmCtxRefIdeal.τ).loc Cert.SsmCtxRefIdeal.main_arg0) = m ((c.tc : Thread Cert.SsmCtxIdeal.nD Cert.SsmCtxIdeal.τ).loc Cert.SsmCtxIdeal.main_arg0)
      ∧ m' ((c.tc : Thread Cert.SsmCtxRefIdeal.nD Cert.SsmCtxRefIdeal.τ).loc Cert.SsmCtxRefIdeal.main_arg1) = m ((c.tc : Thread Cert.SsmCtxIdeal.nD Cert.SsmCtxIdeal.τ).loc Cert.SsmCtxIdeal.main_arg1)
      ∧ m' ((c.tc : Thread Cert.SsmCtxRefIdeal.nD Cert.SsmCtxRefIdeal.τ).loc Cert.SsmCtxRefIdeal.main_arg2) = m ((c.tc : Thread Cert.SsmCtxIdeal.nD Cert.SsmCtxIdeal.τ).loc Cert.SsmCtxIdeal.main_arg2)
      ∧ m' ((c.tc : Thread Cert.SsmCtxRefIdeal.nD Cert.SsmCtxRefIdeal.τ).loc Cert.SsmCtxRefIdeal.main_arg3) = m ((c.tc : Thread Cert.SsmCtxIdeal.nD Cert.SsmCtxIdeal.τ).loc Cert.SsmCtxIdeal.main_arg3)
      ∧ m' ((c.tc : Thread Cert.SsmCtxRefIdeal.nD Cert.SsmCtxRefIdeal.τ).loc Cert.SsmCtxRefIdeal.main_arg4) = m ((c.tc : Thread Cert.SsmCtxIdeal.nD Cert.SsmCtxIdeal.τ).loc Cert.SsmCtxIdeal.main_arg4)
      ∧ m' ((c.tc : Thread Cert.SsmCtxRefIdeal.nD Cert.SsmCtxRefIdeal.τ).loc Cert.SsmCtxRefIdeal.main_arg5) = m ((c.tc : Thread Cert.SsmCtxIdeal.nD Cert.SsmCtxIdeal.τ).loc Cert.SsmCtxIdeal.main_arg5)
      ∧ m' ((c.tc : Thread Cert.SsmCtxRefIdeal.nD Cert.SsmCtxRefIdeal.τ).loc Cert.SsmCtxRefIdeal.main_arg6) = m ((c.tc : Thread Cert.SsmCtxIdeal.nD Cert.SsmCtxIdeal.τ).loc Cert.SsmCtxIdeal.main_arg6)
      ∧ m' ((c.tc : Thread Cert.SsmCtxRefIdeal.nD Cert.SsmCtxRefIdeal.τ).loc Cert.SsmCtxRefIdeal.main_arg7) = m ((c.tc : Thread Cert.SsmCtxIdeal.nD Cert.SsmCtxIdeal.τ).loc Cert.SsmCtxIdeal.main_arg7)
      ∧ m' ((c.tc : Thread Cert.SsmCtxRefIdeal.nD Cert.SsmCtxRefIdeal.τ).loc Cert.SsmCtxRefIdeal.main_arg8) = m ((c.tc : Thread Cert.SsmCtxIdeal.nD Cert.SsmCtxIdeal.τ).loc Cert.SsmCtxIdeal.main_arg8)) →
    ∃ (v0 : (c : Dev Cert.SsmCtxIdeal.nD) → Buf (Elt Ideal) ((c.tc : Thread Cert.SsmCtxIdeal.nD Cert.SsmCtxIdeal.τ).loc Cert.SsmCtxIdeal.main_v8_0)) (v1 : (c : Dev Cert.SsmCtxIdeal.nD) → Buf (Elt Ideal) ((c.tc : Thread Cert.SsmCtxIdeal.nD Cert.SsmCtxIdeal.τ).loc Cert.SsmCtxIdeal.main_v8_1)) (v2 : (c : Dev Cert.SsmCtxIdeal.nD) → Buf (Elt Ideal) ((c.tc : Thread Cert.SsmCtxIdeal.nD Cert.SsmCtxIdeal.τ).loc Cert.SsmCtxIdeal.main_v8_2)) (v3 : (c : Dev Cert.SsmCtxIdeal.nD) → Buf (Elt Ideal) ((c.tc : Thread Cert.SsmCtxIdeal.nD Cert.SsmCtxIdeal.τ).loc Cert.SsmCtxIdeal.main_v8_3)) (v4 : (c : Dev Cert.SsmCtxIdeal.nD) → Buf (Elt Ideal) ((c.tc : Thread Cert.SsmCtxIdeal.nD Cert.SsmCtxIdeal.τ).loc Cert.SsmCtxIdeal.main_v8_4)),
      θ_run (Cert.SsmCtxIdeal.defs (F := Ideal)) (onTc (τ := Cert.SsmCtxIdeal.τ) (Cert.SsmCtxIdeal.main (F := Ideal))) ⟨m, fun _ => 0, g⟩ (fun r => ∀ c : Dev Cert.SsmCtxIdeal.nD,
          r.2.mem ((c.tc : Thread Cert.SsmCtxIdeal.nD Cert.SsmCtxIdeal.τ).loc Cert.SsmCtxIdeal.main_v8_0) = v0 c
          ∧ r.2.mem ((c.tc : Thread Cert.SsmCtxIdeal.nD Cert.SsmCtxIdeal.τ).loc Cert.SsmCtxIdeal.main_v8_1) = v1 c
          ∧ r.2.mem ((c.tc : Thread Cert.SsmCtxIdeal.nD Cert.SsmCtxIdeal.τ).loc Cert.SsmCtxIdeal.main_v8_2) = v2 c
          ∧ r.2.mem ((c.tc : Thread Cert.SsmCtxIdeal.nD Cert.SsmCtxIdeal.τ).loc Cert.SsmCtxIdeal.main_v8_3) = v3 c
          ∧ r.2.mem ((c.tc : Thread Cert.SsmCtxIdeal.nD Cert.SsmCtxIdeal.τ).loc Cert.SsmCtxIdeal.main_v8_4) = v4 c
          ∧ r.2.mem ((c.tc : Thread Cert.SsmCtxIdeal.nD Cert.SsmCtxIdeal.τ).loc Cert.SsmCtxIdeal.main_arg0) = m ((c.tc : Thread Cert.SsmCtxIdeal.nD Cert.SsmCtxIdeal.τ).loc Cert.SsmCtxIdeal.main_arg0)
          ∧ r.2.mem ((c.tc : Thread Cert.SsmCtxIdeal.nD Cert.SsmCtxIdeal.τ).loc Cert.SsmCtxIdeal.main_arg1) = m ((c.tc : Thread Cert.SsmCtxIdeal.nD Cert.SsmCtxIdeal.τ).loc Cert.SsmCtxIdeal.main_arg1)
          ∧ r.2.mem ((c.tc : Thread Cert.SsmCtxIdeal.nD Cert.SsmCtxIdeal.τ).loc Cert.SsmCtxIdeal.main_arg2) = m ((c.tc : Thread Cert.SsmCtxIdeal.nD Cert.SsmCtxIdeal.τ).loc Cert.SsmCtxIdeal.main_arg2)
          ∧ r.2.mem ((c.tc : Thread Cert.SsmCtxIdeal.nD Cert.SsmCtxIdeal.τ).loc Cert.SsmCtxIdeal.main_arg3) = m ((c.tc : Thread Cert.SsmCtxIdeal.nD Cert.SsmCtxIdeal.τ).loc Cert.SsmCtxIdeal.main_arg3)
          ∧ r.2.mem ((c.tc : Thread Cert.SsmCtxIdeal.nD Cert.SsmCtxIdeal.τ).loc Cert.SsmCtxIdeal.main_arg4) = m ((c.tc : Thread Cert.SsmCtxIdeal.nD Cert.SsmCtxIdeal.τ).loc Cert.SsmCtxIdeal.main_arg4)
          ∧ r.2.mem ((c.tc : Thread Cert.SsmCtxIdeal.nD Cert.SsmCtxIdeal.τ).loc Cert.SsmCtxIdeal.main_arg5) = m ((c.tc : Thread Cert.SsmCtxIdeal.nD Cert.SsmCtxIdeal.τ).loc Cert.SsmCtxIdeal.main_arg5)
          ∧ r.2.mem ((c.tc : Thread Cert.SsmCtxIdeal.nD Cert.SsmCtxIdeal.τ).loc Cert.SsmCtxIdeal.main_arg6) = m ((c.tc : Thread Cert.SsmCtxIdeal.nD Cert.SsmCtxIdeal.τ).loc Cert.SsmCtxIdeal.main_arg6)
          ∧ r.2.mem ((c.tc : Thread Cert.SsmCtxIdeal.nD Cert.SsmCtxIdeal.τ).loc Cert.SsmCtxIdeal.main_arg7) = m ((c.tc : Thread Cert.SsmCtxIdeal.nD Cert.SsmCtxIdeal.τ).loc Cert.SsmCtxIdeal.main_arg7)
          ∧ r.2.mem ((c.tc : Thread Cert.SsmCtxIdeal.nD Cert.SsmCtxIdeal.τ).loc Cert.SsmCtxIdeal.main_arg8) = m ((c.tc : Thread Cert.SsmCtxIdeal.nD Cert.SsmCtxIdeal.τ).loc Cert.SsmCtxIdeal.main_arg8))
      ∧ θ_run (Cert.SsmCtxRefIdeal.defs (F := Ideal)) (onTc (τ := Cert.SsmCtxRefIdeal.τ) (Cert.SsmCtxRefIdeal.main (F := Ideal))) ⟨m', fun _ => 0, g'⟩ (fun r => ∀ c : Dev Cert.SsmCtxRefIdeal.nD,
          r.2.mem ((c.tc : Thread Cert.SsmCtxRefIdeal.nD Cert.SsmCtxRefIdeal.τ).loc Cert.SsmCtxRefIdeal.main_v61) = v0 c
          ∧ r.2.mem ((c.tc : Thread Cert.SsmCtxRefIdeal.nD Cert.SsmCtxRefIdeal.τ).loc Cert.SsmCtxRefIdeal.main_v53) = v1 c
          ∧ r.2.mem ((c.tc : Thread Cert.SsmCtxRefIdeal.nD Cert.SsmCtxRefIdeal.τ).loc Cert.SsmCtxRefIdeal.main_v62) = v2 c
          ∧ r.2.mem ((c.tc : Thread Cert.SsmCtxRefIdeal.nD Cert.SsmCtxRefIdeal.τ).loc Cert.SsmCtxRefIdeal.main_v63) = v3 c
          ∧ r.2.mem ((c.tc : Thread Cert.SsmCtxRefIdeal.nD Cert.SsmCtxRefIdeal.τ).loc Cert.SsmCtxRefIdeal.main_v60) = v4 c
          ∧ r.2.mem ((c.tc : Thread Cert.SsmCtxRefIdeal.nD Cert.SsmCtxRefIdeal.τ).loc Cert.SsmCtxRefIdeal.main_arg0) = m' ((c.tc : Thread Cert.SsmCtxRefIdeal.nD Cert.SsmCtxRefIdeal.τ).loc Cert.SsmCtxRefIdeal.main_arg0)
          ∧ r.2.mem ((c.tc : Thread Cert.SsmCtxRefIdeal.nD Cert.SsmCtxRefIdeal.τ).loc Cert.SsmCtxRefIdeal.main_arg1) = m' ((c.tc : Thread Cert.SsmCtxRefIdeal.nD Cert.SsmCtxRefIdeal.τ).loc Cert.SsmCtxRefIdeal.main_arg1)
          ∧ r.2.mem ((c.tc : Thread Cert.SsmCtxRefIdeal.nD Cert.SsmCtxRefIdeal.τ).loc Cert.SsmCtxRefIdeal.main_arg2) = m' ((c.tc : Thread Cert.SsmCtxRefIdeal.nD Cert.SsmCtxRefIdeal.τ).loc Cert.SsmCtxRefIdeal.main_arg2)
          ∧ r.2.mem ((c.tc : Thread Cert.SsmCtxRefIdeal.nD Cert.SsmCtxRefIdeal.τ).loc Cert.SsmCtxRefIdeal.main_arg3) = m' ((c.tc : Thread Cert.SsmCtxRefIdeal.nD Cert.SsmCtxRefIdeal.τ).loc Cert.SsmCtxRefIdeal.main_arg3)
          ∧ r.2.mem ((c.tc : Thread Cert.SsmCtxRefIdeal.nD Cert.SsmCtxRefIdeal.τ).loc Cert.SsmCtxRefIdeal.main_arg4) = m' ((c.tc : Thread Cert.SsmCtxRefIdeal.nD Cert.SsmCtxRefIdeal.τ).loc Cert.SsmCtxRefIdeal.main_arg4)
          ∧ r.2.mem ((c.tc : Thread Cert.SsmCtxRefIdeal.nD Cert.SsmCtxRefIdeal.τ).loc Cert.SsmCtxRefIdeal.main_arg5) = m' ((c.tc : Thread Cert.SsmCtxRefIdeal.nD Cert.SsmCtxRefIdeal.τ).loc Cert.SsmCtxRefIdeal.main_arg5)
          ∧ r.2.mem ((c.tc : Thread Cert.SsmCtxRefIdeal.nD Cert.SsmCtxRefIdeal.τ).loc Cert.SsmCtxRefIdeal.main_arg6) = m' ((c.tc : Thread Cert.SsmCtxRefIdeal.nD Cert.SsmCtxRefIdeal.τ).loc Cert.SsmCtxRefIdeal.main_arg6)
          ∧ r.2.mem ((c.tc : Thread Cert.SsmCtxRefIdeal.nD Cert.SsmCtxRefIdeal.τ).loc Cert.SsmCtxRefIdeal.main_arg7) = m' ((c.tc : Thread Cert.SsmCtxRefIdeal.nD Cert.SsmCtxRefIdeal.τ).loc Cert.SsmCtxRefIdeal.main_arg7)
          ∧ r.2.mem ((c.tc : Thread Cert.SsmCtxRefIdeal.nD Cert.SsmCtxRefIdeal.τ).loc Cert.SsmCtxRefIdeal.main_arg8) = m' ((c.tc : Thread Cert.SsmCtxRefIdeal.nD Cert.SsmCtxRefIdeal.τ).loc Cert.SsmCtxRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hSsm : Cert.Ssm.Facts) (hSsmIdeal : Cert.SsmIdeal.Facts) (hSsmRefIdeal : Cert.SsmRefIdeal.Facts) (hQkv : Cert.Qkv.Facts) (hQkvIdeal : Cert.QkvIdeal.Facts) (hQkvRefIdeal : Cert.QkvRefIdeal.Facts) (hMix : Cert.Mix.Facts) (hMixIdeal : Cert.MixIdeal.Facts) (hMixRefIdeal : Cert.MixRefIdeal.Facts) (hSsmCtx : Cert.SsmCtx.Facts) (hSsmCtxIdeal : Cert.SsmCtxIdeal.Facts) (hSsmCtxRefIdeal : Cert.SsmCtxRefIdeal.Facts) (hPre_finite_queries_keys : Cert.Pre_finite_queries_keys.Facts),
    quiescent_Attn (hAttn := hAttn)
    ∧ quiescent_AttnIdeal (hAttnIdeal := hAttnIdeal)
    ∧ quiescent_AttnIdeal_pre_finite_queries_keys (hAttnIdeal := hAttnIdeal) (hPre_finite_queries_keys := hPre_finite_queries_keys)
    ∧ quiescent_AttnRefIdeal (hAttnRefIdeal := hAttnRefIdeal)
    ∧ quiescent_AttnRefIdeal_pre_finite_queries_keys (hAttnRefIdeal := hAttnRefIdeal) (hPre_finite_queries_keys := hPre_finite_queries_keys)
    ∧ quiescent_Ffn (hFfn := hFfn)
    ∧ quiescent_FfnIdeal (hFfnIdeal := hFfnIdeal)
    ∧ quiescent_FfnRefIdeal (hFfnRefIdeal := hFfnRefIdeal)
    ∧ quiescent_Ssm (hSsm := hSsm)
    ∧ quiescent_SsmIdeal (hSsmIdeal := hSsmIdeal)
    ∧ quiescent_SsmRefIdeal (hSsmRefIdeal := hSsmRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Mix (hMix := hMix)
    ∧ quiescent_MixIdeal (hMixIdeal := hMixIdeal)
    ∧ quiescent_MixRefIdeal (hMixRefIdeal := hMixRefIdeal)
    ∧ quiescent_SsmCtx (hSsmCtx := hSsmCtx)
    ∧ quiescent_SsmCtxIdeal (hSsmCtxIdeal := hSsmCtxIdeal)
    ∧ quiescent_SsmCtxRefIdeal (hSsmCtxRefIdeal := hSsmCtxRefIdeal)
    ∧ preserves_Attn_AttnIdeal
    ∧ algebraic_AttnIdeal_AttnRefIdeal_pre_finite_queries_keys (hAttnIdeal := hAttnIdeal) (hAttnRefIdeal := hAttnRefIdeal) (hPre_finite_queries_keys := hPre_finite_queries_keys)
    ∧ preserves_Ffn_FfnIdeal
    ∧ algebraic_FfnIdeal_FfnRefIdeal (hFfnIdeal := hFfnIdeal) (hFfnRefIdeal := hFfnRefIdeal)
    ∧ preserves_Ssm_SsmIdeal
    ∧ algebraic_SsmIdeal_SsmRefIdeal (hSsmIdeal := hSsmIdeal) (hSsmRefIdeal := hSsmRefIdeal)
    ∧ preserves_Qkv_QkvIdeal
    ∧ algebraic_QkvIdeal_QkvRefIdeal (hQkvIdeal := hQkvIdeal) (hQkvRefIdeal := hQkvRefIdeal)
    ∧ preserves_Mix_MixIdeal
    ∧ algebraic_MixIdeal_MixRefIdeal (hMixIdeal := hMixIdeal) (hMixRefIdeal := hMixRefIdeal)
    ∧ preserves_SsmCtx_SsmCtxIdeal
    ∧ algebraic_SsmCtxIdeal_SsmCtxRefIdeal (hSsmCtxIdeal := hSsmCtxIdeal) (hSsmCtxRefIdeal := hSsmCtxRefIdeal)
-- ==== Pre_finite_queries_keys.lean ====
abbrev S8x8192x768 : Shape := ⟨3, ![8, 8192, 768]⟩
abbrev S8x256x256 : Shape := ⟨3, ![8, 256, 256]⟩
abbrev S8x8192x256 : Shape := ⟨3, ![8, 8192, 256]⟩
abbrev S_ : Shape := ⟨0, ![]⟩

class Facts : Prop where
  bitsLt_bf16_f32 : FTy.bits .bf16 < FTy.bits .f32
  bcast_S_S8x8192x768 : S_.BroadcastsInDim S8x8192x768 (![] : Fin 0 → Fin S8x8192x768.rank)
  reducesTo_S8x8192x768_S_d0_1_2 : S8x8192x768.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S8x8192x256 : S_.BroadcastsInDim S8x8192x256 (![] : Fin 0 → Fin S8x8192x256.rank)
  reducesTo_S8x8192x256_S_d0_1_2 : S8x8192x256.ReducesTo [0, 1, 2] S_

variable [Facts]

def fn {F : FTy → Type} [FloatOps F] (main_arg0 : FVec F S8x8192x768 .bf16) (main_arg1 : FVec F S8x256x256 .bf16) (main_arg2 : FVec F S8x256x256 .bf16) (main_arg3 : FVec F S8x8192x256 .bf16) (main_arg4 : FVec F S8x8192x256 .bf16) : IVec S_ 1 :=
  let main_v0 : FVec F S8x8192x768 .f32 := (extf .f32 · bitsLt_bf16_f32) main_arg0
  let main_v1 : FVec F S8x256x256 .f32 := (extf .f32 · bitsLt_bf16_f32) main_arg1
  let main_v2 : FVec F S8x8192x256 .f32 := (extf .f32 · bitsLt_bf16_f32) main_arg3
  let main_v3 : FVec F S8x8192x768 .f32 := Host.absf main_v0
  let main_cst : FVec F S_ .f32 := constant S_ .f32 0x7F800000#32
  let main_v4 : FVec F S8x8192x768 .f32 := broadcastInDim S8x8192x768 ![] bcast_S_S8x8192x768 main_cst
  let main_v5 : IVec S8x8192x768 1 := cmpf .olt main_v3 main_v4
  let main_c : IVec S_ 1 := constantI S_ 1 1#1
  let main_v6 : IVec S_ 1 := (fun x v => Host.reduce IntOp.andi x v reducesTo_S8x8192x768_S_d0_1_2 h_S_) main_v5 main_c
  let main_v7 : FVec F S8x256x256 .f32 := Host.absf main_v1
  let main_cst_0 : FVec F S_ .f32 := constant S_ .f32 0x7F800000#32
  let main_v8 : FVec F S8x256x256 .f32 := broadcastInDim S8x256x256 ![] bcast_S_S8x256x256 main_cst_0
  let main_v9 : IVec S8x256x256 1 := cmpf .olt main_v7 main_v8
  let main_c_1 : IVec S_ 1 := constantI S_ 1 1#1
  let main_v10 : IVec S_ 1 := (fun x v => Host.reduce IntOp.andi x v reducesTo_S8x256x256_S_d0_1_2 h_S_) main_v9 main_c_1
  let main_v11 : IVec S_ 1 := andi main_v6 main_v10
  let main_v12 : FVec F S8x8192x256 .f32 := Host.absf main_v2
  let main_cst_2 : FVec F S_ .f32 := constant S_ .f32 0x7F800000#32
  let main_v13 : FVec F S8x8192x256 .f32 := broadcastInDim S8x8192x256 ![] bcast_S_S8x8192x256 main_cst_2
  let main_v14 : IVec S8x8192x256 1 := cmpf .olt main_v12 main_v13
  let main_c_3 : IVec S_ 1 := constantI S_ 1 1#1
  let main_v15 : IVec S_ 1 := (fun x v => Host.reduce IntOp.andi x v reducesTo_S8x8192x256_S_d0_1_2 h_S_) main_v14 main_c_3
  let main_v16 : IVec S_ 1 := andi main_v11 main_v15
  main_v16
-- ==== Attn.lean ====
abbrev S8x8192x768 : Shape := ⟨3, ![8, 8192, 768]⟩
abbrev S8x256x256 : Shape := ⟨3, ![8, 256, 256]⟩
abbrev S8x8192x256 : Shape := ⟨3, ![8, 8192, 256]⟩
abbrev S1x256x384 : Shape := ⟨3, ![1, 256, 384]⟩
abbrev S1x256x128 : Shape := ⟨3, ![1, 256, 128]⟩
abbrev S1x8192x128 : Shape := ⟨3, ![1, 8192, 128]⟩
abbrev S768x1 : Shape := ⟨2, ![768, 1]⟩
abbrev S768x128 : Shape := ⟨2, ![768, 128]⟩
abbrev S256x384 : Shape := ⟨2, ![256, 384]⟩
abbrev S256x128 : Shape := ⟨2, ![256, 128]⟩
abbrev S768x256 : Shape := ⟨2, ![768, 256]⟩
abbrev S768 : Shape := ⟨1, ![768]⟩
abbrev S1x512x128 : Shape := ⟨3, ![1, 512, 128]⟩
abbrev S512x128 : Shape := ⟨2, ![512, 128]⟩
abbrev S768x512 : Shape := ⟨2, ![768, 512]⟩

abbrev nBuf : Space → Nat
  | .hbm => 6
  | .vmem => 15
  | .smem => 0
  | _ => 0

abbrev bufTy : (tb : Table) → Fin (tcTables nBuf tb) → BufTy
  | .hbm, ⟨0, _⟩ => ⟨S8x8192x768, .bf16⟩
  | .hbm, ⟨1, _⟩ => ⟨S8x256x256, .bf16⟩
  | .hbm, ⟨2, _⟩ => ⟨S8x256x256, .bf16⟩
  | .hbm, ⟨3, _⟩ => ⟨S8x8192x256, .bf16⟩
  | .hbm, ⟨4, _⟩ => ⟨S8x8192x256, .bf16⟩
  | .hbm, ⟨5, _⟩ => ⟨S8x8192x768, .bf16⟩
  | .local _ .vmem, ⟨0, _⟩ => ⟨S1x256x384, .bf16⟩
  | .local _ .vmem, ⟨1, _⟩ => ⟨S1x256x384, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x256x384, .bf16⟩
  | .local _ .vmem, ⟨11, _⟩ => ⟨S1x256x384, .bf16⟩
  | .local _ .vmem, ⟨12, _⟩ => ⟨S768x1, .f32⟩
  | .local _ .vmem, ⟨13, _⟩ => ⟨S768x1, .f32⟩
  | .local _ .vmem, ⟨14, _⟩ => ⟨S768x128, .f32⟩
  | _, _ => ⟨S8x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 32], ![false, false, false]⟩

@[reducible] def k0_t1_loop : Scf.Loop 32 :=
  let c0_i32 : BitVec 32 := 0#32
  let c16_i32 : BitVec 32 := 16#32
  let v56 : BitVec 32 := Scalar.addi c0_i32 c16_i32
  let c1_i32 : BitVec 32 := 1#32
  ⟨c0_i32, v56, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v76 : BitVec 32 := Scalar.muli arg12 c512_i32
  v76
def k0_off1 (k0_t1 : Fin k0_t1_loop.trips) : Fin 3 → Nat :=
  let c0_46 : Index := 0#32
  let c0_i32 : BitVec 32 := 0#32
  let c1_i32 : BitVec 32 := 1#32
  let arg12 : BitVec 32 := Scf.iv c0_i32 c1_i32 k0_t1
  let c512_i32 : BitVec 32 := 512#32
  let v76 : BitVec 32 := Scalar.muli arg12 c512_i32
  let v77 : BitVec 32 := v76
  let v78 : Index := Scalar.indexCast v77
  let c0_47 : Index := 0#32
  ![0, v78.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "scale_log2e" => some (((Real.sqrt 128)⁻¹ * (Real.log 2)⁻¹ : ℝ) : EReal)
  | _ => none
-- ==== AttnRefIdeal.lean ====
abbrev S8x8192x768 : Shape := ⟨3, ![8, 8192, 768]⟩
abbrev S8x256x256 : Shape := ⟨3, ![8, 256, 256]⟩
abbrev S8x8192x256 : Shape := ⟨3, ![8, 8192, 256]⟩
abbrev S8x8192x2x3x128 : Shape := ⟨5, ![8, 8192, 2, 3, 128]⟩
abbrev S8x8448x256 : Shape := ⟨3, ![8, 8448, 256]⟩
abbrev S8x8448x2x128 : Shape := ⟨4, ![8, 8448, 2, 128]⟩
abbrev S8x2x8448x8192x3 : Shape := ⟨5, ![8, 2, 8448, 8192, 3]⟩
abbrev S8x2x3x8192x8448 : Shape := ⟨5, ![8, 2, 3, 8192, 8448]⟩
abbrev S_ : Shape := ⟨0, ![]⟩
abbrev S8x2x3x8192 : Shape := ⟨4, ![8, 2, 3, 8192]⟩
abbrev S8x2x3x8192x1 : Shape := ⟨5, ![8, 2, 3, 8192, 1]⟩
abbrev S8x2x128x3x8192 : Shape := ⟨5, ![8, 2, 128, 3, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8x8192x768, .bf16⟩
  | .hbm, ⟨1, _⟩ => ⟨S8x256x256, .bf16⟩
  | .hbm, ⟨2, _⟩ => ⟨S8x256x256, .bf16⟩
  | .hbm, ⟨3, _⟩ => ⟨S8x8192x256, .bf16⟩
  | .hbm, ⟨4, _⟩ => ⟨S8x8192x256, .bf16⟩
  | .hbm, ⟨5, _⟩ => ⟨S8x8192x768, .f32⟩
  | .hbm, ⟨6, _⟩ => ⟨S8x8192x2x3x128, .f32⟩
  | .hbm, ⟨7, _⟩ => ⟨S8x8448x256, .bf16⟩
  | .hbm, ⟨8, _⟩ => ⟨S8x8448x256, .f32⟩
  | .hbm, ⟨9, _⟩ => ⟨S8x8448x256, .bf16⟩
  | .hbm, ⟨10, _⟩ => ⟨S8x8448x256, .f32⟩
  | .hbm, ⟨11, _⟩ => ⟨S8x8448x2x128, .f32⟩
  | .hbm, ⟨12, _⟩ => ⟨S8x8448x2x128, .f32⟩
  | .hbm, ⟨13, _⟩ => ⟨S8x2x8448x8192x3, .f32⟩
  | .hbm, ⟨14, _⟩ => ⟨S8x2x3x8192x8448, .f32⟩
  | .hbm, ⟨15, _⟩ => ⟨S8x2x3x8192x8448, .bf16⟩
  | .hbm, ⟨16, _⟩ => ⟨S8x2x3x8192x8448, .f32⟩
  | .hbm, ⟨17, _⟩ => ⟨S_, .f32⟩
  | .hbm, ⟨18, _⟩ => ⟨S_, .f32⟩
  | .hbm, ⟨19, _⟩ => ⟨S8x2x3x8192x8448, .f32⟩
  | .hbm, ⟨20, _⟩ => ⟨S8x2x3x8192x8448, .f32⟩
  | .hbm, ⟨21, _⟩ => ⟨S_, .f32⟩
  | .hbm, ⟨22, _⟩ => ⟨S8x2x3x8192, .f32⟩
  | .hbm, ⟨23, _⟩ => ⟨S_, .f32⟩
  | .hbm, ⟨24, _⟩ => ⟨S8x2x3x8192, .f32⟩
  | .hbm, ⟨25, _⟩ => ⟨S8x2x3x8192, .f32⟩
  | .hbm, ⟨26, _⟩ => ⟨S8x2x3x8192x1, .f32⟩
  | .hbm, ⟨27, _⟩ => ⟨S8x2x3x8192x8448, .f32⟩
  | .hbm, ⟨28, _⟩ => ⟨S8x2x3x8192x8448, .f32⟩
  | .hbm, ⟨29, _⟩ => ⟨S8x2x3x8192x8448, .f32⟩
  | .hbm, ⟨30, _⟩ => ⟨S_, .f32⟩
  | .hbm, ⟨31, _⟩ => ⟨S8x2x3x8192, .f32⟩
  | .hbm, ⟨32, _⟩ => ⟨S8x2x3x8192x1, .f32⟩
  | .hbm, ⟨33, _⟩ => ⟨S8x2x3x8192x8448, .f32⟩
  | .hbm, ⟨34, _⟩ => ⟨S8x2x3x8192x8448, .f32⟩
  | .hbm, ⟨35, _⟩ => ⟨S8x2x3x8192x8448, .bf16⟩
  | .hbm, ⟨36, _⟩ => ⟨S8x2x3x8192x8448, .f32⟩
  | .hbm, ⟨37, _⟩ => ⟨S8x2x128x3x8192, .f32⟩
  | .hbm, ⟨38, _⟩ => ⟨S8x8192x2x3x128, .f32⟩
  | .hbm, ⟨39, _⟩ => ⟨S8x8192x768, .f32⟩
  | .hbm, ⟨40, _⟩ => ⟨S8x8192x768, .bf16⟩
  | _, _ => ⟨S8x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Ffn.lean ====
abbrev S8x8192x1024 : Shape := ⟨3, ![8, 8192, 1024]⟩
abbrev S8x1x1024 : Shape := ⟨3, ![8, 1, 1024]⟩
abbrev S1024 : Shape := ⟨1, ![1024]⟩
abbrev S1024x5632 : Shape := ⟨2, ![1024, 5632]⟩
abbrev S5632x3 : Shape := ⟨2, ![5632, 3]⟩
abbrev S5632 : Shape := ⟨1, ![5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x5632 : Shape := ⟨2, ![3, 5632]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x1x256 : Shape := ⟨3, ![11, 1, 256]⟩
abbrev S11x1x512 : Shape := ⟨3, ![11, 1, 512]⟩
abbrev S11x256x1024 : Shape := ⟨3, ![11, 256, 1024]⟩
abbrev S1x1024 : Shape := ⟨2, ![1, 1024]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x1024 : Shape := ⟨2, ![528, 1024]⟩
abbrev S528x512 : Shape := ⟨2, ![528, 512]⟩
abbrev S512x1024 : Shape := ⟨2, ![512, 1024]⟩
abbrev S8x1024 : Shape := ⟨2, ![8, 1024]⟩
abbrev S528 : Shape := ⟨1, ![528]⟩
abbrev S528x1 : Shape := ⟨2, ![528, 1]⟩
abbrev S1x1024x512 : Shape := ⟨3, ![1, 1024, 512]⟩
abbrev S1024x512 : Shape := ⟨2, ![1024, 512]⟩
abbrev S8x512 : Shape := ⟨2, ![8, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S512x512 : Shape := ⟨2, ![512, 512]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 34
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S5632x3, .f32⟩
  | .hbm, ⟨8, _⟩ => ⟨S5632, .f32⟩
  | .hbm, ⟨9, _⟩ => ⟨S2816x1024, .f32⟩
  | .hbm, ⟨10, _⟩ => ⟨S1024x5632, .bf16⟩
  | .hbm, ⟨11, _⟩ => ⟨S1024x2816, .bf16⟩
  | .hbm, ⟨12, _⟩ => ⟨S1024x11x256, .bf16⟩
  | .hbm, ⟨13, _⟩ => ⟨S1024x2816, .bf16⟩
  | .hbm, ⟨14, _⟩ => ⟨S1024x11x256, .bf16⟩
  | .hbm, ⟨15, _⟩ => ⟨S1024x11x512, .bf16⟩
  | .hbm, ⟨16, _⟩ => ⟨S11x1024x512, .bf16⟩
  | .hbm, ⟨17, _⟩ => ⟨S3x5632, .f32⟩
  | .hbm, ⟨18, _⟩ => ⟨S3x2816, .f32⟩
  | .hbm, ⟨19, _⟩ => ⟨S3x11x256, .f32⟩
  | .hbm, ⟨20, _⟩ => ⟨S3x2816, .f32⟩
  | .hbm, ⟨21, _⟩ => ⟨S3x11x256, .f32⟩
  | .hbm, ⟨22, _⟩ => ⟨S3x11x512, .f32⟩
  | .hbm, ⟨23, _⟩ => ⟨S11x3x512, .f32⟩
  | .hbm, ⟨24, _⟩ => ⟨S2816, .f32⟩
  | .hbm, ⟨25, _⟩ => ⟨S11x1x256, .f32⟩
  | .hbm, ⟨26, _⟩ => ⟨S2816, .f32⟩
  | .hbm, ⟨27, _⟩ => ⟨S11x1x256, .f32⟩
  | .hbm, ⟨28, _⟩ => ⟨S11x1x512, .f32⟩
  | .hbm, ⟨29, _⟩ => ⟨S2816x1024, .bf16⟩
  | .hbm, ⟨30, _⟩ => ⟨S11x256x1024, .bf16⟩
  | .hbm, ⟨31, _⟩ => ⟨S1x1024, .f32⟩
  | .hbm, ⟨32, _⟩ => ⟨S1x1024, .f32⟩
  | .hbm, ⟨33, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S11x1024x512, .bf16⟩
  | .local _ .vmem, ⟨15, _⟩ => ⟨S11x3x512, .f32⟩
  | .local _ .vmem, ⟨16, _⟩ => ⟨S11x1x512, .f32⟩
  | .local _ .vmem, ⟨17, _⟩ => ⟨S11x256x1024, .bf16⟩
  | .local _ .vmem, ⟨18, _⟩ => ⟨S1x512x1024, .f32⟩
  | .local _ .vmem, ⟨19, _⟩ => ⟨S1x512x1024, .f32⟩
  | .local _ .vmem, ⟨20, _⟩ => ⟨S528x1024, .f32⟩
  | .local _ .vmem, ⟨21, _⟩ => ⟨S528x1024, .bf16⟩
  | .local _ .vmem, ⟨22, _⟩ => ⟨S528x512, .f32⟩
  | .local _ .vmem, ⟨23, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c11_i32 : BitVec 32 := 11#32
  let v48 : BitVec 32 := Scalar.addi c0_i32 c11_i32
  let c1_i32 : BitVec 32 := 1#32
  ⟨c0_i32, v48, c1_i32⟩
def k0_off1 (k0_t1 : Fin k0_t1_loop.trips) : Fin 3 → Nat :=
  let c0_i32 : BitVec 32 := 0#32
  let c1_i32 : BitVec 32 := 1#32
  let arg19 : BitVec 32 := Scf.iv c0_i32 c1_i32 k0_t1
  let v75 : Index := Scalar.indexCast arg19
  let c0_49 : Index := 0#32
  let c0_50 : Index := 0#32
  ![v75.toNat, 0, 0]
def k0_off2 (k0_t1 : Fin k0_t1_loop.trips) : Fin 3 → Nat :=
  let c0_i32 : BitVec 32 := 0#32
  let c1_i32 : BitVec 32 := 1#32
  let arg19 : BitVec 32 := Scf.iv c0_i32 c1_i32 k0_t1
  let v88 : Index := Scalar.indexCast arg19
  let c0_57 : Index := 0#32
  let c0_58 : Index := 0#32
  ![v88.toNat, 0, 0]
def k0_off3 (k0_t1 : Fin k0_t1_loop.trips) : Fin 3 → Nat :=
  let c0_i32 : BitVec 32 := 0#32
  let c1_i32 : BitVec 32 := 1#32
  let arg19 : BitVec 32 := Scf.iv c0_i32 c1_i32 k0_t1
  let v91 : Index := Scalar.indexCast arg19
  let c0_59 : Index := 0#32
  let c0_60 : Index := 0#32
  ![v91.toNat, 0, 0]
def k0_off4 (k0_t1 : Fin k0_t1_loop.trips) : Fin 3 → Nat :=
  let c0_i32 : BitVec 32 := 0#32
  let c1_i32 : BitVec 32 := 1#32
  let arg19 : BitVec 32 := Scf.iv c0_i32 c1_i32 k0_t1
  let v117 : Index := Scalar.indexCast arg19
  let c0_67 : Index := 0#32
  let c0_68 : Index := 0#32
  ![v117.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S11x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x5632 : Shape := ⟨2, ![1024, 5632]⟩
abbrev S5632x3 : Shape := ⟨2, ![5632, 3]⟩
abbrev S5632 : Shape := ⟨1, ![5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8194x5632 : Shape := ⟨3, ![8, 8194, 5632]⟩
abbrev S5632x1 : Shape := ⟨2, ![5632, 1]⟩
abbrev S1x1x5632 : Shape := ⟨3, ![1, 1, 5632]⟩
abbrev S8x8192x2816 : Shape := ⟨3, ![8, 8192, 2816]⟩

abbrev nBuf : Space → Nat
  | .hbm => 92
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S5632x3, .f32⟩
  | .hbm, ⟨8, _⟩ => ⟨S5632, .f32⟩
  | .hbm, ⟨9, _⟩ => ⟨S2816x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x5632, .f32⟩
  | .hbm, ⟨34, _⟩ => ⟨S_, .i32⟩
  | .hbm, ⟨35, _⟩ => ⟨S_, .f32⟩
  | .hbm, ⟨36, _⟩ => ⟨S8x8194x5632, .f32⟩
  | .hbm, ⟨37, _⟩ => ⟨S8x8192x5632, .f32⟩
  | .hbm, ⟨38, _⟩ => ⟨S5632x1, .f32⟩
  | .hbm, ⟨39, _⟩ => ⟨S5632, .f32⟩
  | .hbm, ⟨40, _⟩ => ⟨S1x1x5632, .f32⟩
  | .hbm, ⟨41, _⟩ => ⟨S8x8192x5632, .f32⟩
  | .hbm, ⟨42, _⟩ => ⟨S8x8192x5632, .f32⟩
  | .hbm, ⟨43, _⟩ => ⟨S1x1x5632, .f32⟩
  | .hbm, ⟨44, _⟩ => ⟨S8x8192x5632, .f32⟩
  | .hbm, ⟨45, _⟩ => ⟨S8x8192x5632, .f32⟩
  | .hbm, ⟨46, _⟩ => ⟨S8x8192x5632, .f32⟩
  | .hbm, ⟨47, _⟩ => ⟨S5632x1, .f32⟩
  | .hbm, ⟨48, _⟩ => ⟨S5632, .f32⟩
  | .hbm, ⟨49, _⟩ => ⟨S1x1x5632, .f32⟩
  | .hbm, ⟨50, _⟩ => ⟨S8x8192x5632, .f32⟩
  | .hbm, ⟨51, _⟩ => ⟨S8x8192x5632, .f32⟩
  | .hbm, ⟨52, _⟩ => ⟨S8x8192x5632, .f32⟩
  | .hbm, ⟨53, _⟩ => ⟨S8x8192x5632, .f32⟩
  | .hbm, ⟨54, _⟩ => ⟨S5632x1, .f32⟩
  | .hbm, ⟨55, _⟩ => ⟨S5632, .f32⟩
  | .hbm, ⟨56, _⟩ => ⟨S1x1x5632, .f32⟩
  | .hbm, ⟨57, _⟩ => ⟨S8x8192x5632, .f32⟩
  | .hbm, ⟨58, _⟩ => ⟨S8x8192x5632, .f32⟩
  | .hbm, ⟨59, _⟩ => ⟨S8x8192x5632, .f32⟩
  | .hbm, ⟨60, _⟩ => ⟨S8x8192x2816, .f32⟩
  | .hbm, ⟨61, _⟩ => ⟨S8x8192x2816, .f32⟩
  | .hbm, ⟨62, _⟩ => ⟨S8x8192x2816, .f32⟩
  | .hbm, ⟨63, _⟩ => ⟨S_, .f32⟩
  | .hbm, ⟨64, _⟩ => ⟨S8x8192x2816, .f32⟩
  | .hbm, ⟨65, _⟩ => ⟨S8x8192x2816, .f32⟩
  | .hbm, ⟨66, _⟩ => ⟨S_, .f32⟩
  | .hbm, ⟨67, _⟩ => ⟨S8x8192x2816, .f32⟩
  | .hbm, ⟨68, _⟩ => ⟨S8x8192x2816, .f32⟩
  | .hbm, ⟨69, _⟩ => ⟨S8x8192x2816, .f32⟩
  | .hbm, ⟨70, _⟩ => ⟨S8x8192x2816, .f32⟩
  | .hbm, ⟨71, _⟩ => ⟨S8x8192x2816, .f32⟩
  | .hbm, ⟨72, _⟩ => ⟨S8x8192x1024, .f32⟩
  | .hbm, ⟨73, _⟩ => ⟨S8x8192x1024, .f32⟩
  | .hbm, ⟨74, _⟩ => ⟨S_, .f32⟩
  | .hbm, ⟨75, _⟩ => ⟨S8x8192, .f32⟩
  | .hbm, ⟨76, _⟩ => ⟨S8x8192x1, .f32⟩
  | .hbm, ⟨77, _⟩ => ⟨S_, .f32⟩
  | .hbm, ⟨78, _⟩ => ⟨S8x8192x1, .f32⟩
  | .hbm, ⟨79, _⟩ => ⟨S8x8192x1, .f32⟩
  | .hbm, ⟨80, _⟩ => ⟨S_, .f32⟩
  | .hbm, ⟨81, _⟩ => ⟨S8x8192x1, .f32⟩
  | .hbm, ⟨82, _⟩ => ⟨S8x8192x1, .f32⟩
  | .hbm, ⟨83, _⟩ => ⟨S8x8192x1, .f32⟩
  | .hbm, ⟨84, _⟩ => ⟨S8x8192x1024, .f32⟩
  | .hbm, ⟨85, _⟩ => ⟨S8x8192x1024, .f32⟩
  | .hbm, ⟨86, _⟩ => ⟨S1x1x1024, .f32⟩
  | .hbm, ⟨87, _⟩ => ⟨S8x8192x1024, .f32⟩
  | .hbm, ⟨88, _⟩ => ⟨S8x8192x1024, .f32⟩
  | .hbm, ⟨89, _⟩ => ⟨S8x8192x1024, .f32⟩
  | .hbm, ⟨90, _⟩ => ⟨S8x8192x1024, .f32⟩
  | .hbm, ⟨91, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Ssm.lean ====
abbrev S8x8192x1024 : Shape := ⟨3, ![8, 8192, 1024]⟩
abbrev S8x1x1024 : Shape := ⟨3, ![8, 1, 1024]⟩
abbrev S1024 : Shape := ⟨1, ![1024]⟩
abbrev S1024x5120 : Shape := ⟨2, ![1024, 5120]⟩
abbrev S3072x4 : Shape := ⟨2, ![3072, 4]⟩
abbrev S3072 : Shape := ⟨1, ![3072]⟩
abbrev S1024x128 : Shape := ⟨2, ![1024, 128]⟩
abbrev S128 : Shape := ⟨1, ![128]⟩
abbrev S1x1024 : Shape := ⟨2, ![1, 1024]⟩
abbrev S1024x2048 : Shape := ⟨2, ![1024, 2048]⟩
abbrev S1024x3072 : Shape := ⟨2, ![1024, 3072]⟩
abbrev S4x3072 : Shape := ⟨2, ![4, 3072]⟩
abbrev S1x3072 : Shape := ⟨2, ![1, 3072]⟩
abbrev S1x128 : Shape := ⟨2, ![1, 128]⟩
abbrev S8x8192x2048 : Shape := ⟨3, ![8, 8192, 2048]⟩
abbrev S8x8192x512 : Shape := ⟨3, ![8, 8192, 512]⟩
abbrev S8x8192x128 : Shape := ⟨3, ![8, 8192, 128]⟩
abbrev S1x256x1024 : Shape := ⟨3, ![1, 256, 1024]⟩
abbrev S1x8x1024 : Shape := ⟨3, ![1, 8, 1024]⟩
abbrev S1x1x1024 : Shape := ⟨3, ![1, 1, 1024]⟩
abbrev S1x256x2048 : Shape := ⟨3, ![1, 256, 2048]⟩
abbrev S1x256x512 : Shape := ⟨3, ![1, 256, 512]⟩
abbrev S1x256x128 : Shape := ⟨3, ![1, 256, 128]⟩
abbrev S272x1024 : Shape := ⟨2, ![272, 1024]⟩
abbrev S272x512 : Shape := ⟨2, ![272, 512]⟩
abbrev S8x1024 : Shape := ⟨2, ![8, 1024]⟩
abbrev S256x1024 : Shape := ⟨2, ![256, 1024]⟩
abbrev S272 : Shape := ⟨1, ![272]⟩
abbrev S272x1 : Shape := ⟨2, ![272, 1]⟩
abbrev S1024x512 : Shape := ⟨2, ![1024, 512]⟩
abbrev S256x512 : Shape := ⟨2, ![256, 512]⟩
abbrev S256x128 : Shape := ⟨2, ![256, 128]⟩
abbrev S8x512 : Shape := ⟨2, ![8, 512]⟩
abbrev S1x512 : Shape := ⟨2, ![1, 512]⟩

abbrev nBuf : Space → Nat
  | .hbm => 22
  | .vmem => 29
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x5120, .f32⟩
  | .hbm, ⟨5, _⟩ => ⟨S3072x4, .f32⟩
  | .hbm, ⟨6, _⟩ => ⟨S3072, .f32⟩
  | .hbm, ⟨7, _⟩ => ⟨S1024x128, .f32⟩
  | .hbm, ⟨8, _⟩ => ⟨S128, .f32⟩
  | .hbm, ⟨9, _⟩ => ⟨S1024x5120, .bf16⟩
  | .hbm, ⟨10, _⟩ => ⟨S1x1024, .f32⟩
  | .hbm, ⟨11, _⟩ => ⟨S1024x2048, .bf16⟩
  | .hbm, ⟨12, _⟩ => ⟨S1024x3072, .bf16⟩
  | .hbm, ⟨13, _⟩ => ⟨S1024x128, .bf16⟩
  | .hbm, ⟨14, _⟩ => ⟨S4x3072, .f32⟩
  | .hbm, ⟨15, _⟩ => ⟨S1x3072, .f32⟩
  | .hbm, ⟨16, _⟩ => ⟨S1x128, .f32⟩
  | .hbm, ⟨17, _⟩ => ⟨S8x8192x2048, .f32⟩
  | .hbm, ⟨18, _⟩ => ⟨S8x8192x2048, .f32⟩
  | .hbm, ⟨19, _⟩ => ⟨S8x8192x512, .bf16⟩
  | .hbm, ⟨20, _⟩ => ⟨S8x8192x512, .bf16⟩
  | .hbm, ⟨21, _⟩ => ⟨S8x8192x128, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x2048, .bf16⟩
  | .local _ .vmem, ⟨12, _⟩ => ⟨S1024x3072, .bf16⟩
  | .local _ .vmem, ⟨13, _⟩ => ⟨S1024x128, .bf16⟩
  | .local _ .vmem, ⟨14, _⟩ => ⟨S4x3072, .f32⟩
  | .local _ .vmem, ⟨15, _⟩ => ⟨S1x3072, .f32⟩
  | .local _ .vmem, ⟨16, _⟩ => ⟨S1x128, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x128, .f32⟩
  | .local _ .vmem, ⟨26, _⟩ => ⟨S1x256x128, .f32⟩
  | .local _ .vmem, ⟨27, _⟩ => ⟨S272x1024, .f32⟩
  | .local _ .vmem, ⟨28, _⟩ => ⟨S272x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== SsmIdeal.lean ====
abbrev S8x8192x1024 : Shape := ⟨3, ![8, 8192, 1024]⟩
abbrev S8x1x1024 : Shape := ⟨3, ![8, 1, 1024]⟩
abbrev S1024 : Shape := ⟨1, ![1024]⟩
abbrev S1024x5120 : Shape := ⟨2, ![1024, 5120]⟩
abbrev S3072x4 : Shape := ⟨2, ![3072, 4]⟩
abbrev S3072 : Shape := ⟨1, ![3072]⟩
abbrev S1024x128 : Shape := ⟨2, ![1024, 128]⟩
abbrev S128 : Shape := ⟨1, ![128]⟩
abbrev S1x1024 : Shape := ⟨2, ![1, 1024]⟩
abbrev S1024x2048 : Shape := ⟨2, ![1024, 2048]⟩
abbrev S1024x3072 : Shape := ⟨2, ![1024, 3072]⟩
abbrev S4x3072 : Shape := ⟨2, ![4, 3072]⟩
abbrev S1x3072 : Shape := ⟨2, ![1, 3072]⟩
abbrev S1x128 : Shape := ⟨2, ![1, 128]⟩
abbrev S8x8192x2048 : Shape := ⟨3, ![8, 8192, 2048]⟩
abbrev S8x8192x512 : Shape := ⟨3, ![8, 8192, 512]⟩
abbrev S8x8192x128 : Shape := ⟨3, ![8, 8192, 128]⟩
abbrev S1x256x1024 : Shape := ⟨3, ![1, 256, 1024]⟩
abbrev S1x8x1024 : Shape := ⟨3, ![1, 8, 1024]⟩
abbrev S1x1x1024 : Shape := ⟨3, ![1, 1, 1024]⟩
abbrev S1x256x2048 : Shape := ⟨3, ![1, 256, 2048]⟩
abbrev S1x256x512 : Shape := ⟨3, ![1, 256, 512]⟩
abbrev S1x256x128 : Shape := ⟨3, ![1, 256, 128]⟩
abbrev S272x1024 : Shape := ⟨2, ![272, 1024]⟩
abbrev S272x512 : Shape := ⟨2, ![272, 512]⟩
abbrev S8x1024 : Shape := ⟨2, ![8, 1024]⟩
abbrev S256x1024 : Shape := ⟨2, ![256, 1024]⟩
abbrev S272 : Shape := ⟨1, ![272]⟩
abbrev S272x1 : Shape := ⟨2, ![272, 1]⟩
abbrev S1024x512 : Shape := ⟨2, ![1024, 512]⟩
abbrev S256x512 : Shape := ⟨2, ![256, 512]⟩
abbrev S256x128 : Shape := ⟨2, ![256, 128]⟩
abbrev S8x512 : Shape := ⟨2, ![8, 512]⟩
abbrev S1x512 : Shape := ⟨2, ![1, 512]⟩

abbrev nBuf : Space → Nat
  | .hbm => 22
  | .vmem => 29
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x5120, .f32⟩
  | .hbm, ⟨5, _⟩ => ⟨S3072x4, .f32⟩
  | .hbm, ⟨6, _⟩ => ⟨S3072, .f32⟩
  | .hbm, ⟨7, _⟩ => ⟨S1024x128, .f32⟩
  | .hbm, ⟨8, _⟩ => ⟨S128, .f32⟩
  | .hbm, ⟨9, _⟩ => ⟨S1024x5120, .bf16⟩
  | .hbm, ⟨10, _⟩ => ⟨S1x1024, .f32⟩
  | .hbm, ⟨11, _⟩ => ⟨S1024x2048, .bf16⟩
  | .hbm, ⟨12, _⟩ => ⟨S1024x3072, .bf16⟩
  | .hbm, ⟨13, _⟩ => ⟨S1024x128, .bf16⟩
  | .hbm, ⟨14, _⟩ => ⟨S4x3072, .f32⟩
  | .hbm, ⟨15, _⟩ => ⟨S1x3072, .f32⟩
  | .hbm, ⟨16, _⟩ => ⟨S1x128, .f32⟩
  | .hbm, ⟨17, _⟩ => ⟨S8x8192x2048, .f32⟩
  | .hbm, ⟨18, _⟩ => ⟨S8x8192x2048, .f32⟩
  | .hbm, ⟨19, _⟩ => ⟨S8x8192x512, .bf16⟩
  | .hbm, ⟨20, _⟩ => ⟨S8x8192x512, .bf16⟩
  | .hbm, ⟨21, _⟩ => ⟨S8x8192x128, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x2048, .bf16⟩
  | .local _ .vmem, ⟨12, _⟩ => ⟨S1024x3072, .bf16⟩
  | .local _ .vmem, ⟨13, _⟩ => ⟨S1024x128, .bf16⟩
  | .local _ .vmem, ⟨14, _⟩ => ⟨S4x3072, .f32⟩
  | .local _ .vmem, ⟨15, _⟩ => ⟨S1x3072, .f32⟩
  | .local _ .vmem, ⟨16, _⟩ => ⟨S1x128, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x128, .f32⟩
  | .local _ .vmem, ⟨26, _⟩ => ⟨S1x256x128, .f32⟩
  | .local _ .vmem, ⟨27, _⟩ => ⟨S272x1024, .f32⟩
  | .local _ .vmem, ⟨28, _⟩ => ⟨S272x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== SsmRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x5120 : Shape := ⟨2, ![1024, 5120]⟩
abbrev S3072x4 : Shape := ⟨2, ![3072, 4]⟩
abbrev S3072 : Shape := ⟨1, ![3072]⟩
abbrev S1024x128 : Shape := ⟨2, ![1024, 128]⟩
abbrev S128 : Shape := ⟨1, ![128]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5120 : Shape := ⟨3, ![8, 8192, 5120]⟩
abbrev S8x8192x3072 : Shape := ⟨3, ![8, 8192, 3072]⟩
abbrev S8x8195x3072 : Shape := ⟨3, ![8, 8195, 3072]⟩
abbrev S3072x1 : Shape := ⟨2, ![3072, 1]⟩
abbrev S1x1x3072 : Shape := ⟨3, ![1, 1, 3072]⟩
abbrev S8x8192x2048 : Shape := ⟨3, ![8, 8192, 2048]⟩
abbrev S8x8192x512 : Shape := ⟨3, ![8, 8192, 512]⟩
abbrev S8x8192x128 : Shape := ⟨3, ![8, 8192, 128]⟩
abbrev S1x1x128 : Shape := ⟨3, ![1, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x5120, .f32⟩
  | .hbm, ⟨5, _⟩ => ⟨S3072x4, .f32⟩
  | .hbm, ⟨6, _⟩ => ⟨S3072, .f32⟩
  | .hbm, ⟨7, _⟩ => ⟨S1024x128, .f32⟩
  | .hbm, ⟨8, _⟩ => ⟨S128, .f32⟩
  | .hbm, ⟨9, _⟩ => ⟨S8x8192x1024, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S1x1x1024, .f32⟩
  | .hbm, ⟨23, _⟩ => ⟨S8x8192x1024, .f32⟩
  | .hbm, ⟨24, _⟩ => ⟨S8x8192x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x5120, .f32⟩
  | .hbm, ⟨33, _⟩ => ⟨S8x8192x3072, .f32⟩
  | .hbm, ⟨34, _⟩ => ⟨S_, .i32⟩
  | .hbm, ⟨35, _⟩ => ⟨S_, .f32⟩
  | .hbm, ⟨36, _⟩ => ⟨S8x8195x3072, .f32⟩
  | .hbm, ⟨37, _⟩ => ⟨S8x8192x3072, .f32⟩
  | .hbm, ⟨38, _⟩ => ⟨S3072x1, .f32⟩
  | .hbm, ⟨39, _⟩ => ⟨S3072, .f32⟩
  | .hbm, ⟨40, _⟩ => ⟨S1x1x3072, .f32⟩
  | .hbm, ⟨41, _⟩ => ⟨S8x8192x3072, .f32⟩
  | .hbm, ⟨42, _⟩ => ⟨S8x8192x3072, .f32⟩
  | .hbm, ⟨43, _⟩ => ⟨S1x1x3072, .f32⟩
  | .hbm, ⟨44, _⟩ => ⟨S8x8192x3072, .f32⟩
  | .hbm, ⟨45, _⟩ => ⟨S8x8192x3072, .f32⟩
  | .hbm, ⟨46, _⟩ => ⟨S8x8192x3072, .f32⟩
  | .hbm, ⟨47, _⟩ => ⟨S3072x1, .f32⟩
  | .hbm, ⟨48, _⟩ => ⟨S3072, .f32⟩
  | .hbm, ⟨49, _⟩ => ⟨S1x1x3072, .f32⟩
  | .hbm, ⟨50, _⟩ => ⟨S8x8192x3072, .f32⟩
  | .hbm, ⟨51, _⟩ => ⟨S8x8192x3072, .f32⟩
  | .hbm, ⟨52, _⟩ => ⟨S8x8192x3072, .f32⟩
  | .hbm, ⟨53, _⟩ => ⟨S8x8192x3072, .f32⟩
  | .hbm, ⟨54, _⟩ => ⟨S3072x1, .f32⟩
  | .hbm, ⟨55, _⟩ => ⟨S3072, .f32⟩
  | .hbm, ⟨56, _⟩ => ⟨S1x1x3072, .f32⟩
  | .hbm, ⟨57, _⟩ => ⟨S8x8192x3072, .f32⟩
  | .hbm, ⟨58, _⟩ => ⟨S8x8192x3072, .f32⟩
  | .hbm, ⟨59, _⟩ => ⟨S8x8192x3072, .f32⟩
  | .hbm, ⟨60, _⟩ => ⟨S8x8192x3072, .f32⟩
  | .hbm, ⟨61, _⟩ => ⟨S3072x1, .f32⟩
  | .hbm, ⟨62, _⟩ => ⟨S3072, .f32⟩
  | .hbm, ⟨63, _⟩ => ⟨S1x1x3072, .f32⟩
  | .hbm, ⟨64, _⟩ => ⟨S8x8192x3072, .f32⟩
  | .hbm, ⟨65, _⟩ => ⟨S8x8192x3072, .f32⟩
  | .hbm, ⟨66, _⟩ => ⟨S8x8192x3072, .f32⟩
  | .hbm, ⟨67, _⟩ => ⟨S8x8192x3072, .f32⟩
  | .hbm, ⟨68, _⟩ => ⟨S8x8192x3072, .f32⟩
  | .hbm, ⟨69, _⟩ => ⟨S_, .f32⟩
  | .hbm, ⟨70, _⟩ => ⟨S8x8192x3072, .f32⟩
  | .hbm, ⟨71, _⟩ => ⟨S8x8192x3072, .f32⟩
  | .hbm, ⟨72, _⟩ => ⟨S_, .f32⟩
  | .hbm, ⟨73, _⟩ => ⟨S8x8192x3072, .f32⟩
  | .hbm, ⟨74, _⟩ => ⟨S8x8192x3072, .f32⟩
  | .hbm, ⟨75, _⟩ => ⟨S8x8192x3072, .f32⟩
  | .hbm, ⟨76, _⟩ => ⟨S8x8192x2048, .f32⟩
  | .hbm, ⟨77, _⟩ => ⟨S8x8192x512, .f32⟩
  | .hbm, ⟨78, _⟩ => ⟨S8x8192x512, .f32⟩
  | .hbm, ⟨79, _⟩ => ⟨S8x8192x128, .f32⟩
  | .hbm, ⟨80, _⟩ => ⟨S1x1x128, .f32⟩
  | .hbm, ⟨81, _⟩ => ⟨S8x8192x128, .f32⟩
  | .hbm, ⟨82, _⟩ => ⟨S8x8192x128, .f32⟩
  | .hbm, ⟨83, _⟩ => ⟨S_, .f32⟩
  | .hbm, ⟨84, _⟩ => ⟨S8x8192x128, .f32⟩
  | .hbm, ⟨85, _⟩ => ⟨S8x8192x128, .f32⟩
  | .hbm, ⟨86, _⟩ => ⟨S8x8192x128, .f32⟩
  | .hbm, ⟨87, _⟩ => ⟨S8x8192x128, .f32⟩
  | .hbm, ⟨88, _⟩ => ⟨S8x8192x128, .i1⟩
  | .hbm, ⟨89, _⟩ => ⟨S8x8192x128, .f32⟩
  | .hbm, ⟨90, _⟩ => ⟨S8x8192x128, .f32⟩
  | .hbm, ⟨91, _⟩ => ⟨S8x8192x128, .f32⟩
  | .hbm, ⟨92, _⟩ => ⟨S8x8192x128, .f32⟩
  | .hbm, ⟨93, _⟩ => ⟨S8x8192x128, .f32⟩
  | .hbm, ⟨94, _⟩ => ⟨S8x8192x128, .f32⟩
  | .hbm, ⟨95, _⟩ => ⟨S8x8192x128, .f32⟩
  | .hbm, ⟨96, _⟩ => ⟨S8x8192x128, .f32⟩
  | .hbm, ⟨97, _⟩ => ⟨S8x8192x2048, .f32⟩
  | .hbm, ⟨98, _⟩ => ⟨S8x8192x512, .bf16⟩
  | .hbm, ⟨99, _⟩ => ⟨S8x8192x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩

abbrev nD : Nat := 1
abbrev τ : Topo := Topo.v7x

variable {F : FTy → Type} [FloatOps F]
-- ==== Qkv.lean ====
abbrev S8x8192x1024 : Shape := ⟨3, ![8, 8192, 1024]⟩
abbrev S8x1x1024 : Shape := ⟨3, ![8, 1, 1024]⟩
abbrev S1024 : Shape := ⟨1, ![1024]⟩
abbrev S1024x1536 : Shape := ⟨2, ![1024, 1536]⟩
abbrev S128 : Shape := ⟨1, ![128]⟩
abbrev S8192x64 : Shape := ⟨2, ![8192, 64]⟩
abbrev S8192x128 : Shape := ⟨2, ![8192, 128]⟩
abbrev S1x1024 : Shape := ⟨2, ![1, 1024]⟩
abbrev S1x128 : Shape := ⟨2, ![1, 128]⟩
abbrev S8x8192x256 : Shape := ⟨3, ![8, 8192, 256]⟩
abbrev S8x8192x768 : Shape := ⟨3, ![8, 8192, 768]⟩
abbrev S1x512x1024 : Shape := ⟨3, ![1, 512, 1024]⟩
abbrev S1x1x1024 : Shape := ⟨3, ![1, 1, 1024]⟩
abbrev S512x128 : Shape := ⟨2, ![512, 128]⟩
abbrev S1x512x256 : Shape := ⟨3, ![1, 512, 256]⟩
abbrev S1x512x768 : Shape := ⟨3, ![1, 512, 768]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S1x512x128 : Shape := ⟨3, ![1, 512, 128]⟩

abbrev nBuf : Space → Nat
  | .hbm => 20
  | .vmem => 22
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1536, .f32⟩
  | .hbm, ⟨5, _⟩ => ⟨S128, .f32⟩
  | .hbm, ⟨6, _⟩ => ⟨S128, .f32⟩
  | .hbm, ⟨7, _⟩ => ⟨S8192x64, .f32⟩
  | .hbm, ⟨8, _⟩ => ⟨S8192x64, .f32⟩
  | .hbm, ⟨9, _⟩ => ⟨S8192x128, .f32⟩
  | .hbm, ⟨10, _⟩ => ⟨S8192x64, .f32⟩
  | .hbm, ⟨11, _⟩ => ⟨S8192x128, .f32⟩
  | .hbm, ⟨12, _⟩ => ⟨S1x1024, .f32⟩
  | .hbm, ⟨13, _⟩ => ⟨S1024x1536, .bf16⟩
  | .hbm, ⟨14, _⟩ => ⟨S1x128, .f32⟩
  | .hbm, ⟨15, _⟩ => ⟨S1x128, .f32⟩
  | .hbm, ⟨16, _⟩ => ⟨S8x8192x256, .f32⟩
  | .hbm, ⟨17, _⟩ => ⟨S8x8192x768, .bf16⟩
  | .hbm, ⟨18, _⟩ => ⟨S8x8192x256, .bf16⟩
  | .hbm, ⟨19, _⟩ => ⟨S8x8192x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x256, .f32⟩
  | .local _ .vmem, ⟨15, _⟩ => ⟨S1x512x256, .f32⟩
  | .local _ .vmem, ⟨16, _⟩ => ⟨S1x512x768, .bf16⟩
  | .local _ .vmem, ⟨17, _⟩ => ⟨S1x512x768, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== QkvRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x1536 : Shape := ⟨2, ![1024, 1536]⟩
abbrev S128 : Shape := ⟨1, ![128]⟩
abbrev S8192x64 : Shape := ⟨2, ![8192, 64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1536 : Shape := ⟨3, ![8, 8192, 1536]⟩
abbrev S8x8192x256 : Shape := ⟨3, ![8, 8192, 256]⟩
abbrev S8x8192x768 : Shape := ⟨3, ![8, 8192, 768]⟩
abbrev S8x8192x6x128 : Shape := ⟨4, ![8, 8192, 6, 128]⟩
abbrev S8x8192x2x128 : Shape := ⟨4, ![8, 8192, 2, 128]⟩
abbrev S8x8192x6 : Shape := ⟨3, ![8, 8192, 6]⟩
abbrev S8x8192x6x1 : Shape := ⟨4, ![8, 8192, 6, 1]⟩
abbrev S1x1x1x128 : Shape := ⟨4, ![1, 1, 1, 128]⟩
abbrev S1x8192x1x64 : Shape := ⟨4, ![1, 8192, 1, 64]⟩
abbrev S8x8192x6x64 : Shape := ⟨4, ![8, 8192, 6, 64]⟩
abbrev S8x8192x2 : Shape := ⟨3, ![8, 8192, 2]⟩
abbrev S8x8192x2x1 : Shape := ⟨4, ![8, 8192, 2, 1]⟩
abbrev S8x8192x2x64 : Shape := ⟨4, ![8, 8192, 2, 64]⟩

abbrev nBuf : Space → Nat
  | .hbm => 106
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1536, .f32⟩
  | .hbm, ⟨5, _⟩ => ⟨S128, .f32⟩
  | .hbm, ⟨6, _⟩ => ⟨S128, .f32⟩
  | .hbm, ⟨7, _⟩ => ⟨S8192x64, .f32⟩
  | .hbm, ⟨8, _⟩ => ⟨S8192x64, .f32⟩
  | .hbm, ⟨9, _⟩ => ⟨S8x8192x1024, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S1x1x1024, .f32⟩
  | .hbm, ⟨23, _⟩ => ⟨S8x8192x1024, .f32⟩
  | .hbm, ⟨24, _⟩ => ⟨S8x8192x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1536, .f32⟩
  | .hbm, ⟨33, _⟩ => ⟨S8x8192x256, .f32⟩
  | .hbm, ⟨34, _⟩ => ⟨S8x8192x768, .f32⟩
  | .hbm, ⟨35, _⟩ => ⟨S8x8192x6x128, .f32⟩
  | .hbm, ⟨36, _⟩ => ⟨S8x8192x256, .f32⟩
  | .hbm, ⟨37, _⟩ => ⟨S8x8192x2x128, .f32⟩
  | .hbm, ⟨38, _⟩ => ⟨S8x8192x256, .f32⟩
  | .hbm, ⟨39, _⟩ => ⟨S8x8192x6x128, .f32⟩
  | .hbm, ⟨40, _⟩ => ⟨S_, .f32⟩
  | .hbm, ⟨41, _⟩ => ⟨S8x8192x6, .f32⟩
  | .hbm, ⟨42, _⟩ => ⟨S8x8192x6x1, .f32⟩
  | .hbm, ⟨43, _⟩ => ⟨S_, .f32⟩
  | .hbm, ⟨44, _⟩ => ⟨S8x8192x6x1, .f32⟩
  | .hbm, ⟨45, _⟩ => ⟨S8x8192x6x1, .f32⟩
  | .hbm, ⟨46, _⟩ => ⟨S_, .f32⟩
  | .hbm, ⟨47, _⟩ => ⟨S8x8192x6x1, .f32⟩
  | .hbm, ⟨48, _⟩ => ⟨S8x8192x6x1, .f32⟩
  | .hbm, ⟨49, _⟩ => ⟨S8x8192x6x1, .f32⟩
  | .hbm, ⟨50, _⟩ => ⟨S8x8192x6x128, .f32⟩
  | .hbm, ⟨51, _⟩ => ⟨S8x8192x6x128, .f32⟩
  | .hbm, ⟨52, _⟩ => ⟨S1x1x1x128, .f32⟩
  | .hbm, ⟨53, _⟩ => ⟨S8x8192x6x128, .f32⟩
  | .hbm, ⟨54, _⟩ => ⟨S8x8192x6x128, .f32⟩
  | .hbm, ⟨55, _⟩ => ⟨S1x8192x1x64, .f32⟩
  | .hbm, ⟨56, _⟩ => ⟨S1x8192x1x64, .f32⟩
  | .hbm, ⟨57, _⟩ => ⟨S8x8192x6x64, .f32⟩
  | .hbm, ⟨58, _⟩ => ⟨S8x8192x6x64, .f32⟩
  | .hbm, ⟨59, _⟩ => ⟨S8x8192x6x64, .f32⟩
  | .hbm, ⟨60, _⟩ => ⟨S8x8192x6x64, .f32⟩
  | .hbm, ⟨61, _⟩ => ⟨S8x8192x6x64, .f32⟩
  | .hbm, ⟨62, _⟩ => ⟨S8x8192x6x64, .f32⟩
  | .hbm, ⟨63, _⟩ => ⟨S8x8192x6x64, .f32⟩
  | .hbm, ⟨64, _⟩ => ⟨S8x8192x6x64, .f32⟩
  | .hbm, ⟨65, _⟩ => ⟨S8x8192x6x64, .f32⟩
  | .hbm, ⟨66, _⟩ => ⟨S8x8192x6x64, .f32⟩
  | .hbm, ⟨67, _⟩ => ⟨S8x8192x6x64, .f32⟩
  | .hbm, ⟨68, _⟩ => ⟨S8x8192x6x64, .f32⟩
  | .hbm, ⟨69, _⟩ => ⟨S8x8192x6x128, .f32⟩
  | .hbm, ⟨70, _⟩ => ⟨S8x8192x768, .f32⟩
  | .hbm, ⟨71, _⟩ => ⟨S8x8192x2x128, .f32⟩
  | .hbm, ⟨72, _⟩ => ⟨S_, .f32⟩
  | .hbm, ⟨73, _⟩ => ⟨S8x8192x2, .f32⟩
  | .hbm, ⟨74, _⟩ => ⟨S8x8192x2x1, .f32⟩
  | .hbm, ⟨75, _⟩ => ⟨S_, .f32⟩
  | .hbm, ⟨76, _⟩ => ⟨S8x8192x2x1, .f32⟩
  | .hbm, ⟨77, _⟩ => ⟨S8x8192x2x1, .f32⟩
  | .hbm, ⟨78, _⟩ => ⟨S_, .f32⟩
  | .hbm, ⟨79, _⟩ => ⟨S8x8192x2x1, .f32⟩
  | .hbm, ⟨80, _⟩ => ⟨S8x8192x2x1, .f32⟩
  | .hbm, ⟨81, _⟩ => ⟨S8x8192x2x1, .f32⟩
  | .hbm, ⟨82, _⟩ => ⟨S8x8192x2x128, .f32⟩
  | .hbm, ⟨83, _⟩ => ⟨S8x8192x2x128, .f32⟩
  | .hbm, ⟨84, _⟩ => ⟨S1x1x1x128, .f32⟩
  | .hbm, ⟨85, _⟩ => ⟨S8x8192x2x128, .f32⟩
  | .hbm, ⟨86, _⟩ => ⟨S8x8192x2x128, .f32⟩
  | .hbm, ⟨87, _⟩ => ⟨S1x8192x1x64, .f32⟩
  | .hbm, ⟨88, _⟩ => ⟨S1x8192x1x64, .f32⟩
  | .hbm, ⟨89, _⟩ => ⟨S8x8192x2x64, .f32⟩
  | .hbm, ⟨90, _⟩ => ⟨S8x8192x2x64, .f32⟩
  | .hbm, ⟨91, _⟩ => ⟨S8x8192x2x64, .f32⟩
  | .hbm, ⟨92, _⟩ => ⟨S8x8192x2x64, .f32⟩
  | .hbm, ⟨93, _⟩ => ⟨S8x8192x2x64, .f32⟩
  | .hbm, ⟨94, _⟩ => ⟨S8x8192x2x64, .f32⟩
  | .hbm, ⟨95, _⟩ => ⟨S8x8192x2x64, .f32⟩
  | .hbm, ⟨96, _⟩ => ⟨S8x8192x2x64, .f32⟩
  | .hbm, ⟨97, _⟩ => ⟨S8x8192x2x64, .f32⟩
  | .hbm, ⟨98, _⟩ => ⟨S8x8192x2x64, .f32⟩
  | .hbm, ⟨99, _⟩ => ⟨S8x8192x2x64, .f32⟩
  | .hbm, ⟨100, _⟩ => ⟨S8x8192x2x64, .f32⟩
  | .hbm, ⟨101, _⟩ => ⟨S8x8192x2x128, .f32⟩
  | .hbm, ⟨102, _⟩ => ⟨S8x8192x256, .f32⟩
  | .hbm, ⟨103, _⟩ => ⟨S8x8192x768, .bf16⟩
  | .hbm, ⟨104, _⟩ => ⟨S8x8192x256, .bf16⟩
  | .hbm, ⟨105, _⟩ => ⟨S8x8192x256, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== Mix.lean ====
abbrev S8x8192x1024 : Shape := ⟨3, ![8, 8192, 1024]⟩
abbrev S8x1x1024 : Shape := ⟨3, ![8, 1, 1024]⟩
abbrev S1024 : Shape := ⟨1, ![1024]⟩
abbrev S8x8192x256 : Shape := ⟨3, ![8, 8192, 256]⟩
abbrev S8x8192x768 : Shape := ⟨3, ![8, 8192, 768]⟩
abbrev S4x64x64 : Shape := ⟨3, ![4, 64, 64]⟩
abbrev S256 : Shape := ⟨1, ![256]⟩
abbrev S1024x1024 : Shape := ⟨2, ![1024, 1024]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x1024 : Shape := ⟨2, ![1, 1024]⟩
abbrev S1x256 : Shape := ⟨2, ![1, 256]⟩
abbrev S256x1024 : Shape := ⟨2, ![256, 1024]⟩
abbrev S768x1024 : Shape := ⟨2, ![768, 1024]⟩
abbrev S1x512x1024 : Shape := ⟨3, ![1, 512, 1024]⟩
abbrev S1x1x1024 : Shape := ⟨3, ![1, 1, 1024]⟩
abbrev S1x512x256 : Shape := ⟨3, ![1, 512, 256]⟩
abbrev S1x8x256 : Shape := ⟨3, ![1, 8, 256]⟩
abbrev S1x512x768 : Shape := ⟨3, ![1, 512, 768]⟩
abbrev S528x256 : Shape := ⟨2, ![528, 256]⟩
abbrev S8x256 : Shape := ⟨2, ![8, 256]⟩
abbrev S512x256 : Shape := ⟨2, ![512, 256]⟩
abbrev S512x1 : Shape := ⟨2, ![512, 1]⟩
abbrev S512x1024 : Shape := ⟨2, ![512, 1024]⟩
abbrev S512x768 : Shape := ⟨2, ![512, 768]⟩
abbrev S512 : Shape := ⟨1, ![512]⟩

abbrev nBuf : Space → Nat
  | .hbm => 28
  | .vmem => 20
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S1024, .f32⟩
  | .hbm, ⟨3, _⟩ => ⟨S8x8192x256, .f32⟩
  | .hbm, ⟨4, _⟩ => ⟨S8x8192x768, .bf16⟩
  | .hbm, ⟨5, _⟩ => ⟨S4x64x64, .f32⟩
  | .hbm, ⟨6, _⟩ => ⟨S256, .f32⟩
  | .hbm, ⟨7, _⟩ => ⟨S1024x1024, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x1x4x1, .f32⟩
  | .hbm, ⟨16, _⟩ => ⟨S4x64x1x64, .f32⟩
  | .hbm, ⟨17, _⟩ => ⟨S4x64x4x64, .f32⟩
  | .hbm, ⟨18, _⟩ => ⟨S4x64x4x64, .f32⟩
  | .hbm, ⟨19, _⟩ => ⟨S4x64x4x64, .f32⟩
  | .hbm, ⟨20, _⟩ => ⟨S256x256, .f32⟩
  | .hbm, ⟨21, _⟩ => ⟨S256x256, .bf16⟩
  | .hbm, ⟨22, _⟩ => ⟨S1024x1024, .bf16⟩
  | .hbm, ⟨23, _⟩ => ⟨S1x1024, .f32⟩
  | .hbm, ⟨24, _⟩ => ⟨S1x256, .f32⟩
  | .hbm, ⟨25, _⟩ => ⟨S256x1024, .bf16⟩
  | .hbm, ⟨26, _⟩ => ⟨S768x1024, .bf16⟩
  | .hbm, ⟨27, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x512x256, .f32⟩
  | .local _ .vmem, ⟨6, _⟩ => ⟨S1x512x256, .f32⟩
  | .local _ .vmem, ⟨7, _⟩ => ⟨S1x8x256, .f32⟩
  | .local _ .vmem, ⟨8, _⟩ => ⟨S1x8x256, .f32⟩
  | .local _ .vmem, ⟨9, _⟩ => ⟨S1x8x256, .f32⟩
  | .local _ .vmem, ⟨10, _⟩ => ⟨S1x8x256, .f32⟩
  | .local _ .vmem, ⟨11, _⟩ => ⟨S1x512x768, .bf16⟩
  | .local _ .vmem, ⟨12, _⟩ => ⟨S1x512x768, .bf16⟩
  | .local _ .vmem, ⟨13, _⟩ => ⟨S256x256, .bf16⟩
  | .local _ .vmem, ⟨14, _⟩ => ⟨S1x256, .f32⟩
  | .local _ .vmem, ⟨15, _⟩ => ⟨S256x1024, .bf16⟩
  | .local _ .vmem, ⟨16, _⟩ => ⟨S768x1024, .bf16⟩
  | .local _ .vmem, ⟨17, _⟩ => ⟨S1x512x1024, .f32⟩
  | .local _ .vmem, ⟨18, _⟩ => ⟨S1x512x1024, .f32⟩
  | .local _ .vmem, ⟨19, _⟩ => ⟨S528x256, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S768x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixRefIdeal.lean ====
abbrev S8x8192x1024 : Shape := ⟨3, ![8, 8192, 1024]⟩
abbrev S8x1x1024 : Shape := ⟨3, ![8, 1, 1024]⟩
abbrev S1024 : Shape := ⟨1, ![1024]⟩
abbrev S8x8192x256 : Shape := ⟨3, ![8, 8192, 256]⟩
abbrev S8x8192x768 : Shape := ⟨3, ![8, 8192, 768]⟩
abbrev S4x64x64 : Shape := ⟨3, ![4, 64, 64]⟩
abbrev S256 : Shape := ⟨1, ![256]⟩
abbrev S1024x1024 : Shape := ⟨2, ![1024, 1024]⟩
abbrev S8x8192x64 : Shape := ⟨3, ![8, 8192, 64]⟩
abbrev S_ : Shape := ⟨0, ![]⟩
abbrev S8x8193x64 : Shape := ⟨3, ![8, 8193, 64]⟩
abbrev S8192 : Shape := ⟨1, ![8192]⟩
abbrev S1x8192x1 : Shape := ⟨3, ![1, 8192, 1]⟩
abbrev S8x8195x64 : Shape := ⟨3, ![8, 8195, 64]⟩
abbrev S8x8199x64 : Shape := ⟨3, ![8, 8199, 64]⟩
abbrev S8x8207x64 : Shape := ⟨3, ![8, 8207, 64]⟩
abbrev S8x8192x1x64 : Shape := ⟨4, ![8, 8192, 1, 64]⟩
abbrev S8x8192x4x64 : Shape := ⟨4, ![8, 8192, 4, 64]⟩
abbrev S4x64x8x8192 : Shape := ⟨4, ![4, 64, 8, 8192]⟩
abbrev S1x1x256 : Shape := ⟨3, ![1, 1, 256]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 201
  | .vmem => 0
  | .smem => 0
  | _ => 0

abbrev hbmTy0_0 (i : Nat) : BufTy := match i % 128 with
  | 0 => ⟨S8x8192x1024, .f32⟩
  | 1 => ⟨S8x1x1024, .f32⟩
  | 2 => ⟨S1024, .f32⟩
  | 3 => ⟨S8x8192x256, .f32⟩
  | 4 => ⟨S8x8192x768, .bf16⟩
  | 5 => ⟨S4x64x64, .f32⟩
  | 6 => ⟨S256, .f32⟩
  | 7 => ⟨S1024x1024, .f32⟩
  | 8 => ⟨S8x8192x64, .f32⟩
  | 9 => ⟨S_, .i32⟩
  | 10 => ⟨S_, .f32⟩
  | 11 => ⟨S8x8193x64, .f32⟩
  | 12 => ⟨S8x8192x64, .f32⟩
  | 13 => ⟨S8x8192x64, .f32⟩
  | 14 => ⟨S8x8192x64, .f32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i32⟩
  | 32 => ⟨S8192, .f32⟩
  | 33 => ⟨S1x8192x1, .f32⟩
  | 34 => ⟨S8x8192x64, .f32⟩
  | 35 => ⟨S8x8192x64, .f32⟩
  | 36 => ⟨S8x8192x64, .f32⟩
  | 37 => ⟨S8x8192x64, .f32⟩
  | 38 => ⟨S_, .i32⟩
  | 39 => ⟨S_, .f32⟩
  | 40 => ⟨S8x8195x64, .f32⟩
  | 41 => ⟨S8x8192x64, .f32⟩
  | 42 => ⟨S8x8192x64, .f32⟩
  | 43 => ⟨S8x8192x64, .f32⟩
  | 44 => ⟨S8x8192x64, .f32⟩
  | 45 => ⟨S8x8192x64, .f32⟩
  | 46 => ⟨S8x8192x64, .f32⟩
  | 47 => ⟨S8x8192x64, .f32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192, .f32⟩
  | 66 => ⟨S1x8192x1, .f32⟩
  | 67 => ⟨S8x8192x64, .f32⟩
  | 68 => ⟨S8x8192x64, .f32⟩
  | 69 => ⟨S8x8192x64, .f32⟩
  | 70 => ⟨S8x8192x64, .f32⟩
  | 71 => ⟨S_, .i32⟩
  | 72 => ⟨S_, .f32⟩
  | 73 => ⟨S8x8199x64, .f32⟩
  | 74 => ⟨S8x8192x64, .f32⟩
  | 75 => ⟨S8x8192x64, .f32⟩
  | 76 => ⟨S8x8192x64, .f32⟩
  | 77 => ⟨S8x8192x64, .f32⟩
  | 78 => ⟨S8x8192x64, .f32⟩
  | 79 => ⟨S8x8192x64, .f32⟩
  | 80 => ⟨S8x8192x64, .f32⟩
  | 81 => ⟨S8x8192x64, .f32⟩
  | 82 => ⟨S8x8192x64, .f32⟩
  | 83 => ⟨S8x8192x64, .f32⟩
  | 84 => ⟨S8x8192x64, .f32⟩
  | 85 => ⟨S8x8192x64, .f32⟩
  | 86 => ⟨S8x8192x64, .f32⟩
  | 87 => ⟨S8x8192x64, .f32⟩
  | 88 => ⟨S8x8192x64, .f32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .f32⟩
  | 107 => ⟨S1x8192x1, .f32⟩
  | 108 => ⟨S8x8192x64, .f32⟩
  | 109 => ⟨S8x8192x64, .f32⟩
  | 110 => ⟨S8x8192x64, .f32⟩
  | 111 => ⟨S8x8192x64, .f32⟩
  | 112 => ⟨S_, .i32⟩
  | 113 => ⟨S_, .f32⟩
  | 114 => ⟨S8x8207x64, .f32⟩
  | 115 => ⟨S8x8192x64, .f32⟩
  | 116 => ⟨S8x8192x64, .f32⟩
  | 117 => ⟨S8x8192x64, .f32⟩
  | 118 => ⟨S8x8192x64, .f32⟩
  | 119 => ⟨S8x8192x64, .f32⟩
  | 120 => ⟨S8x8192x64, .f32⟩
  | 121 => ⟨S8x8192x64, .f32⟩
  | 122 => ⟨S8x8192x64, .f32⟩
  | 123 => ⟨S8x8192x64, .f32⟩
  | 124 => ⟨S8x8192x64, .f32⟩
  | 125 => ⟨S8x8192x64, .f32⟩
  | 126 => ⟨S8x8192x64, .f32⟩
  | 127 => ⟨S8x8192x64, .f32⟩
  | _ => ⟨S8x8192x1024, .f32⟩

abbrev hbmTy0_1 (i : Nat) : BufTy := match i % 128 with
  | 0 => ⟨S8x8192x64, .f32⟩
  | 1 => ⟨S8x8192x64, .f32⟩
  | 2 => ⟨S8x8192x64, .f32⟩
  | 3 => ⟨S8x8192x64, .f32⟩
  | 4 => ⟨S8x8192x64, .f32⟩
  | 5 => ⟨S8x8192x64, .f32⟩
  | 6 => ⟨S8x8192x64, .f32⟩
  | 7 => ⟨S8x8192x64, .f32⟩
  | 8 => ⟨S8x8192x64, .f32⟩
  | 9 => ⟨S8x8192x64, .f32⟩
  | 10 => ⟨S8x8192x64, .f32⟩
  | 11 => ⟨S8x8192x64, .f32⟩
  | 12 => ⟨S8x8192x64, .f32⟩
  | 13 => ⟨S8x8192x64, .f32⟩
  | 14 => ⟨S8x8192x64, .f32⟩
  | 15 => ⟨S8x8192x64, .f32⟩
  | 16 => ⟨S8x8192x64, .f32⟩
  | 17 => ⟨S8x8192x64, .f32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192, .f32⟩
  | 36 => ⟨S1x8192x1, .f32⟩
  | 37 => ⟨S8x8192x64, .f32⟩
  | 38 => ⟨S8x8192x64, .f32⟩
  | 39 => ⟨S8x8192x64, .f32⟩
  | 40 => ⟨S8x8192x1x64, .f32⟩
  | 41 => ⟨S8x8192x1x64, .f32⟩
  | 42 => ⟨S8x8192x1x64, .f32⟩
  | 43 => ⟨S8x8192x1x64, .f32⟩
  | 44 => ⟨S8x8192x4x64, .f32⟩
  | 45 => ⟨S4x64x8x8192, .f32⟩
  | 46 => ⟨S8x8192x4x64, .f32⟩
  | 47 => ⟨S8x8192x256, .f32⟩
  | 48 => ⟨S1x1x256, .f32⟩
  | 49 => ⟨S8x8192x256, .f32⟩
  | 50 => ⟨S8x8192x256, .f32⟩
  | 51 => ⟨S8x8192x768, .f32⟩
  | 52 => ⟨S8x8192x1024, .f32⟩
  | 53 => ⟨S8x8192x1024, .f32⟩
  | 54 => ⟨S8x8192x1024, .f32⟩
  | 55 => ⟨S_, .f32⟩
  | 56 => ⟨S8x8192, .f32⟩
  | 57 => ⟨S8x8192x1, .f32⟩
  | 58 => ⟨S_, .f32⟩
  | 59 => ⟨S8x8192x1, .f32⟩
  | 60 => ⟨S8x8192x1, .f32⟩
  | 61 => ⟨S_, .f32⟩
  | 62 => ⟨S8x8192x1, .f32⟩
  | 63 => ⟨S8x8192x1, .f32⟩
  | 64 => ⟨S8x8192x1, .f32⟩
  | 65 => ⟨S8x8192x1024, .f32⟩
  | 66 => ⟨S8x8192x1024, .f32⟩
  | 67 => ⟨S1x1x1024, .f32⟩
  | 68 => ⟨S8x8192x1024, .f32⟩
  | 69 => ⟨S8x8192x1024, .f32⟩
  | 70 => ⟨S8x8192x1024, .f32⟩
  | 71 => ⟨S8x8192x1024, .f32⟩
  | 72 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_call2_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_call3_v0 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_c_18 : Ref sig .tc := ⟨.hbm, 147, rfl⟩
abbrev main_v116 : Ref sig .tc := ⟨.hbm, 148, rfl⟩
abbrev main_v117 : Ref sig .tc := ⟨.hbm, 149, rfl⟩
abbrev main_c_19 : Ref sig .tc := ⟨.hbm, 150, rfl⟩
abbrev main_v118 : Ref sig .tc := ⟨.hbm, 151, rfl⟩
abbrev main_v119 : Ref sig .tc := ⟨.hbm, 152, rfl⟩
abbrev main_c_20 : Ref sig .tc := ⟨.hbm, 153, rfl⟩
abbrev main_v120 : Ref sig .tc := ⟨.hbm, 154, rfl⟩
abbrev main_v121 : Ref sig .tc := ⟨.hbm, 155, rfl⟩
abbrev main_c_21 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_c_22 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst : Ref sig .tc := ⟨.hbm, 183, rfl⟩
abbrev main_v147 : Ref sig .tc := ⟨.hbm, 184, rfl⟩
abbrev main_v148 : Ref sig .tc := ⟨.hbm, 185, rfl⟩
abbrev main_cst_23 : Ref sig .tc := ⟨.hbm, 186, rfl⟩
abbrev main_v149 : Ref sig .tc := ⟨.hbm, 187, rfl⟩
abbrev main_v150 : Ref sig .tc := ⟨.hbm, 188, rfl⟩
abbrev main_cst_24 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩

abbrev nD : Nat := 1
abbrev τ : Topo := Topo.v7x

variable {F : FTy → Type} [FloatOps F]
-- ==== SsmCtx.lean ====
abbrev S8x256x1024 : Shape := ⟨3, ![8, 256, 1024]⟩
abbrev S1x1x1024 : Shape := ⟨3, ![1, 1, 1024]⟩
abbrev S1024 : Shape := ⟨1, ![1024]⟩
abbrev S1024x5120 : Shape := ⟨2, ![1024, 5120]⟩
abbrev S3072x4 : Shape := ⟨2, ![3072, 4]⟩
abbrev S3072 : Shape := ⟨1, ![3072]⟩
abbrev S1024x128 : Shape := ⟨2, ![1024, 128]⟩
abbrev S128 : Shape := ⟨1, ![128]⟩
abbrev S1x1024 : Shape := ⟨2, ![1, 1024]⟩
abbrev S1024x2048 : Shape := ⟨2, ![1024, 2048]⟩
abbrev S1024x3072 : Shape := ⟨2, ![1024, 3072]⟩
abbrev S4x3072 : Shape := ⟨2, ![4, 3072]⟩
abbrev S1x3072 : Shape := ⟨2, ![1, 3072]⟩
abbrev S1x128 : Shape := ⟨2, ![1, 128]⟩
abbrev S8x256x2048 : Shape := ⟨3, ![8, 256, 2048]⟩
abbrev S8x256x512 : Shape := ⟨3, ![8, 256, 512]⟩
abbrev S8x256x128 : Shape := ⟨3, ![8, 256, 128]⟩
abbrev S1x256x1024 : Shape := ⟨3, ![1, 256, 1024]⟩
abbrev S1x8x1024 : Shape := ⟨3, ![1, 8, 1024]⟩
abbrev S1x256x2048 : Shape := ⟨3, ![1, 256, 2048]⟩
abbrev S1x256x512 : Shape := ⟨3, ![1, 256, 512]⟩
abbrev S1x256x128 : Shape := ⟨3, ![1, 256, 128]⟩
abbrev S272x1024 : Shape := ⟨2, ![272, 1024]⟩
abbrev S272x512 : Shape := ⟨2, ![272, 512]⟩
abbrev S8x1024 : Shape := ⟨2, ![8, 1024]⟩
abbrev S256x1024 : Shape := ⟨2, ![256, 1024]⟩
abbrev S272 : Shape := ⟨1, ![272]⟩
abbrev S272x1 : Shape := ⟨2, ![272, 1]⟩
abbrev S1024x512 : Shape := ⟨2, ![1024, 512]⟩
abbrev S256x512 : Shape := ⟨2, ![256, 512]⟩
abbrev S256x128 : Shape := ⟨2, ![256, 128]⟩
abbrev S8x512 : Shape := ⟨2, ![8, 512]⟩
abbrev S1x512 : Shape := ⟨2, ![1, 512]⟩

abbrev nBuf : Space → Nat
  | .hbm => 22
  | .vmem => 27
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x5120, .f32⟩
  | .hbm, ⟨5, _⟩ => ⟨S3072x4, .f32⟩
  | .hbm, ⟨6, _⟩ => ⟨S3072, .f32⟩
  | .hbm, ⟨7, _⟩ => ⟨S1024x128, .f32⟩
  | .hbm, ⟨8, _⟩ => ⟨S128, .f32⟩
  | .hbm, ⟨9, _⟩ => ⟨S1024x5120, .bf16⟩
  | .hbm, ⟨10, _⟩ => ⟨S1x1024, .f32⟩
  | .hbm, ⟨11, _⟩ => ⟨S1024x2048, .bf16⟩
  | .hbm, ⟨12, _⟩ => ⟨S1024x3072, .bf16⟩
  | .hbm, ⟨13, _⟩ => ⟨S1024x128, .bf16⟩
  | .hbm, ⟨14, _⟩ => ⟨S4x3072, .f32⟩
  | .hbm, ⟨15, _⟩ => ⟨S1x3072, .f32⟩
  | .hbm, ⟨16, _⟩ => ⟨S1x128, .f32⟩
  | .hbm, ⟨17, _⟩ => ⟨S8x256x2048, .f32⟩
  | .hbm, ⟨18, _⟩ => ⟨S8x256x2048, .f32⟩
  | .hbm, ⟨19, _⟩ => ⟨S8x256x512, .bf16⟩
  | .hbm, ⟨20, _⟩ => ⟨S8x256x512, .bf16⟩
  | .hbm, ⟨21, _⟩ => ⟨S8x256x128, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2048, .bf16⟩
  | .local _ .vmem, ⟨10, _⟩ => ⟨S1024x3072, .bf16⟩
  | .local _ .vmem, ⟨11, _⟩ => ⟨S1024x128, .bf16⟩
  | .local _ .vmem, ⟨12, _⟩ => ⟨S4x3072, .f32⟩
  | .local _ .vmem, ⟨13, _⟩ => ⟨S1x3072, .f32⟩
  | .local _ .vmem, ⟨14, _⟩ => ⟨S1x128, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x128, .f32⟩
  | .local _ .vmem, ⟨24, _⟩ => ⟨S1x256x128, .f32⟩
  | .local _ .vmem, ⟨25, _⟩ => ⟨S272x1024, .f32⟩
  | .local _ .vmem, ⟨26, _⟩ => ⟨S272x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== SsmCtxRefIdeal.lean ====
abbrev S8x256x1024 : Shape := ⟨3, ![8, 256, 1024]⟩
abbrev S1x1x1024 : Shape := ⟨3, ![1, 1, 1024]⟩
abbrev S1024 : Shape := ⟨1, ![1024]⟩
abbrev S1024x5120 : Shape := ⟨2, ![1024, 5120]⟩
abbrev S3072x4 : Shape := ⟨2, ![3072, 4]⟩
abbrev S3072 : Shape := ⟨1, ![3072]⟩
abbrev S1024x128 : Shape := ⟨2, ![1024, 128]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S8x256x5120 : Shape := ⟨3, ![8, 256, 5120]⟩
abbrev S8x256x3072 : Shape := ⟨3, ![8, 256, 3072]⟩
abbrev S8x259x3072 : Shape := ⟨3, ![8, 259, 3072]⟩
abbrev S3072x1 : Shape := ⟨2, ![3072, 1]⟩
abbrev S1x1x3072 : Shape := ⟨3, ![1, 1, 3072]⟩
abbrev S8x256x2048 : Shape := ⟨3, ![8, 256, 2048]⟩
abbrev S8x256x512 : Shape := ⟨3, ![8, 256, 512]⟩
abbrev S8x256x128 : Shape := ⟨3, ![8, 256, 128]⟩
abbrev S1x1x128 : Shape := ⟨3, ![1, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x5120, .f32⟩
  | .hbm, ⟨5, _⟩ => ⟨S3072x4, .f32⟩
  | .hbm, ⟨6, _⟩ => ⟨S3072, .f32⟩
  | .hbm, ⟨7, _⟩ => ⟨S1024x128, .f32⟩
  | .hbm, ⟨8, _⟩ => ⟨S128, .f32⟩
  | .hbm, ⟨9, _⟩ => ⟨S8x256x1024, .f32⟩
  | .hbm, ⟨10, _⟩ => ⟨S_, .f32⟩
  | .hbm, ⟨11, _⟩ => ⟨S8x256, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S8x256x1, .f32⟩
  | .hbm, ⟨20, _⟩ => ⟨S8x256x1024, .f32⟩
  | .hbm, ⟨21, _⟩ => ⟨S8x256x1024, .f32⟩
  | .hbm, ⟨22, _⟩ => ⟨S1x1x1024, .f32⟩
  | .hbm, ⟨23, _⟩ => ⟨S8x256x1024, .f32⟩
  | .hbm, ⟨24, _⟩ => ⟨S8x256x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x1024, .f32⟩
  | .hbm, ⟨32, _⟩ => ⟨S8x256x5120, .f32⟩
  | .hbm, ⟨33, _⟩ => ⟨S8x256x3072, .f32⟩
  | .hbm, ⟨34, _⟩ => ⟨S_, .i32⟩
  | .hbm, ⟨35, _⟩ => ⟨S_, .f32⟩
  | .hbm, ⟨36, _⟩ => ⟨S8x259x3072, .f32⟩
  | .hbm, ⟨37, _⟩ => ⟨S8x256x3072, .f32⟩
  | .hbm, ⟨38, _⟩ => ⟨S3072x1, .f32⟩
  | .hbm, ⟨39, _⟩ => ⟨S3072, .f32⟩
  | .hbm, ⟨40, _⟩ => ⟨S1x1x3072, .f32⟩
  | .hbm, ⟨41, _⟩ => ⟨S8x256x3072, .f32⟩
  | .hbm, ⟨42, _⟩ => ⟨S8x256x3072, .f32⟩
  | .hbm, ⟨43, _⟩ => ⟨S1x1x3072, .f32⟩
  | .hbm, ⟨44, _⟩ => ⟨S8x256x3072, .f32⟩
  | .hbm, ⟨45, _⟩ => ⟨S8x256x3072, .f32⟩
  | .hbm, ⟨46, _⟩ => ⟨S8x256x3072, .f32⟩
  | .hbm, ⟨47, _⟩ => ⟨S3072x1, .f32⟩
  | .hbm, ⟨48, _⟩ => ⟨S3072, .f32⟩
  | .hbm, ⟨49, _⟩ => ⟨S1x1x3072, .f32⟩
  | .hbm, ⟨50, _⟩ => ⟨S8x256x3072, .f32⟩
  | .hbm, ⟨51, _⟩ => ⟨S8x256x3072, .f32⟩
  | .hbm, ⟨52, _⟩ => ⟨S8x256x3072, .f32⟩
  | .hbm, ⟨53, _⟩ => ⟨S8x256x3072, .f32⟩
  | .hbm, ⟨54, _⟩ => ⟨S3072x1, .f32⟩
  | .hbm, ⟨55, _⟩ => ⟨S3072, .f32⟩
  | .hbm, ⟨56, _⟩ => ⟨S1x1x3072, .f32⟩
  | .hbm, ⟨57, _⟩ => ⟨S8x256x3072, .f32⟩
  | .hbm, ⟨58, _⟩ => ⟨S8x256x3072, .f32⟩
  | .hbm, ⟨59, _⟩ => ⟨S8x256x3072, .f32⟩
  | .hbm, ⟨60, _⟩ => ⟨S8x256x3072, .f32⟩
  | .hbm, ⟨61, _⟩ => ⟨S3072x1, .f32⟩
  | .hbm, ⟨62, _⟩ => ⟨S3072, .f32⟩
  | .hbm, ⟨63, _⟩ => ⟨S1x1x3072, .f32⟩
  | .hbm, ⟨64, _⟩ => ⟨S8x256x3072, .f32⟩
  | .hbm, ⟨65, _⟩ => ⟨S8x256x3072, .f32⟩
  | .hbm, ⟨66, _⟩ => ⟨S8x256x3072, .f32⟩
  | .hbm, ⟨67, _⟩ => ⟨S8x256x3072, .f32⟩
  | .hbm, ⟨68, _⟩ => ⟨S8x256x3072, .f32⟩
  | .hbm, ⟨69, _⟩ => ⟨S_, .f32⟩
  | .hbm, ⟨70, _⟩ => ⟨S8x256x3072, .f32⟩
  | .hbm, ⟨71, _⟩ => ⟨S8x256x3072, .f32⟩
  | .hbm, ⟨72, _⟩ => ⟨S_, .f32⟩
  | .hbm, ⟨73, _⟩ => ⟨S8x256x3072, .f32⟩
  | .hbm, ⟨74, _⟩ => ⟨S8x256x3072, .f32⟩
  | .hbm, ⟨75, _⟩ => ⟨S8x256x3072, .f32⟩
  | .hbm, ⟨76, _⟩ => ⟨S8x256x2048, .f32⟩
  | .hbm, ⟨77, _⟩ => ⟨S8x256x512, .f32⟩
  | .hbm, ⟨78, _⟩ => ⟨S8x256x512, .f32⟩
  | .hbm, ⟨79, _⟩ => ⟨S8x256x128, .f32⟩
  | .hbm, ⟨80, _⟩ => ⟨S1x1x128, .f32⟩
  | .hbm, ⟨81, _⟩ => ⟨S8x256x128, .f32⟩
  | .hbm, ⟨82, _⟩ => ⟨S8x256x128, .f32⟩
  | .hbm, ⟨83, _⟩ => ⟨S_, .f32⟩
  | .hbm, ⟨84, _⟩ => ⟨S8x256x128, .f32⟩
  | .hbm, ⟨85, _⟩ => ⟨S8x256x128, .f32⟩
  | .hbm, ⟨86, _⟩ => ⟨S8x256x128, .f32⟩
  | .hbm, ⟨87, _⟩ => ⟨S8x256x128, .f32⟩
  | .hbm, ⟨88, _⟩ => ⟨S8x256x128, .i1⟩
  | .hbm, ⟨89, _⟩ => ⟨S8x256x128, .f32⟩
  | .hbm, ⟨90, _⟩ => ⟨S8x256x128, .f32⟩
  | .hbm, ⟨91, _⟩ => ⟨S8x256x128, .f32⟩
  | .hbm, ⟨92, _⟩ => ⟨S8x256x128, .f32⟩
  | .hbm, ⟨93, _⟩ => ⟨S8x256x128, .f32⟩
  | .hbm, ⟨94, _⟩ => ⟨S8x256x128, .f32⟩
  | .hbm, ⟨95, _⟩ => ⟨S8x256x128, .f32⟩
  | .hbm, ⟨96, _⟩ => ⟨S8x256x128, .f32⟩
  | .hbm, ⟨97, _⟩ => ⟨S8x256x2048, .f32⟩
  | .hbm, ⟨98, _⟩ => ⟨S8x256x512, .bf16⟩
  | .hbm, ⟨99, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩

abbrev nD : Nat := 1
abbrev τ : Topo := Topo.v7x

variable {F : FTy → Type} [FloatOps F]
-- ==== Proof.AttnRun.lean ====
/- What the attention kernel's body leaves in its output block, as plain functions of the five input blocks: the
   online softmax state (running row maximum, running row sum, running weighted values) after the context keys and
   after each of the sixteen chunks of latent keys, and the three stores of the quotient. -/
module

public import proofs.«01_k».proof.Defs
public import proofs.«01_k».proof.Proof.Gen.AttnIdeal.Value
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- The `k`-th chunk of 512 rows of a latent block. -/
def chunk (x : Vec Ideal S1x8192x128 .bf16) (k : Fin k0_t1_loop.trips) : Vec Ideal S1x512x128 .bf16 :=
  View.ld x (Rect.unit (s := S1x8192x128) (k0_off1 k) S1x512x128.size (k0_off1_inb k))

/-- One trip of the loop on the state (row maximum, row sum, weighted values). -/
def step (q : FVec Ideal S768x128 .bf16) (xk xv : Vec Ideal S1x8192x128 .bf16) (k : Fin k0_t1_loop.trips)
    (s : Vec Ideal S768x1 .f32 × Vec Ideal S768x1 .f32 × Vec Ideal S768x128 .f32) :
    Vec Ideal S768x1 .f32 × Vec Ideal S768x1 .f32 × Vec Ideal S768x128 .f32 :=
  (k0_pay23 (k0_pay5 q (chunk xk k) s.1), k0_pay8 q (chunk xk k) s.1 s.2.1,
    k0_pay22 (k0_pay9 q (chunk xk k) (chunk xv k) s.1 s.2.2))

/-- The state after the first `k` trips, from the state `s0` at the loop's entry. -/
def stateFrom (q : FVec Ideal S768x128 .bf16) (xk xv : Vec Ideal S1x8192x128 .bf16)
    (s0 : Vec Ideal S768x1 .f32 × Vec Ideal S768x1 .f32 × Vec Ideal S768x128 .f32) :
    ℕ → Vec Ideal S768x1 .f32 × Vec Ideal S768x1 .f32 × Vec Ideal S768x128 .f32
  | 0 => s0
  | k + 1 => if h : k < k0_t1_loop.trips then step q xk xv ⟨k, h⟩ (stateFrom q xk xv s0 k) else stateFrom q xk xv s0 k

theorem stateFrom_succ (q : FVec Ideal S768x128 .bf16) (xk xv : Vec Ideal S1x8192x128 .bf16)
    (s0 : Vec Ideal S768x1 .f32 × Vec Ideal S768x1 .f32 × Vec Ideal S768x128 .f32) (k : Fin k0_t1_loop.trips) :
    stateFrom q xk xv s0 (k.val + 1) = step q xk xv k (stateFrom q xk xv s0 k.val) := by
  rw [stateFrom]; exact dif_pos k.isLt

section Loop

variable (𝒱 : Variants) (c : Dev nD) (bd : Option 𝒱.V) (i : grid0.Coords) (arg3 : Memref sig .tc .vmem S1x256x384 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S1x256x384 .bf16) (harg8 : arg8.IsWhole) (arg9 : Memref sig .tc .vmem S768x1 .f32) (harg9 : arg9.IsWhole) (arg10 : Memref sig .tc .vmem S768x1 .f32) (harg10 : arg10.IsWhole) (arg11 : Memref sig .tc .vmem S768x128 .f32) (harg11 : arg11.IsWhole) (v5 : FVec Ideal S768x128 .bf16) (v21 : FVec Ideal S256x128 .bf16) (v22 : FVec Ideal S768x256 .f32) (v26 : FVec Ideal S768x1 .f32) (v30 : FVec Ideal S768x1 .f32) (X_arg6 : BufTy.Contents (Elt Ideal) arg6.view.ty) (X_arg7 : BufTy.Contents (Elt Ideal) arg7.view.ty)

/-- What one trip writes, read back: the state `step` makes of the contents the trip finds. -/
theorem trip_read (k : Fin k0_t1_loop.trips) (f9 : BufTy.Contents (Elt Ideal) arg9.view.ty)
    (f10 : BufTy.Contents (Elt Ideal) arg10.view.ty) (f11 : BufTy.Contents (Elt Ideal) arg11.view.ty)
    (p : List (View.Piece (Elt Ideal) S768x1 .f32) × List (View.Piece (Elt Ideal) S768x1 .f32) × List (View.Piece (Elt Ideal) S768x128 .f32))
    (hp : p = tripL_k0_t1 (F := Ideal) 𝒱 c bd i arg3 harg3 arg4 harg4 arg5 harg5 arg6 harg6 arg7 harg7 arg8 harg8 arg9 harg9 arg10 harg10 arg11 harg11 v5 v21 v22 v26 v30 X_arg6 X_arg7 k f9 f10 f11) :
    (arg9.view.read (Elt Ideal) (arg9.view.writes (Elt Ideal) f9 p.1),
      arg10.view.read (Elt Ideal) (arg10.view.writes (Elt Ideal) f10 p.2.1),
      arg11.view.read (Elt Ideal) (arg11.view.writes (Elt Ideal) f11 p.2.2))
    = step v5 (arg6.view.read (Elt Ideal) X_arg6) (arg7.view.read (Elt Ideal) X_arg7) k
        (arg9.view.read (Elt Ideal) f9, arg10.view.read (Elt Ideal) f10, arg11.view.read (Elt Ideal) f11) := by
  have hz : (![0, 0] : Fin 2 → Nat) = fun _ => 0 := funext fun a => by fin_cases a <;> rfl
  subst hp
  unfold tripL_k0_t1 trip_k0_t1
  dsimp only
  sl_unfold_words
  unfold step chunk
  simp only [View.readAt_eq_ld]
  refine Prod.ext ?_ (Prod.ext ?_ ?_)
  · refine (View.read_writes_full arg9.view f9 _ _ []).trans ?_
    rw [View.ld_unit_zero (S := S768x1) hz]
    rfl
  · refine (View.read_writes_full arg10.view f10 _ _ []).trans ?_
    rw [View.ld_unit_zero (S := S768x1) hz, View.ld_unit_zero (S := S768x1) hz]
    rfl
  · refine (View.read_writes_full arg11.view f11 _ _ []).trans ?_
    rw [View.ld_unit_zero (S := S768x1) hz, View.ld_unit_zero (S := S768x128) hz]
    rfl

/-- What the three scratch buffers hold after the first `k` trips, read back: `stateFrom`. -/
theorem pb_read (G9 : BufTy.Contents (Elt Ideal) arg9.view.ty) (G10 : BufTy.Contents (Elt Ideal) arg10.view.ty)
    (G11 : BufTy.Contents (Elt Ideal) arg11.view.ty) (k : ℕ) (hk : k ≤ k0_t1_loop.trips)
    (p : List (View.Piece (Elt Ideal) S768x1 .f32) × List (View.Piece (Elt Ideal) S768x1 .f32) × List (View.Piece (Elt Ideal) S768x128 .f32))
    (hp : p = pb_k0_t1 (F := Ideal) 𝒱 c bd i arg3 harg3 arg4 harg4 arg5 harg5 arg6 harg6 arg7 harg7 arg8 harg8 arg9 harg9 arg10 harg10 arg11 harg11 v5 v21 v22 v26 v30 X_arg6 X_arg7 G9 G10 G11 k) :
    (arg9.view.read (Elt Ideal) (arg9.view.writes (Elt Ideal) G9 p.1),
      arg10.view.read (Elt Ideal) (arg10.view.writes (Elt Ideal) G10 p.2.1),
      arg11.view.read (Elt Ideal) (arg11.view.writes (Elt Ideal) G11 p.2.2))
    = stateFrom v5 (arg6.view.read (Elt Ideal) X_arg6) (arg7.view.read (Elt Ideal) X_arg7)
        (arg9.view.read (Elt Ideal) G9, arg10.view.read (Elt Ideal) G10, arg11.view.read (Elt Ideal) G11) k := by
  induction k generalizing p with
  | zero => subst hp; rfl
  | succ k ih =>
    have hs := pb_k0_t1_succ (F := Ideal) 𝒱 c bd i arg3 harg3 arg4 harg4 arg5 harg5 arg6 harg6 arg7 harg7 arg8 harg8 arg9 harg9 arg10 harg10 arg11 harg11 v5 v21 v22 v26 v30 X_arg6 X_arg7 G9 G10 G11 ⟨k, hk⟩
    rw [hp, hs]
    dsimp only
    rw [View.writes_append, View.writes_append, View.writes_append]
    refine (trip_read 𝒱 c bd i arg3 harg3 arg4 harg4 arg5 harg5 arg6 harg6 arg7 harg7 arg8 harg8 arg9 harg9 arg10 harg10 arg11 harg11 v5 v21 v22 v26 v30 X_arg6 X_arg7 ⟨k, hk⟩ _ _ _ _ rfl).trans ?_
    rw [ih (Nat.le_of_succ_le hk) _ rfl]
    exact (stateFrom_succ _ _ _ _ ⟨k, hk⟩).symm

end Loop

end Cert.AttnIdeal.Value
-- ==== Proof.AttnOut.lean ====
/- The attention kernel's output block at a grid point, element by element: the quotient of the final weighted values by
   the final row sum of the online softmax state. -/
module

public import proofs.«01_k».proof.Proof.AttnRun

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

/-- The state after the context keys, from the query block and the context key and value blocks. -/
def state0 (x0 : Vec Ideal S1x256x384 .bf16) (x1 x2 : Vec Ideal S1x256x128 .bf16) :
    Vec Ideal S768x1 .f32 × Vec Ideal S768x1 .f32 × Vec Ideal S768x128 .f32 :=
  (k0_pay21 (k0_pay16 x0 x1 (k0_pay11 (F := Ideal))),
    k0_pay19 (k0_pay15 x0 x1) (k0_pay16 x0 x1 (k0_pay11 (F := Ideal))) (k0_pay17 x0 x1 (k0_pay11 (F := Ideal))) (k0_pay12 (F := Ideal)),
    k0_pay20 (k0_pay14 x2) (k0_pay15 x0 x1) (k0_pay16 x0 x1 (k0_pay11 (F := Ideal))) (k0_pay17 x0 x1 (k0_pay11 (F := Ideal))) (k0_pay13 (F := Ideal)))

/-- The state after all keys. -/
def stateEnd (x0 : Vec Ideal S1x256x384 .bf16) (x1 x2 : Vec Ideal S1x256x128 .bf16) (x3 x4 : Vec Ideal S1x8192x128 .bf16) :
    Vec Ideal S768x1 .f32 × Vec Ideal S768x1 .f32 × Vec Ideal S768x128 .f32 :=
  stateFrom (k0_pay10 x0) x3 x4 (state0 x0 x1 x2) 16

/-- The three stores of the quotient of `a` by `l`, one per query head, as one block. -/
def heads (a : Vec Ideal S768x128 .f32) (l : Vec Ideal S768x1 .f32) : Vec Ideal S1x256x384 .bf16 :=
  View.canon (Val := Elt Ideal) (s := S1x256x384) (e := .bf16)
    [⟨Rect.unit ![0, 0, 256] ![1, 256, 128] inb_S1x256x384_S1x256x128_0_0_256, k0_pay3 (F := Ideal) (k0_pay24 a l)⟩,
     ⟨Rect.unit ![0, 0, 128] ![1, 256, 128] inb_S1x256x384_S1x256x128_0_0_128, k0_pay2 (F := Ideal) (k0_pay24 a l)⟩,
     ⟨Rect.unit ![0, 0, 0] ![1, 256, 128] inb_S1x256x384_S1x256x128_0_0_0, k0_pay1 (F := Ideal) (k0_pay25 a l)⟩]

theorem readCov_whole_append {sig : RefSig} {κ : Kind} {sp : Space} {s : Shape} {e : EltTy} (v : View sig κ sp s e)
    (L L' : List (View.Piece (Elt Ideal) s e)) {off : Fin s.rank → ℕ} (h : off = fun _ => 0) (inb : ∀ a, off a + s.size a ≤ s.size a) :
    v.readCov (L ++ L') (Rect.unit off s.size inb).toLoadRect
      = v.read (Elt Ideal) (v.writes (Elt Ideal) (v.writes (Elt Ideal) v.junk L') L) := by
  unfold View.readCov
  rw [View.writes_append, View.readAt_eq_ld, View.ld_unit_zero h]

/-- `stateFrom` of equal blocks and equal entry states is equal. -/
theorem stateFrom_congr (q : FVec Ideal S768x128 .bf16) (n : ℕ) {xk xk' xv xv' : Vec Ideal S1x8192x128 .bf16}
    {a a' b b' : Vec Ideal S768x1 .f32} {d d' : Vec Ideal S768x128 .f32}
    (h1 : xk = xk') (h2 : xv = xv') (h3 : a = a') (h4 : b = b') (h5 : d = d') :
    stateFrom q xk xv (a, b, d) n = stateFrom q xk' xv' (a', b', d') n := by
  subst h1 h2 h3 h4 h5; rfl

/-- What the body leaves in the output block at a point is `heads` of the final state over the point's input blocks. -/
theorem outsAt_eq (c : Dev nD) (t : Fin cfg0.N) : outsAt0 m c t
    = heads (stateEnd (iblk m c 0 t) (iblk m c 1 t) (iblk m c 2 t) (iblk m c 3 t) (iblk m c 4 t)).2.2
        (stateEnd (iblk m c 0 t) (iblk m c 1 t) (iblk m c 2 t) (iblk m c 3 t) (iblk m c 4 t)).2.1 := by
  have hz : (![0, 0] : Fin 2 → Nat) = fun _ => 0 := funext fun a => by fin_cases a <;> rfl
  have ht : (Scf.trips (0#32) (Scalar.addi 0#32 16#32) 1#32) = 16 := by decide +kernel
  have ht' : k0_t1_loop.trips = 16 := by decide +kernel
  unfold outsAt0
  frame_out
  show heads _ _ = _
  rw [ht]
  refine congrArg₂ heads ?_ ?_
  · refine (readCov_whole_append (View.whole cc0_scratch2) _ _ hz _).trans ?_
    refine (congrArg (fun p => p.2.2) (pb_read (arg9 := scM0_0) (arg10 := scM0_1) (arg11 := scM0_2) (p := _) (hp := rfl) (hk := ht'.ge) ..)).trans ?_
    exact congrArg (fun p => p.2.2) (stateFrom_congr _ _ (Memref.IsWhole.read_unread _ _) (Memref.IsWhole.read_unread _ _)
      (View.read_writes_full (View.whole cc0_scratch0) _ _ _ _) (View.read_writes_full (View.whole cc0_scratch1) _ _ _ _)
      (View.read_writes_full (View.whole cc0_scratch2) _ _ _ _))
  · refine (readCov_whole_append (View.whole cc0_scratch1) _ _ hz _).trans ?_
    refine (congrArg (fun p => p.2.1) (pb_read (arg9 := scM0_0) (arg10 := scM0_1) (arg11 := scM0_2) (p := _) (hp := rfl) (hk := ht'.ge) ..)).trans ?_
    exact congrArg (fun p => p.2.1) (stateFrom_congr _ _ (Memref.IsWhole.read_unread _ _) (Memref.IsWhole.read_unread _ _)
      (View.read_writes_full (View.whole cc0_scratch0) _ _ _ _) (View.read_writes_full (View.whole cc0_scratch1) _ _ _ _)
      (View.read_writes_full (View.whole cc0_scratch2) _ _ _ _))

end Cert.AttnIdeal.Value
-- ==== Proof.Softmax.lean ====
/- The arithmetic of the online softmax over the extended reals: the running maximum, the running sum and the running
   weighted values after some keys, how more keys extend them, and the quotient after all keys as a softmax. -/
module

public import Idealize.ShloMosaic.Lib.Pipeline.ValueKit

@[expose] public section

noncomputable section

open Idealize.ShloMosaic

namespace Cert.Softmax

/-- A finite factor at least zero goes into a finite sum. -/
theorem mul_sum_of_nonneg {ι : Type*} (s : Finset ι) (f : ι → EReal) {x : EReal} (h0 : 0 ≤ x) (ht : x ≠ ⊤) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

/-- The sum of the images of reals is the image of the sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum reduction from `⊥` is the supremum. -/
theorem fold_max_eq_sup {ι : Type*} (s : Finset ι) (f : ι → EReal) : s.fold max ⊥ f = s.sup f := rfl

/-- The exponential of base two of a scaled value. -/
def E (c : ℝ) (x : EReal) : EReal := Ideal.exp2 (x * (c : EReal))

/-- The greatest of the first `n` scores. -/
def mx (σ : ℕ → ℝ) (n : ℕ) : EReal := (Finset.range n).sup fun j => (σ j : EReal)

/-- The sum of the first `n` weights. -/
def lx (c : ℝ) (σ : ℕ → ℝ) (n : ℕ) : EReal := ∑ j ∈ Finset.range n, E c (σ j - mx σ n)

/-- The weighted sum of the first `n` values. -/
def ax (c : ℝ) (σ : ℕ → ℝ) (v : ℕ → EReal) (n : ℕ) : EReal := ∑ j ∈ Finset.range n, E c (σ j - mx σ n) * v j

theorem mx_real (σ : ℕ → ℝ) {n : ℕ} (hn : 0 < n) : ∃ μ : ℝ, mx σ n = (μ : EReal) ∧ (∃ j < n, σ j = μ) ∧ ∀ j < n, σ j ≤ μ := by
  obtain ⟨j, hj, he⟩ := Finset.exists_mem_eq_sup (Finset.range n) ⟨0, Finset.mem_range.2 hn⟩ fun j => (σ j : EReal)
  refine ⟨σ j, he, ⟨j, Finset.mem_range.1 hj, rfl⟩, fun i hi => ?_⟩
  have := Finset.le_sup (f := fun j => (σ j : EReal)) (Finset.mem_range.2 hi)
  rw [he] at this
  exact EReal.coe_le_coe_iff.1 this

theorem E_real (c x y : ℝ) : E c ((x : EReal) - (y : EReal)) = ((2 : ℝ) ^ ((x - y) * c) : ℝ) := by
  unfold E
  rw [← EReal.coe_sub, ← EReal.coe_mul, Ideal.exp2_coe]
  rfl

theorem E_mul (c x y z : ℝ) : E c ((y : EReal) - (z : EReal)) * E c ((x : EReal) - (y : EReal)) = E c ((x : EReal) - (z : EReal)) := by
  rw [E_real, E_real, E_real, ← EReal.coe_mul, ← Real.rpow_add two_pos]
  congr 2; ring

/-- The maximum extends over more keys. -/
theorem mx_add (σ : ℕ → ℝ) (n w : ℕ) :
    max (mx σ n) (Finset.univ.fold max ⊥ fun j : Fin w => (σ (n + j) : EReal)) = mx σ (n + w) := by
  rw [fold_max_eq_sup]
  apply le_antisymm
  · refine max_le ?_ (Finset.sup_le fun j _ => ?_)
    · exact Finset.sup_mono (by simp)
    · exact Finset.le_sup (f := fun j => (σ j : EReal)) (Finset.mem_range.2 (by omega))
  · refine Finset.sup_le fun j hj => ?_
    rcases lt_or_ge j n with h | h
    · exact le_max_of_le_left (Finset.le_sup (f := fun j => (σ j : EReal)) (Finset.mem_range.2 h))
    · refine le_max_of_le_right ?_
      have hj' := Finset.mem_range.1 hj
      refine le_trans ?_ (Finset.le_sup (f := fun j : Fin w => (σ (n + j) : EReal)) (Finset.mem_univ ⟨j - n, by omega⟩))
      simp [Nat.add_sub_cancel' h]

/-- Rescaling a weighted sum of the first `n` keys to a later maximum. -/
theorem rescale (c : ℝ) (σ : ℕ → ℝ) (v : ℕ → EReal) (n w : ℕ) :
    E c (mx σ n - mx σ (n + w)) * ax c σ v n = ∑ j ∈ Finset.range n, E c (σ j - mx σ (n + w)) * v j := by
  rcases Nat.eq_zero_or_pos n with h | h
  · subst h; simp [ax]
  · obtain ⟨μ, hμ, -⟩ := mx_real σ h
    obtain ⟨μ', hμ', -⟩ := mx_real σ (n := n + w) (by omega)
    unfold ax
    rw [hμ, hμ', E_real, mul_sum_of_nonneg _ _ (EReal.coe_nonneg.2 (Real.rpow_nonneg two_pos.le _)) (EReal.coe_ne_top _), ← E_real]
    exact Finset.sum_congr rfl fun j _ => by rw [← mul_assoc, E_mul]

/-- The weighted values extend over more keys. -/
theorem ax_add (c : ℝ) (σ : ℕ → ℝ) (v : ℕ → EReal) (n w : ℕ) :
    E c (mx σ n - mx σ (n + w)) * ax c σ v n + ∑ j : Fin w, E c (σ (n + j) - mx σ (n + w)) * v (n + j) = ax c σ v (n + w) := by
  rw [rescale, ax, Finset.sum_range_add, Finset.sum_range fun x => E c (σ (n + x) - mx σ (n + w)) * v (n + x)]

theorem lx_eq_ax (c : ℝ) (σ : ℕ → ℝ) (n : ℕ) : lx c σ n = ax c σ (fun _ => 1) n := by simp [lx, ax]

/-- The sum of weights extends over more keys. -/
theorem lx_add (c : ℝ) (σ : ℕ → ℝ) (n w : ℕ) :
    E c (mx σ n - mx σ (n + w)) * lx c σ n + ∑ j : Fin w, E c (σ (n + j) - mx σ (n + w)) = lx c σ (n + w) := by
  rw [lx_eq_ax, lx_eq_ax, ← ax_add]; simp

theorem mx_zero (σ : ℕ → ℝ) : mx σ 0 = ⊥ := by simp [mx]
theorem lx_zero (c : ℝ) (σ : ℕ → ℝ) : lx c σ 0 = 0 := by simp [lx]
theorem ax_zero (c : ℝ) (σ : ℕ → ℝ) (v : ℕ → EReal) : ax c σ v 0 = 0 := by simp [ax]

/-- The quotient after all keys is the softmax of the scores divided by `D`, weighting the values: `c = D⁻¹ (log 2)⁻¹`. -/
theorem final (D : ℝ) (hD : 0 < D) (σ : ℕ → ℝ) (v : ℕ → EReal) (n : ℕ) (hn : 0 < n) :
    Ideal.div (ax (D⁻¹ * (Real.log 2)⁻¹) σ v n) (lx (D⁻¹ * (Real.log 2)⁻¹) σ n)
      = ∑ j : Fin n, v j * Ideal.div (Ideal.exp (Ideal.div (σ j) D - max ⊥ (Finset.univ.fold max ⊥ fun i : Fin n => Ideal.div (σ i) D)))
          (∑ k : Fin n, Ideal.exp (Ideal.div (σ k) D - max ⊥ (Finset.univ.fold max ⊥ fun i : Fin n => Ideal.div (σ i) D))) := by
  have hdiv : ∀ x : ℝ, Ideal.div (x : EReal) (D : EReal) = ((x * D⁻¹ : ℝ) : EReal) := fun x => by
    rw [Ideal.div_coe hD.ne', one_div, EReal.coe_mul]
  obtain ⟨μ, hμ, ⟨j0, hj0, e0⟩, hle⟩ := mx_real σ hn
  have hM : max ⊥ (Finset.univ.fold max ⊥ fun i : Fin n => Ideal.div (σ i) D) = ((μ * D⁻¹ : ℝ) : EReal) := by
    rw [fold_max_eq_sup, max_eq_right bot_le]
    apply le_antisymm
    · refine Finset.sup_le fun j _ => ?_
      rw [hdiv, EReal.coe_le_coe_iff]
      exact mul_le_mul_of_nonneg_right (hle j j.2) (inv_nonneg.2 hD.le)
    · refine le_trans ?_ (Finset.le_sup (f := fun i : Fin n => Ideal.div (σ i) D) (Finset.mem_univ ⟨j0, hj0⟩))
      simp only [hdiv, e0]; exact le_refl _
  have hE : ∀ j : ℕ, E (D⁻¹ * (Real.log 2)⁻¹) ((σ j : EReal) - mx σ n) = ((Real.exp (σ j * D⁻¹ - μ * D⁻¹) : ℝ) : EReal) := fun j => by
    rw [hμ, E_real, Real.rpow_def_of_pos two_pos]
    congr 2
    have : Real.log 2 ≠ 0 := (Real.log_pos one_lt_two).ne'
    field_simp
  have hX : ∀ j : ℕ, Ideal.exp (Ideal.div (σ j) D - ((μ * D⁻¹ : ℝ) : EReal)) = ((Real.exp (σ j * D⁻¹ - μ * D⁻¹) : ℝ) : EReal) := fun j => by
    rw [hdiv, ← EReal.coe_sub, Ideal.exp_coe]
  rw [hM]
  simp only [hX, ax, lx, hE]
  rw [← Finset.sum_range fun j => ((Real.exp (σ j * D⁻¹ - μ * D⁻¹) : ℝ) : EReal), ← coe_sum]
  have hpos : 0 < ∑ j ∈ Finset.range n, Real.exp (σ j * D⁻¹ - μ * D⁻¹) :=
    Finset.sum_pos (fun _ _ => Real.exp_pos _) ⟨0, Finset.mem_range.2 hn⟩
  simp only [Ideal.div_coe hpos.ne']
  rw [mul_comm, mul_sum_of_nonneg _ _ (EReal.coe_nonneg.2 (one_div_nonneg.2 hpos.le)) (EReal.coe_ne_top _), Finset.sum_range]
  refine Finset.sum_congr rfl fun j _ => ?_
  rw [mul_comm, mul_right_comm, mul_comm]

end Cert.Softmax
-- ==== Proof.AttnState.lean ====
/- The attention kernel's state at a row, by induction over the chunks of keys, and the output block from it. -/
module

public import proofs.«01_k».proof.Proof.AttnOut
public import proofs.«01_k».proof.Proof.Softmax
public import Idealize.ShloMosaic.Lib.Pointwise

@[expose] public section

set_option maxRecDepth 16384

noncomputable section

open Idealize.ShloMosaic Idealize.ShloMosaic.TcCoe Idealize.SL.Sem

namespace Cert.AttnIdeal.Value

open Cert.AttnIdeal Cert.AttnIdeal.Gen Cert.Softmax

theorem negInf : Ideal.ofBits FTy.f32 4286578688#32 = ⊥ := by simp [Ideal.ofBits, Ideal.ieee]

/-- The scale of the exponent: the reciprocal root of the head size times the reciprocal logarithm of two. -/
abbrev scale : ℝ := (Real.sqrt 128)⁻¹ * (Real.log 2)⁻¹

theorem named_scale : Named.named (F := Ideal) κ "scale_log2e" (φ := .f32) 1040356334#32 = ((scale : ℝ) : EReal) :=
  IdealRules.named_const.ideal_named_scalar _ _ _ _ rfl

theorem exp2_E (x : EReal) : FloatOps.exp2 (F := Ideal) (φ := .f32) (x * Named.named (F := Ideal) κ "scale_log2e" (φ := .f32) 1040356334#32) = E scale x := by
  rw [named_scale]; rfl

/-- Row `n` of the keys (or values): the context rows, then the latent rows. -/
def kvRow (xc : Vec Ideal S1x256x128 .bf16) (xl : Vec Ideal S1x8192x128 .bf16) (n : ℕ) (d : Fin 128) : EReal :=
  if h : n < 256 then xc (ix3 0 ⟨n, h⟩ d) else if h : n - 256 < 8192 then xl (ix3 0 ⟨n - 256, h⟩ d) else 0

theorem kvRow_ctx (xc : Vec Ideal S1x256x128 .bf16) (xl : Vec Ideal S1x8192x128 .bf16) (j : Fin 256) (d : Fin 128) :
    kvRow xc xl (0 + j.val) d = xc (ix3 0 j d) := by
  unfold kvRow; rw [dif_pos (by omega)]; simp

theorem kvRow_ctx' (xc : Vec Ideal S1x256x128 .bf16) (xl : Vec Ideal S1x8192x128 .bf16) (j : Fin 256) (d : Fin 128) :
    kvRow xc xl j.val d = xc (ix3 0 j d) := by
  rw [← kvRow_ctx xc xl, zero_add]

theorem kvRow_lat (xc : Vec Ideal S1x256x128 .bf16) (xl : Vec Ideal S1x8192x128 .bf16) (k : Fin k0_t1_loop.trips) (j : Fin 512) (d : Fin 128) :
    kvRow xc xl (256 + 512 * k.val + j.val) d = chunk xl k (ix3 0 j d) := by
  have hk : k.val < 16 := k.isLt
  unfold kvRow; rw [dif_neg (by omega), dif_pos (by omega)]
  pointwise [chunk, k0_off1_eq]
  congr 2; apply Fin.ext; simp only; omega

/-- The state holds, at row `r`, the running maximum, sum and weighted values of the first `n` keys. -/
def Holds (σ : ℕ → ℝ) (v : ℕ → Fin 128 → EReal) (r : Fin 768) (n : ℕ)
    (s : Vec Ideal S768x1 .f32 × Vec Ideal S768x1 .f32 × Vec Ideal S768x128 .f32) : Prop :=
  s.1 (ix2 r 0) = mx σ n ∧ s.2.1 (ix2 r 0) = lx scale σ n ∧ ∀ d, s.2.2 (ix2 r d) = ax scale σ (fun j => v j d) n

/-- The context keys from an empty state. -/
theorem holds_state0 (x0 : Vec Ideal S1x256x384 .bf16) (x1 x2 : Vec Ideal S1x256x128 .bf16) (x3 x4 : Vec Ideal S1x8192x128 .bf16)
    (r : Fin 768) (σ : ℕ → ℝ) (hσ : ∀ n, ∑ d : Fin 128, k0_pay10 (F := Ideal) x0 (ix2 r d) * kvRow x1 x3 n d = (σ n : EReal)) :
    Holds σ (kvRow x2 x4) r 256 (state0 x0 x1 x2) := by
  have hs : ∀ j : Fin 256, k0_pay15 (F := Ideal) x0 x1 (ix2 r j) = (σ (0 + j.val) : EReal) := fun j => by
    rw [← hσ]
    simp only [kvRow_ctx]
    unfold k0_pay15
    generalize k0_pay10 (F := Ideal) x0 = q
    pointwise
  have hm : k0_pay16 (F := Ideal) x0 x1 (k0_pay11 (F := Ideal)) (ix2 r 0) = mx σ (0 + 256) := by
    rw [← mx_add σ 0 256, mx_zero]
    pointwise [k0_pay16, k0_pay11]
    simp only [hs, negInf, zero_add]
  have ha : k0_pay17 (F := Ideal) x0 x1 (k0_pay11 (F := Ideal)) (ix2 r 0) = E scale (mx σ 0 - mx σ (0 + 256)) := by
    rw [← hm, mx_zero, ← exp2_E]
    unfold k0_pay17
    generalize k0_pay16 (F := Ideal) x0 x1 (k0_pay11 (F := Ideal)) = M
    pointwise [k0_pay11]
    simp only [negInf]
  unfold state0
  revert hm ha
  generalize k0_pay17 (F := Ideal) x0 x1 (k0_pay11 (F := Ideal)) = A
  generalize k0_pay16 (F := Ideal) x0 x1 (k0_pay11 (F := Ideal)) = M
  revert hs
  generalize k0_pay15 (F := Ideal) x0 x1 = S
  intro hs hm ha
  refine ⟨?_, ?_, fun d => ?_⟩
  · refine Eq.trans ?_ hm
    pointwise [k0_pay21]
  · have h := lx_add scale σ 0 256
    rw [lx_zero] at h
    refine Eq.trans ?_ h
    pointwise [k0_pay19, k0_pay18, k0_pay12]
    simp only [exp2_E, hs, hm, ha, zero_add]
  · have h := ax_add scale σ (fun j => kvRow x2 x4 j d) 0 256
    rw [ax_zero] at h
    refine Eq.trans ?_ h
    pointwise [k0_pay20, k0_pay18, k0_pay13, k0_pay14]
    simp only [exp2_E, hs, hm, ha, zero_add, kvRow_ctx']

/-- One chunk of latent keys extends the state by 512 keys. -/
theorem holds_step (x1 x2 : Vec Ideal S1x256x128 .bf16) (x3 x4 : Vec Ideal S1x8192x128 .bf16)
    (q : FVec Ideal S768x128 .bf16) (r : Fin 768) (σ : ℕ → ℝ)
    (hσ : ∀ n, ∑ d : Fin 128, q (ix2 r d) * kvRow x1 x3 n d = (σ n : EReal)) (k : Fin k0_t1_loop.trips)
    (s : Vec Ideal S768x1 .f32 × Vec Ideal S768x1 .f32 × Vec Ideal S768x128 .f32)
    (h : Holds σ (kvRow x2 x4) r (256 + 512 * k.val) s) :
    Holds σ (kvRow x2 x4) r (256 + 512 * (k.val + 1)) (step q x3 x4 k s) := by
  obtain ⟨M, L, A⟩ := s
  obtain ⟨h1, h2, h3⟩ := h
  dsimp only at h1 h2 h3
  have hn : 256 + 512 * (k.val + 1) = 256 + 512 * k.val + 512 := by ring
  rw [hn]
  unfold step
  have hk : ∀ j : Fin 512, ∑ d : Fin 128, q (ix2 r d) * chunk x3 k (ix3 0 j d) = (σ (256 + 512 * k.val + j.val) : EReal) := fun j => by
    rw [← hσ]; simp only [kvRow_lat]
  have hv : ∀ (j : Fin 512) (d : Fin 128), chunk x4 k (ix3 0 j d) = kvRow x2 x4 (256 + 512 * k.val + j.val) d := fun j d =>
    (kvRow_lat x2 x4 k j d).symm
  have hmx := mx_add σ (256 + 512 * k.val) 512
  revert hk hv
  generalize chunk x3 k = X
  generalize chunk x4 k = Y
  intro hk hv
  have hm : k0_pay5 q X M (ix2 r 0) = mx σ (256 + 512 * k.val + 512) := by
    rw [← hmx, ← h1]
    pointwise [k0_pay5, k0_pay4]
    simp only [hk, negInf]
  have hp : ∀ j : Fin 512, k0_pay7 q X M (ix2 r j) = E scale ((σ (256 + 512 * k.val + j.val) : EReal) - mx σ (256 + 512 * k.val + 512)) := fun j => by
    rw [← exp2_E, ← hm]
    unfold k0_pay7
    generalize k0_pay5 q X M = M'
    pointwise [k0_pay4]
    simp only [hk]
  have ha : k0_pay6 q X M (ix2 r 0) = E scale (mx σ (256 + 512 * k.val) - mx σ (256 + 512 * k.val + 512)) := by
    rw [← exp2_E, ← hm, ← h1]
    unfold k0_pay6
    generalize k0_pay5 q X M = M'
    pointwise
  refine ⟨?_, ?_, fun d => ?_⟩
  · refine Eq.trans ?_ hm
    generalize k0_pay5 q X M = M'
    pointwise [k0_pay23]
  · refine Eq.trans ?_ (lx_add scale σ (256 + 512 * k.val) 512)
    rw [← h2]
    simp only [← hp, ← ha]
    unfold k0_pay8
    generalize k0_pay6 q X M = A'
    generalize k0_pay7 q X M = P'
    pointwise
  · refine Eq.trans ?_ (ax_add scale σ (fun j => kvRow x2 x4 j d) (256 + 512 * k.val) 512)
    rw [← h3]
    simp only [← hp, ← ha, ← hv]
    unfold k0_pay9
    generalize k0_pay6 q X M = A'
    generalize k0_pay7 q X M = P'
    pointwise [k0_pay22]

/-- After the sixteen chunks the state holds for all 8448 keys. -/
theorem holds_end (x0 : Vec Ideal S1x256x384 .bf16) (x1 x2 : Vec Ideal S1x256x128 .bf16) (x3 x4 : Vec Ideal S1x8192x128 .bf16)
    (r : Fin 768) (σ : ℕ → ℝ) (hσ : ∀ n, ∑ d : Fin 128, k0_pay10 (F := Ideal) x0 (ix2 r d) * kvRow x1 x3 n d = (σ n : EReal)) :
    Holds σ (kvRow x2 x4) r 8448 (stateEnd x0 x1 x2 x3 x4) := by
  have ht : k0_t1_loop.trips = 16 := by decide +kernel
  have key : ∀ k : ℕ, k ≤ 16 → Holds σ (kvRow x2 x4) r (256 + 512 * k) (stateFrom (k0_pay10 x0) x3 x4 (state0 x0 x1 x2) k) := by
    intro k
    induction k with
    | zero => intro _; exact holds_state0 x0 x1 x2 x3 x4 r σ hσ
    | succ k ih =>
      intro hk
      have hk' : k < k0_t1_loop.trips := by omega
      rw [stateFrom_succ _ _ _ _ ⟨k, hk'⟩]
      exact holds_step x1 x2 x3 x4 _ r σ hσ ⟨k, hk'⟩ _ (ih (by omega))
  exact key 16 le_rfl

/-- The query rows at an index: three heads of 256 rows. -/
theorem pay10_at (x0 : Vec Ideal S1x256x384 .bf16) (h : Fin 3) (i : Fin 256) (d : Fin 128) :
    k0_pay10 (F := Ideal) x0 (ix2 ⟨h.val * 256 + i.val, by omega⟩ d) = x0 (ix3 0 i ⟨h.val * 128 + d.val, by omega⟩) := by
  fin_cases h <;> pointwise [k0_pay10]
  rw [dif_neg (by omega), dif_neg (by omega)]
  refine congrArg x0 ?_
  congr 1
  exact Fin.ext (show 512 + i.val - 256 - 256 = i.val by omega)

theorem heads_idx (y : S1x256x128.Idx) (i : Fin 256) (d : Fin 128) (h1 : (y 1).val = i.val) (h2 : (y 2).val = d.val) : y = ix3 0 i d := by
  funext a
  fin_cases a
  · exact Fin.ext (Nat.lt_one_iff.1 (y 0).isLt)
  · exact Fin.ext h1
  · exact Fin.ext h2

/-- The output block at an index: the quotient of that head's row. -/
theorem heads_at (a : Vec Ideal S768x128 .f32) (l : Vec Ideal S768x1 .f32) (h : Fin 3) (i : Fin 256) (d : Fin 128) (y : S1x256x384.Idx)
    (h1 : (y 1).val = i.val) (h2 : (y 2).val = h.val * 128 + d.val) :
    heads a l y = Ideal.div (a (ix2 ⟨h.val * 256 + i.val, by omega⟩ d)) (l (ix2 ⟨h.val * 256 + i.val, by omega⟩ 0)) := by
  unfold heads
  canon_tiles y hy
  · have e : h = 2 := Fin.ext (by simp only [Fin.val_two]; omega)
    subst e
    rw [heads_idx y i d (by omega) (by omega)]
    pointwise [k0_pay3, k0_pay24]
  · have e : h = 1 := Fin.ext (by simp only [Fin.val_one]; omega)
    subst e
    rw [heads_idx y i d (by omega) (by omega)]
    pointwise [k0_pay2, k0_pay24]
  · have e : h = 0 := Fin.ext (by simp only [Fin.val_zero]; omega)
    subst e
    rw [heads_idx y i d (by omega) (by omega)]
    pointwise [k0_pay1, k0_pay25, k0_pay24]

end Cert.AttnIdeal.Value
-- ==== Proof.AttnRef.lean ====
/- The attention reference's result at an index: the softmax of the divided scores of a query row over all keys, weighting
   the values. -/
module

public import proofs.«01_k».proof.Proof.Gen.AttnRefIdeal.Run
public import Idealize.ShloMosaic.Lib.Pointwise
public import proofs.«01_k».proof.Proof.Softmax

@[expose] public section

set_option maxRecDepth 16384

noncomputable section

open Idealize.ShloMosaic Idealize.ShloMosaic.TcCoe Idealize.SL.Sem

namespace Cert.AttnRefIdeal.Value
open Cert.AttnRefIdeal Cert.AttnRefIdeal.Gen

/-- Context rows followed by latent rows, split into the two key/value groups. -/
def kv (x : Vec Ideal S8x256x256 .bf16) (y : Vec Ideal S8x8192x256 .bf16) : Vec Ideal S8x8448x2x128 .f32 :=
  shapeCast _ (extf (F := Ideal) .f32 (concatenate S8x8448x256 1 [⟨S8x256x256, x⟩, ⟨S8x8192x256, y⟩] concatenates_S8x256x256_S8x8192x256_S8x8448x256_d1) bitsLt_bf16_f32) shapeCasts_S8x8448x256_S8x8448x2x128

/-- The divided scores of every query against every key. -/
def scores (k : Vec Ideal S8x8448x2x128 .f32) (q : Vec Ideal S8x8192x768 .bf16) : Vec Ideal S8x2x3x8192x8448 .f32 :=
  Host.divf (F := Ideal) (φ := .f32) (extf .f32 (truncf (F := Ideal) (φ := .f32) .bf16 (transpose S8x2x3x8192x8448 [0, 1, 4, 3, 2] (Host.dotGeneral (φ₁ := .f32) dot_S8x8448x2x128_S8x8192x2x3x128_S8x2x8448x8192x3_3_4_1_13_02_02 none k (shapeCast _ (extf .f32 q bitsLt_bf16_f32) shapeCasts_S8x8192x768_S8x8192x2x3x128)) transposes_S8x2x8448x8192x3_S8x2x3x8192x8448_0_1_4_3_2) bitsLt_bf16_f32) bitsLt_bf16_f32) (broadcastInDim S8x2x3x8192x8448 ![] bcast_S_S8x2x3x8192x8448 (Host.sqrt (constant S_ .f32 0x43000000#32)))

/-- The greatest score of every query. -/
def rowMax (s : Vec Ideal S8x2x3x8192x8448 .f32) : Vec Ideal S8x2x3x8192 .f32 :=
  maximumf (F := Ideal) (φ := .f32) (broadcastInDim S8x2x3x8192 ![] bcast_S_S8x2x3x8192 (constant S_ .f32 0xFF800000#32)) (Host.reduce FloatOps.maximumf s (constant S_ .f32 0xFF800000#32) reducesTo_S8x2x3x8192x8448_S8x2x3x8192_d4 h_S_)

/-- The exponentials of the scores less their row's greatest. -/
def expArr (s : Vec Ideal S8x2x3x8192x8448 .f32) (mr : Vec Ideal S8x2x3x8192 .f32) : Vec Ideal S8x2x3x8192x8448 .f32 :=
  Host.exp (F := Ideal) (φ := .f32) (subf s (broadcastInDim S8x2x3x8192x8448 ![0, 1, 2, 3, 4] bcast_S8x2x3x8192x1_S8x2x3x8192x8448_0_1_2_3_4 (broadcastInDim S8x2x3x8192x1 ![0, 1, 2, 3] bcast_S8x2x3x8192_S8x2x3x8192x1_0_1_2_3 mr)))

/-- The exponentials, normalised over each row and weighting the values. -/
def outArr (e : Vec Ideal S8x2x3x8192x8448 .f32) (v : Vec Ideal S8x8448x2x128 .f32) : Vec Ideal S8x8192x768 .bf16 :=
  truncf (F := Ideal) .bf16 (shapeCast _ (transpose S8x8192x2x3x128 [0, 4, 1, 3, 2] (Host.dotGeneral (φ₁ := .f32) dot_S8x8448x2x128_S8x2x3x8192x8448_S8x2x128x3x8192_1_4_3_23_02_01 none v (extf .f32 (truncf (F := Ideal) .bf16 (Host.divf (φ := .f32) e (broadcastInDim S8x2x3x8192x8448 ![0, 1, 2, 3, 4] bcast_S8x2x3x8192x1_S8x2x3x8192x8448_0_1_2_3_4 (broadcastInDim S8x2x3x8192x1 ![0, 1, 2, 3] bcast_S8x2x3x8192_S8x2x3x8192x1_0_1_2_3 (Host.reduceAdd e (constant S_ .f32 0x00000000#32) reducesTo_S8x2x3x8192x8448_S8x2x3x8192_d4 h_S_)))) bitsLt_bf16_f32) bitsLt_bf16_f32)) transposes_S8x2x128x3x8192_S8x8192x2x3x128_0_4_1_3_2) shapeCasts_S8x8192x2x3x128_S8x8192x768) bitsLt_bf16_f32

theorem res_eq (m : (ℓ : Loc nD τ sig) → Buf (Elt Ideal) ℓ) (c : Dev nD) : res_out0 (F := Ideal) m c
    = outArr (expArr (scores (kv (m ((c.tc : Thread nD τ).loc main_arg1)) (m ((c.tc : Thread nD τ).loc main_arg3))) (m ((c.tc : Thread nD τ).loc main_arg0)))
        (rowMax (scores (kv (m ((c.tc : Thread nD τ).loc main_arg1)) (m ((c.tc : Thread nD τ).loc main_arg3))) (m ((c.tc : Thread nD τ).loc main_arg0)))))
      (kv (m ((c.tc : Thread nD τ).loc main_arg2)) (m ((c.tc : Thread nD τ).loc main_arg4))) := by
  unfold res_out0 res_main_v31 outArr expArr rowMax scores kv
  rfl

/-- The stacked key or value rows at an index: a context row, then the latent rows. -/
theorem kv_at (x : Vec Ideal S8x256x256 .bf16) (y : Vec Ideal S8x8192x256 .bf16) (b : Fin 8) (j : Fin 8448) (g : Fin 2) (d : Fin 128) :
    kv x y (ix4 b j g d) = if h : j.val < 256 then x (ix3 b ⟨j, h⟩ ⟨g.val * 128 + d.val, by omega⟩)
      else y (ix3 b ⟨j.val - 256, by omega⟩ ⟨g.val * 128 + d.val, by omega⟩) := by
  pointwise [kv]

/-- A score at an index. -/
theorem scores_at (k : Vec Ideal S8x8448x2x128 .f32) (q : Vec Ideal S8x8192x768 .bf16) (b : Fin 8) (g : Fin 2) (h : Fin 3) (i : Fin 8192) (j : Fin 8448) :
    scores k q (ix5 b g h i j) = Ideal.div (∑ d : Fin 128, k (ix4 b j g d) * q (ix3 b i ⟨g.val * 384 + h.val * 128 + d.val, by omega⟩))
      (Ideal.sqrt (Ideal.ofBits FTy.f32 0x43000000#32)) := by
  pointwise [scores]

/-- A host maximum along the last of five axes, at an index: the fold along that axis. -/
theorem reduce_max_last {n0 n1 n2 n3 n4 : ℕ} {u : Shape} (h : (⟨5, ![n0, n1, n2, n3, n4]⟩ : Shape).ReducesTo [4] ⟨4, ![n0, n1, n2, n3]⟩)
    (x : (⟨5, ![n0, n1, n2, n3, n4]⟩ : Shape).Idx → EReal) (init : u.Idx → EReal) (hu : 0 < u.numel) (a : Fin n0) (b : Fin n1) (c : Fin n2) (d : Fin n3) :
    Host.reduce (FloatOps.maximumf : Ideal .f32 → Ideal .f32 → Ideal .f32) x init h hu (ix4 a b c d)
      = Finset.univ.fold max (init (Shape.Idx.first hu)) fun k : Fin n4 => x (ix5 a b c d k) := by
  rw [Host.reduce_eq_fold]
  simp only [pointwise]

theorem maximumf_ix {s : Shape} (x y : FVec Ideal s .f32) (i : s.Idx) : maximumf x y i = max (x i) (y i) := rfl

theorem constant_ix {s : Shape} (w : BitVec 32) (i : s.Idx) : constant (F := Ideal) s .f32 w i = Ideal.ofBits .f32 w := rfl

theorem bcast_constant_ix {s u : Shape} (dims : Fin u.rank → Fin s.rank) (h : u.BroadcastsInDim s dims) (w : BitVec 32) (i : s.Idx) :
    broadcastInDim s dims h (constant (F := Ideal) u .f32 w) i = Ideal.ofBits .f32 w := rfl

/-- A row's greatest score at an index. -/
theorem rowMax_at (s : Vec Ideal S8x2x3x8192x8448 .f32) (b : Fin 8) (g : Fin 2) (h : Fin 3) (i : Fin 8192) :
    rowMax s (ix4 b g h i) = max (Ideal.ofBits FTy.f32 0xFF800000#32) (Finset.univ.fold max (Ideal.ofBits FTy.f32 0xFF800000#32) fun j : Fin 8448 => s (ix5 b g h i j)) := by
  unfold rowMax
  rw [maximumf_ix, reduce_max_last, constant_ix, bcast_constant_ix]

theorem expArr_at (s : Vec Ideal S8x2x3x8192x8448 .f32) (mr : Vec Ideal S8x2x3x8192 .f32) (b : Fin 8) (g : Fin 2) (h : Fin 3) (i : Fin 8192) (j : Fin 8448) :
    expArr s mr (ix5 b g h i j) = Ideal.exp (s (ix5 b g h i j) - mr (ix4 b g h i)) := by
  pointwise [expArr]

/-- The weighted values at an index. -/
theorem outArr_at (e : Vec Ideal S8x2x3x8192x8448 .f32) (v : Vec Ideal S8x8448x2x128 .f32) (b : Fin 8) (i : Fin 8192) (x : Fin 768) :
    outArr e v (ix3 b i x) = ∑ j : Fin 8448, v (ix4 b j ⟨x.val / 384, by omega⟩ ⟨x.val % 128, by omega⟩)
      * Ideal.div (e (ix5 b ⟨x.val / 384, by omega⟩ ⟨x.val / 128 % 3, by omega⟩ i j))
          (∑ k : Fin 8448, e (ix5 b ⟨x.val / 384, by omega⟩ ⟨x.val / 128 % 3, by omega⟩ i k)) := by
  pointwise [outArr]

theorem ofBits_negInf : Ideal.ofBits FTy.f32 0xFF800000#32 = ⊥ := by simp [Ideal.ofBits, Ideal.ieee]

theorem sqrt_128 : Ideal.sqrt (Ideal.ofBits FTy.f32 0x43000000#32) = ((Real.sqrt 128 : ℝ) : EReal) := by
  have h : Ideal.ofBits FTy.f32 0x43000000#32 = ((128 : ℝ) : EReal) := by
    simp [Ideal.ofBits, Ideal.ieee]; rw [← EReal.coe_mul]; norm_num
  rw [h, Ideal.sqrt_coe, if_neg (by norm_num)]

end Cert.AttnRefIdeal.Value
-- ==== Proof.AttnFinal.lean ====
/- The attention kernel's result array is the reference's term, where every query and key is a real. -/
module

public import proofs.«01_k».proof.Proof.AttnState
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Softmax

/-- The reference's term over the argument arrays. -/
def REF (q : Vec Ideal S8x8192x768 .bf16) (kc vc : Vec Ideal S8x256x256 .bf16) (kl vl : Vec Ideal S8x8192x256 .bf16) : Vec Ideal S8x8192x768 .bf16 :=
  Cert.AttnRefIdeal.Value.outArr
    (Cert.AttnRefIdeal.Value.expArr (Cert.AttnRefIdeal.Value.scores (Cert.AttnRefIdeal.Value.kv kc kl) q)
      (Cert.AttnRefIdeal.Value.rowMax (Cert.AttnRefIdeal.Value.scores (Cert.AttnRefIdeal.Value.kv kc kl) q)))
    (Cert.AttnRefIdeal.Value.kv vc vl)

section Point

variable (q : Vec Ideal S8x8192x768 .bf16) (kc vc : Vec Ideal S8x256x256 .bf16) (kl vl : Vec Ideal S8x8192x256 .bf16)
  (x0 : Vec Ideal S1x256x384 .bf16) (x1 x2 : Vec Ideal S1x256x128 .bf16) (x3 x4 : Vec Ideal S1x8192x128 .bf16)
  (b : Fin 8) (g : Fin 2) (i : Fin 32)

/-- A block's key or value row is the reference's stacked row. -/
theorem kvRow_eq (xc : Vec Ideal S1x256x128 .bf16) (xl : Vec Ideal S1x8192x128 .bf16) (ac : Vec Ideal S8x256x256 .bf16) (al : Vec Ideal S8x8192x256 .bf16)
    (hc : ∀ (j : Fin 256) (d : Fin 128), xc (ix3 0 j d) = ac (ix3 b j ⟨g.val * 128 + d.val, by omega⟩))
    (hl : ∀ (j : Fin 8192) (d : Fin 128), xl (ix3 0 j d) = al (ix3 b j ⟨g.val * 128 + d.val, by omega⟩)) (j : Fin 8448) (d : Fin 128) :
    kvRow xc xl j.val d = Cert.AttnRefIdeal.Value.kv ac al (ix4 b j g d) := by
  rw [Cert.AttnRefIdeal.Value.kv_at]
  unfold kvRow
  by_cases h : j.val < 256
  · rw [dif_pos h, dif_pos h, hc]
  · rw [dif_neg h, dif_neg h, dif_pos (by omega), hl]

/-- At a grid point, the output block is the reference's term, given what each input block reads. -/
theorem point (h0 : ∀ (r : Fin 256) (l : Fin 384), x0 (ix3 0 r l) = q (ix3 b ⟨i.val * 256 + r.val, by omega⟩ ⟨g.val * 384 + l.val, by omega⟩))
    (h1 : ∀ (j : Fin 256) (d : Fin 128), x1 (ix3 0 j d) = kc (ix3 b j ⟨g.val * 128 + d.val, by omega⟩))
    (h2 : ∀ (j : Fin 256) (d : Fin 128), x2 (ix3 0 j d) = vc (ix3 b j ⟨g.val * 128 + d.val, by omega⟩))
    (h3 : ∀ (j : Fin 8192) (d : Fin 128), x3 (ix3 0 j d) = kl (ix3 b j ⟨g.val * 128 + d.val, by omega⟩))
    (h4 : ∀ (j : Fin 8192) (d : Fin 128), x4 (ix3 0 j d) = vl (ix3 b j ⟨g.val * 128 + d.val, by omega⟩))
    (hq : ∀ i, ∃ r : ℝ, q i = (r : EReal)) (hkc : ∀ i, ∃ r : ℝ, kc i = (r : EReal)) (hkl : ∀ i, ∃ r : ℝ, kl i = (r : EReal))
    (y : S1x256x384.Idx) (r : Fin 256) (hd : Fin 3) (d : Fin 128) (hr : (y 1).val = r.val) (hl : (y 2).val = hd.val * 128 + d.val) :
    heads (stateEnd x0 x1 x2 x3 x4).2.2 (stateEnd x0 x1 x2 x3 x4).2.1 y
      = REF q kc vc kl vl (ix3 b ⟨i.val * 256 + r.val, by omega⟩ ⟨g.val * 384 + hd.val * 128 + d.val, by omega⟩) := by
  choose qr hqr using hq
  have hkv : ∀ (n : ℕ) (d : Fin 128), ∃ r : ℝ, kvRow x1 x3 n d = (r : EReal) := fun n d => by
    unfold kvRow
    split
    · rw [h1]; exact hkc _
    · split
      · rw [h3]; exact hkl _
      · exact ⟨0, rfl⟩
  choose kr hkr using hkv
  have hσ : ∃ σ : ℕ → ℝ, ∀ n, ∑ e : Fin 128, k0_pay10 (F := Ideal) x0 (ix2 ⟨hd.val * 256 + r.val, by omega⟩ e) * kvRow x1 x3 n e = (σ n : EReal) := by
    refine ⟨fun n => ∑ e : Fin 128, qr (ix3 b ⟨i.val * 256 + r.val, by omega⟩ ⟨g.val * 384 + (hd.val * 128 + e.val), by omega⟩) * kr n e, fun n => ?_⟩
    rw [coe_sum]
    refine Finset.sum_congr rfl fun e _ => ?_
    rw [pay10_at, h0, hqr, hkr, EReal.coe_mul]
  obtain ⟨σ, hσ⟩ := hσ
  obtain ⟨-, hL, hA⟩ := holds_end x0 x1 x2 x3 x4 ⟨hd.val * 256 + r.val, by omega⟩ σ hσ
  rw [heads_at _ _ hd r d y hr hl, hA d, hL, Cert.Softmax.final (Real.sqrt 128) (Real.sqrt_pos.2 (by norm_num)) σ _ 8448 (by norm_num)]
  have hs : ∀ j : Fin 8448, Cert.AttnRefIdeal.Value.scores (Cert.AttnRefIdeal.Value.kv kc kl) q (ix5 b g hd ⟨i.val * 256 + r.val, by omega⟩ j)
      = Ideal.div (σ j.val : EReal) ((Real.sqrt 128 : ℝ) : EReal) := fun j => by
    rw [Cert.AttnRefIdeal.Value.scores_at, Cert.AttnRefIdeal.Value.sqrt_128, ← hσ]
    refine congrArg (fun z => Ideal.div z _) (Finset.sum_congr rfl fun e _ => ?_)
    rw [pay10_at, h0, kvRow_eq b g x1 x3 kc kl h1 h3, mul_comm]
    exact congrArg (fun z => z * _) (congrArg q (congrArg (ix3 _ _) (Fin.ext (Nat.add_assoc _ _ _))))
  have hi : ∀ (l : ℕ) (hl : l = g.val * 384 + hd.val * 128 + d.val), l / 384 = g.val ∧ l / 128 % 3 = hd.val ∧ l % 128 = d.val := fun l hl => by omega
  unfold REF
  rw [Cert.AttnRefIdeal.Value.outArr_at]
  obtain ⟨e1, e2, e3⟩ := hi _ rfl
  simp only [e1, e2, e3, Fin.eta]
  simp only [Cert.AttnRefIdeal.Value.expArr_at, Cert.AttnRefIdeal.Value.rowMax_at, hs, Cert.AttnRefIdeal.Value.ofBits_negInf]
  refine Finset.sum_congr rfl fun j _ => ?_
  rw [kvRow_eq b g x2 x4 vc vl h2 h4]

end Point

variable (m : (ℓ : Loc nD τ sig) → Buf (Elt Ideal) ℓ)

/-- The windows' block indices at a grid point. -/
theorem idx : ∀ t : Fin cfg0.N, win0_0.index t = ![t.val / 64, t.val % 32, t.val / 32 % 2] ∧ win0_1.index t = ![t.val / 64, 0, t.val / 32 % 2]
    ∧ win0_2.index t = ![t.val / 64, 0, t.val / 32 % 2] ∧ win0_3.index t = ![t.val / 64, 0, t.val / 32 % 2]
    ∧ win0_4.index t = ![t.val / 64, 0, t.val / 32 % 2] ∧ win0_5.index t = ![t.val / 64, t.val % 32, t.val / 32 % 2] ∧ t.val < 512 :=
  (by decide +kernel : ∀ t : Fin grid0.N, _)

/-- The result array after the run is the reference's term of the arguments. -/
theorem final (c : Dev nD) (hq : ∀ i, ∃ r : ℝ, m ((c.tc : Thread nD τ).loc main_arg0) i = (r : EReal))
    (hkc : ∀ i, ∃ r : ℝ, m ((c.tc : Thread nD τ).loc main_arg1) i = (r : EReal))
    (hkl : ∀ i, ∃ r : ℝ, m ((c.tc : Thread nD τ).loc main_arg3) i = (r : EReal)) :
    (dats m 0 c).arrAt 5 cfg0.N = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5, outsAt_eq]
  have ht : t.val < 512 := (idx t).2.2.2.2.2.2
  have hy1 : (y 1).val < 256 := (y 1).isLt
  have hy2 : (y 2).val < 384 := (y 2).isLt
  refine (point (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (iblk m c 0 t) (iblk m c 1 t) (iblk m c 2 t) (iblk m c 3 t) (iblk m c 4 t)
      ⟨t.val / 64, by omega⟩ ⟨t.val / 32 % 2, by omega⟩ ⟨t.val % 32, by omega⟩ ?_ ?_ ?_ ?_ ?_ hq hkc hkl y
      ⟨(y 1).val, hy1⟩ ⟨(y 2).val / 128, by omega⟩ ⟨(y 2).val % 128, by omega⟩ rfl (by simp only; omega)).trans ?_
  · intro r l; blk_ext [iblk, V, idx t]
  · intro j d; blk_ext [iblk, V, idx t]
  · intro j d; blk_ext [iblk, V, idx t]
  · intro j d; blk_ext [iblk, V, idx t]
  · intro j d; blk_ext [iblk, V, idx t]
  · refine congrArg _ ?_
    blk_ext [idx t]

end Cert.AttnIdeal.Value
-- ==== Proof.AttnPre.lean ====
/- The precondition of the attention claim, read: every query and every key is a real. -/
module

public import proofs.«01_k».proof.Pre_finite_queries_keys
public import Idealize.ShloMosaic.Lib.Pipeline.ValueKit
public import Idealize.ShloMosaic.Lib.ReduceAll
public import Idealize.ShloMosaic.PureOps.Ideal

@[expose] public section

set_option maxRecDepth 16384

noncomputable section

open Idealize.ShloMosaic

namespace Cert.Pre_finite_queries_keys

theorem facts : Facts where
  bitsLt_bf16_f32 := by decide
  bcast_S_S8x8192x768 := by decide
  reducesTo_S8x8192x768_S_d0_1_2 := by decide
  h_S_ := by decide
  bcast_S_S8x256x256 := by decide
  reducesTo_S8x256x256_S_d0_1_2 := by decide
  bcast_S_S8x8192x256 := by decide
  reducesTo_S8x8192x256_S_d0_1_2 := by decide

theorem and_one (a b : BitVec 1) (h : IntOp.andi a b = 1#1) : a = 1#1 ∧ b = 1#1 := by
  revert a b; decide

theorem posInf : Ideal.ofBits FTy.f32 0x7F800000#32 = ⊤ := by simp [Ideal.ofBits, Ideal.ieee]

/-- An absolute value below `⊤` is a real's. -/
theorem real_of_lt (x : EReal) (h : Ideal.cmp .olt (max x (-x)) ⊤ = 1#1) : ∃ r : ℝ, x = (r : EReal) := by
  have h' : max x (-x) < ⊤ := by
    by_contra hn
    simp [Ideal.cmp, hn] at h
  induction x using EReal.rec with
  | bot => simp at h'
  | coe r => exact ⟨r, rfl⟩
  | top => simp at h'

variable [Facts]
open Facts

instance : Subsingleton S_.Idx := ⟨fun a b => funext fun i => i.elim0⟩

/-- Where the precondition holds, every query and every key is a real. -/
theorem reals (q : FVec Ideal S8x8192x768 .bf16) (kc vc : FVec Ideal S8x256x256 .bf16) (kl vl : FVec Ideal S8x8192x256 .bf16)
    (h : fn (F := Ideal) q kc vc kl vl = fun _ => 1#1) :
    (∀ i, ∃ r : ℝ, q i = (r : EReal)) ∧ (∀ i, ∃ r : ℝ, kc i = (r : EReal)) ∧ (∀ i, ∃ r : ℝ, kl i = (r : EReal)) := by
  have h0 := congrFun h (Shape.Idx.first h_S_)
  unfold fn at h0
  dsimp only at h0
  obtain ⟨h1, hc⟩ := and_one _ _ h0
  obtain ⟨ha, hb⟩ := and_one _ _ h1
  refine ⟨fun i => real_of_lt _ ?_, fun i => real_of_lt _ ?_, fun i => real_of_lt _ ?_⟩
  · have := Host.reduce_andi_all _ _ _ _ _ ha i
    rw [← posInf]; exact this
  · have := Host.reduce_andi_all _ _ _ _ _ hb i
    rw [← posInf]; exact this
  · have := Host.reduce_andi_all _ _ _ _ _ hc i
    rw [← posInf]; exact this

end Cert.Pre_finite_queries_keys
-- ==== Proof.AttnClaims.lean ====
/- The five claims about the attention. -/
module

public import proofs.«01_k».proof.Defs
public import proofs.«01_k».proof.Proof.AttnFinal
public import proofs.«01_k».proof.Proof.AttnPre
public import proofs.«01_k».proof.Proof.Gen.Attn.Frame
public import proofs.«01_k».proof.Proof.Gen.AttnIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.AttnClaims

theorem frame_p : Cert.quiescent_Attn := fun m ρ _ => Cert.Attn.Gen.frame m ρ
theorem frame_pi : Cert.quiescent_AttnIdeal := fun m ρ _ => Cert.AttnIdeal.Gen.frame m ρ
theorem frame_pi_pre : Cert.quiescent_AttnIdeal_pre_finite_queries_keys (hPre_finite_queries_keys := Cert.Pre_finite_queries_keys.facts) :=
  fun m ρ _ => Cert.AttnIdeal.Gen.frame m ρ

theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
theorem frame_ri_pre : Cert.quiescent_AttnRefIdeal_pre_finite_queries_keys (hPre_finite_queries_keys := Cert.Pre_finite_queries_keys.facts) :=
  fun m ρ _ => frame_ri m ρ trivial

/-- The named scale has the value the table gives it. -/
theorem preserves : Cert.preserves_Attn_AttnIdeal :=
  IdealRules.named_const.statement Cert.AttnIdeal.κ "scale_log2e" .f32 0x3E0293EE#32 (((Real.sqrt 128)⁻¹ * (Real.log 2)⁻¹ : ℝ) : EReal) rfl

/-- Kernel and reference end with equal results from equal arguments, where every query and key is a real. -/
theorem algebraic : Cert.algebraic_AttnIdeal_AttnRefIdeal_pre_finite_queries_keys
    (hPre_finite_queries_keys := Cert.Pre_finite_queries_keys.facts) := by
  pair_intro
  · run_from Cert.AttnIdeal.Value.run_blocks m g
  · run_from Cert.AttnRefIdeal.Value.run m' g'
    haveI := Cert.Pre_finite_queries_keys.facts
    obtain ⟨hq, hkc, hkl⟩ := Cert.Pre_finite_queries_keys.reals _ _ _ _ _ (hpre c)
    refine (Cert.AttnRefIdeal.Value.res_eq _ c).trans ?_
    rw [Cert.AttnIdeal.Value.final m c hq hkc hkl, (hagree c).1, (hagree c).2.1, (hagree c).2.2.1, (hagree c).2.2.2.1, (hagree c).2.2.2.2]
    rfl

end Cert.Proof.AttnClaims
-- ==== Proof.FfnIdealLoop.lean ====
/- The counted loop of the ConvFFN kernel (`FfnIdeal`): one trip per chunk of the hidden width. What a trip writes depends on
   whether the tile is the first of its sequence, the last, or neither. -/
module

public import proofs.«01_k».proof.Proof.Gen.FfnIdeal.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S11x1024x512 .bf16) (harg10 : arg10.IsWhole) (arg11 : Memref sig .tc .vmem S11x3x512 .f32) (harg11 : arg11.IsWhole) (arg12 : Memref sig .tc .vmem S11x1x512 .f32) (harg12 : arg12.IsWhole) (arg13 : Memref sig .tc .vmem S11x256x1024 .bf16) (harg13 : arg13.IsWhole) (arg14 : Memref sig .tc .vmem S1x512x1024 .f32) (harg14 : arg14.IsWhole) (arg15 : Memref sig .tc .vmem S528x1024 .f32) (harg15 : arg15.IsWhole) (arg16 : Memref sig .tc .vmem S528x1024 .bf16) (harg16 : arg16.IsWhole) (arg17 : Memref sig .tc .vmem S528x512 .f32) (harg17 : arg17.IsWhole) (arg18 : Memref sig .tc .vmem S512x1024 .f32) (harg18 : arg18.IsWhole) (arg1 : BitVec 32) (v29 : FVec F S528x1024 .f32) (X10 : BufTy.Contents (Elt F) arg10.view.ty) (X11 : BufTy.Contents (Elt F) arg11.view.ty) (X12 : BufTy.Contents (Elt F) arg12.view.ty) (X13 : BufTy.Contents (Elt F) arg13.view.ty) (X16 : BufTy.Contents (Elt F) arg16.view.ty)

/-- What one trip holds: the weights and the normed rows it reads, and the two buffers it writes. -/
abbrev Held (f17 : BufTy.Contents (Elt F) arg17.view.ty) (f18 : BufTy.Contents (Elt F) arg18.view.ty) : sProp 𝕄 :=
  iprop((arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg16.view.loc (c : Thread nD τ) ↦[arg16.view.set]{fullShare} X16) ∗ (arg17.view.loc (c : Thread nD τ) ↦[arg17.view.set]{fullShare} f17) ∗ (arg18.view.loc (c : Thread nD τ) ↦[arg18.view.set]{fullShare} f18))

/-- The triple of one trip: it leaves `L17` written in the hidden rows' buffer and `L18` in the accumulator's. -/
abbrev TripSpec (k : Fin k0_t1_loop.trips) (L17 : List (View.Piece (Elt F) S528x512 .f32)) (L18 : BufTy.Contents (Elt F) arg18.view.ty → List (View.Piece (Elt F) S512x1024 .f32)) : Prop :=
  ∀ (E : Set ℕ) (f17 : BufTy.Contents (Elt F) arg17.view.ty) (f18 : BufTy.Contents (Elt F) arg18.view.ty),
    Held (F := F) c arg10 arg11 arg12 arg13 arg16 arg17 arg18 X10 X11 X12 X13 X16 f17 f18
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 k PUnit.unit)
          (fun _ => Held (F := F) c arg10 arg11 arg12 arg13 arg16 arg17 arg18 X10 X11 X12 X13 X16 (arg17.view.writes (Elt F) f17 L17) (arg18.view.writes (Elt F) f18 (L18 f18)))

/-- One trip on the first tile of a sequence: the rows before it are set to zero. -/
@[irreducible] def tripTop (h1 : Scalar.cmpi .ne (Scalar.extui (Scalar.cmpi .eq arg1 0#32) : BitVec 32) 0#32 = 1#1) (h2 : ¬ Scalar.cmpi .ne (Scalar.extui (Scalar.cmpi .eq arg1 15#32) : BitVec 32) 0#32 = 1#1) (k : Fin k0_t1_loop.trips) :
    Σ' (L17 : List (View.Piece (Elt F) S528x512 .f32)), { L18 : BufTy.Contents (Elt F) arg18.view.ty → List (View.Piece (Elt F) S512x1024 .f32) // TripSpec (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k L17 L18 } := by
  have hk : k.val < 11 := Nat.lt_of_lt_of_le k.isLt k0_t1_abs.2.1
  refine ⟨?_, ?_, fun E f17 f18 => ?run⟩
  case run =>
    unfold k0_t1_body
    iintro ⟨HR10, HR11, HR12, HR13, HR16, HW17, HW18⟩
    sl_exec
    sl_step
    sl_close

/-- One trip on a tile that is neither the first nor the last. -/
@[irreducible] def tripMid (h1 : ¬ Scalar.cmpi .ne (Scalar.extui (Scalar.cmpi .eq arg1 0#32) : BitVec 32) 0#32 = 1#1) (h2 : ¬ Scalar.cmpi .ne (Scalar.extui (Scalar.cmpi .eq arg1 15#32) : BitVec 32) 0#32 = 1#1) (k : Fin k0_t1_loop.trips) :
    Σ' (L17 : List (View.Piece (Elt F) S528x512 .f32)), { L18 : BufTy.Contents (Elt F) arg18.view.ty → List (View.Piece (Elt F) S512x1024 .f32) // TripSpec (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k L17 L18 } := by
  have hk : k.val < 11 := Nat.lt_of_lt_of_le k.isLt k0_t1_abs.2.1
  refine ⟨?_, ?_, fun E f17 f18 => ?run⟩
  case run =>
    unfold k0_t1_body
    iintro ⟨HR10, HR11, HR12, HR13, HR16, HW17, HW18⟩
    sl_exec
    sl_step
    sl_close

/-- One trip on the last tile of a sequence: the rows after it are set to zero. -/
@[irreducible] def tripBot (h1 : ¬ Scalar.cmpi .ne (Scalar.extui (Scalar.cmpi .eq arg1 0#32) : BitVec 32) 0#32 = 1#1) (h2 : Scalar.cmpi .ne (Scalar.extui (Scalar.cmpi .eq arg1 15#32) : BitVec 32) 0#32 = 1#1) (k : Fin k0_t1_loop.trips) :
    Σ' (L17 : List (View.Piece (Elt F) S528x512 .f32)), { L18 : BufTy.Contents (Elt F) arg18.view.ty → List (View.Piece (Elt F) S512x1024 .f32) // TripSpec (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k L17 L18 } := by
  have hk : k.val < 11 := Nat.lt_of_lt_of_le k.isLt k0_t1_abs.2.1
  refine ⟨?_, ?_, fun E f17 f18 => ?run⟩
  case run =>
    unfold k0_t1_body
    iintro ⟨HR10, HR11, HR12, HR13, HR16, HW17, HW18⟩
    sl_exec
    sl_step
    sl_close

/-- No tile counter is both the first and the last. -/
theorem not_both (a : BitVec 32) (h1 : Scalar.cmpi .ne (Scalar.extui (Scalar.cmpi .eq a 0#32) : BitVec 32) 0#32 = 1#1) : ¬ Scalar.cmpi .ne (Scalar.extui (Scalar.cmpi .eq a 15#32) : BitVec 32) 0#32 = 1#1 := by
  have e : a = 0#32 := by
    by_contra hne
    have hb : (a == 0#32) = false := by simpa using hne
    simp only [Scalar.cmpi, Scalar.extui, IntOp.cmpi, hb] at h1
    exact absurd h1 (by decide)
  subst e; decide

/-- What one trip writes in the hidden rows' buffer and in the accumulator. -/
def tripL (k : Fin k0_t1_loop.trips) (f18 : BufTy.Contents (Elt F) arg18.view.ty) : List (View.Piece (Elt F) S528x512 .f32) × List (View.Piece (Elt F) S512x1024 .f32) :=
  if h1 : Scalar.cmpi .ne (Scalar.extui (Scalar.cmpi .eq arg1 0#32) : BitVec 32) 0#32 = 1#1 then (fun h2 => ((tripTop (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).1, (tripTop (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.1 f18)) (not_both arg1 h1)
  else if h2 : Scalar.cmpi .ne (Scalar.extui (Scalar.cmpi .eq arg1 15#32) : BitVec 32) 0#32 = 1#1 then ((tripBot (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).1, (tripBot (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.1 f18)
  else ((tripMid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).1, (tripMid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.1 f18)

/-- The trip's triple, whichever tile it is. -/
theorem trip_ok (k : Fin k0_t1_loop.trips) (E : Set ℕ) (f17 : BufTy.Contents (Elt F) arg17.view.ty) (f18 : BufTy.Contents (Elt F) arg18.view.ty) :
    Held (F := F) c arg10 arg11 arg12 arg13 arg16 arg17 arg18 X10 X11 X12 X13 X16 f17 f18
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 k PUnit.unit)
          (fun _ => Held (F := F) c arg10 arg11 arg12 arg13 arg16 arg17 arg18 X10 X11 X12 X13 X16
            (arg17.view.writes (Elt F) f17 (tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k f18).1)
            (arg18.view.writes (Elt F) f18 (tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k f18).2)) := by
  by_cases h1 : Scalar.cmpi .ne (Scalar.extui (Scalar.cmpi .eq arg1 0#32) : BitVec 32) 0#32 = 1#1
  · have h2 := not_both arg1 h1
    rw [show tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k f18 = ((tripTop (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).1, (tripTop (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.1 f18) from by unfold tripL; rw [dif_pos h1]]
    exact (tripTop (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.2 E f17 f18
  · by_cases h2 : Scalar.cmpi .ne (Scalar.extui (Scalar.cmpi .eq arg1 15#32) : BitVec 32) 0#32 = 1#1
    · rw [show tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k f18 = ((tripBot (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).1, (tripBot (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.1 f18) from by unfold tripL; rw [dif_neg h1, dif_pos h2]]
      exact (tripBot (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.2 E f17 f18
    · rw [show tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k f18 = ((tripMid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).1, (tripMid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.1 f18) from by unfold tripL; rw [dif_neg h1, dif_neg h2]]
      exact (tripMid (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 h1 h2 k).2.2 E f17 f18

variable (G18 : BufTy.Contents (Elt F) arg18.view.ty)

/-- Trip `k`'s pieces in front of those before it; past the last trip, those before it. -/
@[irreducible] def piecesStep (k : ℕ) (prev : List (View.Piece (Elt F) S528x512 .f32) × List (View.Piece (Elt F) S512x1024 .f32)) : List (View.Piece (Elt F) S528x512 .f32) × List (View.Piece (Elt F) S512x1024 .f32) :=
  if h : k < k0_t1_loop.trips then
    ((tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 ⟨k, h⟩ (arg18.view.writes (Elt F) G18 prev.2)).1 ++ prev.1,
      (tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 ⟨k, h⟩ (arg18.view.writes (Elt F) G18 prev.2)).2 ++ prev.2)
  else prev

/-- The pieces of the trips before `k`, last first, from the accumulator's contents at the loop's entry. -/
def pieces : ℕ → List (View.Piece (Elt F) S528x512 .f32) × List (View.Piece (Elt F) S512x1024 .f32)
  | 0 => ([], [])
  | k + 1 => piecesStep (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 k (pieces k)

theorem pieces_succ (k : Fin k0_t1_loop.trips) :
    pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 (k.val + 1)
      = ((tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k (arg18.view.writes (Elt F) G18 (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 k.val).2)).1 ++ (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 k.val).1,
        (tripL (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k (arg18.view.writes (Elt F) G18 (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 k.val).2)).2 ++ (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 k.val).2) := by
  rw [pieces.eq_2]; unfold piecesStep; exact dif_pos k.isLt

/-- What holds before trip `k`: the weights and the normed rows as they are, the two written buffers at the pieces of
   the trips before `k`. -/
abbrev inv (G17 : BufTy.Contents (Elt F) arg17.view.ty) (k : ℕ) (_u : PUnit) : sProp 𝕄 :=
  iprop((arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg16.view.loc (c : Thread nD τ) ↦[arg16.view.set]{fullShare} X16) ∗ (∃ f, (arg17.view.loc (c : Thread nD τ) ↦[arg17.view.set]{fullShare} f) ∗ ⌜f = arg17.view.writes (Elt F) G17 (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 k).1⌝) ∗ (∃ f, (arg18.view.loc (c : Thread nD τ) ↦[arg18.view.set]{fullShare} f) ∗ ⌜f = arg18.view.writes (Elt F) G18 (pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 k).2⌝))

end

set_option warn.classDefReducibility false in
/-- The loop by its invariant. -/
@[sl_loop] def loopInv (𝒱 : Variants) (c : Dev nD) (bd : Option 𝒱.V) (E : Set ℕ) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S11x1024x512 .bf16) (harg10 : arg10.IsWhole) (arg11 : Memref sig .tc .vmem S11x3x512 .f32) (harg11 : arg11.IsWhole) (arg12 : Memref sig .tc .vmem S11x1x512 .f32) (harg12 : arg12.IsWhole) (arg13 : Memref sig .tc .vmem S11x256x1024 .bf16) (harg13 : arg13.IsWhole) (arg14 : Memref sig .tc .vmem S1x512x1024 .f32) (harg14 : arg14.IsWhole) (arg15 : Memref sig .tc .vmem S528x1024 .f32) (harg15 : arg15.IsWhole) (arg16 : Memref sig .tc .vmem S528x1024 .bf16) (harg16 : arg16.IsWhole) (arg17 : Memref sig .tc .vmem S528x512 .f32) (harg17 : arg17.IsWhole) (arg18 : Memref sig .tc .vmem S512x1024 .f32) (harg18 : arg18.IsWhole) (arg1 : BitVec 32) (v29 : FVec F S528x1024 .f32) (X10 : BufTy.Contents (Elt F) arg10.view.ty) (X11 : BufTy.Contents (Elt F) arg11.view.ty) (X12 : BufTy.Contents (Elt F) arg12.view.ty) (X13 : BufTy.Contents (Elt F) arg13.view.ty) (X16 : BufTy.Contents (Elt F) arg16.view.ty) (G17 : BufTy.Contents (Elt F) arg17.view.ty) (G18 : BufTy.Contents (Elt F) arg18.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 G17
  step k acc := by
    iintro ⟨HR10, HR11, HR12, HR13, HR16, ⟨%f17, HW17, %h17⟩, ⟨%f18, HW18, %h18⟩⟩
    iapply (wp_wand_r Idealize.ShloMosaic.frame (wpE (defs₀ (F := F)) 𝒱 (c : Thread nD τ) bd) E)
    isplitl [HR10 HR11 HR12 HR13 HR16 HW17 HW18]
    · iapply (trip_ok (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k E f17 f18)
      isplitl [HR10]; · iexact HR10
      isplitl [HR11]; · iexact HR11
      isplitl [HR12]; · iexact HR12
      isplitl [HR13]; · iexact HR13
      isplitl [HR16]; · iexact HR16
      isplitl [HW17]; · iexact HW17
      iexact HW18
    · iintro %_ ⟨HR10, HR11, HR12, HR13, HR16, HW17, HW18⟩
      isplitl [HR10]; · iexact HR10
      isplitl [HR11]; · iexact HR11
      isplitl [HR12]; · iexact HR12
      isplitl [HR13]; · iexact HR13
      isplitl [HR16]; · iexact HR16
      rw [pieces_succ]
      isplitl [HW17]
      · iexists _; isplitl [HW17]; · iexact HW17
        ipureintro; rw [h17, h18, ← View.writes_append]
      iexists _; isplitl [HW18]; · iexact HW18
      ipureintro; rw [h18, ← View.writes_append]

end Cert.FfnIdeal.Body

end
-- ==== Proof.FfnIdealBody.lean ====
/- The ConvFFN kernel's body (`FfnIdeal`) run at a generic grid point, what it leaves in its output block, the pipeline's
   proof data, and the run of the whole program with its frame. -/
module

public import proofs.«01_k».proof.Proof.FfnIdealLoop
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every HBM array when the call begins: the arguments and the layouts made of them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is its one pipelined call, with no word before it. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- From a run of the pipeline, every argument array ends as it began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

abbrev VO0_12 : View sig .tc .vmem S1x512x1024 .f32 := (Memref.whole cc0_stg12_0 : Memref sig .tc .vmem S1x512x1024 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S11x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S11x3x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S11x1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S11x256x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x1024 .f32 := win0_12.stage (cfg0.slots t 12)
abbrev hs0_12 (t : Fin cfg0.N) : (ms0_12 t).IsWhole := hstage0_12 ((cfg0.slots t 12).cast nbuf0_12)
abbrev scM0_0 : Memref sig .tc .vmem S528x1024 .f32 := Memref.whole cc0_scratch0
abbrev scM0_1 : Memref sig .tc .vmem S528x1024 .bf16 := Memref.whole cc0_scratch1
abbrev scM0_2 : Memref sig .tc .vmem S528x512 .f32 := Memref.whole cc0_scratch2
abbrev scM0_3 : Memref sig .tc .vmem S512x1024 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl
set_option maxHeartbeats 1000000 in
/-- The body run at any grid point, over any contents of its blocks, with the pieces it stores. -/
noncomputable def kernelRun0_A (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S11x1024x512 .bf16) (harg10 : arg10.IsWhole) (arg11 : Memref sig .tc .vmem S11x3x512 .f32) (harg11 : arg11.IsWhole) (arg12 : Memref sig .tc .vmem S11x1x512 .f32) (harg12 : arg12.IsWhole) (arg13 : Memref sig .tc .vmem S11x256x1024 .bf16) (harg13 : arg13.IsWhole) (arg14 : Memref sig .tc .vmem S1x512x1024 .f32) (harg14 : arg14.IsWhole) (arg15 : Memref sig .tc .vmem S528x1024 .f32) (harg15 : arg15.IsWhole) (arg16 : Memref sig .tc .vmem S528x1024 .bf16) (harg16 : arg16.IsWhole) (arg17 : Memref sig .tc .vmem S528x512 .f32) (harg17 : arg17.IsWhole) (arg18 : Memref sig .tc .vmem S512x1024 .f32) (harg18 : arg18.IsWhole)
    (x0 : Vec F S1x512x1024 .f32) (x1 : Vec F S1x8x1024 .f32) (x2 : Vec F S1x8x1024 .f32) (x3 : Vec F S1x1x1024 .f32) (x4 : Vec F S1x1x1024 .f32) (x5 : Vec F S1x1x1024 .f32) (x6 : Vec F S1x1024 .f32) (x7 : Vec F S1x1024 .f32) (x8 : Vec F S11x1024x512 .bf16) (x9 : Vec F S11x3x512 .f32) (x10 : Vec F S11x1x512 .f32) (x11 : Vec F S11x256x1024 .bf16) :
    { L12 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_conv_ffn_eq_skeleton]; unfold cc0_conv_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-- The pieces stored into the output block cover it. -/
theorem cover0_A_12 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S11x1024x512 .bf16) (harg10 : arg10.IsWhole) (arg11 : Memref sig .tc .vmem S11x3x512 .f32) (harg11 : arg11.IsWhole) (arg12 : Memref sig .tc .vmem S11x1x512 .f32) (harg12 : arg12.IsWhole) (arg13 : Memref sig .tc .vmem S11x256x1024 .bf16) (harg13 : arg13.IsWhole) (arg14 : Memref sig .tc .vmem S1x512x1024 .f32) (harg14 : arg14.IsWhole) (arg15 : Memref sig .tc .vmem S528x1024 .f32) (harg15 : arg15.IsWhole) (arg16 : Memref sig .tc .vmem S528x1024 .bf16) (harg16 : arg16.IsWhole) (arg17 : Memref sig .tc .vmem S528x512 .f32) (harg17 : arg17.IsWhole) (arg18 : Memref sig .tc .vmem S512x1024 .f32) (harg18 : arg18.IsWhole)
    (x0 : Vec F S1x512x1024 .f32) (x1 : Vec F S1x8x1024 .f32) (x2 : Vec F S1x8x1024 .f32) (x3 : Vec F S1x1x1024 .f32) (x4 : Vec F S1x1x1024 .f32) (x5 : Vec F S1x1x1024 .f32) (x6 : Vec F S1x1024 .f32) (x7 : Vec F S1x1024 .f32) (x8 : Vec F S11x1024x512 .bf16) (x9 : Vec F S11x3x512 .f32) (x10 : Vec F S11x1x512 .f32) (x11 : Vec F S11x256x1024 .bf16) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1 S1x512x1024.size (by sl_kernel_rfl) y

/-- What the body leaves in its output block. -/
def out0_A_12 (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S11x1024x512 .bf16) (harg10 : arg10.IsWhole) (arg11 : Memref sig .tc .vmem S11x3x512 .f32) (harg11 : arg11.IsWhole) (arg12 : Memref sig .tc .vmem S11x1x512 .f32) (harg12 : arg12.IsWhole) (arg13 : Memref sig .tc .vmem S11x256x1024 .bf16) (harg13 : arg13.IsWhole) (arg14 : Memref sig .tc .vmem S1x512x1024 .f32) (harg14 : arg14.IsWhole) (arg15 : Memref sig .tc .vmem S528x1024 .f32) (harg15 : arg15.IsWhole) (arg16 : Memref sig .tc .vmem S528x1024 .bf16) (harg16 : arg16.IsWhole) (arg17 : Memref sig .tc .vmem S528x512 .f32) (harg17 : arg17.IsWhole) (arg18 : Memref sig .tc .vmem S512x1024 .f32) (harg18 : arg18.IsWhole)
    (x0 : Vec F S1x512x1024 .f32) (x1 : Vec F S1x8x1024 .f32) (x2 : Vec F S1x8x1024 .f32) (x3 : Vec F S1x1x1024 .f32) (x4 : Vec F S1x1x1024 .f32) (x5 : Vec F S1x1x1024 .f32) (x6 : Vec F S1x1024 .f32) (x7 : Vec F S1x1024 .f32) (x8 : Vec F S11x1024x512 .bf16) (x9 : Vec F S11x3x512 .f32) (x10 : Vec F S11x1x512 .f32) (x11 : Vec F S11x256x1024 .bf16) : Vec F S1x512x1024 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1)

/-- The output block after grid point `t`. -/
def outsAt0 (c : Dev nD) (t : Fin cfg0.N) : Vec F S1x512x1024 .f32 :=
  out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The pipeline's proof data: each input buffer holds its block, the output buffer what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1600000 in
/-- At each grid point the body meets its pre- and postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold outsAt0
  unfold out0_A_12
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%e12, H12⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The obligation the pipeline's rule asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
/-- The whole program runs, ends in the state the proof data name, and leaves every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole program runs and ends in the state the proof data name. -/
theorem run_main : θ_run defs (onTc (τ := τ) (main (F := F))) (s₀ m ρ) (Pipeline.FramePost cfgs (dats m) 0 (V m)) :=
  (θ_run defs _ _).mono (fun _ h => h.1) (run_main_quiescent m ρ)

/-- Every argument array is unchanged by the run. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the program runs without a fault, its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.FfnIdeal.Body

end
-- ==== Proof.FfnIdealBlocks.lean ====
/- The ConvFFN kernel's final output array, block by block: block `t` is what grid point `t` wrote; and the run with that
   array named and every argument unchanged. -/
module

public import proofs.«01_k».proof.Proof.FfnIdealBody
public import Idealize.ShloMosaic.Lib.Pipeline.Value

@[expose] public section

noncomputable section

namespace Cert.FfnIdeal.Value

open Cert.FfnIdeal Cert.FfnIdeal.Gen Cert.FfnIdeal.Body Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block the output window writes back at grid point `t`. -/
theorem flushed12 (c : Dev nD) (t : Fin cfg0.N) :
    (dats m 0 c).flushed 12 t = (cfg0.win 12).cut (grid0.coords t) (outsAt0 m c t) := by
  show (cfg0.win 12).cut (grid0.coords t) ((dats m 0 c).after 12 t) = _
  rw [after0_12]

theorem flushed12_A (c : Dev nD) (t : Fin cfg0.N) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0]

/-- Distinct grid points write distinct blocks of the output. -/
theorem idx_inj12 : ∀ t t' : Fin cfg0.N, win0_12.index t = win0_12.index t' → t = t' :=
  (by decide +kernel : ∀ t t' : Fin grid0.N, win0_12.index t = win0_12.index t' → t = t')

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- Block `t` of the final output is what grid point `t` left. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

theorem entry12 (c : Dev nD) (i : S8x8192x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- The result array ends as the pipeline leaves its output. -/
theorem post12 (r : PUnit × MemSt nD τ sig (Elt F)) (h : Pipeline.FramePost cfgs (dats m) 0 (V m) r) (c : Dev nD) :
    r.2.mem ((c : Thread nD τ).loc main_v23) = (dats m 0 c).arrAt 12 cfg0.N :=
  (h c).1 12

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The program runs, its result the output array block by block, its arguments unchanged. -/
theorem run_blocks : θ_run defs (onTc (τ := τ) (main (F := F))) ⟨m, fun _ => 0, ρ⟩ fun r => ∀ c : Dev nD,
      r.2.mem ((c : Thread nD τ).loc main_v23) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.FfnIdeal.Value

end
-- ==== Proof.FfnRun.lean ====
/- What the ConvFFN kernel's loop accumulates, as plain functions of the normed rows and the weight chunks: per chunk the
   hidden rows (with the rows outside the sequence set to zero), the depthwise convolution, the gated unit and its product
   with the chunk of the second weight. -/
module

public import proofs.«01_k».proof.Proof.FfnIdealBlocks
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Body

/-- The tile counter is the first of its sequence. -/
abbrev IsTop (a : BitVec 32) : Prop := Scalar.cmpi .ne (Scalar.extui (Scalar.cmpi .eq a 0#32) : BitVec 32) 0#32 = 1#1
/-- The tile counter is the last of its sequence. -/
abbrev IsBot (a : BitVec 32) : Prop := Scalar.cmpi .ne (Scalar.extui (Scalar.cmpi .eq a 15#32) : BitVec 32) 0#32 = 1#1

/-- The hidden rows of one chunk: the product, with the eight rows before the first tile or after the last one zero. -/
def hidden (a : BitVec 32) (u : FVec Ideal S528x512 .f32) : Vec Ideal S528x512 .f32 :=
  if IsTop a then View.canon (Val := Elt Ideal) (s := S528x512) (e := .f32)
    [⟨Rect.unit ![0, 0] S8x512.size inb_S528x512_S8x512_0_0, k0_pay3 (F := Ideal)⟩,
     ⟨Rect.unit ![0, 0] S528x512.size inb_S528x512_S528x512_0_0, u⟩]
  else if IsBot a then View.canon (Val := Elt Ideal) (s := S528x512) (e := .f32)
    [⟨Rect.unit ![520, 0] S8x512.size inb_S528x512_S8x512_520_0, k0_pay4 (F := Ideal)⟩,
     ⟨Rect.unit ![0, 0] S528x512.size inb_S528x512_S528x512_0_0, u⟩]
  else View.canon (Val := Elt Ideal) (s := S528x512) (e := .f32)
    [⟨Rect.unit ![0, 0] S528x512.size inb_S528x512_S528x512_0_0, u⟩]

/-- The accumulator after one chunk, from the chunk's hidden rows `u`, taps, bias and second weight. -/
def accStep (u : Vec Ideal S528x512 .f32) (cw : Vec Ideal S1x3x512 .f32) (cb : Vec Ideal S1x1x512 .f32)
    (wd : Vec Ideal S1x256x1024 .bf16) (acc : Vec Ideal S512x1024 .f32) : Vec Ideal S512x1024 .f32 :=
  k0_pay14 (k0_pay6 cw cb
      (View.ld u (Rect.unit ![7, 0] S512x512.size inb_S528x512_S512x512_7_0))
      (View.ld u (Rect.unit ![8, 0] S512x512.size inb_S528x512_S512x512_8_0)))
    (k0_pay7 cw (View.ld u (Rect.unit ![9, 0] S512x512.size inb_S528x512_S512x512_9_0))) acc wd

/-- One trip of the loop on the accumulator. -/
def step (a : BitVec 32) (h : Vec Ideal S528x1024 .bf16) (wu : Vec Ideal S11x1024x512 .bf16) (cw : Vec Ideal S11x3x512 .f32)
    (cb : Vec Ideal S11x1x512 .f32) (wd : Vec Ideal S11x256x1024 .bf16) (k : Fin k0_t1_loop.trips)
    (acc : Vec Ideal S512x1024 .f32) : Vec Ideal S512x1024 .f32 :=
  accStep (hidden a (k0_pay2 h (View.ld wu (Rect.unit (s := S11x1024x512) (k0_off1 k) S1x1024x512.size (k0_off1_inb k)))))
    (View.ld cw (Rect.unit (s := S11x3x512) (k0_off2 k) S1x3x512.size (k0_off2_inb k)))
    (View.ld cb (Rect.unit (s := S11x1x512) (k0_off3 k) S1x1x512.size (k0_off3_inb k)))
    (View.ld wd (Rect.unit (s := S11x256x1024) (k0_off4 k) S1x256x1024.size (k0_off4_inb k))) acc

/-- The accumulator after the first `k` chunks. -/
def accFrom (a : BitVec 32) (h : Vec Ideal S528x1024 .bf16) (wu : Vec Ideal S11x1024x512 .bf16) (cw : Vec Ideal S11x3x512 .f32)
    (cb : Vec Ideal S11x1x512 .f32) (wd : Vec Ideal S11x256x1024 .bf16) (acc0 : Vec Ideal S512x1024 .f32) :
    ℕ → Vec Ideal S512x1024 .f32
  | 0 => acc0
  | k + 1 => if hk : k < k0_t1_loop.trips then step a h wu cw cb wd ⟨k, hk⟩ (accFrom a h wu cw cb wd acc0 k)
      else accFrom a h wu cw cb wd acc0 k

theorem accFrom_succ (a : BitVec 32) (h : Vec Ideal S528x1024 .bf16) (wu : Vec Ideal S11x1024x512 .bf16) (cw : Vec Ideal S11x3x512 .f32)
    (cb : Vec Ideal S11x1x512 .f32) (wd : Vec Ideal S11x256x1024 .bf16) (acc0 : Vec Ideal S512x1024 .f32) (k : Fin k0_t1_loop.trips) :
    accFrom a h wu cw cb wd acc0 (k.val + 1) = step a h wu cw cb wd k (accFrom a h wu cw cb wd acc0 k.val) := by
  rw [accFrom]; exact dif_pos k.isLt

section Loop

variable (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S11x1024x512 .bf16) (harg10 : arg10.IsWhole) (arg11 : Memref sig .tc .vmem S11x3x512 .f32) (harg11 : arg11.IsWhole) (arg12 : Memref sig .tc .vmem S11x1x512 .f32) (harg12 : arg12.IsWhole) (arg13 : Memref sig .tc .vmem S11x256x1024 .bf16) (harg13 : arg13.IsWhole) (arg14 : Memref sig .tc .vmem S1x512x1024 .f32) (harg14 : arg14.IsWhole) (arg15 : Memref sig .tc .vmem S528x1024 .f32) (harg15 : arg15.IsWhole) (arg16 : Memref sig .tc .vmem S528x1024 .bf16) (harg16 : arg16.IsWhole) (arg17 : Memref sig .tc .vmem S528x512 .f32) (harg17 : arg17.IsWhole) (arg18 : Memref sig .tc .vmem S512x1024 .f32) (harg18 : arg18.IsWhole) (arg1 : BitVec 32) (v29 : FVec Ideal S528x1024 .f32) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X16 : BufTy.Contents (Elt Ideal) arg16.view.ty)

/-- What one trip writes in the accumulator, read back: `step` of the accumulator it finds. -/
theorem trip_read (k : Fin k0_t1_loop.trips) (f18 : BufTy.Contents (Elt Ideal) arg18.view.ty)
    (p : List (View.Piece (Elt Ideal) S528x512 .f32) × List (View.Piece (Elt Ideal) S512x1024 .f32))
    (hp : p = tripL (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 k f18) :
    arg18.view.read (Elt Ideal) (arg18.view.writes (Elt Ideal) f18 p.2)
      = step arg1 (arg16.view.read (Elt Ideal) X16) (arg10.view.read (Elt Ideal) X10) (arg11.view.read (Elt Ideal) X11)
          (arg12.view.read (Elt Ideal) X12) (arg13.view.read (Elt Ideal) X13) k (arg18.view.read (Elt Ideal) f18) := by
  have hz : (![0, 0] : Fin 2 → Nat) = fun _ => 0 := funext fun a => by fin_cases a <;> rfl
  subst hp
  unfold tripL
  split
  · rename_i h1
    have e : ∀ u, hidden arg1 u = _ := fun u => if_pos h1
    unfold tripTop
    dsimp only
    sl_unfold_words
    simp only [View.readAt_eq_ld, View.readCov_eq_canon']
    refine (View.read_writes_full arg18.view f18 _ _ []).trans ?_
    unfold step accStep
    rw [e, View.ld_unit_zero (S := S512x1024) hz, View.ld_unit_zero (S := S528x1024) hz]
    rfl
  · rename_i h1
    split
    · rename_i h2
      have e : ∀ u, hidden arg1 u = _ := fun u => (if_neg h1).trans (if_pos h2)
      unfold tripBot
      dsimp only
      sl_unfold_words
      simp only [View.readAt_eq_ld, View.readCov_eq_canon']
      refine (View.read_writes_full arg18.view f18 _ _ []).trans ?_
      unfold step accStep
      rw [e, View.ld_unit_zero (S := S512x1024) hz, View.ld_unit_zero (S := S528x1024) hz]
      rfl
    · rename_i h2
      have e : ∀ u, hidden arg1 u = _ := fun u => (if_neg h1).trans (if_neg h2)
      unfold tripMid
      dsimp only
      sl_unfold_words
      simp only [View.readAt_eq_ld, View.readCov_eq_canon']
      refine (View.read_writes_full arg18.view f18 _ _ []).trans ?_
      unfold step accStep
      rw [e, View.ld_unit_zero (S := S512x1024) hz, View.ld_unit_zero (S := S528x1024) hz]
      rfl

/-- What the accumulator holds after the first `k` trips, read back: `accFrom`. -/
theorem pieces_read (G18 : BufTy.Contents (Elt Ideal) arg18.view.ty) (k : ℕ) (hk : k ≤ k0_t1_loop.trips)
    (p : List (View.Piece (Elt Ideal) S528x512 .f32) × List (View.Piece (Elt Ideal) S512x1024 .f32))
    (hp : p = pieces (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 k) :
    arg18.view.read (Elt Ideal) (arg18.view.writes (Elt Ideal) G18 p.2)
      = accFrom arg1 (arg16.view.read (Elt Ideal) X16) (arg10.view.read (Elt Ideal) X10) (arg11.view.read (Elt Ideal) X11)
          (arg12.view.read (Elt Ideal) X12) (arg13.view.read (Elt Ideal) X13) (arg18.view.read (Elt Ideal) G18) k := by
  induction k generalizing p with
  | zero => subst hp; rfl
  | succ k ih =>
    have hs := pieces_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 G18 ⟨k, hk⟩
    rw [hp, hs]
    dsimp only
    rw [View.writes_append]
    refine (trip_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v29 X10 X11 X12 X13 X16 ⟨k, hk⟩ _ _ rfl).trans ?_
    rw [ih (Nat.le_of_succ_le hk) _ rfl]
    exact (accFrom_succ _ _ _ _ _ _ _ ⟨k, hk⟩).symm

end Loop

end Cert.FfnIdeal.Value
-- ==== Proof.FfnOut.lean ====
/- The ConvFFN kernel's output block at a grid point, as plain functions of the point's input blocks. -/
module

public import proofs.«01_k».proof.Proof.FfnRun

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Body

variable (m : (ℓ : Loc nD τ sig) → Buf (Elt Ideal) ℓ)

/-- The tile's rows with the eight before it and the eight after it. -/
def rows (x : Vec Ideal S1x512x1024 .f32) (xp xn : Vec Ideal S1x8x1024 .f32) : Vec Ideal S528x1024 .f32 :=
  View.canon (Val := Elt Ideal) (s := S528x1024) (e := .f32)
    [⟨Rect.unit ![520, 0] S8x1024.size inb_S528x1024_S8x1024_520_0, k0_pay10 xn⟩,
     ⟨Rect.unit ![8, 0] S512x1024.size inb_S528x1024_S512x1024_8_0, k0_pay9 x⟩,
     ⟨Rect.unit ![0, 0] S8x1024.size inb_S528x1024_S8x1024_0_0, k0_pay8 xp⟩]

/-- The normed and modulated rows. -/
def normed (x : Vec Ideal S1x512x1024 .f32) (xp xn : Vec Ideal S1x8x1024 .f32) (sh sc : Vec Ideal S1x1x1024 .f32)
    (nw2 : Vec Ideal S1x1024 .f32) : Vec Ideal S528x1024 .bf16 :=
  k0_pay12 (k0_pay11 (rows x xp xn) nw2) sc sh

/-- The output block from the tile, the gate, the second norm's weight and the accumulator. -/
def outBlock (x : Vec Ideal S1x512x1024 .f32) (g : Vec Ideal S1x1x1024 .f32) (nw3 : Vec Ideal S1x1024 .f32)
    (acc : Vec Ideal S512x1024 .f32) : Vec Ideal S1x512x1024 .f32 :=
  k0_pay1 (k0_pay15 x) (k0_pay16 g) acc (k0_pay17 nw3) (k0_pay18 acc) (Scalar.ofBits .f32 0x358637BD#32)

/-- `accFrom` of equal arguments is equal. -/
theorem accFrom_congr (a : BitVec 32) (n : ℕ) {h h' : Vec Ideal S528x1024 .bf16} {wu wu' : Vec Ideal S11x1024x512 .bf16}
    {cw cw' : Vec Ideal S11x3x512 .f32} {cb cb' : Vec Ideal S11x1x512 .f32} {wd wd' : Vec Ideal S11x256x1024 .bf16}
    {a0 a0' : Vec Ideal S512x1024 .f32} (h1 : h = h') (h2 : wu = wu') (h3 : cw = cw') (h4 : cb = cb') (h5 : wd = wd') (h6 : a0 = a0') :
    accFrom a h wu cw cb wd a0 n = accFrom a h' wu' cw' cb' wd' a0' n := by
  subst h1 h2 h3 h4 h5 h6; rfl

theorem readCov_whole_append {sig : RefSig} {κ : Kind} {sp : Space} {s : Shape} {e : EltTy} (v : View sig κ sp s e)
    (L L' : List (View.Piece (Elt Ideal) s e)) {off : Fin s.rank → ℕ} (h : off = fun _ => 0) (inb : ∀ a, off a + s.size a ≤ s.size a) :
    v.readCov (L ++ L') (Rect.unit off s.size inb).toLoadRect
      = v.read (Elt Ideal) (v.writes (Elt Ideal) (v.writes (Elt Ideal) v.junk L') L) := by
  unfold View.readCov
  rw [View.writes_append, View.readAt_eq_ld, View.ld_unit_zero h]

theorem readCov_eq_canon_ld' {sig : RefSig} {κ : Kind} {sp : Space} {s : Shape} {e : EltTy} (v : View sig κ sp s e)
    (L : List (View.Piece (Elt Ideal) s e)) (r : Rect s) : v.readCov L r.toLoadRect = View.ld (View.canon L) r := by
  unfold View.readCov
  rw [View.readAt_eq_ld, View.read_writes_junk_eq_canon]

/-- The accumulator after all eleven chunks. -/
def accEnd (a : BitVec 32) (x : Vec Ideal S1x512x1024 .f32) (xp xn : Vec Ideal S1x8x1024 .f32) (sh sc : Vec Ideal S1x1x1024 .f32)
    (nw2 : Vec Ideal S1x1024 .f32) (wu : Vec Ideal S11x1024x512 .bf16) (cw : Vec Ideal S11x3x512 .f32)
    (cb : Vec Ideal S11x1x512 .f32) (wd : Vec Ideal S11x256x1024 .bf16) : Vec Ideal S512x1024 .f32 :=
  accFrom a (normed x xp xn sh sc nw2) wu cw cb wd (k0_pay13 (F := Ideal)) 11

/-- What the body leaves in the output block at a point. -/
theorem outsAt_eq (c : Dev nD) (t : Fin cfg0.N) : outsAt0 m c t
    = outBlock (iblk m c 0 t) (iblk m c 5 t) (iblk m c 7 t)
        (accEnd (BitVec.ofNat 32 ((grid0.coords t) 1).val) (iblk m c 0 t) (iblk m c 1 t) (iblk m c 2 t) (iblk m c 3 t) (iblk m c 4 t)
          (iblk m c 6 t) (iblk m c 8 t) (iblk m c 9 t) (iblk m c 10 t) (iblk m c 11 t)) := by
  have hz : (![0, 0] : Fin 2 → Nat) = fun _ => 0 := funext fun a => by fin_cases a <;> rfl
  have ht : (Scf.trips (0#32) (Scalar.addi 0#32 11#32) 1#32) = 11 := by decide +kernel
  have ht' : k0_t1_loop.trips = 11 := by decide +kernel
  unfold outsAt0
  frame_out
  show outBlock _ _ _ _ = _
  rw [ht]
  refine congrArg (outBlock _ _ _) ?_
  refine (readCov_whole_append (View.whole cc0_scratch3) _ _ hz _).trans ?_
  refine (pieces_read (arg18 := scM0_3) (p := _) (hp := rfl) (hk := ht'.ge) ..).trans ?_
  refine accFrom_congr _ 11 ?_ (Memref.IsWhole.read_unread _ _) (Memref.IsWhole.read_unread _ _) (Memref.IsWhole.read_unread _ _)
    (Memref.IsWhole.read_unread _ _) (View.read_writes_full (View.whole cc0_scratch3) _ _ _ _)
  refine (View.read_writes_full (View.whole cc0_scratch1) _ _ _ _).trans ?_
  unfold normed rows
  rw [readCov_eq_canon_ld', View.ld_unit_zero (S := S528x1024) hz]

end Cert.FfnIdeal.Value
-- ==== Proof.FfnState.lean ====
/- The ConvFFN kernel's output block at an index. -/
module

public import proofs.«01_k».proof.Proof.FfnOut
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Body

theorem pay2_at (h : Vec Ideal S528x1024 .bf16) (w : Vec Ideal S1x1024x512 .bf16) (r : Fin 528) (c : Fin 512) :
    k0_pay2 (F := Ideal) h w (ix2 r c) = ∑ d : Fin 1024, h (ix2 r d) * w (ix3 0 d c) := by
  pointwise [k0_pay2]

/-- The convolution of hidden rows `u` at tile row `r` and chunk column `c`. -/
def conv (u : Vec Ideal S528x512 .f32) (cw : Vec Ideal S1x3x512 .f32) (cb : Vec Ideal S1x1x512 .f32) (r : Fin 512) (c : Fin 512) : EReal :=
  cb (ix3 0 0 c) + u (ix2 ⟨7 + r.val, by omega⟩ c) * cw (ix3 0 0 c) + u (ix2 ⟨8 + r.val, by omega⟩ c) * cw (ix3 0 1 c)
    + u (ix2 ⟨9 + r.val, by omega⟩ c) * cw (ix3 0 2 c)

theorem accStep_at (u : Vec Ideal S528x512 .f32) (cw : Vec Ideal S1x3x512 .f32) (cb : Vec Ideal S1x1x512 .f32)
    (wd : Vec Ideal S1x256x1024 .bf16) (acc : Vec Ideal S512x1024 .f32) (r : Fin 512) (d : Fin 1024) :
    accStep u cw cb wd acc (ix2 r d) = acc (ix2 r d) + ∑ j : Fin 256,
      conv u cw cb r ⟨256 + j.val, by omega⟩ * Ideal.logistic (conv u cw cb r ⟨256 + j.val, by omega⟩)
        * conv u cw cb r ⟨j.val, by omega⟩ * wd (ix3 0 j d) := by
  pointwise [accStep, k0_pay14, k0_pay6, k0_pay7, k0_pay5, conv]

theorem normed_at (x : Vec Ideal S1x512x1024 .f32) (xp xn : Vec Ideal S1x8x1024 .f32) (sh sc : Vec Ideal S1x1x1024 .f32)
    (nw2 : Vec Ideal S1x1024 .f32) (r : Fin 528) (d : Fin 1024) :
    normed x xp xn sh sc nw2 (ix2 r d)
      = rows x xp xn (ix2 r d) * Ideal.rsqrt (Ideal.div (∑ e : Fin 1024, rows x xp xn (ix2 r e) * rows x xp xn (ix2 r e)) (Ideal.ofBits .f32 0x44800000#32)
          + Ideal.ofBits .f32 0x358637BD#32) * nw2 (ix2 0 d) * (Ideal.ofBits .f32 0x3F800000#32 + sc (ix3 0 0 d)) + sh (ix3 0 0 d) := by
  pointwise [normed, k0_pay12, k0_pay11]

theorem outBlock_at (x : Vec Ideal S1x512x1024 .f32) (g : Vec Ideal S1x1x1024 .f32) (nw3 : Vec Ideal S1x1024 .f32)
    (acc : Vec Ideal S512x1024 .f32) (z : Fin 1) (r : Fin 512) (d : Fin 1024) :
    outBlock x g nw3 acc (ix3 z r d) = x (ix3 0 r d) + g (ix3 0 0 d) * (acc (ix2 r d)
      * Ideal.rsqrt (Ideal.div (∑ e : Fin 1024, acc (ix2 r e) * acc (ix2 r e)) (Ideal.ofBits .f32 0x44800000#32) + Ideal.ofBits .f32 0x358637BD#32)
      * nw3 (ix2 0 d)) := by
  pointwise [outBlock, k0_pay1, k0_pay15, k0_pay16, k0_pay17, k0_pay18]

theorem pay13_at (r : Fin 512) (d : Fin 1024) : k0_pay13 (F := Ideal) (ix2 r d) = 0 := by
  pointwise [k0_pay13]

theorem pay8_at (x : Vec Ideal S1x8x1024 .f32) (r : Fin 8) (d : Fin 1024) : k0_pay8 (F := Ideal) x (ix2 r d) = x (ix3 0 r d) := by
  pointwise [k0_pay8]
theorem pay9_at (x : Vec Ideal S1x512x1024 .f32) (r : Fin 512) (d : Fin 1024) : k0_pay9 (F := Ideal) x (ix2 r d) = x (ix3 0 r d) := by
  pointwise [k0_pay9]
theorem pay10_at (x : Vec Ideal S1x8x1024 .f32) (r : Fin 8) (d : Fin 1024) : k0_pay10 (F := Ideal) x (ix2 r d) = x (ix3 0 r d) := by
  pointwise [k0_pay10]
theorem pay3_at (r : Fin 8) (d : Fin 512) : k0_pay3 (F := Ideal) (ix2 r d) = 0 := by
  pointwise [k0_pay3]
theorem pay4_at (r : Fin 8) (d : Fin 512) : k0_pay4 (F := Ideal) (ix2 r d) = 0 := by
  pointwise [k0_pay4]

/-- A row inside the newest piece of whole rows reads that piece. -/
theorem canon_row_mem {n c o W : ℕ} {e : EltTy} (inb : ∀ a : Fin 2, (![o, 0] : Fin 2 → ℕ) a + (![W, c] : Fin 2 → ℕ) a ≤ (![n, c] : Fin 2 → ℕ) a)
    (w : (⟨2, ![W, c]⟩ : Shape).Idx → Elt Ideal e) (L : List (View.Piece (Elt Ideal) (⟨2, ![n, c]⟩ : Shape) e))
    (r : Fin n) (r' : Fin W) (d : Fin c) (h : r.val = o + r'.val) :
    View.canon (Val := Elt Ideal) (s := ⟨2, ![n, c]⟩) (e := e) (⟨Rect.unit (s := ⟨2, ![n, c]⟩) ![o, 0] ![W, c] inb, w⟩ :: L) (ix2 r d) = w (ix2 r' d) := by
  have hy : (Rect.unit (s := ⟨2, ![n, c]⟩) ![o, 0] ![W, c] inb).emb (ix2 r' d) = ix2 r d := funext fun a => Fin.ext (by
    fin_cases a
    · show o + 1 * r'.val = r.val
      omega
    · show 0 + 1 * d.val = d.val
      omega)
  rw [← hy]
  exact View.canon_cons_emb (Rect.unit (s := ⟨2, ![n, c]⟩) ![o, 0] ![W, c] inb) w L (ix2 r' d)

/-- A row outside the newest piece of whole rows reads the older ones. -/
theorem canon_row_not_mem {n c o W : ℕ} {e : EltTy} (inb : ∀ a : Fin 2, (![o, 0] : Fin 2 → ℕ) a + (![W, c] : Fin 2 → ℕ) a ≤ (![n, c] : Fin 2 → ℕ) a)
    (w : (⟨2, ![W, c]⟩ : Shape).Idx → Elt Ideal e) (L : List (View.Piece (Elt Ideal) (⟨2, ![n, c]⟩ : Shape) e))
    (r : Fin n) (d : Fin c) (h : r.val < o ∨ o + W ≤ r.val) :
    View.canon (Val := Elt Ideal) (s := ⟨2, ![n, c]⟩) (e := e) (⟨Rect.unit (s := ⟨2, ![n, c]⟩) ![o, 0] ![W, c] inb, w⟩ :: L) (ix2 r d)
      = View.canon (Val := Elt Ideal) (s := ⟨2, ![n, c]⟩) (e := e) L (ix2 r d) := by
  refine View.canon_cons_of_not_mem _ L ?_
  rw [Rect.mem_set_unit]
  intro hall
  have h0 : o ≤ r.val ∧ r.val < o + W := hall 0
  omega

/-- The tile's rows at an index: the eight rows before it, the tile, the eight rows after it. -/
theorem rows_at (x : Vec Ideal S1x512x1024 .f32) (xp xn : Vec Ideal S1x8x1024 .f32) (r : Fin 528) (d : Fin 1024) :
    rows x xp xn (ix2 r d) = if h : r.val < 8 then xp (ix3 0 ⟨r.val, h⟩ d)
      else if h' : r.val < 520 then x (ix3 0 ⟨r.val - 8, by omega⟩ d) else xn (ix3 0 ⟨r.val - 520, by omega⟩ d) := by
  unfold rows
  by_cases h : r.val < 8
  · rw [dif_pos h]
    refine (canon_row_not_mem inb_S528x1024_S8x1024_520_0 _ _ r d (by omega)).trans ?_
    refine (canon_row_not_mem inb_S528x1024_S512x1024_8_0 _ _ r d (by omega)).trans ?_
    exact (canon_row_mem inb_S528x1024_S8x1024_0_0 _ _ r ⟨r.val, h⟩ d (by simp)).trans (pay8_at ..)
  · rw [dif_neg h]
    by_cases h' : r.val < 520
    · rw [dif_pos h']
      refine (canon_row_not_mem inb_S528x1024_S8x1024_520_0 _ _ r d (by omega)).trans ?_
      exact (canon_row_mem inb_S528x1024_S512x1024_8_0 _ _ r ⟨r.val - 8, by omega⟩ d (by simp only; omega)).trans (pay9_at ..)
    · rw [dif_neg h']
      exact (canon_row_mem inb_S528x1024_S8x1024_520_0 _ _ r ⟨r.val - 520, by omega⟩ d (by simp only; omega)).trans (pay10_at ..)

/-- The hidden rows at an index: zero before a first tile and after a last one. -/
theorem hidden_at (a : BitVec 32) (u : FVec Ideal S528x512 .f32) (r : Fin 528) (c : Fin 512) :
    hidden a u (ix2 r c) = if (IsTop a ∧ r.val < 8) ∨ (IsBot a ∧ 520 ≤ r.val) then 0 else u (ix2 r c) := by
  have full : ∀ (r : Fin 528), View.canon (Val := Elt Ideal) (s := S528x512) (e := .f32)
      [⟨Rect.unit ![0, 0] S528x512.size inb_S528x512_S528x512_0_0, u⟩] (ix2 r c) = u (ix2 r c) := fun r =>
    canon_row_mem (n := 528) (c := 512) (o := 0) (W := 528) (e := .f32) inb_S528x512_S528x512_0_0 u [] r r c (Nat.zero_add _).symm
  unfold hidden
  by_cases h1 : IsTop a
  · have h2 : ¬ IsBot a := not_both a h1
    rw [if_pos h1]
    by_cases h : r.val < 8
    · rw [if_pos (Or.inl ⟨h1, h⟩)]
      exact (canon_row_mem inb_S528x512_S8x512_0_0 _ _ r ⟨r.val, h⟩ c (by simp)).trans (pay3_at ..)
    · rw [if_neg (by tauto)]
      exact (canon_row_not_mem inb_S528x512_S8x512_0_0 _ _ r c (by omega)).trans (full r)
  · rw [if_neg h1]
    by_cases h2 : IsBot a
    · rw [if_pos h2]
      by_cases h : 520 ≤ r.val
      · rw [if_pos (Or.inr ⟨h2, h⟩)]
        exact (canon_row_mem inb_S528x512_S8x512_520_0 _ _ r ⟨r.val - 520, by omega⟩ c (by simp only; omega)).trans (pay4_at ..)
      · rw [if_neg (by tauto)]
        exact (canon_row_not_mem inb_S528x512_S8x512_520_0 _ _ r c (by omega)).trans (full r)
    · rw [if_neg h2, if_neg (by tauto)]
      exact full r

theorem isTop_iff (n : ℕ) (h : n < 16) : IsTop (BitVec.ofNat 32 n) ↔ n = 0 := by
  interval_cases n <;> decide
theorem isBot_iff (n : ℕ) (h : n < 16) : IsBot (BitVec.ofNat 32 n) ↔ n = 15 := by
  interval_cases n <;> decide

end Cert.FfnIdeal.Value
-- ==== Proof.FfnRef.lean ====
/- The ConvFFN reference's result at an index: the normed and modulated rows, their product with the first weight, the
   three-tap convolution over the rows, the gated unit, its product with the second weight, the gated normed output. -/
module

public import proofs.«01_k».proof.Proof.Gen.FfnRefIdeal.Run
public import Idealize.ShloMosaic.Lib.Pointwise

@[expose] public section

set_option maxRecDepth 16384

noncomputable section

open Idealize.ShloMosaic Idealize.ShloMosaic.TcCoe Idealize.SL.Sem

namespace Cert.FfnRefIdeal.Value
open Cert.FfnRefIdeal Cert.FfnRefIdeal.Gen

/-- One divided by the root of each row's mean square. -/
def invRms (x : Vec Ideal S8x8192x1024 .f32) : Vec Ideal S8x8192x1 .f32 :=
  Host.rsqrt (F := Ideal) (φ := .f32) (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))

/-- The normed rows, with the norm's weight. -/
def normArr (x : Vec Ideal S8x8192x1024 .f32) (w : Vec Ideal S1024 .f32) : Vec Ideal S8x8192x1024 .f32 :=
  mulf (F := Ideal) (φ := .f32) (mulf x (broadcastInDim S8x8192x1024 ![0, 1, 2] bcast_S8x8192x1_S8x8192x1024_0_1_2 (invRms x))) (broadcastInDim S8x8192x1024 ![0, 1, 2] bcast_S1x1x1024_S8x8192x1024_0_1_2 (broadcastInDim S1x1x1024 ![2] bcast_S1024_S1x1x1024_2 w))

/-- The modulated rows. -/
def modArr (n : Vec Ideal S8x8192x1024 .f32) (sh sc : Vec Ideal S8x1x1024 .f32) : Vec Ideal S8x8192x1024 .f32 :=
  addf (F := Ideal) (φ := .f32) (mulf n (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)

/-- The product with the first weight. -/
def upArr (h : Vec Ideal S8x8192x1024 .f32) (wu : Vec Ideal S1024x5632 .f32) : Vec Ideal S8x8192x5632 .f32 :=
  Host.dotGeneral (F := Ideal) (φ₁ := .f32) (φ₂ := .f32) dot_S8x8192x1024_S1024x5632_S8x8192x5632_2_0_01_1_n_n none h wu

/-- The hidden rows with a zero row before the first and one after the last. -/
def padArr (u : Vec Ideal S8x8192x5632 .f32) : Vec Ideal S8x8194x5632 .f32 :=
  pad S8x8194x5632 ![0, 1, 0] ![0, 1, 0] ![0, 0, 0] u (sitofp (F := Ideal) .f32 (constantI S_ 32 0#32)) pads_S8x8192x5632_S8x8194x5632_000_110_000 h_S_

/-- The three-tap convolution over the rows. -/
def convArr (u : Vec Ideal S8x8194x5632 .f32) (cw : Vec Ideal S5632x3 .f32) (cb : Vec Ideal S5632 .f32) : Vec Ideal S8x8192x5632 .f32 :=
  addf (F := Ideal) (φ := .f32) (addf (addf (broadcastInDim S8x8192x5632 ![0, 1, 2] bcast_S1x1x5632_S8x8192x5632_0_1_2 (broadcastInDim S1x1x5632 ![2] bcast_S5632_S1x1x5632_2 cb))
      (mulf (extractStridedSlice S8x8192x5632 ![0, 0, 0] u slices_S8x8194x5632_S8x8192x5632_0_0_0) (broadcastInDim S8x8192x5632 ![0, 1, 2] bcast_S1x1x5632_S8x8192x5632_0_1_2 (broadcastInDim S1x1x5632 ![2] bcast_S5632_S1x1x5632_2 (shapeCast _ (extractStridedSlice S5632x1 ![0, 0] cw slices_S5632x3_S5632x1_0_0) shapeCasts_S5632x1_S5632)))))
      (mulf (extractStridedSlice S8x8192x5632 ![0, 1, 0] u slices_S8x8194x5632_S8x8192x5632_0_1_0) (broadcastInDim S8x8192x5632 ![0, 1, 2] bcast_S1x1x5632_S8x8192x5632_0_1_2 (broadcastInDim S1x1x5632 ![2] bcast_S5632_S1x1x5632_2 (shapeCast _ (extractStridedSlice S5632x1 ![0, 1] cw slices_S5632x3_S5632x1_0_1) shapeCasts_S5632x1_S5632)))))
    (mulf (extractStridedSlice S8x8192x5632 ![0, 2, 0] u slices_S8x8194x5632_S8x8192x5632_0_2_0) (broadcastInDim S8x8192x5632 ![0, 1, 2] bcast_S1x1x5632_S8x8192x5632_0_1_2 (broadcastInDim S1x1x5632 ![2] bcast_S5632_S1x1x5632_2 (shapeCast _ (extractStridedSlice S5632x1 ![0, 2] cw slices_S5632x3_S5632x1_0_2) shapeCasts_S5632x1_S5632))))

/-- The gated unit: the second half's sigmoid-weighted value times the first half. -/
def gluArr (c : Vec Ideal S8x8192x5632 .f32) : Vec Ideal S8x8192x2816 .f32 :=
  mulf (F := Ideal) (φ := .f32) (mulf (extractStridedSlice S8x8192x2816 ![0, 0, 2816] c slices_S8x8192x5632_S8x8192x2816_0_0_2816)
      (Host.divf (broadcastInDim S8x8192x2816 ![] bcast_S_S8x8192x2816 (constant S_ .f32 0x3F800000#32)) (addf (broadcastInDim S8x8192x2816 ![] bcast_S_S8x8192x2816 (constant S_ .f32 0x3F800000#32)) (Host.exp (Host.negf (extractStridedSlice S8x8192x2816 ![0, 0, 2816] c slices_S8x8192x5632_S8x8192x2816_0_0_2816))))))
    (extractStridedSlice S8x8192x2816 ![0, 0, 0] c slices_S8x8192x5632_S8x8192x2816_0_0_0)

/-- The product with the second weight. -/
def downArr (g : Vec Ideal S8x8192x2816 .f32) (wd : Vec Ideal S2816x1024 .f32) : Vec Ideal S8x8192x1024 .f32 :=
  Host.dotGeneral (F := Ideal) (φ₁ := .f32) (φ₂ := .f32) dot_S8x8192x2816_S2816x1024_S8x8192x1024_2_0_01_1_n_n none g wd

/-- The residual and the gated rows. -/
def resArr (x : Vec Ideal S8x8192x1024 .f32) (g : Vec Ideal S8x1x1024 .f32) (n : Vec Ideal S8x8192x1024 .f32) : Vec Ideal S8x8192x1024 .f32 :=
  addf (F := Ideal) (φ := .f32) x (mulf (broadcastInDim S8x8192x1024 ![0, 1, 2] bcast_S8x1x1024_S8x8192x1024_0_1_2 g) n)

/-- The product of the gated unit with the second weight, from the arguments. -/
def yArr (x : Vec Ideal S8x8192x1024 .f32) (sh sc : Vec Ideal S8x1x1024 .f32) (nw2 : Vec Ideal S1024 .f32)
    (wu : Vec Ideal S1024x5632 .f32) (cw : Vec Ideal S5632x3 .f32) (cb : Vec Ideal S5632 .f32) (wd : Vec Ideal S2816x1024 .f32) :
    Vec Ideal S8x8192x1024 .f32 :=
  downArr (gluArr (convArr (padArr (upArr (modArr (normArr x nw2) sh sc) wu)) cw cb)) wd

/-- The reference's result from the arguments. -/
def REF (x : Vec Ideal S8x8192x1024 .f32) (sh sc g : Vec Ideal S8x1x1024 .f32) (nw2 nw3 : Vec Ideal S1024 .f32)
    (wu : Vec Ideal S1024x5632 .f32) (cw : Vec Ideal S5632x3 .f32) (cb : Vec Ideal S5632 .f32) (wd : Vec Ideal S2816x1024 .f32) :
    Vec Ideal S8x8192x1024 .f32 :=
  resArr x g (normArr (yArr x sh sc nw2 wu cw cb wd) nw3)

theorem res_eq (m : (ℓ : Loc nD τ sig) → Buf (Elt Ideal) ℓ) (c : Dev nD) : res_out0 (F := Ideal) m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold res_out0 res_main_v64 REF resArr yArr downArr gluArr convArr padArr upArr modArr normArr invRms
  rfl

/-- A row's factor at an index. -/
theorem invRms_at (x : Vec Ideal S8x8192x1024 .f32) (b : Fin 8) (r : Fin 8192) (z : Fin 1) :
    invRms x (ix3 b r z) = Ideal.rsqrt (Ideal.div (∑ d : Fin 1024, x (ix3 b r d) * x (ix3 b r d)) (Ideal.ofBits .f32 0x44800000#32)
      + Ideal.ofBits .f32 0x358637BD#32) := by
  pointwise [invRms]

theorem normArr_at (x : Vec Ideal S8x8192x1024 .f32) (w : Vec Ideal S1024 .f32) (b : Fin 8) (r : Fin 8192) (d : Fin 1024) :
    normArr x w (ix3 b r d) = x (ix3 b r d) * invRms x (ix3 b r 0) * w (ix1 d) := by
  pointwise [normArr]

theorem modArr_at (n : Vec Ideal S8x8192x1024 .f32) (sh sc : Vec Ideal S8x1x1024 .f32) (b : Fin 8) (r : Fin 8192) (d : Fin 1024) :
    modArr n sh sc (ix3 b r d) = n (ix3 b r d) * (Ideal.ofBits .f32 0x3F800000#32 + sc (ix3 b 0 d)) + sh (ix3 b 0 d) := by
  pointwise [modArr]

theorem upArr_at (h : Vec Ideal S8x8192x1024 .f32) (wu : Vec Ideal S1024x5632 .f32) (b : Fin 8) (r : Fin 8192) (c : Fin 5632) :
    upArr h wu (ix3 b r c) = ∑ d : Fin 1024, h (ix3 b r d) * wu (ix2 d c) := by
  pointwise [upArr]

theorem padArr_at (u : Vec Ideal S8x8192x5632 .f32) (b : Fin 8) (r : Fin 8194) (c : Fin 5632) :
    padArr u (ix3 b r c) = if h : 1 ≤ r.val ∧ r.val - 1 < 8192 then u (ix3 b ⟨r.val - 1, by omega⟩ c) else 0 := by
  have e : (FloatOps.sitofp FTy.f32 0#32 : Ideal .f32) = (0 : EReal) := by
    show (((0#32 : BitVec 32).toInt : ℝ) : EReal) = 0
    simp
  rw [← e]
  pointwise [padArr]

theorem convArr_at (u : Vec Ideal S8x8194x5632 .f32) (cw : Vec Ideal S5632x3 .f32) (cb : Vec Ideal S5632 .f32) (b : Fin 8) (r : Fin 8192) (c : Fin 5632) :
    convArr u cw cb (ix3 b r c) = cb (ix1 c) + u (ix3 b ⟨r.val, by omega⟩ c) * cw (ix2 c 0)
      + u (ix3 b ⟨1 + r.val, by omega⟩ c) * cw (ix2 c 1) + u (ix3 b ⟨2 + r.val, by omega⟩ c) * cw (ix2 c 2) := by
  pointwise [convArr]

theorem gluArr_at (c : Vec Ideal S8x8192x5632 .f32) (b : Fin 8) (r : Fin 8192) (j : Fin 2816) :
    gluArr c (ix3 b r j) = c (ix3 b r ⟨2816 + j.val, by omega⟩) * Ideal.div 1 (1 + Ideal.exp (-c (ix3 b r ⟨2816 + j.val, by omega⟩)))
      * c (ix3 b r ⟨j.val, by omega⟩) := by
  pointwise [gluArr]

theorem downArr_at (g : Vec Ideal S8x8192x2816 .f32) (wd : Vec Ideal S2816x1024 .f32) (b : Fin 8) (r : Fin 8192) (d : Fin 1024) :
    downArr g wd (ix3 b r d) = ∑ j : Fin 2816, g (ix3 b r j) * wd (ix2 j d) := by
  pointwise [downArr]

theorem resArr_at (x : Vec Ideal S8x8192x1024 .f32) (g : Vec Ideal S8x1x1024 .f32) (n : Vec Ideal S8x8192x1024 .f32) (b : Fin 8) (r : Fin 8192) (d : Fin 1024) :
    resArr x g n (ix3 b r d) = x (ix3 b r d) + g (ix3 b 0 d) * n (ix3 b r d) := by
  pointwise [resArr]

end Cert.FfnRefIdeal.Value
-- ==== Proof.FfnFinal.lean ====
/- The ConvFFN kernel's result array is the reference's term of the arguments. -/
module

public import proofs.«01_k».proof.Proof.FfnState
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Body
open Cert.FfnRefIdeal.Value (invRms normArr modArr upArr padArr convArr gluArr downArr resArr yArr REF)

/-- The column of the up projection that column `c` of chunk `k` is: the first half of a chunk is of the first half of
    the projection, the second of the second. -/
def col (k : Fin 11) (c : Fin 512) : Fin 5632 :=
  if h : c.val < 256 then ⟨k.val * 256 + c.val, by omega⟩ else ⟨2816 + (k.val * 256 + (c.val - 256)), by omega⟩

theorem col_lo (k : Fin 11) (j : Fin 256) (h : j.val < 512) (h' : k.val * 256 + j.val < 5632) : col k ⟨j.val, h⟩ = ⟨k.val * 256 + j.val, h'⟩ := by
  unfold col; rw [dif_pos j.isLt]

theorem col_hi (k : Fin 11) (j : Fin 256) (h : 256 + j.val < 512) (h' : 2816 + (k.val * 256 + j.val) < 5632) :
    col k ⟨256 + j.val, h⟩ = ⟨2816 + (k.val * 256 + j.val), h'⟩ := by
  unfold col; rw [dif_neg (by simp only; omega)]; apply Fin.ext; simp only; omega

section Point

variable (X : Vec Ideal S8x8192x1024 .f32) (SH SC G : Vec Ideal S8x1x1024 .f32) (N2 N3 : Vec Ideal S1024 .f32)
  (WU : Vec Ideal S1024x5632 .f32) (CW : Vec Ideal S5632x3 .f32) (CB : Vec Ideal S5632 .f32) (WD : Vec Ideal S2816x1024 .f32)
  (x : Vec Ideal S1x512x1024 .f32) (xp xn : Vec Ideal S1x8x1024 .f32) (sh sc g : Vec Ideal S1x1x1024 .f32)
  (n2 n3 : Vec Ideal S1x1024 .f32) (wu : Vec Ideal S11x1024x512 .bf16) (cw : Vec Ideal S11x3x512 .f32)
  (cb : Vec Ideal S11x1x512 .f32) (wd : Vec Ideal S11x256x1024 .bf16) (b : Fin 8) (i : Fin 16)

/-- What each input block of a grid point reads of the arguments. -/
structure Reads : Prop where
  hx : ∀ (r : Fin 512) (d : Fin 1024), x (ix3 0 r d) = X (ix3 b ⟨i.val * 512 + r.val, by omega⟩ d)
  hp : ∀ (r : Fin 8) (d : Fin 1024) (h : i.val ≠ 0), xp (ix3 0 r d) = X (ix3 b ⟨i.val * 512 + r.val - 8, by omega⟩ d)
  hn : ∀ (r : Fin 8) (d : Fin 1024) (h : i.val ≠ 15), xn (ix3 0 r d) = X (ix3 b ⟨i.val * 512 + 512 + r.val, by omega⟩ d)
  hsh : ∀ d : Fin 1024, sh (ix3 0 0 d) = SH (ix3 b 0 d)
  hsc : ∀ d : Fin 1024, sc (ix3 0 0 d) = SC (ix3 b 0 d)
  hg : ∀ d : Fin 1024, g (ix3 0 0 d) = G (ix3 b 0 d)
  hn2 : ∀ d : Fin 1024, n2 (ix2 0 d) = N2 (ix1 d)
  hn3 : ∀ d : Fin 1024, n3 (ix2 0 d) = N3 (ix1 d)
  hwu : ∀ (k : Fin 11) (d : Fin 1024) (c : Fin 512), wu (ix3 k d c) = WU (ix2 d (col k c))
  hcw : ∀ (k : Fin 11) (t : Fin 3) (c : Fin 512), cw (ix3 k t c) = CW (ix2 (col k c) t)
  hcb : ∀ (k : Fin 11) (c : Fin 512), cb (ix3 k 0 c) = CB (ix1 (col k c))
  hwd : ∀ (k : Fin 11) (j : Fin 256) (d : Fin 1024), wd (ix3 k j d) = WD (ix2 ⟨k.val * 256 + j.val, by omega⟩ d)

variable {X SH SC G N2 N3 WU CW CB WD x xp xn sh sc g n2 n3 wu cw cb wd b i}
variable (H : Reads X SH SC G N2 N3 WU CW CB WD x xp xn sh sc g n2 n3 wu cw cb wd b i)
include H

/-- A row of the tile that lies in the sequence is the argument's row. -/
theorem rows_eq (r : Fin 528) (R : Fin 8192) (hR : R.val + 8 = i.val * 512 + r.val) (d : Fin 1024) :
    rows x xp xn (ix2 r d) = X (ix3 b R d) := by
  rw [rows_at]
  by_cases h : r.val < 8
  · rw [dif_pos h, H.hp _ _ (by omega)]
    exact congrArg X (congrArg (fun z => ix3 b z d) (Fin.ext (by simp only; omega)))
  · rw [dif_neg h]
    by_cases h' : r.val < 520
    · rw [dif_pos h', H.hx]
      exact congrArg X (congrArg (fun z => ix3 b z d) (Fin.ext (by simp only; omega)))
    · rw [dif_neg h', H.hn _ _ (by omega)]
      exact congrArg X (congrArg (fun z => ix3 b z d) (Fin.ext (by simp only; omega)))

/-- So is its normed and modulated row. -/
theorem normed_eq (r : Fin 528) (R : Fin 8192) (hR : R.val + 8 = i.val * 512 + r.val) (d : Fin 1024) :
    normed x xp xn sh sc n2 (ix2 r d) = modArr (normArr X N2) SH SC (ix3 b R d) := by
  rw [normed_at, Cert.FfnRefIdeal.Value.modArr_at, Cert.FfnRefIdeal.Value.normArr_at, Cert.FfnRefIdeal.Value.invRms_at]
  simp only [rows_eq H r R hR, H.hn2, H.hsc, H.hsh]

/-- The hidden rows the convolution reads are the reference's padded rows. -/
theorem hidden_eq (k : Fin 11) (w : Vec Ideal S1x1024x512 .bf16) (hw : ∀ (d : Fin 1024) (c : Fin 512), w (ix3 0 d c) = wu (ix3 k d c))
    (r : Fin 528) (c : Fin 512) (q : Fin 8194) (hq : q.val + 7 = i.val * 512 + r.val) (h7 : 7 ≤ r.val) (h520 : r.val ≤ 520) :
    hidden (BitVec.ofNat 32 i.val) (k0_pay2 (normed x xp xn sh sc n2) w) (ix2 r c)
      = padArr (upArr (modArr (normArr X N2) SH SC) WU) (ix3 b q (col k c)) := by
  rw [hidden_at, Cert.FfnRefIdeal.Value.padArr_at]
  have ht := isTop_iff _ i.isLt
  have hb := isBot_iff _ i.isLt
  by_cases h : (i.val = 0 ∧ r.val < 8) ∨ (i.val = 15 ∧ 520 ≤ r.val)
  · rw [if_pos (by rw [ht, hb]; exact h), dif_neg (by omega)]
  · rw [if_neg (by rw [ht, hb]; exact h), dif_pos (by omega), pay2_at, Cert.FfnRefIdeal.Value.upArr_at]
    refine Finset.sum_congr rfl fun d _ => ?_
    rw [normed_eq H r ⟨q.val - 1, by omega⟩ (by simp only; omega), hw, H.hwu]

/-- One chunk's part of the product with the second weight. -/
theorem accStep_eq (k : Fin 11) (w : Vec Ideal S1x1024x512 .bf16) (hw : ∀ (d : Fin 1024) (c : Fin 512), w (ix3 0 d c) = wu (ix3 k d c))
    (cwk : Vec Ideal S1x3x512 .f32) (hcwk : ∀ (t : Fin 3) (c : Fin 512), cwk (ix3 0 t c) = cw (ix3 k t c))
    (cbk : Vec Ideal S1x1x512 .f32) (hcbk : ∀ c : Fin 512, cbk (ix3 0 0 c) = cb (ix3 k 0 c))
    (wdk : Vec Ideal S1x256x1024 .bf16) (hwdk : ∀ (j : Fin 256) (d : Fin 1024), wdk (ix3 0 j d) = wd (ix3 k j d))
    (acc : Vec Ideal S512x1024 .f32) (r : Fin 512) (d : Fin 1024) :
    accStep (hidden (BitVec.ofNat 32 i.val) (k0_pay2 (normed x xp xn sh sc n2) w)) cwk cbk wdk acc (ix2 r d)
      = acc (ix2 r d) + ∑ j : Fin 256, gluArr (convArr (padArr (upArr (modArr (normArr X N2) SH SC) WU)) CW CB)
          (ix3 b ⟨i.val * 512 + r.val, by omega⟩ ⟨k.val * 256 + j.val, by omega⟩) * WD (ix2 ⟨k.val * 256 + j.val, by omega⟩ d) := by
  have hconv : ∀ c : Fin 512, conv (hidden (BitVec.ofNat 32 i.val) (k0_pay2 (normed x xp xn sh sc n2) w)) cwk cbk r c
      = convArr (padArr (upArr (modArr (normArr X N2) SH SC) WU)) CW CB (ix3 b ⟨i.val * 512 + r.val, by omega⟩ (col k c)) := fun c => by
    rw [Cert.FfnRefIdeal.Value.convArr_at]
    unfold conv
    rw [hidden_eq H k w hw ⟨7 + r.val, by omega⟩ c ⟨i.val * 512 + r.val, by omega⟩ (by simp only; omega) (by simp only; omega) (by simp only; omega),
      hidden_eq H k w hw ⟨8 + r.val, by omega⟩ c ⟨1 + (i.val * 512 + r.val), by omega⟩ (by simp only; omega) (by simp only; omega) (by simp only; omega),
      hidden_eq H k w hw ⟨9 + r.val, by omega⟩ c ⟨2 + (i.val * 512 + r.val), by omega⟩ (by simp only; omega) (by simp only; omega) (by simp only; omega),
      hcbk, hcwk, hcwk, hcwk, H.hcb, H.hcw, H.hcw, H.hcw]
  rw [accStep_at]
  refine congrArg (fun z => acc (ix2 r d) + z) (Finset.sum_congr rfl fun j _ => ?_)
  rw [hconv, hconv, Cert.FfnRefIdeal.Value.gluArr_at, hwdk, H.hwd, col_lo, col_hi]
  rfl

/-- The accumulator after the first `n` chunks: the product over the first `n` chunks' hidden columns. -/
theorem accFrom_eq (n : ℕ) (hn : n ≤ 11) (r : Fin 512) (d : Fin 1024) :
    accFrom (BitVec.ofNat 32 i.val) (normed x xp xn sh sc n2) wu cw cb wd (k0_pay13 (F := Ideal)) n (ix2 r d)
      = ∑ k : Fin n, ∑ j : Fin 256, gluArr (convArr (padArr (upArr (modArr (normArr X N2) SH SC) WU)) CW CB)
          (ix3 b ⟨i.val * 512 + r.val, by omega⟩ ⟨k.val * 256 + j.val, by omega⟩) * WD (ix2 ⟨k.val * 256 + j.val, by omega⟩ d) := by
  have ht : k0_t1_loop.trips = 11 := by decide +kernel
  induction n with
  | zero => rw [Finset.univ_eq_empty, Finset.sum_empty]; exact pay13_at r d
  | succ n ih =>
    rw [accFrom_succ _ _ _ _ _ _ _ ⟨n, by omega⟩]
    unfold step
    have hk : ((⟨n, by omega⟩ : Fin k0_t1_loop.trips)).val < 11 := by simp only; omega
    rw [accStep_eq H ⟨n, by omega⟩ _ (fun d c => by pointwise [k0_off1_eq]) _ (fun t c => by pointwise [k0_off2_eq])
      _ (fun c => by pointwise [k0_off3_eq]) _ (fun j d => by pointwise [k0_off4_eq]), ih (by omega)]
    exact (Fin.sum_univ_castSucc (n := n) (fun k : Fin (n + 1) => ∑ j : Fin 256, gluArr (convArr (padArr (upArr (modArr (normArr X N2) SH SC) WU)) CW CB)
          (ix3 b ⟨i.val * 512 + r.val, by omega⟩ ⟨k.val * 256 + j.val, by omega⟩) * WD (ix2 ⟨k.val * 256 + j.val, by omega⟩ d))).symm

/-- The accumulator after all chunks is the reference's product. -/
theorem accEnd_eq (r : Fin 512) (d : Fin 1024) :
    accEnd (BitVec.ofNat 32 i.val) x xp xn sh sc n2 wu cw cb wd (ix2 r d)
      = yArr X SH SC N2 WU CW CB WD (ix3 b ⟨i.val * 512 + r.val, by omega⟩ d) := by
  unfold accEnd yArr
  rw [accFrom_eq H 11 le_rfl, Cert.FfnRefIdeal.Value.downArr_at]
  exact Fin.sum_mul_add_congr fun s k hl => rfl

/-- At a grid point the output block is the reference's term. -/
theorem point (z : Fin 1) (r : Fin 512) (d : Fin 1024) :
    outBlock x g n3 (accEnd (BitVec.ofNat 32 i.val) x xp xn sh sc n2 wu cw cb wd) (ix3 z r d)
      = REF X SH SC G N2 N3 WU CW CB WD (ix3 b ⟨i.val * 512 + r.val, by omega⟩ d) := by
  unfold REF
  rw [outBlock_at, Cert.FfnRefIdeal.Value.resArr_at, Cert.FfnRefIdeal.Value.normArr_at, Cert.FfnRefIdeal.Value.invRms_at]
  simp only [accEnd_eq H, H.hx, H.hg, H.hn3]

end Point

end Cert.FfnIdeal.Value
-- ==== Proof.FfnEntry.lean ====
/- What the layouts the ConvFFN's host line makes of the weights hold at an index. -/
module

public import proofs.«01_k».proof.Proof.FfnFinal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnIdeal.Body

variable (m : (ℓ : Loc nD τ sig) → Buf (Elt Ideal) ℓ)

/-- The up projection's chunks. -/
theorem V_main_v6_at (c : Dev nD) (k : Fin 11) (d : Fin 1024) (e : Fin 512) :
    (V m c main_v6 : Vec Ideal S11x1024x512 .bf16) (ix3 k d e) = (m ((c.tc : Thread nD τ).loc main_arg6) : Vec Ideal S1024x5632 .f32) (ix2 d (col k e)) := by
  entry_read
  pointwise [col]
  by_cases h : e.val < 256
  · simp only [dif_pos h]
  · simp only [dif_neg h]

/-- The convolution taps' chunks. -/
theorem V_main_v13_at (c : Dev nD) (k : Fin 11) (t : Fin 3) (e : Fin 512) :
    (V m c main_v13 : Vec Ideal S11x3x512 .f32) (ix3 k t e) = (m ((c.tc : Thread nD τ).loc main_arg7) : Vec Ideal S5632x3 .f32) (ix2 (col k e) t) := by
  entry_read
  pointwise [col]
  by_cases h : e.val < 256
  · simp only [dif_pos h]
  · simp only [dif_neg h]

/-- The convolution bias's chunks. -/
theorem V_main_v18_at (c : Dev nD) (k : Fin 11) (e : Fin 512) :
    (V m c main_v18 : Vec Ideal S11x1x512 .f32) (ix3 k 0 e) = (m ((c.tc : Thread nD τ).loc main_arg8) : Vec Ideal S5632 .f32) (ix1 (col k e)) := by
  entry_read
  pointwise [col]
  by_cases h : e.val < 256
  · simp only [dif_pos h]
  · simp only [dif_neg h]

/-- The down projection's chunks. -/
theorem V_main_v20_at (c : Dev nD) (k : Fin 11) (j : Fin 256) (d : Fin 1024) (h : k.val * 256 + j.val < 2816) :
    (V m c main_v20 : Vec Ideal S11x256x1024 .bf16) (ix3 k j d) = (m ((c.tc : Thread nD τ).loc main_arg9) : Vec Ideal S2816x1024 .f32) (ix2 ⟨k.val * 256 + j.val, h⟩ d) := by
  entry_read
  pointwise []

/-- The first norm weight as a row. -/
theorem V_main_v21_at (c : Dev nD) (d : Fin 1024) :
    (V m c main_v21 : Vec Ideal S1x1024 .f32) (ix2 0 d) = (m ((c.tc : Thread nD τ).loc main_arg4) : Vec Ideal S1024 .f32) (ix1 d) := by
  entry_read
  pointwise []

/-- The second norm weight as a row. -/
theorem V_main_v22_at (c : Dev nD) (d : Fin 1024) :
    (V m c main_v22 : Vec Ideal S1x1024 .f32) (ix2 0 d) = (m ((c.tc : Thread nD τ).loc main_arg5) : Vec Ideal S1024 .f32) (ix1 d) := by
  entry_read
  pointwise []

/-- The block each window stages at a grid point, and the grid point's tile of the sequence. -/
theorem idx : ∀ t : Fin cfg0.N, win0_0.index t = ![t.val / 16, t.val % 16, 0]
    ∧ win0_1.index t = ![t.val / 16, t.val % 16 * 64 - 1, 0]
    ∧ win0_2.index t = ![t.val / 16, min ((t.val % 16 + 1) * 64) 1023, 0]
    ∧ win0_3.index t = ![t.val / 16, 0, 0] ∧ win0_4.index t = ![t.val / 16, 0, 0] ∧ win0_5.index t = ![t.val / 16, 0, 0]
    ∧ win0_6.index t = ![0, 0] ∧ win0_7.index t = ![0, 0] ∧ win0_8.index t = ![0, 0, 0] ∧ win0_9.index t = ![0, 0, 0]
    ∧ win0_10.index t = ![0, 0, 0] ∧ win0_11.index t = ![0, 0, 0] ∧ win0_12.index t = ![t.val / 16, t.val % 16, 0]
    ∧ ((grid0.coords t) 1).val = t.val % 16 ∧ t.val < 128 :=
  (by decide +kernel : ∀ t : Fin grid0.N, _)

set_option maxHeartbeats 1600000 in
/-- At every grid point the input blocks read the arguments as a tile with its halo rows must. -/
theorem reads (c : Dev nD) (t : Fin cfg0.N) (hb : t.val / 16 < 8) (hi : t.val % 16 < 16) :
    Reads (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9))
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) ⟨t.val / 16, hb⟩ ⟨t.val % 16, hi⟩ where
  hx r d := by refine Eq.trans ?_ (congrFun (V_main_arg0 m c) _); blk_ext [iblk, idx t]
  hp r d h := by
    have h' : t.val % 16 ≠ 0 := h
    refine Eq.trans ?_ (congrFun (V_main_arg0 m c) _); blk_ext [iblk, idx t]
  hn r d h := by
    have h' : t.val % 16 ≠ 15 := h
    refine Eq.trans ?_ (congrFun (V_main_arg0 m c) _); blk_ext [iblk, idx t]
  hsh d := by refine Eq.trans ?_ (congrFun (V_main_arg1 m c) _); blk_ext [iblk, idx t]
  hsc d := by refine Eq.trans ?_ (congrFun (V_main_arg2 m c) _); blk_ext [iblk, idx t]
  hg d := by refine Eq.trans ?_ (congrFun (V_main_arg3 m c) _); blk_ext [iblk, idx t]
  hn2 d := by refine Eq.trans ?_ (V_main_v21_at m c d); blk_ext [iblk, idx t]
  hn3 d := by refine Eq.trans ?_ (V_main_v22_at m c d); blk_ext [iblk, idx t]
  hwu k d e := by refine Eq.trans ?_ (V_main_v6_at m c k d e); blk_ext [iblk, idx t]
  hcw k d e := by refine Eq.trans ?_ (V_main_v13_at m c k d e); blk_ext [iblk, idx t]
  hcb k e := by refine Eq.trans ?_ (V_main_v18_at m c k e); blk_ext [iblk, idx t]
  hwd k j d := by refine Eq.trans ?_ (V_main_v20_at m c k j d _); blk_ext [iblk, idx t]

/-- The result array after the run is the reference's term of the arguments. -/
theorem final (c : Dev nD) :
    (dats m 0 c).arrAt 12 cfg0.N = Cert.FfnRefIdeal.Value.REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  refine (dats m 0 c).arrAt_eq_of_covers 12 _ (by decide +kernel) fun t _ y => ?_
  blk_simp
  rw [after0_12, outsAt_eq, (idx t).2.2.2.2.2.2.2.2.2.2.2.2.2.1]
  have ht : t.val < 128 := (idx t).2.2.2.2.2.2.2.2.2.2.2.2.2.2
  have hy1 : (y 1).val < 512 := (y 1).isLt
  have hy2 : (y 2).val < 1024 := (y 2).isLt
  have hy : y = ix3 (n0 := 1) (n1 := 512) (n2 := 1024) ⟨(y 0).val, (y 0).isLt⟩ ⟨(y 1).val, hy1⟩ ⟨(y 2).val, hy2⟩ := by
    blk_ext []
  rw [hy]
  refine (point (reads m c t (by omega) (by omega)) ⟨(y 0).val, (y 0).isLt⟩ ⟨(y 1).val, hy1⟩ ⟨(y 2).val, hy2⟩).trans ?_
  refine congrArg _ ?_
  blk_ext [idx t]

end Cert.FfnIdeal.Value
-- ==== Proof.FfnClaims.lean ====
/- The five claims about the ConvFFN. -/
module

public import proofs.«01_k».proof.Defs
public import proofs.«01_k».proof.Proof.FfnEntry
public import proofs.«01_k».proof.Proof.FfnBody
public import proofs.«01_k».proof.Proof.FfnIdealBody
public import proofs.«01_k».proof.Proof.FfnIdealBlocks
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.FfnClaims

/-- The kernel runs, leaves its arguments alone and ends quiet. -/
theorem frame_p : Cert.quiescent_Ffn := fun m ρ _ => Cert.Ffn.Body.frame m ρ

/-- So does its ideal reading. -/
theorem frame_pi : Cert.quiescent_FfnIdeal := fun m ρ _ => Cert.FfnIdeal.Body.frame m ρ

/-- So does the reference's ideal reading. -/
theorem frame_ri : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The ideal reading rewrites no operation. -/
theorem preserves : Cert.preserves_Ffn_FfnIdeal := trivial

/-- Kernel and reference end with equal results from equal arguments. -/
theorem algebraic : Cert.algebraic_FfnIdeal_FfnRefIdeal := by
  pair_intro
  · run_from Cert.FfnIdeal.Value.run_blocks m g
  · run_from Cert.FfnRefIdeal.Value.run m' g'
    obtain ⟨h0, h1, h2, h3, h4, h5, h6, h7, h8, h9⟩ := hagree c
    refine (Cert.FfnRefIdeal.Value.res_eq _ c).trans ?_
    rw [Cert.FfnIdeal.Value.final m c, h0, h1, h2, h3, h4, h5, h6, h7, h8, h9]

end Cert.Proof.FfnClaims
-- ==== Proof.SsmOut.lean ====
/- The recurrent mixer's input kernel's output blocks at a grid point, at an index: lemmas shared by the first, the middle and
   the last tile of a sequence. -/
module

public import proofs.«01_k».proof.Proof.SsmPay
public import proofs.«01_k».proof.Proof.Gen.SsmIdeal.Value

@[expose] public section

set_option maxRecDepth 16384

noncomputable section

open Idealize.ShloMosaic Idealize.ShloMosaic.TcCoe Idealize.SL.Sem
open Idealize.ShloMosaic.Pipeline (Dat)

namespace Cert.SsmIdeal.Value

open Cert.SsmIdeal Cert.SsmIdeal.Gen

/-- A load of stored pieces loads their contents. -/
theorem readCov_ld {sig : RefSig} {κ : Kind} {sp : Space} {s : Shape} {e : EltTy} (v : View sig κ sp s e)
    (L : List (View.Piece (Elt Ideal) s e)) (r : Rect s) : v.readCov L r.toLoadRect = View.ld (View.canon L) r := by
  unfold View.readCov
  rw [View.readAt_eq_ld, View.read_writes_junk_eq_canon]

/-- A load of a rectangle of a matrix, at an index. -/
theorem ld2_at {n k W C o p : ℕ} {e : EltTy} (X : Vec Ideal (⟨2, ![n, k]⟩ : Shape) e)
    (inb : ∀ a : Fin 2, (![o, p] : Fin 2 → ℕ) a + (![W, C] : Fin 2 → ℕ) a ≤ (![n, k] : Fin 2 → ℕ) a)
    (r : Fin W) (c : Fin C) (r' : Fin n) (c' : Fin k) (hr : r'.val = o + r.val) (hc : c'.val = p + c.val) :
    View.ld (Val := Elt Ideal) X (Rect.unit (s := ⟨2, ![n, k]⟩) ![o, p] ![W, C] inb) (ix2 r c) = X (ix2 r' c') := by
  refine congrArg X (funext fun a => Fin.ext ?_)
  fin_cases a
  · show o + 1 * r.val = r'.val
    omega
  · show p + 1 * c.val = c'.val
    omega

/-- A column inside the newest piece of whole columns reads that piece. -/
theorem canon_col_mem {k o W n : ℕ} {e : EltTy} (inb : ∀ a : Fin 3, (![0, 0, o] : Fin 3 → ℕ) a + (![1, k, W] : Fin 3 → ℕ) a ≤ (![1, k, n] : Fin 3 → ℕ) a)
    (w : (⟨3, ![1, k, W]⟩ : Shape).Idx → Elt Ideal e) (L : List (View.Piece (Elt Ideal) (⟨3, ![1, k, n]⟩ : Shape) e))
    (z : Fin 1) (r : Fin k) (C : Fin n) (c : Fin W) (h : C.val = o + c.val) :
    View.canon (Val := Elt Ideal) (s := ⟨3, ![1, k, n]⟩) (e := e) (⟨Rect.unit (s := ⟨3, ![1, k, n]⟩) ![0, 0, o] ![1, k, W] inb, w⟩ :: L) (ix3 z r C)
      = w (ix3 z r c) := by
  have hy : (Rect.unit (s := ⟨3, ![1, k, n]⟩) ![0, 0, o] ![1, k, W] inb).emb (ix3 z r c) = ix3 z r C := funext fun a => Fin.ext (by
    fin_cases a
    · show 0 + 1 * z.val = z.val
      omega
    · show 0 + 1 * r.val = r.val
      omega
    · show o + 1 * c.val = C.val
      omega)
  rw [← hy]
  exact View.canon_cons_emb (Rect.unit (s := ⟨3, ![1, k, n]⟩) ![0, 0, o] ![1, k, W] inb) w L (ix3 z r c)

/-- A column outside the newest piece of whole columns reads the older ones. -/
theorem canon_col_not_mem {k o W n : ℕ} {e : EltTy} (inb : ∀ a : Fin 3, (![0, 0, o] : Fin 3 → ℕ) a + (![1, k, W] : Fin 3 → ℕ) a ≤ (![1, k, n] : Fin 3 → ℕ) a)
    (w : (⟨3, ![1, k, W]⟩ : Shape).Idx → Elt Ideal e) (L : List (View.Piece (Elt Ideal) (⟨3, ![1, k, n]⟩ : Shape) e))
    (z : Fin 1) (r : Fin k) (C : Fin n) (h : C.val < o ∨ o + W ≤ C.val) :
    View.canon (Val := Elt Ideal) (s := ⟨3, ![1, k, n]⟩) (e := e) (⟨Rect.unit (s := ⟨3, ![1, k, n]⟩) ![0, 0, o] ![1, k, W] inb, w⟩ :: L) (ix3 z r C)
      = View.canon (Val := Elt Ideal) (s := ⟨3, ![1, k, n]⟩) (e := e) L (ix3 z r C) := by
  refine View.canon_cons_of_not_mem _ L ?_
  rw [Rect.mem_set_unit]
  intro hall
  have h0 : o ≤ C.val ∧ C.val < o + W := hall 2
  omega

/-- The normed and modulated rows of a point's blocks. -/
def he (x : Vec Ideal S1x256x1024 .f32) (xp xn : Vec Ideal S1x8x1024 .f32) (sh sc : Vec Ideal S1x1x1024 .f32) (nw : Vec Ideal S1x1024 .f32) :
    FVec Ideal S272x1024 .bf16 :=
  k0_pay7 (F := Ideal) (k0_pay5 (rows x xp xn) nw) sc sh

/-- The product of the rows with the weight, at row `q` and column `C`. -/
def uAt (h : FVec Ideal S272x1024 .bf16) (wx : Vec Ideal S1024x3072 .bf16) (q : Fin 272) (C : Fin 3072) : EReal :=
  ∑ d : Fin 1024, h (ix2 q d) * wx (ix2 d C)

/-- The same, zero on the rows before a first tile and after a last one. -/
def hidAt (n : ℕ) (h : FVec Ideal S272x1024 .bf16) (wx : Vec Ideal S1024x3072 .bf16) (q : Fin 272) (C : Fin 3072) : EReal :=
  if (n % 32 = 0 ∧ q.val < 8) ∨ (n % 32 = 31 ∧ 264 ≤ q.val) then 0 else uAt h wx q C

/-- The convolution at tile row `r` and column `C`. -/
def cAt (n : ℕ) (h : FVec Ideal S272x1024 .bf16) (wx : Vec Ideal S1024x3072 .bf16) (cw : Vec Ideal S4x3072 .f32) (cb : Vec Ideal S1x3072 .f32)
    (r : Fin 256) (C : Fin 3072) : EReal :=
  cb (ix2 0 C) + hidAt n h wx ⟨6 + r.val, by omega⟩ C * cw (ix2 0 C) + hidAt n h wx ⟨7 + r.val, by omega⟩ C * cw (ix2 1 C)
    + hidAt n h wx ⟨8 + r.val, by omega⟩ C * cw (ix2 2 C) + hidAt n h wx ⟨9 + r.val, by omega⟩ C * cw (ix2 3 C)

/-- The product of the tile's own rows with a weight. -/
def midAt {N : ℕ} (h : FVec Ideal S272x1024 .bf16) (w : Vec Ideal (⟨2, ![1024, N]⟩ : Shape) .bf16) (r : Fin 256) (C : Fin N) : EReal :=
  ∑ d : Fin 1024, h (ix2 ⟨8 + r.val, by omega⟩ d) * w (ix2 d C)

theorem mid_chunk {o : ℕ} (n : FVec Ideal S272x1024 .f32) (sc sh : Vec Ideal S1x1x1024 .f32) (w : Vec Ideal S1024x2048 .bf16)
    (inb : ∀ a : Fin 2, (![0, o] : Fin 2 → ℕ) a + (![1024, 512] : Fin 2 → ℕ) a ≤ (![1024, 2048] : Fin 2 → ℕ) a)
    (r : Fin 256) (c : Fin 512) (C : Fin 2048) (hC : C.val = o + c.val) :
    (∑ d : Fin 1024, k0_pay8 (F := Ideal) n sc sh (ix2 r d) * View.ld (Val := Elt Ideal) w (Rect.unit (s := S1024x2048) ![0, o] ![1024, 512] inb) (ix2 d c))
      = midAt (N := 2048) (k0_pay7 (F := Ideal) n sc sh) w r C :=
  Finset.sum_congr rfl fun d _ => by
    rw [mid_at]
    exact congrArg _ (ld2_at w inb d c d C (by omega) hC)

theorem up_chunk {o : ℕ} (h : FVec Ideal S272x1024 .bf16) (w : Vec Ideal S1024x3072 .bf16)
    (inb : ∀ a : Fin 2, (![0, o] : Fin 2 → ℕ) a + (![1024, 512] : Fin 2 → ℕ) a ≤ (![1024, 3072] : Fin 2 → ℕ) a)
    (q : Fin 272) (c : Fin 512) (C : Fin 3072) (hC : C.val = o + c.val) :
    upAt h (View.ld (Val := Elt Ideal) w (Rect.unit (s := S1024x3072) ![0, o] ![1024, 512] inb)) q c = uAt h w q C :=
  Finset.sum_congr rfl fun d _ => congrArg _ (ld2_at w inb d c d C (by omega) hC)

/-- The shifted rows read from pieces, when each row reads the masked product. -/
theorem conv_chunk (n : ℕ) {o : ℕ} (h : FVec Ideal S272x1024 .bf16) (wx : Vec Ideal S1024x3072 .bf16) (cw : Vec Ideal S4x3072 .f32) (cb : Vec Ideal S1x3072 .f32)
    (u : Vec Ideal S272x512 .f32)
    (inb0 : ∀ a : Fin 2, (![0, o] : Fin 2 → ℕ) a + (![1, 512] : Fin 2 → ℕ) a ≤ (![4, 3072] : Fin 2 → ℕ) a)
    (inb1 : ∀ a : Fin 2, (![1, o] : Fin 2 → ℕ) a + (![1, 512] : Fin 2 → ℕ) a ≤ (![4, 3072] : Fin 2 → ℕ) a)
    (inb2 : ∀ a : Fin 2, (![2, o] : Fin 2 → ℕ) a + (![1, 512] : Fin 2 → ℕ) a ≤ (![4, 3072] : Fin 2 → ℕ) a)
    (inb3 : ∀ a : Fin 2, (![3, o] : Fin 2 → ℕ) a + (![1, 512] : Fin 2 → ℕ) a ≤ (![4, 3072] : Fin 2 → ℕ) a)
    (inbB : ∀ a : Fin 2, (![0, o] : Fin 2 → ℕ) a + (![1, 512] : Fin 2 → ℕ) a ≤ (![1, 3072] : Fin 2 → ℕ) a)
    (r : Fin 256) (c : Fin 512) (C : Fin 3072) (hC : C.val = o + c.val)
    (hu : ∀ q : Fin 272, u (ix2 q c) = hidAt n h wx q C) :
    conv (View.ld (Val := Elt Ideal) cb (Rect.unit (s := S1x3072) ![0, o] ![1, 512] inbB))
        (View.ld u (Rect.unit ![6, 0] ![256, 512] inb_S272x512_S256x512_6_0)) (View.ld (Val := Elt Ideal) cw (Rect.unit (s := S4x3072) ![0, o] ![1, 512] inb0))
        (View.ld u (Rect.unit ![7, 0] ![256, 512] inb_S272x512_S256x512_7_0)) (View.ld (Val := Elt Ideal) cw (Rect.unit (s := S4x3072) ![1, o] ![1, 512] inb1))
        (View.ld u (Rect.unit ![8, 0] ![256, 512] inb_S272x512_S256x512_8_0)) (View.ld (Val := Elt Ideal) cw (Rect.unit (s := S4x3072) ![2, o] ![1, 512] inb2))
        (View.ld u (Rect.unit ![9, 0] ![256, 512] inb_S272x512_S256x512_9_0)) (View.ld (Val := Elt Ideal) cw (Rect.unit (s := S4x3072) ![3, o] ![1, 512] inb3)) r c
      = cAt n h wx cw cb r C := by
  have hb := ld2_at cb inbB 0 c 0 C rfl hC
  have h0 := ld2_at cw inb0 0 c 0 C rfl hC
  have h1 := ld2_at cw inb1 0 c 1 C rfl hC
  have h2 := ld2_at cw inb2 0 c 2 C rfl hC
  have h3 := ld2_at cw inb3 0 c 3 C rfl hC
  have u0 := ld2_at u inb_S272x512_S256x512_6_0 r c ⟨6 + r.val, by omega⟩ c rfl (Nat.zero_add _).symm
  have u1 := ld2_at u inb_S272x512_S256x512_7_0 r c ⟨7 + r.val, by omega⟩ c rfl (Nat.zero_add _).symm
  have u2 := ld2_at u inb_S272x512_S256x512_8_0 r c ⟨8 + r.val, by omega⟩ c rfl (Nat.zero_add _).symm
  have u3 := ld2_at u inb_S272x512_S256x512_9_0 r c ⟨9 + r.val, by omega⟩ c rfl (Nat.zero_add _).symm
  unfold conv cAt
  rw [← hu, ← hu, ← hu, ← hu, ← hb, ← h0, ← h1, ← h2, ← h3, ← u0, ← u1, ← u2, ← u3]

/-- The rows of the first tile: eight zero rows over the product. -/
theorem hidA (n : ℕ) (h0 : n % 32 = 0) (h : FVec Ideal S272x1024 .bf16) (wx : Vec Ideal S1024x3072 .bf16)
    (z8 : FVec Ideal S8x512 .f32) (hz : ∀ r d, z8 (ix2 r d) = 0) (u : FVec Ideal S272x512 .f32)
    (L : List (View.Piece (Elt Ideal) S272x512 .f32)) (c : Fin 512) (C : Fin 3072) (hu : ∀ q, u (ix2 q c) = uAt h wx q C) (q : Fin 272) :
    View.canon (Val := Elt Ideal) (s := S272x512) (e := .f32) (⟨Rect.unit ![0, 0] ![8, 512] inb_S272x512_S8x512_0_0, z8⟩
      :: ⟨Rect.unit ![0, 0] ![272, 512] inb_S272x512_S272x512_0_0, u⟩ :: L) (ix2 q c) = hidAt n h wx q C := by
  unfold hidAt
  by_cases hq : q.val < 8
  · rw [if_pos (Or.inl ⟨h0, hq⟩)]
    exact (canon_row_mem (e := .f32) inb_S272x512_S8x512_0_0 z8 _ q ⟨q.val, hq⟩ c (Nat.zero_add _).symm).trans (hz _ _)
  · rw [if_neg (by omega)]
    refine (canon_row_not_mem (e := .f32) inb_S272x512_S8x512_0_0 z8 _ q c (by omega)).trans ?_
    exact (canon_row_mem inb_S272x512_S272x512_0_0 u L q q c (Nat.zero_add _).symm).trans (hu q)

/-- The rows of a middle tile: the product. -/
theorem hidB (n : ℕ) (h0 : ¬ n % 32 = 0) (h1 : ¬ n % 32 = 31) (h : FVec Ideal S272x1024 .bf16) (wx : Vec Ideal S1024x3072 .bf16)
    (u : FVec Ideal S272x512 .f32)
    (L : List (View.Piece (Elt Ideal) S272x512 .f32)) (c : Fin 512) (C : Fin 3072) (hu : ∀ q, u (ix2 q c) = uAt h wx q C) (q : Fin 272) :
    View.canon (Val := Elt Ideal) (s := S272x512) (e := .f32) (⟨Rect.unit ![0, 0] ![272, 512] inb_S272x512_S272x512_0_0, u⟩ :: L) (ix2 q c)
      = hidAt n h wx q C := by
  unfold hidAt
  rw [if_neg (by omega)]
  exact (canon_row_mem inb_S272x512_S272x512_0_0 u L q q c (Nat.zero_add _).symm).trans (hu q)

/-- The rows of the last tile: the product under eight zero rows. -/
theorem hidC (n : ℕ) (h0 : ¬ n % 32 = 0) (h1 : n % 32 = 31) (h : FVec Ideal S272x1024 .bf16) (wx : Vec Ideal S1024x3072 .bf16)
    (z8 : FVec Ideal S8x512 .f32) (hz : ∀ r d, z8 (ix2 r d) = 0) (u : FVec Ideal S272x512 .f32)
    (L : List (View.Piece (Elt Ideal) S272x512 .f32)) (c : Fin 512) (C : Fin 3072) (hu : ∀ q, u (ix2 q c) = uAt h wx q C) (q : Fin 272) :
    View.canon (Val := Elt Ideal) (s := S272x512) (e := .f32) (⟨Rect.unit ![264, 0] ![8, 512] inb_S272x512_S8x512_264_0, z8⟩
      :: ⟨Rect.unit ![0, 0] ![272, 512] inb_S272x512_S272x512_0_0, u⟩ :: L) (ix2 q c) = hidAt n h wx q C := by
  unfold hidAt
  by_cases hq : 264 ≤ q.val
  · rw [if_pos (Or.inr ⟨h1, hq⟩)]
    exact (canon_row_mem (e := .f32) inb_S272x512_S8x512_264_0 z8 _ q ⟨q.val - 264, by omega⟩ c (by simp only; omega)).trans (hz _ _)
  · rw [if_neg (by omega)]
    refine (canon_row_not_mem (e := .f32) inb_S272x512_S8x512_264_0 z8 _ q c (by omega)).trans ?_
    exact (canon_row_mem inb_S272x512_S272x512_0_0 u L q q c (Nat.zero_add _).symm).trans (hu q)

end Cert.SsmIdeal.Value
-- ==== Proof.SsmRef.lean ====
/- The recurrent mixer's input, reference results at an index: the normed and modulated rows, their products with the
   weights, the four-tap convolution over the rows with its sigmoid-weighted value, and the time steps. -/
module

public import proofs.«01_k».proof.Proof.Gen.SsmRefIdeal.Run
public import Idealize.ShloMosaic.Lib.Pointwise

@[expose] public section

set_option maxRecDepth 16384

noncomputable section

open Idealize.ShloMosaic Idealize.ShloMosaic.TcCoe Idealize.SL.Sem

namespace Cert.SsmRefIdeal.Value
open Cert.SsmRefIdeal Cert.SsmRefIdeal.Gen

/-- One divided by the root of each row's mean square. -/
def invRms (x : Vec Ideal S8x8192x1024 .f32) : Vec Ideal S8x8192x1 .f32 :=
  Host.rsqrt (F := Ideal) (φ := .f32) (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))

/-- The normed rows, with the norm's weight. -/
def normArr (x : Vec Ideal S8x8192x1024 .f32) (w : Vec Ideal S1024 .f32) : Vec Ideal S8x8192x1024 .f32 :=
  mulf (F := Ideal) (φ := .f32) (mulf x (broadcastInDim S8x8192x1024 ![0, 1, 2] bcast_S8x8192x1_S8x8192x1024_0_1_2 (invRms x))) (broadcastInDim S8x8192x1024 ![0, 1, 2] bcast_S1x1x1024_S8x8192x1024_0_1_2 (broadcastInDim S1x1x1024 ![2] bcast_S1024_S1x1x1024_2 w))

/-- The modulated rows. -/
def modArr (n : Vec Ideal S8x8192x1024 .f32) (sh sc : Vec Ideal S8x1x1024 .f32) : Vec Ideal S8x8192x1024 .f32 :=
  addf (F := Ideal) (φ := .f32) (mulf n (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)

/-- The product with the input weight. -/
def inArr (h : Vec Ideal S8x8192x1024 .f32) (w : Vec Ideal S1024x5120 .f32) : Vec Ideal S8x8192x5120 .f32 :=
  Host.dotGeneral (F := Ideal) (φ₁ := .f32) (φ₂ := .f32) dot_S8x8192x1024_S1024x5120_S8x8192x5120_2_0_01_1_n_n none h w

/-- The first 2048 columns of the product: `z`. -/
def zArr (u : Vec Ideal S8x8192x5120 .f32) : Vec Ideal S8x8192x2048 .f32 :=
  extractStridedSlice S8x8192x2048 ![0, 0, 0] u slices_S8x8192x5120_S8x8192x2048_0_0_0

/-- The other columns, with two zero rows before the first and one after the last. -/
def padArr (u : Vec Ideal S8x8192x5120 .f32) : Vec Ideal S8x8195x3072 .f32 :=
  pad S8x8195x3072 ![0, 2, 0] ![0, 1, 0] ![0, 0, 0] (extractStridedSlice S8x8192x3072 ![0, 0, 2048] u slices_S8x8192x5120_S8x8192x3072_0_0_2048) (sitofp (F := Ideal) .f32 (constantI S_ 32 0#32)) pads_S8x8192x3072_S8x8195x3072_000_210_000 h_S_

/-- The four-tap convolution over the rows. -/
def convArr (u : Vec Ideal S8x8195x3072 .f32) (cw : Vec Ideal S3072x4 .f32) (cb : Vec Ideal S3072 .f32) : Vec Ideal S8x8192x3072 .f32 :=
  addf (F := Ideal) (φ := .f32) (addf (addf (addf (broadcastInDim S8x8192x3072 ![0, 1, 2] bcast_S1x1x3072_S8x8192x3072_0_1_2 (broadcastInDim S1x1x3072 ![2] bcast_S3072_S1x1x3072_2 cb))
      (mulf (extractStridedSlice S8x8192x3072 ![0, 0, 0] u slices_S8x8195x3072_S8x8192x3072_0_0_0) (broadcastInDim S8x8192x3072 ![0, 1, 2] bcast_S1x1x3072_S8x8192x3072_0_1_2 (broadcastInDim S1x1x3072 ![2] bcast_S3072_S1x1x3072_2 (shapeCast _ (extractStridedSlice S3072x1 ![0, 0] cw slices_S3072x4_S3072x1_0_0) shapeCasts_S3072x1_S3072)))))
      (mulf (extractStridedSlice S8x8192x3072 ![0, 1, 0] u slices_S8x8195x3072_S8x8192x3072_0_1_0) (broadcastInDim S8x8192x3072 ![0, 1, 2] bcast_S1x1x3072_S8x8192x3072_0_1_2 (broadcastInDim S1x1x3072 ![2] bcast_S3072_S1x1x3072_2 (shapeCast _ (extractStridedSlice S3072x1 ![0, 1] cw slices_S3072x4_S3072x1_0_1) shapeCasts_S3072x1_S3072)))))
      (mulf (extractStridedSlice S8x8192x3072 ![0, 2, 0] u slices_S8x8195x3072_S8x8192x3072_0_2_0) (broadcastInDim S8x8192x3072 ![0, 1, 2] bcast_S1x1x3072_S8x8192x3072_0_1_2 (broadcastInDim S1x1x3072 ![2] bcast_S3072_S1x1x3072_2 (shapeCast _ (extractStridedSlice S3072x1 ![0, 2] cw slices_S3072x4_S3072x1_0_2) shapeCasts_S3072x1_S3072)))))
    (mulf (extractStridedSlice S8x8192x3072 ![0, 3, 0] u slices_S8x8195x3072_S8x8192x3072_0_3_0) (broadcastInDim S8x8192x3072 ![0, 1, 2] bcast_S1x1x3072_S8x8192x3072_0_1_2 (broadcastInDim S1x1x3072 ![2] bcast_S3072_S1x1x3072_2 (shapeCast _ (extractStridedSlice S3072x1 ![0, 3] cw slices_S3072x4_S3072x1_0_3) shapeCasts_S3072x1_S3072))))

/-- The sigmoid-weighted value. -/
def siluArr (c : Vec Ideal S8x8192x3072 .f32) : Vec Ideal S8x8192x3072 .f32 :=
  mulf (F := Ideal) (φ := .f32) c (Host.divf (broadcastInDim S8x8192x3072 ![] bcast_S_S8x8192x3072 (constant S_ .f32 0x3F800000#32)) (addf (broadcastInDim S8x8192x3072 ![] bcast_S_S8x8192x3072 (constant S_ .f32 0x3F800000#32)) (Host.exp (Host.negf c))))

/-- The first 2048 columns: the convolved x. -/
def xsArr (s : Vec Ideal S8x8192x3072 .f32) : Vec Ideal S8x8192x2048 .f32 :=
  extractStridedSlice S8x8192x2048 ![0, 0, 0] s slices_S8x8192x3072_S8x8192x2048_0_0_0

/-- The next 512 columns: B. -/
def bArr (s : Vec Ideal S8x8192x3072 .f32) : Vec Ideal S8x8192x512 .bf16 :=
  truncf (F := Ideal) .bf16 (extractStridedSlice S8x8192x512 ![0, 0, 2048] s slices_S8x8192x3072_S8x8192x512_0_0_2048) bitsLt_bf16_f32

/-- The last 512 columns: C. -/
def cArr (s : Vec Ideal S8x8192x3072 .f32) : Vec Ideal S8x8192x512 .bf16 :=
  truncf (F := Ideal) .bf16 (extractStridedSlice S8x8192x512 ![0, 0, 2560] s slices_S8x8192x3072_S8x8192x512_0_0_2560) bitsLt_bf16_f32

/-- The time steps before the softplus. -/
def rawArr (h : Vec Ideal S8x8192x1024 .f32) (w : Vec Ideal S1024x128 .f32) (b : Vec Ideal S128 .f32) : Vec Ideal S8x8192x128 .f32 :=
  addf (F := Ideal) (φ := .f32) (Host.dotGeneral (φ₁ := .f32) (φ₂ := .f32) dot_S8x8192x1024_S1024x128_S8x8192x128_2_0_01_1_n_n none h w) (broadcastInDim S8x8192x128 ![0, 1, 2] bcast_S1x1x128_S8x8192x128_0_1_2 (broadcastInDim S1x1x128 ![2] bcast_S128_S1x1x128_2 b))

/-- The softplus. -/
def softplusArr (r : Vec Ideal S8x8192x128 .f32) : Vec Ideal S8x8192x128 .f32 :=
  select (cmpf (F := Ideal) (φ := .f32) .une (subf r (broadcastInDim S8x8192x128 ![] bcast_S_S8x8192x128 (constant S_ .f32 0x00000000#32))) (subf r (broadcastInDim S8x8192x128 ![] bcast_S_S8x8192x128 (constant S_ .f32 0x00000000#32))))
    (addf (F := Ideal) (φ := .f32) r (broadcastInDim S8x8192x128 ![] bcast_S_S8x8192x128 (constant S_ .f32 0x00000000#32)))
    (addf (F := Ideal) (φ := .f32) (maximumf r (broadcastInDim S8x8192x128 ![] bcast_S_S8x8192x128 (constant S_ .f32 0x00000000#32)))
      (Host.log1p (Host.exp (Host.negf (Host.absf (subf r (broadcastInDim S8x8192x128 ![] bcast_S_S8x8192x128 (constant S_ .f32 0x00000000#32))))))))

/-- The normed and modulated rows, from the arguments. -/
def hArr (x : Vec Ideal S8x8192x1024 .f32) (sh sc : Vec Ideal S8x1x1024 .f32) (nw : Vec Ideal S1024 .f32) : Vec Ideal S8x8192x1024 .f32 :=
  modArr (normArr x nw) sh sc

/-- The convolved columns, from the normed rows. -/
def sArr (h : Vec Ideal S8x8192x1024 .f32) (w : Vec Ideal S1024x5120 .f32) (cw : Vec Ideal S3072x4 .f32) (cb : Vec Ideal S3072 .f32) :
    Vec Ideal S8x8192x3072 .f32 :=
  siluArr (convArr (padArr (inArr h w)) cw cb)

theorem res1_eq (m : (ℓ : Loc nD τ sig) → Buf (Elt Ideal) ℓ) (c : Dev nD) : res_out1 (F := Ideal) m c
    = xsArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  unfold res_out1 res_main_v53 xsArr sArr siluArr convArr padArr inArr hArr modArr normArr invRms
  rfl

theorem res2_eq (m : (ℓ : Loc nD τ sig) → Buf (Elt Ideal) ℓ) (c : Dev nD) : res_out2 (F := Ideal) m c
    = bArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  unfold res_out2 res_main_v62 bArr sArr siluArr convArr padArr inArr hArr modArr normArr invRms
  rfl

theorem res3_eq (m : (ℓ : Loc nD τ sig) → Buf (Elt Ideal) ℓ) (c : Dev nD) : res_out3 (F := Ideal) m c
    = cArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  unfold res_out3 res_main_v63 cArr sArr siluArr convArr padArr inArr hArr modArr normArr invRms
  rfl

theorem res4_eq (m : (ℓ : Loc nD τ sig) → Buf (Elt Ideal) ℓ) (c : Dev nD) : res_out4 (F := Ideal) m c
    = softplusArr (rawArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)) (m ((c.tc : Thread nD τ).loc main_arg8))) := by
  unfold res_out4 res_main_v60 softplusArr rawArr hArr modArr normArr invRms
  rfl

/-- A row's factor at an index. -/
theorem invRms_at (x : Vec Ideal S8x8192x1024 .f32) (b : Fin 8) (r : Fin 8192) (z : Fin 1) :
    invRms x (ix3 b r z) = Ideal.rsqrt (Ideal.div (∑ d : Fin 1024, x (ix3 b r d) * x (ix3 b r d)) (Ideal.ofBits .f32 0x44800000#32)
      + Ideal.ofBits .f32 0x358637BD#32) := by
  pointwise [invRms]

theorem normArr_at (x : Vec Ideal S8x8192x1024 .f32) (w : Vec Ideal S1024 .f32) (b : Fin 8) (r : Fin 8192) (d : Fin 1024) :
    normArr x w (ix3 b r d) = x (ix3 b r d) * invRms x (ix3 b r 0) * w (ix1 d) := by
  pointwise [normArr]

theorem modArr_at (n : Vec Ideal S8x8192x1024 .f32) (sh sc : Vec Ideal S8x1x1024 .f32) (b : Fin 8) (r : Fin 8192) (d : Fin 1024) :
    modArr n sh sc (ix3 b r d) = n (ix3 b r d) * (Ideal.ofBits .f32 0x3F800000#32 + sc (ix3 b 0 d)) + sh (ix3 b 0 d) := by
  pointwise [modArr]

theorem inArr_at (h : Vec Ideal S8x8192x1024 .f32) (w : Vec Ideal S1024x5120 .f32) (b : Fin 8) (r : Fin 8192) (c : Fin 5120) :
    inArr h w (ix3 b r c) = ∑ d : Fin 1024, h (ix3 b r d) * w (ix2 d c) := by
  pointwise [inArr]

theorem zArr_at (u : Vec Ideal S8x8192x5120 .f32) (b : Fin 8) (r : Fin 8192) (c : Fin 2048) :
    zArr u (ix3 b r c) = u (ix3 b r ⟨c.val, by omega⟩) := by
  pointwise [zArr]

theorem padArr_at (u : Vec Ideal S8x8192x5120 .f32) (b : Fin 8) (r : Fin 8195) (c : Fin 3072) :
    padArr u (ix3 b r c) = if h : 2 ≤ r.val ∧ r.val - 2 < 8192 then u (ix3 b ⟨r.val - 2, by omega⟩ ⟨2048 + c.val, by omega⟩) else 0 := by
  have e : (FloatOps.sitofp FTy.f32 0#32 : Ideal .f32) = (0 : EReal) := by
    show (((0#32 : BitVec 32).toInt : ℝ) : EReal) = 0
    simp
  rw [← e]
  pointwise [padArr]

theorem convArr_at (u : Vec Ideal S8x8195x3072 .f32) (cw : Vec Ideal S3072x4 .f32) (cb : Vec Ideal S3072 .f32) (b : Fin 8) (r : Fin 8192) (c : Fin 3072) :
    convArr u cw cb (ix3 b r c) = cb (ix1 c) + u (ix3 b ⟨r.val, by omega⟩ c) * cw (ix2 c 0)
      + u (ix3 b ⟨1 + r.val, by omega⟩ c) * cw (ix2 c 1) + u (ix3 b ⟨2 + r.val, by omega⟩ c) * cw (ix2 c 2)
      + u (ix3 b ⟨3 + r.val, by omega⟩ c) * cw (ix2 c 3) := by
  pointwise [convArr]

theorem siluArr_at (c : Vec Ideal S8x8192x3072 .f32) (b : Fin 8) (r : Fin 8192) (j : Fin 3072) :
    siluArr c (ix3 b r j) = c (ix3 b r j) * Ideal.div 1 (1 + Ideal.exp (-c (ix3 b r j))) := by
  pointwise [siluArr]

theorem xsArr_at (s : Vec Ideal S8x8192x3072 .f32) (b : Fin 8) (r : Fin 8192) (c : Fin 2048) :
    xsArr s (ix3 b r c) = s (ix3 b r ⟨c.val, by omega⟩) := by
  pointwise [xsArr]

theorem bArr_at (s : Vec Ideal S8x8192x3072 .f32) (b : Fin 8) (r : Fin 8192) (c : Fin 512) :
    bArr s (ix3 b r c) = s (ix3 b r ⟨2048 + c.val, by omega⟩) := by
  pointwise [bArr]

theorem cArr_at (s : Vec Ideal S8x8192x3072 .f32) (b : Fin 8) (r : Fin 8192) (c : Fin 512) :
    cArr s (ix3 b r c) = s (ix3 b r ⟨2560 + c.val, by omega⟩) := by
  pointwise [cArr]

theorem rawArr_at (h : Vec Ideal S8x8192x1024 .f32) (w : Vec Ideal S1024x128 .f32) (bi : Vec Ideal S128 .f32) (b : Fin 8) (r : Fin 8192) (c : Fin 128) :
    rawArr h w bi (ix3 b r c) = (∑ d : Fin 1024, h (ix3 b r d) * w (ix2 d c)) + bi (ix1 c) := by
  pointwise [rawArr]

theorem softplusArr_at (a : Vec Ideal S8x8192x128 .f32) (b : Fin 8) (r : Fin 8192) (c : Fin 128) :
    softplusArr a (ix3 b r c) = max (a (ix3 b r c)) 0 + Ideal.log1p (Ideal.exp (-(FloatOps.absf (F := Ideal) (φ := .f32) (a (ix3 b r c)) : EReal))) := by
  pointwise [softplusArr]
  exact if_neg fun h => h rfl

end Cert.SsmRefIdeal.Value
-- ==== Proof.SsmFinal.lean ====
/- The mixer input kernel's blocks at a grid point are the reference's terms of the arguments. -/
module

public import proofs.«01_k».proof.Proof.SsmOut
public import proofs.«01_k».proof.Proof.SsmRef

@[expose] public section

set_option maxRecDepth 16384

noncomputable section

open Idealize.ShloMosaic Idealize.ShloMosaic.TcCoe Idealize.SL.Sem
open Idealize.ShloMosaic.Pipeline (Dat)

namespace Cert.SsmIdeal.Value

open Cert.SsmIdeal Cert.SsmIdeal.Gen
open Cert.SsmRefIdeal.Value (invRms normArr modArr inArr zArr padArr convArr siluArr xsArr bArr cArr rawArr softplusArr hArr sArr)

section Point

variable (X : Vec Ideal S8x8192x1024 .f32) (SH SC : Vec Ideal S8x1x1024 .f32) (NW : Vec Ideal S1024 .f32)
  (W : Vec Ideal S1024x5120 .f32) (CW : Vec Ideal S3072x4 .f32) (CB : Vec Ideal S3072 .f32) (WDT : Vec Ideal S1024x128 .f32) (DTB : Vec Ideal S128 .f32)
  (x : Vec Ideal S1x256x1024 .f32) (xp xn : Vec Ideal S1x8x1024 .f32) (sh sc : Vec Ideal S1x1x1024 .f32)
  (nw : Vec Ideal S1x1024 .f32) (wz : Vec Ideal S1024x2048 .bf16) (wx : Vec Ideal S1024x3072 .bf16) (wdt : Vec Ideal S1024x128 .bf16)
  (cw : Vec Ideal S4x3072 .f32) (cb : Vec Ideal S1x3072 .f32) (dtb : Vec Ideal S1x128 .f32) (b : Fin 8) (i : Fin 32)

/-- What each input block of a grid point reads of the arguments. -/
structure Reads : Prop where
  hx : ∀ (r : Fin 256) (d : Fin 1024), x (ix3 0 r d) = X (ix3 b ⟨i.val * 256 + r.val, by omega⟩ d)
  hp : ∀ (r : Fin 8) (d : Fin 1024) (h : i.val ≠ 0), xp (ix3 0 r d) = X (ix3 b ⟨i.val * 256 + r.val - 8, by omega⟩ d)
  hn : ∀ (r : Fin 8) (d : Fin 1024) (h : i.val ≠ 31), xn (ix3 0 r d) = X (ix3 b ⟨i.val * 256 + 256 + r.val, by omega⟩ d)
  hsh : ∀ d : Fin 1024, sh (ix3 0 0 d) = SH (ix3 b 0 d)
  hsc : ∀ d : Fin 1024, sc (ix3 0 0 d) = SC (ix3 b 0 d)
  hnw : ∀ d : Fin 1024, nw (ix2 0 d) = NW (ix1 d)
  hwz : ∀ (d : Fin 1024) (C : Fin 2048), wz (ix2 d C) = W (ix2 d ⟨C.val, by omega⟩)
  hwx : ∀ (d : Fin 1024) (C : Fin 3072), wx (ix2 d C) = W (ix2 d ⟨2048 + C.val, by omega⟩)
  hwdt : ∀ (d : Fin 1024) (C : Fin 128), wdt (ix2 d C) = WDT (ix2 d C)
  hcw : ∀ (k : Fin 4) (C : Fin 3072), cw (ix2 k C) = CW (ix2 C k)
  hcb : ∀ C : Fin 3072, cb (ix2 0 C) = CB (ix1 C)
  hdtb : ∀ C : Fin 128, dtb (ix2 0 C) = DTB (ix1 C)

variable {X SH SC NW W CW CB WDT DTB x xp xn sh sc nw wz wx wdt cw cb dtb b i}
variable (H : Reads X SH SC NW W CW CB WDT DTB x xp xn sh sc nw wz wx wdt cw cb dtb b i)
include H

/-- A row of the tile that lies in the sequence is the argument's row. -/
theorem rows_eq (r : Fin 272) (R : Fin 8192) (hR : R.val + 8 = i.val * 256 + r.val) (d : Fin 1024) :
    rows x xp xn (ix2 r d) = X (ix3 b R d) := by
  rw [rows_at]
  by_cases h : r.val < 8
  · rw [dif_pos h, H.hp _ _ (by omega)]
    exact congrArg X (congrArg (fun z => ix3 b z d) (Fin.ext (by simp only; omega)))
  · rw [dif_neg h]
    by_cases h' : r.val < 264
    · rw [dif_pos h', H.hx]
      exact congrArg X (congrArg (fun z => ix3 b z d) (Fin.ext (by simp only; omega)))
    · rw [dif_neg h', H.hn _ _ (by omega)]
      exact congrArg X (congrArg (fun z => ix3 b z d) (Fin.ext (by simp only; omega)))

/-- So is its normed and modulated row. -/
theorem he_eq (r : Fin 272) (R : Fin 8192) (hR : R.val + 8 = i.val * 256 + r.val) (d : Fin 1024) :
    he x xp xn sh sc nw (ix2 r d) = hArr X SH SC NW (ix3 b R d) := by
  unfold he hArr
  rw [normed_at, Cert.SsmRefIdeal.Value.modArr_at, Cert.SsmRefIdeal.Value.normArr_at, Cert.SsmRefIdeal.Value.invRms_at]
  simp only [rows_eq H r R hR, H.hnw, H.hsc, H.hsh]

/-- The gate branch's block. -/
theorem z_eq (r : Fin 256) (C : Fin 2048) :
    midAt (N := 2048) (he x xp xn sh sc nw) wz r C = zArr (inArr (hArr X SH SC NW) W) (ix3 b ⟨i.val * 256 + r.val, by omega⟩ C) := by
  unfold midAt
  rw [Cert.SsmRefIdeal.Value.zArr_at, Cert.SsmRefIdeal.Value.inArr_at]
  refine Finset.sum_congr rfl fun d _ => ?_
  rw [he_eq H ⟨8 + r.val, by omega⟩ ⟨i.val * 256 + r.val, by omega⟩ (by simp only; omega), H.hwz]

/-- The rows the convolution reads are the reference's padded rows. -/
theorem hid_eq (n : ℕ) (hn : n % 32 = i.val) (q : Fin 272) (C : Fin 3072) (p : Fin 8195) (hp : p.val + 6 = i.val * 256 + q.val)
    (h6 : 6 ≤ q.val) (h264 : q.val ≤ 264) :
    hidAt n (he x xp xn sh sc nw) wx q C = padArr (inArr (hArr X SH SC NW) W) (ix3 b p C) := by
  unfold hidAt
  rw [Cert.SsmRefIdeal.Value.padArr_at, hn]
  by_cases h : (i.val = 0 ∧ q.val < 8) ∨ (i.val = 31 ∧ 264 ≤ q.val)
  · rw [if_pos h, dif_neg (by omega)]
  · rw [if_neg h, dif_pos (by omega), Cert.SsmRefIdeal.Value.inArr_at]
    refine Finset.sum_congr rfl fun d _ => ?_
    rw [he_eq H q ⟨p.val - 2, by omega⟩ (by simp only; omega), H.hwx]

/-- The convolution's block, with its silu. -/
theorem s_eq (n : ℕ) (hn : n % 32 = i.val) (r : Fin 256) (C : Fin 3072) :
    silu (cAt n (he x xp xn sh sc nw) wx cw cb r C) = sArr (hArr X SH SC NW) W CW CB (ix3 b ⟨i.val * 256 + r.val, by omega⟩ C) := by
  have e : cAt n (he x xp xn sh sc nw) wx cw cb r C
      = convArr (padArr (inArr (hArr X SH SC NW) W)) CW CB (ix3 b ⟨i.val * 256 + r.val, by omega⟩ C) := by
    unfold cAt
    rw [Cert.SsmRefIdeal.Value.convArr_at,
      hid_eq H n hn ⟨6 + r.val, by omega⟩ C ⟨i.val * 256 + r.val, by omega⟩ (by simp only; omega) (by simp only; omega) (by simp only; omega),
      hid_eq H n hn ⟨7 + r.val, by omega⟩ C ⟨1 + (i.val * 256 + r.val), by omega⟩ (by simp only; omega) (by simp only; omega) (by simp only; omega),
      hid_eq H n hn ⟨8 + r.val, by omega⟩ C ⟨2 + (i.val * 256 + r.val), by omega⟩ (by simp only; omega) (by simp only; omega) (by simp only; omega),
      hid_eq H n hn ⟨9 + r.val, by omega⟩ C ⟨3 + (i.val * 256 + r.val), by omega⟩ (by simp only; omega) (by simp only; omega) (by simp only; omega),
      H.hcb, H.hcw, H.hcw, H.hcw, H.hcw]
  unfold sArr
  rw [e, Cert.SsmRefIdeal.Value.siluArr_at]
  rfl

/-- The time steps' block. -/
theorem dt_eq (r : Fin 256) (C : Fin 128) :
    softplus (midAt (N := 128) (he x xp xn sh sc nw) wdt r C + dtb (ix2 0 C))
      = softplusArr (rawArr (hArr X SH SC NW) WDT DTB) (ix3 b ⟨i.val * 256 + r.val, by omega⟩ C) := by
  have e : midAt (N := 128) (he x xp xn sh sc nw) wdt r C + dtb (ix2 0 C)
      = rawArr (hArr X SH SC NW) WDT DTB (ix3 b ⟨i.val * 256 + r.val, by omega⟩ C) := by
    unfold midAt
    rw [Cert.SsmRefIdeal.Value.rawArr_at, H.hdtb]
    refine congrArg (fun z => z + DTB (ix1 C)) (Finset.sum_congr rfl fun d _ => ?_)
    rw [he_eq H ⟨8 + r.val, by omega⟩ ⟨i.val * 256 + r.val, by omega⟩ (by simp only; omega), H.hwdt]
  rw [e, Cert.SsmRefIdeal.Value.softplusArr_at]
  rfl

end Point

end Cert.SsmIdeal.Value
-- ==== Proof.SsmTileA.lean ====
/- The recurrent mixer's input kernel's output blocks at a first tile of a sequence, at an index. -/
module

public import proofs.«01_k».proof.Proof.SsmOut

@[expose] public section

set_option maxRecDepth 16384

noncomputable section

open Idealize.ShloMosaic Idealize.ShloMosaic.TcCoe Idealize.SL.Sem
open Idealize.ShloMosaic.Pipeline (Dat)

namespace Cert.SsmIdeal.Value

open Cert.SsmIdeal Cert.SsmIdeal.Gen

set_option maxHeartbeats 800000

variable (m : (ℓ : Loc nD τ sig) → Buf (Elt Ideal) ℓ)

theorem z_A (c : Dev nD) (t : Fin cfg0.N) (h0 : t.val % 32 = 0) (z : Fin 1) (r : Fin 256) (C : Fin 2048) :
    (outsAt0 m c t.val t.isLt).1 (ix3 z r C) = midAt (N := 2048) (he (iblk m c 0 t) (iblk m c 1 t) (iblk m c 2 t) (iblk m c 3 t) (iblk m c 4 t) (iblk m c 5 t)) (iblk m c 6 t) r C := by
  have hz : (![0, 0] : Fin 2 → Nat) = fun _ => 0 := funext fun a => by fin_cases a <;> rfl
  have h1 : ¬ t.val % 32 = 31 := by omega
  rw [outsAt0_A m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  by_cases h3c : 1536 ≤ C.val
  · have hC : C.val = 1536 + (⟨C.val - 1536, by omega⟩ : Fin 512).val := by simp only; omega
    refine (canon_col_mem inb_S1x256x2048_S1x256x512_0_0_1536 _ _ z r C ⟨C.val - 1536, by omega⟩ hC).trans ?_
    refine (pay13_at ..).trans ?_
    exact mid_chunk _ _ _ _ _ _ _ C hC
  refine (canon_col_not_mem inb_S1x256x2048_S1x256x512_0_0_1536 _ _ z r C (by omega)).trans ?_
  by_cases h2c : 1024 ≤ C.val
  · have hC : C.val = 1024 + (⟨C.val - 1024, by omega⟩ : Fin 512).val := by simp only; omega
    refine (canon_col_mem inb_S1x256x2048_S1x256x512_0_0_1024 _ _ z r C ⟨C.val - 1024, by omega⟩ hC).trans ?_
    refine (pay11_at ..).trans ?_
    exact mid_chunk _ _ _ _ _ _ _ C hC
  refine (canon_col_not_mem inb_S1x256x2048_S1x256x512_0_0_1024 _ _ z r C (by omega)).trans ?_
  by_cases h1c : 512 ≤ C.val
  · have hC : C.val = 512 + (⟨C.val - 512, by omega⟩ : Fin 512).val := by simp only; omega
    refine (canon_col_mem inb_S1x256x2048_S1x256x512_0_0_512 _ _ z r C ⟨C.val - 512, by omega⟩ hC).trans ?_
    refine (pay10_at ..).trans ?_
    exact mid_chunk _ _ _ _ _ _ _ C hC
  refine (canon_col_not_mem inb_S1x256x2048_S1x256x512_0_0_512 _ _ z r C (by omega)).trans ?_
  have hC : C.val = 0 + (⟨C.val - 0, by omega⟩ : Fin 512).val := by simp only; omega
  refine (canon_col_mem inb_S1x256x2048_S1x256x512_0_0_0 _ _ z r C ⟨C.val - 0, by omega⟩ hC).trans ?_
  refine (pay9_at ..).trans ?_
  exact mid_chunk _ _ _ _ _ _ _ C hC

theorem xs_A (c : Dev nD) (t : Fin cfg0.N) (h0 : t.val % 32 = 0) (z : Fin 1) (r : Fin 256) (C : Fin 2048) :
    (outsAt0 m c t.val t.isLt).2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨C.val, by omega⟩) := by
  have hz : (![0, 0] : Fin 2 → Nat) = fun _ => 0 := funext fun a => by fin_cases a <;> rfl
  have h1 : ¬ t.val % 32 = 31 := by omega
  rw [outsAt0_A m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  by_cases h3c : 1536 ≤ C.val
  · have hC : C.val = 1536 + (⟨C.val - 1536, by omega⟩ : Fin 512).val := by simp only; omega
    refine (canon_col_mem inb_S1x256x2048_S1x256x512_0_0_1536 _ _ z r C ⟨C.val - 1536, by omega⟩ hC).trans ?_
    refine (chunk3_at ..).trans (congrArg silu ?_)
    refine conv_chunk t.val (he x0 x1 x2 x3 x4 x5) x7 x9 x10 _ _ _ _ _ _ r _ _ hC ?_
    exact hidA t.val h0 _ _ _ pay32_at _ _ _ _ (fun q => (pay31_at _ _ q _).trans (up_chunk _ _ _ q _ _ hC))
  refine (canon_col_not_mem inb_S1x256x2048_S1x256x512_0_0_1536 _ _ z r C (by omega)).trans ?_
  by_cases h2c : 1024 ≤ C.val
  · have hC : C.val = 1024 + (⟨C.val - 1024, by omega⟩ : Fin 512).val := by simp only; omega
    refine (canon_col_mem inb_S1x256x2048_S1x256x512_0_0_1024 _ _ z r C ⟨C.val - 1024, by omega⟩ hC).trans ?_
    refine (chunk2_at ..).trans (congrArg silu ?_)
    refine conv_chunk t.val (he x0 x1 x2 x3 x4 x5) x7 x9 x10 _ _ _ _ _ _ r _ _ hC ?_
    exact hidA t.val h0 _ _ _ pay26_at _ _ _ _ (fun q => (pay25_at _ _ q _).trans (up_chunk _ _ _ q _ _ hC))
  refine (canon_col_not_mem inb_S1x256x2048_S1x256x512_0_0_1024 _ _ z r C (by omega)).trans ?_
  by_cases h1c : 512 ≤ C.val
  · have hC : C.val = 512 + (⟨C.val - 512, by omega⟩ : Fin 512).val := by simp only; omega
    refine (canon_col_mem inb_S1x256x2048_S1x256x512_0_0_512 _ _ z r C ⟨C.val - 512, by omega⟩ hC).trans ?_
    refine (chunk1_at ..).trans (congrArg silu ?_)
    refine conv_chunk t.val (he x0 x1 x2 x3 x4 x5) x7 x9 x10 _ _ _ _ _ _ r _ _ hC ?_
    exact hidA t.val h0 _ _ _ pay21_at _ _ _ _ (fun q => (pay20_at _ _ q _).trans (up_chunk _ _ _ q _ _ hC))
  refine (canon_col_not_mem inb_S1x256x2048_S1x256x512_0_0_512 _ _ z r C (by omega)).trans ?_
  have hC : C.val = 0 + (⟨C.val - 0, by omega⟩ : Fin 512).val := by simp only; omega
  refine (canon_col_mem inb_S1x256x2048_S1x256x512_0_0_0 _ _ z r C ⟨C.val - 0, by omega⟩ hC).trans ?_
  refine (chunk0_at ..).trans (congrArg silu ?_)
  refine conv_chunk t.val (he x0 x1 x2 x3 x4 x5) x7 x9 x10 _ _ _ _ _ _ r _ _ hC ?_
  exact hidA t.val h0 _ _ _ pay16_at _ _ _ _ (fun q => (pay15_at _ _ q _).trans (up_chunk _ _ _ q _ _ hC))

theorem bm_A (c : Dev nD) (t : Fin cfg0.N) (h0 : t.val % 32 = 0) (z : Fin 1) (r : Fin 256) (C : Fin 512) :
    (outsAt0 m c t.val t.isLt).2.2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨2048 + C.val, by omega⟩) := by
  have hz : (![0, 0] : Fin 2 → Nat) = fun _ => 0 := funext fun a => by fin_cases a <;> rfl
  have h1 : ¬ t.val % 32 = 31 := by omega
  rw [outsAt0_A m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have hC : (⟨2048 + C.val, by omega⟩ : Fin 3072).val = 2048 + C.val := rfl
  refine (chunk4_at ..).trans (congrArg silu ?_)
  refine conv_chunk t.val (he x0 x1 x2 x3 x4 x5) x7 x9 x10 _ _ _ _ _ _ r _ _ hC ?_
  exact hidA t.val h0 _ _ _ pay38_at _ _ _ _ (fun q => (pay37_at _ _ q _).trans (up_chunk _ _ _ q _ _ hC))

theorem cm_A (c : Dev nD) (t : Fin cfg0.N) (h0 : t.val % 32 = 0) (z : Fin 1) (r : Fin 256) (C : Fin 512) :
    (outsAt0 m c t.val t.isLt).2.2.2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨2560 + C.val, by omega⟩) := by
  have hz : (![0, 0] : Fin 2 → Nat) = fun _ => 0 := funext fun a => by fin_cases a <;> rfl
  have h1 : ¬ t.val % 32 = 31 := by omega
  rw [outsAt0_A m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have hC : (⟨2560 + C.val, by omega⟩ : Fin 3072).val = 2560 + C.val := rfl
  refine (chunk5_at ..).trans (congrArg silu ?_)
  refine conv_chunk t.val (he x0 x1 x2 x3 x4 x5) x7 x9 x10 _ _ _ _ _ _ r _ _ hC ?_
  exact hidA t.val h0 _ _ _ pay44_at _ _ _ _ (fun q => (pay43_at _ _ q _).trans (up_chunk _ _ _ q _ _ hC))

theorem dt_A (c : Dev nD) (t : Fin cfg0.N) (h0 : t.val % 32 = 0) (z : Fin 1) (r : Fin 256) (C : Fin 128) :
    (outsAt0 m c t.val t.isLt).2.2.2.2 (ix3 z r C)
      = softplus (midAt (N := 128) (he (iblk m c 0 t) (iblk m c 1 t) (iblk m c 2 t) (iblk m c 3 t) (iblk m c 4 t) (iblk m c 5 t)) (iblk m c 8 t) r C + iblk m c 11 t (ix2 0 C)) := by
  have hz : (![0, 0] : Fin 2 → Nat) = fun _ => 0 := funext fun a => by fin_cases a <;> rfl
  have h1 : ¬ t.val % 32 = 31 := by omega
  rw [outsAt0_A m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  refine (pay14_at ..).trans ?_
  refine congrArg softplus (congrArg (· + _) ?_)
  exact Finset.sum_congr rfl fun d _ => congrArg (· * _) (mid_at ..)

end Cert.SsmIdeal.Value
-- ==== Proof.SsmTileB.lean ====
/- The recurrent mixer's input kernel's output blocks at a middle tile of a sequence, at an index. -/
module

public import proofs.«01_k».proof.Proof.SsmOut

@[expose] public section

set_option maxRecDepth 16384

noncomputable section

open Idealize.ShloMosaic Idealize.ShloMosaic.TcCoe Idealize.SL.Sem
open Idealize.ShloMosaic.Pipeline (Dat)

namespace Cert.SsmIdeal.Value

open Cert.SsmIdeal Cert.SsmIdeal.Gen

set_option maxHeartbeats 800000

variable (m : (ℓ : Loc nD τ sig) → Buf (Elt Ideal) ℓ)

theorem z_B (c : Dev nD) (t : Fin cfg0.N) (h0 : ¬ t.val % 32 = 0) (h1 : ¬ t.val % 32 = 31) (z : Fin 1) (r : Fin 256) (C : Fin 2048) :
    (outsAt0 m c t.val t.isLt).1 (ix3 z r C) = midAt (N := 2048) (he (iblk m c 0 t) (iblk m c 1 t) (iblk m c 2 t) (iblk m c 3 t) (iblk m c 4 t) (iblk m c 5 t)) (iblk m c 6 t) r C := by
  have hz : (![0, 0] : Fin 2 → Nat) = fun _ => 0 := funext fun a => by fin_cases a <;> rfl
  rw [outsAt0_B m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  by_cases h3c : 1536 ≤ C.val
  · have hC : C.val = 1536 + (⟨C.val - 1536, by omega⟩ : Fin 512).val := by simp only; omega
    refine (canon_col_mem inb_S1x256x2048_S1x256x512_0_0_1536 _ _ z r C ⟨C.val - 1536, by omega⟩ hC).trans ?_
    refine (pay13_at ..).trans ?_
    exact mid_chunk _ _ _ _ _ _ _ C hC
  refine (canon_col_not_mem inb_S1x256x2048_S1x256x512_0_0_1536 _ _ z r C (by omega)).trans ?_
  by_cases h2c : 1024 ≤ C.val
  · have hC : C.val = 1024 + (⟨C.val - 1024, by omega⟩ : Fin 512).val := by simp only; omega
    refine (canon_col_mem inb_S1x256x2048_S1x256x512_0_0_1024 _ _ z r C ⟨C.val - 1024, by omega⟩ hC).trans ?_
    refine (pay11_at ..).trans ?_
    exact mid_chunk _ _ _ _ _ _ _ C hC
  refine (canon_col_not_mem inb_S1x256x2048_S1x256x512_0_0_1024 _ _ z r C (by omega)).trans ?_
  by_cases h1c : 512 ≤ C.val
  · have hC : C.val = 512 + (⟨C.val - 512, by omega⟩ : Fin 512).val := by simp only; omega
    refine (canon_col_mem inb_S1x256x2048_S1x256x512_0_0_512 _ _ z r C ⟨C.val - 512, by omega⟩ hC).trans ?_
    refine (pay10_at ..).trans ?_
    exact mid_chunk _ _ _ _ _ _ _ C hC
  refine (canon_col_not_mem inb_S1x256x2048_S1x256x512_0_0_512 _ _ z r C (by omega)).trans ?_
  have hC : C.val = 0 + (⟨C.val - 0, by omega⟩ : Fin 512).val := by simp only; omega
  refine (canon_col_mem inb_S1x256x2048_S1x256x512_0_0_0 _ _ z r C ⟨C.val - 0, by omega⟩ hC).trans ?_
  refine (pay9_at ..).trans ?_
  exact mid_chunk _ _ _ _ _ _ _ C hC

theorem xs_B (c : Dev nD) (t : Fin cfg0.N) (h0 : ¬ t.val % 32 = 0) (h1 : ¬ t.val % 32 = 31) (z : Fin 1) (r : Fin 256) (C : Fin 2048) :
    (outsAt0 m c t.val t.isLt).2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨C.val, by omega⟩) := by
  have hz : (![0, 0] : Fin 2 → Nat) = fun _ => 0 := funext fun a => by fin_cases a <;> rfl
  rw [outsAt0_B m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  by_cases h3c : 1536 ≤ C.val
  · have hC : C.val = 1536 + (⟨C.val - 1536, by omega⟩ : Fin 512).val := by simp only; omega
    refine (canon_col_mem inb_S1x256x2048_S1x256x512_0_0_1536 _ _ z r C ⟨C.val - 1536, by omega⟩ hC).trans ?_
    refine (chunk3_at ..).trans (congrArg silu ?_)
    refine conv_chunk t.val (he x0 x1 x2 x3 x4 x5) x7 x9 x10 _ _ _ _ _ _ r _ _ hC ?_
    exact hidB t.val h0 h1 _ _ _ _ _ _ (fun q => (pay31_at _ _ q _).trans (up_chunk _ _ _ q _ _ hC))
  refine (canon_col_not_mem inb_S1x256x2048_S1x256x512_0_0_1536 _ _ z r C (by omega)).trans ?_
  by_cases h2c : 1024 ≤ C.val
  · have hC : C.val = 1024 + (⟨C.val - 1024, by omega⟩ : Fin 512).val := by simp only; omega
    refine (canon_col_mem inb_S1x256x2048_S1x256x512_0_0_1024 _ _ z r C ⟨C.val - 1024, by omega⟩ hC).trans ?_
    refine (chunk2_at ..).trans (congrArg silu ?_)
    refine conv_chunk t.val (he x0 x1 x2 x3 x4 x5) x7 x9 x10 _ _ _ _ _ _ r _ _ hC ?_
    exact hidB t.val h0 h1 _ _ _ _ _ _ (fun q => (pay25_at _ _ q _).trans (up_chunk _ _ _ q _ _ hC))
  refine (canon_col_not_mem inb_S1x256x2048_S1x256x512_0_0_1024 _ _ z r C (by omega)).trans ?_
  by_cases h1c : 512 ≤ C.val
  · have hC : C.val = 512 + (⟨C.val - 512, by omega⟩ : Fin 512).val := by simp only; omega
    refine (canon_col_mem inb_S1x256x2048_S1x256x512_0_0_512 _ _ z r C ⟨C.val - 512, by omega⟩ hC).trans ?_
    refine (chunk1_at ..).trans (congrArg silu ?_)
    refine conv_chunk t.val (he x0 x1 x2 x3 x4 x5) x7 x9 x10 _ _ _ _ _ _ r _ _ hC ?_
    exact hidB t.val h0 h1 _ _ _ _ _ _ (fun q => (pay20_at _ _ q _).trans (up_chunk _ _ _ q _ _ hC))
  refine (canon_col_not_mem inb_S1x256x2048_S1x256x512_0_0_512 _ _ z r C (by omega)).trans ?_
  have hC : C.val = 0 + (⟨C.val - 0, by omega⟩ : Fin 512).val := by simp only; omega
  refine (canon_col_mem inb_S1x256x2048_S1x256x512_0_0_0 _ _ z r C ⟨C.val - 0, by omega⟩ hC).trans ?_
  refine (chunk0_at ..).trans (congrArg silu ?_)
  refine conv_chunk t.val (he x0 x1 x2 x3 x4 x5) x7 x9 x10 _ _ _ _ _ _ r _ _ hC ?_
  exact hidB t.val h0 h1 _ _ _ _ _ _ (fun q => (pay15_at _ _ q _).trans (up_chunk _ _ _ q _ _ hC))

theorem bm_B (c : Dev nD) (t : Fin cfg0.N) (h0 : ¬ t.val % 32 = 0) (h1 : ¬ t.val % 32 = 31) (z : Fin 1) (r : Fin 256) (C : Fin 512) :
    (outsAt0 m c t.val t.isLt).2.2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨2048 + C.val, by omega⟩) := by
  have hz : (![0, 0] : Fin 2 → Nat) = fun _ => 0 := funext fun a => by fin_cases a <;> rfl
  rw [outsAt0_B m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have hC : (⟨2048 + C.val, by omega⟩ : Fin 3072).val = 2048 + C.val := rfl
  refine (chunk4_at ..).trans (congrArg silu ?_)
  refine conv_chunk t.val (he x0 x1 x2 x3 x4 x5) x7 x9 x10 _ _ _ _ _ _ r _ _ hC ?_
  exact hidB t.val h0 h1 _ _ _ _ _ _ (fun q => (pay37_at _ _ q _).trans (up_chunk _ _ _ q _ _ hC))

theorem cm_B (c : Dev nD) (t : Fin cfg0.N) (h0 : ¬ t.val % 32 = 0) (h1 : ¬ t.val % 32 = 31) (z : Fin 1) (r : Fin 256) (C : Fin 512) :
    (outsAt0 m c t.val t.isLt).2.2.2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨2560 + C.val, by omega⟩) := by
  have hz : (![0, 0] : Fin 2 → Nat) = fun _ => 0 := funext fun a => by fin_cases a <;> rfl
  rw [outsAt0_B m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have hC : (⟨2560 + C.val, by omega⟩ : Fin 3072).val = 2560 + C.val := rfl
  refine (chunk5_at ..).trans (congrArg silu ?_)
  refine conv_chunk t.val (he x0 x1 x2 x3 x4 x5) x7 x9 x10 _ _ _ _ _ _ r _ _ hC ?_
  exact hidB t.val h0 h1 _ _ _ _ _ _ (fun q => (pay43_at _ _ q _).trans (up_chunk _ _ _ q _ _ hC))

theorem dt_B (c : Dev nD) (t : Fin cfg0.N) (h0 : ¬ t.val % 32 = 0) (h1 : ¬ t.val % 32 = 31) (z : Fin 1) (r : Fin 256) (C : Fin 128) :
    (outsAt0 m c t.val t.isLt).2.2.2.2 (ix3 z r C)
      = softplus (midAt (N := 128) (he (iblk m c 0 t) (iblk m c 1 t) (iblk m c 2 t) (iblk m c 3 t) (iblk m c 4 t) (iblk m c 5 t)) (iblk m c 8 t) r C + iblk m c 11 t (ix2 0 C)) := by
  have hz : (![0, 0] : Fin 2 → Nat) = fun _ => 0 := funext fun a => by fin_cases a <;> rfl
  rw [outsAt0_B m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  refine (pay14_at ..).trans ?_
  refine congrArg softplus (congrArg (· + _) ?_)
  exact Finset.sum_congr rfl fun d _ => congrArg (· * _) (mid_at ..)

end Cert.SsmIdeal.Value
-- ==== Proof.SsmTileC.lean ====
/- The recurrent mixer's input kernel's output blocks at a last tile of a sequence, at an index. -/
module

public import proofs.«01_k».proof.Proof.SsmOut

@[expose] public section

set_option maxRecDepth 16384

noncomputable section

open Idealize.ShloMosaic Idealize.ShloMosaic.TcCoe Idealize.SL.Sem
open Idealize.ShloMosaic.Pipeline (Dat)

namespace Cert.SsmIdeal.Value

open Cert.SsmIdeal Cert.SsmIdeal.Gen

set_option maxHeartbeats 800000

variable (m : (ℓ : Loc nD τ sig) → Buf (Elt Ideal) ℓ)

theorem z_C (c : Dev nD) (t : Fin cfg0.N) (h1 : t.val % 32 = 31) (z : Fin 1) (r : Fin 256) (C : Fin 2048) :
    (outsAt0 m c t.val t.isLt).1 (ix3 z r C) = midAt (N := 2048) (he (iblk m c 0 t) (iblk m c 1 t) (iblk m c 2 t) (iblk m c 3 t) (iblk m c 4 t) (iblk m c 5 t)) (iblk m c 6 t) r C := by
  have hz : (![0, 0] : Fin 2 → Nat) = fun _ => 0 := funext fun a => by fin_cases a <;> rfl
  have h0 : ¬ t.val % 32 = 0 := by omega
  rw [outsAt0_C m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  by_cases h3c : 1536 ≤ C.val
  · have hC : C.val = 1536 + (⟨C.val - 1536, by omega⟩ : Fin 512).val := by simp only; omega
    refine (canon_col_mem inb_S1x256x2048_S1x256x512_0_0_1536 _ _ z r C ⟨C.val - 1536, by omega⟩ hC).trans ?_
    refine (pay13_at ..).trans ?_
    exact mid_chunk _ _ _ _ _ _ _ C hC
  refine (canon_col_not_mem inb_S1x256x2048_S1x256x512_0_0_1536 _ _ z r C (by omega)).trans ?_
  by_cases h2c : 1024 ≤ C.val
  · have hC : C.val = 1024 + (⟨C.val - 1024, by omega⟩ : Fin 512).val := by simp only; omega
    refine (canon_col_mem inb_S1x256x2048_S1x256x512_0_0_1024 _ _ z r C ⟨C.val - 1024, by omega⟩ hC).trans ?_
    refine (pay11_at ..).trans ?_
    exact mid_chunk _ _ _ _ _ _ _ C hC
  refine (canon_col_not_mem inb_S1x256x2048_S1x256x512_0_0_1024 _ _ z r C (by omega)).trans ?_
  by_cases h1c : 512 ≤ C.val
  · have hC : C.val = 512 + (⟨C.val - 512, by omega⟩ : Fin 512).val := by simp only; omega
    refine (canon_col_mem inb_S1x256x2048_S1x256x512_0_0_512 _ _ z r C ⟨C.val - 512, by omega⟩ hC).trans ?_
    refine (pay10_at ..).trans ?_
    exact mid_chunk _ _ _ _ _ _ _ C hC
  refine (canon_col_not_mem inb_S1x256x2048_S1x256x512_0_0_512 _ _ z r C (by omega)).trans ?_
  have hC : C.val = 0 + (⟨C.val - 0, by omega⟩ : Fin 512).val := by simp only; omega
  refine (canon_col_mem inb_S1x256x2048_S1x256x512_0_0_0 _ _ z r C ⟨C.val - 0, by omega⟩ hC).trans ?_
  refine (pay9_at ..).trans ?_
  exact mid_chunk _ _ _ _ _ _ _ C hC

theorem xs_C (c : Dev nD) (t : Fin cfg0.N) (h1 : t.val % 32 = 31) (z : Fin 1) (r : Fin 256) (C : Fin 2048) :
    (outsAt0 m c t.val t.isLt).2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨C.val, by omega⟩) := by
  have hz : (![0, 0] : Fin 2 → Nat) = fun _ => 0 := funext fun a => by fin_cases a <;> rfl
  have h0 : ¬ t.val % 32 = 0 := by omega
  rw [outsAt0_C m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  by_cases h3c : 1536 ≤ C.val
  · have hC : C.val = 1536 + (⟨C.val - 1536, by omega⟩ : Fin 512).val := by simp only; omega
    refine (canon_col_mem inb_S1x256x2048_S1x256x512_0_0_1536 _ _ z r C ⟨C.val - 1536, by omega⟩ hC).trans ?_
    refine (chunk3_at ..).trans (congrArg silu ?_)
    refine conv_chunk t.val (he x0 x1 x2 x3 x4 x5) x7 x9 x10 _ _ _ _ _ _ r _ _ hC ?_
    exact hidC t.val h0 h1 _ _ _ pay33_at _ _ _ _ (fun q => (pay31_at _ _ q _).trans (up_chunk _ _ _ q _ _ hC))
  refine (canon_col_not_mem inb_S1x256x2048_S1x256x512_0_0_1536 _ _ z r C (by omega)).trans ?_
  by_cases h2c : 1024 ≤ C.val
  · have hC : C.val = 1024 + (⟨C.val - 1024, by omega⟩ : Fin 512).val := by simp only; omega
    refine (canon_col_mem inb_S1x256x2048_S1x256x512_0_0_1024 _ _ z r C ⟨C.val - 1024, by omega⟩ hC).trans ?_
    refine (chunk2_at ..).trans (congrArg silu ?_)
    refine conv_chunk t.val (he x0 x1 x2 x3 x4 x5) x7 x9 x10 _ _ _ _ _ _ r _ _ hC ?_
    exact hidC t.val h0 h1 _ _ _ pay27_at _ _ _ _ (fun q => (pay25_at _ _ q _).trans (up_chunk _ _ _ q _ _ hC))
  refine (canon_col_not_mem inb_S1x256x2048_S1x256x512_0_0_1024 _ _ z r C (by omega)).trans ?_
  by_cases h1c : 512 ≤ C.val
  · have hC : C.val = 512 + (⟨C.val - 512, by omega⟩ : Fin 512).val := by simp only; omega
    refine (canon_col_mem inb_S1x256x2048_S1x256x512_0_0_512 _ _ z r C ⟨C.val - 512, by omega⟩ hC).trans ?_
    refine (chunk1_at ..).trans (congrArg silu ?_)
    refine conv_chunk t.val (he x0 x1 x2 x3 x4 x5) x7 x9 x10 _ _ _ _ _ _ r _ _ hC ?_
    exact hidC t.val h0 h1 _ _ _ pay22_at _ _ _ _ (fun q => (pay20_at _ _ q _).trans (up_chunk _ _ _ q _ _ hC))
  refine (canon_col_not_mem inb_S1x256x2048_S1x256x512_0_0_512 _ _ z r C (by omega)).trans ?_
  have hC : C.val = 0 + (⟨C.val - 0, by omega⟩ : Fin 512).val := by simp only; omega
  refine (canon_col_mem inb_S1x256x2048_S1x256x512_0_0_0 _ _ z r C ⟨C.val - 0, by omega⟩ hC).trans ?_
  refine (chunk0_at ..).trans (congrArg silu ?_)
  refine conv_chunk t.val (he x0 x1 x2 x3 x4 x5) x7 x9 x10 _ _ _ _ _ _ r _ _ hC ?_
  exact hidC t.val h0 h1 _ _ _ pay17_at _ _ _ _ (fun q => (pay15_at _ _ q _).trans (up_chunk _ _ _ q _ _ hC))

theorem bm_C (c : Dev nD) (t : Fin cfg0.N) (h1 : t.val % 32 = 31) (z : Fin 1) (r : Fin 256) (C : Fin 512) :
    (outsAt0 m c t.val t.isLt).2.2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨2048 + C.val, by omega⟩) := by
  have hz : (![0, 0] : Fin 2 → Nat) = fun _ => 0 := funext fun a => by fin_cases a <;> rfl
  have h0 : ¬ t.val % 32 = 0 := by omega
  rw [outsAt0_C m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have hC : (⟨2048 + C.val, by omega⟩ : Fin 3072).val = 2048 + C.val := rfl
  refine (chunk4_at ..).trans (congrArg silu ?_)
  refine conv_chunk t.val (he x0 x1 x2 x3 x4 x5) x7 x9 x10 _ _ _ _ _ _ r _ _ hC ?_
  exact hidC t.val h0 h1 _ _ _ pay39_at _ _ _ _ (fun q => (pay37_at _ _ q _).trans (up_chunk _ _ _ q _ _ hC))

theorem cm_C (c : Dev nD) (t : Fin cfg0.N) (h1 : t.val % 32 = 31) (z : Fin 1) (r : Fin 256) (C : Fin 512) :
    (outsAt0 m c t.val t.isLt).2.2.2.1 (ix3 z r C)
      = silu (cAt t.val (he (iblk m c 0 t) (iblk m c 1 t) (iblk m c 2 t) (iblk m c 3 t) (iblk m c 4 t) (iblk m c 5 t)) (iblk m c 7 t) (iblk m c 9 t) (iblk m c 10 t) r ⟨2560 + C.val, by omega⟩) := by
  have hz : (![0, 0] : Fin 2 → Nat) = fun _ => 0 := funext fun a => by fin_cases a <;> rfl
  have h0 : ¬ t.val % 32 = 0 := by omega
  rw [outsAt0_C m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have hC : (⟨2560 + C.val, by omega⟩ : Fin 3072).val = 2560 + C.val := rfl
  refine (chunk5_at ..).trans (congrArg silu ?_)
  refine conv_chunk t.val (he x0 x1 x2 x3 x4 x5) x7 x9 x10 _ _ _ _ _ _ r _ _ hC ?_
  exact hidC t.val h0 h1 _ _ _ pay45_at _ _ _ _ (fun q => (pay43_at _ _ q _).trans (up_chunk _ _ _ q _ _ hC))

theorem dt_C (c : Dev nD) (t : Fin cfg0.N) (h1 : t.val % 32 = 31) (z : Fin 1) (r : Fin 256) (C : Fin 128) :
    (outsAt0 m c t.val t.isLt).2.2.2.2 (ix3 z r C)
      = softplus (midAt (N := 128) (he (iblk m c 0 t) (iblk m c 1 t) (iblk m c 2 t) (iblk m c 3 t) (iblk m c 4 t) (iblk m c 5 t)) (iblk m c 8 t) r C + iblk m c 11 t (ix2 0 C)) := by
  have hz : (![0, 0] : Fin 2 → Nat) = fun _ => 0 := funext fun a => by fin_cases a <;> rfl
  have h0 : ¬ t.val % 32 = 0 := by omega
  rw [outsAt0_C m c t h0 h1 h0 h1 h0 h1 h0 h1 h0 h1 h0 h1]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  refine (pay14_at ..).trans ?_
  refine congrArg softplus (congrArg (· + _) ?_)
  exact Finset.sum_congr rfl fun d _ => congrArg (· * _) (mid_at ..)

end Cert.SsmIdeal.Value
-- ==== Proof.SsmEntry.lean ====
/- The mixer input kernel's result arrays are the reference's terms of the arguments. -/
module

public import proofs.«01_k».proof.Proof.SsmFinal
public import proofs.«01_k».proof.Proof.SsmTileA
public import proofs.«01_k».proof.Proof.SsmTileB
public import proofs.«01_k».proof.Proof.SsmTileC
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsmIdeal.Value

open Cert.SsmIdeal Cert.SsmIdeal.Gen
open Cert.SsmRefIdeal.Value (inArr zArr xsArr bArr cArr rawArr softplusArr hArr sArr)

variable (m : (ℓ : Loc nD τ sig) → Buf (Elt Ideal) ℓ)

/-- The norm weight as a row. -/
theorem V_main_v1_at (c : Dev nD) (d : Fin 1024) :
    (V m c main_v1 : Vec Ideal S1x1024 .f32) (ix2 0 d) = (m ((c.tc : Thread nD τ).loc main_arg3) : Vec Ideal S1024 .f32) (ix1 d) := by
  entry_read
  pointwise []

/-- The gate branch's columns of the projection. -/
theorem V_main_v2_at (c : Dev nD) (d : Fin 1024) (C : Fin 2048) :
    (V m c main_v2 : Vec Ideal S1024x2048 .bf16) (ix2 d C) = (m ((c.tc : Thread nD τ).loc main_arg4) : Vec Ideal S1024x5120 .f32) (ix2 d ⟨C.val, by omega⟩) := by
  entry_read
  pointwise []

/-- The convolved columns of the projection. -/
theorem V_main_v3_at (c : Dev nD) (d : Fin 1024) (C : Fin 3072) :
    (V m c main_v3 : Vec Ideal S1024x3072 .bf16) (ix2 d C) = (m ((c.tc : Thread nD τ).loc main_arg4) : Vec Ideal S1024x5120 .f32) (ix2 d ⟨2048 + C.val, by omega⟩) := by
  entry_read
  pointwise []

/-- The time-step weights. -/
theorem V_main_v4_at (c : Dev nD) (d : Fin 1024) (C : Fin 128) :
    (V m c main_v4 : Vec Ideal S1024x128 .bf16) (ix2 d C) = (m ((c.tc : Thread nD τ).loc main_arg7) : Vec Ideal S1024x128 .f32) (ix2 d C) := by
  entry_read
  pointwise []

/-- The taps, one row per tap. -/
theorem V_main_v5_at (c : Dev nD) (k : Fin 4) (C : Fin 3072) :
    (V m c main_v5 : Vec Ideal S4x3072 .f32) (ix2 k C) = (m ((c.tc : Thread nD τ).loc main_arg5) : Vec Ideal S3072x4 .f32) (ix2 C k) := by
  entry_read
  pointwise []

/-- The convolution's bias as a row. -/
theorem V_main_v6_at (c : Dev nD) (C : Fin 3072) :
    (V m c main_v6 : Vec Ideal S1x3072 .f32) (ix2 0 C) = (m ((c.tc : Thread nD τ).loc main_arg6) : Vec Ideal S3072 .f32) (ix1 C) := by
  entry_read
  pointwise []

/-- The time-step bias as a row. -/
theorem V_main_v7_at (c : Dev nD) (C : Fin 128) :
    (V m c main_v7 : Vec Ideal S1x128 .f32) (ix2 0 C) = (m ((c.tc : Thread nD τ).loc main_arg8) : Vec Ideal S128 .f32) (ix1 C) := by
  entry_read
  pointwise []

/-- The block each window stages at a grid point. -/
theorem idx : ∀ t : Fin cfg0.N, win0_0.index t = ![t.val / 32, t.val % 32, 0]
    ∧ win0_1.index t = ![t.val / 32, t.val % 32 * 32 - 1, 0]
    ∧ win0_2.index t = ![t.val / 32, min ((t.val % 32 + 1) * 32) 1023, 0]
    ∧ win0_3.index t = ![t.val / 32, 0, 0] ∧ win0_4.index t = ![t.val / 32, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val / 32, t.val % 32, 0] ∧ win0_13.index t = ![t.val / 32, t.val % 32, 0]
    ∧ win0_14.index t = ![t.val / 32, t.val % 32, 0] ∧ win0_15.index t = ![t.val / 32, t.val % 32, 0]
    ∧ win0_16.index t = ![t.val / 32, t.val % 32, 0] ∧ t.val < 256 :=
  (by decide +kernel : ∀ t : Fin grid0.N, _)

set_option maxHeartbeats 1600000 in
/-- At every grid point the input blocks read the arguments as a tile with its halo rows must. -/
theorem reads (c : Dev nD) (t : Fin cfg0.N) (hb : t.val / 32 < 8) (hi : t.val % 32 < 32) :
    Reads (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      ⟨t.val / 32, hb⟩ ⟨t.val % 32, hi⟩ where
  hx r d := by refine Eq.trans ?_ (congrFun (V_main_arg0 m c) _); blk_ext [iblk, idx t]
  hp r d h := by
    have h' : t.val % 32 ≠ 0 := h
    refine Eq.trans ?_ (congrFun (V_main_arg0 m c) _); blk_ext [iblk, idx t]
  hn r d h := by
    have h' : t.val % 32 ≠ 31 := h
    refine Eq.trans ?_ (congrFun (V_main_arg0 m c) _); blk_ext [iblk, idx t]
  hsh d := by refine Eq.trans ?_ (congrFun (V_main_arg1 m c) _); blk_ext [iblk, idx t]
  hsc d := by refine Eq.trans ?_ (congrFun (V_main_arg2 m c) _); blk_ext [iblk, idx t]
  hnw d := by refine Eq.trans ?_ (V_main_v1_at m c d); blk_ext [iblk, idx t]
  hwz d C := by refine Eq.trans ?_ (V_main_v2_at m c d C); blk_ext [iblk, idx t]
  hwx d C := by refine Eq.trans ?_ (V_main_v3_at m c d C); blk_ext [iblk, idx t]
  hwdt d C := by refine Eq.trans ?_ (V_main_v4_at m c d C); blk_ext [iblk, idx t]
  hcw k C := by refine Eq.trans ?_ (V_main_v5_at m c k C); blk_ext [iblk, idx t]
  hcb C := by refine Eq.trans ?_ (V_main_v6_at m c C); blk_ext [iblk, idx t]
  hdtb C := by refine Eq.trans ?_ (V_main_v7_at m c C); blk_ext [iblk, idx t]

/-- The gate branch, at a grid point: the reference's term. -/
theorem z_point (c : Dev nD) (t : Fin cfg0.N) (hb : t.val / 32 < 8) (hi : t.val % 32 < 32) (z : Fin 1) (r : Fin 256) (C : Fin 2048) :
    (outsAt0 m c t.val t.isLt).1 (ix3 z r C) = zArr (inArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (ix3 ⟨t.val / 32, hb⟩ ⟨t.val % 32 * 256 + r.val, by omega⟩ C) := by
  by_cases h0 : t.val % 32 = 0
  · refine (z_A m c t h0 z r C).trans ?_
    exact z_eq (reads m c t hb hi) r C
  · by_cases h1 : t.val % 32 = 31
    · refine (z_C m c t h1 z r C).trans ?_
      exact z_eq (reads m c t hb hi) r C
    · refine (z_B m c t h0 h1 z r C).trans ?_
      exact z_eq (reads m c t hb hi) r C

/-- The gate branch after the run: the reference's term of the arguments. -/
theorem z_final (c : Dev nD) : (dats m 0 c).arrAt 12 cfg0.N = zArr (inArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := by
  refine (dats m 0 c).arrAt_eq_of_covers 12 _ (by decide +kernel) fun t _ y => ?_
  blk_simp
  rw [after0_12]
  have ht : t.val < 256 := (idx t).2.2.2.2.2.2.2.2.2.2.2.2.2.2.2.2.2
  have hy1 : (y 1).val < 256 := (y 1).isLt
  have hy2 : (y 2).val < 2048 := (y 2).isLt
  have hy : y = ix3 (n0 := 1) (n1 := 256) (n2 := 2048) ⟨(y 0).val, (y 0).isLt⟩ ⟨(y 1).val, hy1⟩ ⟨(y 2).val, hy2⟩ := by
    blk_ext []
  rw [hy]
  refine (z_point m c t (by omega) (by omega) ⟨(y 0).val, (y 0).isLt⟩ ⟨(y 1).val, hy1⟩ ⟨(y 2).val, hy2⟩).trans ?_
  refine congrArg _ ?_
  blk_ext [idx t]

/-- The convolved inputs, at a grid point: the reference's term. -/
theorem xs_point (c : Dev nD) (t : Fin cfg0.N) (hb : t.val / 32 < 8) (hi : t.val % 32 < 32) (z : Fin 1) (r : Fin 256) (C : Fin 2048) :
    (outsAt0 m c t.val t.isLt).2.1 (ix3 z r C) = xsArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) (ix3 ⟨t.val / 32, hb⟩ ⟨t.val % 32 * 256 + r.val, by omega⟩ C) := by
  by_cases h0 : t.val % 32 = 0
  · refine (xs_A m c t h0 z r C).trans ?_
    rw [Cert.SsmRefIdeal.Value.xsArr_at]
    exact s_eq (reads m c t hb hi) t.val rfl r _
  · by_cases h1 : t.val % 32 = 31
    · refine (xs_C m c t h1 z r C).trans ?_
      rw [Cert.SsmRefIdeal.Value.xsArr_at]
      exact s_eq (reads m c t hb hi) t.val rfl r _
    · refine (xs_B m c t h0 h1 z r C).trans ?_
      rw [Cert.SsmRefIdeal.Value.xsArr_at]
      exact s_eq (reads m c t hb hi) t.val rfl r _

/-- The convolved inputs after the run: the reference's term of the arguments. -/
theorem xs_final (c : Dev nD) : (dats m 0 c).arrAt 13 cfg0.N = xsArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  refine (dats m 0 c).arrAt_eq_of_covers 13 _ (by decide +kernel) fun t _ y => ?_
  blk_simp
  rw [after0_13]
  have ht : t.val < 256 := (idx t).2.2.2.2.2.2.2.2.2.2.2.2.2.2.2.2.2
  have hy1 : (y 1).val < 256 := (y 1).isLt
  have hy2 : (y 2).val < 2048 := (y 2).isLt
  have hy : y = ix3 (n0 := 1) (n1 := 256) (n2 := 2048) ⟨(y 0).val, (y 0).isLt⟩ ⟨(y 1).val, hy1⟩ ⟨(y 2).val, hy2⟩ := by
    blk_ext []
  rw [hy]
  refine (xs_point m c t (by omega) (by omega) ⟨(y 0).val, (y 0).isLt⟩ ⟨(y 1).val, hy1⟩ ⟨(y 2).val, hy2⟩).trans ?_
  refine congrArg _ ?_
  blk_ext [idx t]

/-- B, at a grid point: the reference's term. -/
theorem bm_point (c : Dev nD) (t : Fin cfg0.N) (hb : t.val / 32 < 8) (hi : t.val % 32 < 32) (z : Fin 1) (r : Fin 256) (C : Fin 512) :
    (outsAt0 m c t.val t.isLt).2.2.1 (ix3 z r C) = bArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) (ix3 ⟨t.val / 32, hb⟩ ⟨t.val % 32 * 256 + r.val, by omega⟩ C) := by
  by_cases h0 : t.val % 32 = 0
  · refine (bm_A m c t h0 z r C).trans ?_
    rw [Cert.SsmRefIdeal.Value.bArr_at]
    exact s_eq (reads m c t hb hi) t.val rfl r _
  · by_cases h1 : t.val % 32 = 31
    · refine (bm_C m c t h1 z r C).trans ?_
      rw [Cert.SsmRefIdeal.Value.bArr_at]
      exact s_eq (reads m c t hb hi) t.val rfl r _
    · refine (bm_B m c t h0 h1 z r C).trans ?_
      rw [Cert.SsmRefIdeal.Value.bArr_at]
      exact s_eq (reads m c t hb hi) t.val rfl r _

/-- B after the run: the reference's term of the arguments. -/
theorem bm_final (c : Dev nD) : (dats m 0 c).arrAt 14 cfg0.N = bArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  refine (dats m 0 c).arrAt_eq_of_covers 14 _ (by decide +kernel) fun t _ y => ?_
  blk_simp
  rw [after0_14]
  have ht : t.val < 256 := (idx t).2.2.2.2.2.2.2.2.2.2.2.2.2.2.2.2.2
  have hy1 : (y 1).val < 256 := (y 1).isLt
  have hy2 : (y 2).val < 512 := (y 2).isLt
  have hy : y = ix3 (n0 := 1) (n1 := 256) (n2 := 512) ⟨(y 0).val, (y 0).isLt⟩ ⟨(y 1).val, hy1⟩ ⟨(y 2).val, hy2⟩ := by
    blk_ext []
  rw [hy]
  refine (bm_point m c t (by omega) (by omega) ⟨(y 0).val, (y 0).isLt⟩ ⟨(y 1).val, hy1⟩ ⟨(y 2).val, hy2⟩).trans ?_
  refine congrArg _ ?_
  blk_ext [idx t]

/-- C, at a grid point: the reference's term. -/
theorem cm_point (c : Dev nD) (t : Fin cfg0.N) (hb : t.val / 32 < 8) (hi : t.val % 32 < 32) (z : Fin 1) (r : Fin 256) (C : Fin 512) :
    (outsAt0 m c t.val t.isLt).2.2.2.1 (ix3 z r C) = cArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) (ix3 ⟨t.val / 32, hb⟩ ⟨t.val % 32 * 256 + r.val, by omega⟩ C) := by
  by_cases h0 : t.val % 32 = 0
  · refine (cm_A m c t h0 z r C).trans ?_
    rw [Cert.SsmRefIdeal.Value.cArr_at]
    exact s_eq (reads m c t hb hi) t.val rfl r _
  · by_cases h1 : t.val % 32 = 31
    · refine (cm_C m c t h1 z r C).trans ?_
      rw [Cert.SsmRefIdeal.Value.cArr_at]
      exact s_eq (reads m c t hb hi) t.val rfl r _
    · refine (cm_B m c t h0 h1 z r C).trans ?_
      rw [Cert.SsmRefIdeal.Value.cArr_at]
      exact s_eq (reads m c t hb hi) t.val rfl r _

/-- C after the run: the reference's term of the arguments. -/
theorem cm_final (c : Dev nD) : (dats m 0 c).arrAt 15 cfg0.N = cArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  refine (dats m 0 c).arrAt_eq_of_covers 15 _ (by decide +kernel) fun t _ y => ?_
  blk_simp
  rw [after0_15]
  have ht : t.val < 256 := (idx t).2.2.2.2.2.2.2.2.2.2.2.2.2.2.2.2.2
  have hy1 : (y 1).val < 256 := (y 1).isLt
  have hy2 : (y 2).val < 512 := (y 2).isLt
  have hy : y = ix3 (n0 := 1) (n1 := 256) (n2 := 512) ⟨(y 0).val, (y 0).isLt⟩ ⟨(y 1).val, hy1⟩ ⟨(y 2).val, hy2⟩ := by
    blk_ext []
  rw [hy]
  refine (cm_point m c t (by omega) (by omega) ⟨(y 0).val, (y 0).isLt⟩ ⟨(y 1).val, hy1⟩ ⟨(y 2).val, hy2⟩).trans ?_
  refine congrArg _ ?_
  blk_ext [idx t]

/-- The time steps, at a grid point: the reference's term. -/
theorem dt_point (c : Dev nD) (t : Fin cfg0.N) (hb : t.val / 32 < 8) (hi : t.val % 32 < 32) (z : Fin 1) (r : Fin 256) (C : Fin 128) :
    (outsAt0 m c t.val t.isLt).2.2.2.2 (ix3 z r C) = softplusArr (rawArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)) (m ((c.tc : Thread nD τ).loc main_arg8))) (ix3 ⟨t.val / 32, hb⟩ ⟨t.val % 32 * 256 + r.val, by omega⟩ C) := by
  by_cases h0 : t.val % 32 = 0
  · refine (dt_A m c t h0 z r C).trans ?_
    exact dt_eq (reads m c t hb hi) r C
  · by_cases h1 : t.val % 32 = 31
    · refine (dt_C m c t h1 z r C).trans ?_
      exact dt_eq (reads m c t hb hi) r C
    · refine (dt_B m c t h0 h1 z r C).trans ?_
      exact dt_eq (reads m c t hb hi) r C

/-- The time steps after the run: the reference's term of the arguments. -/
theorem dt_final (c : Dev nD) : (dats m 0 c).arrAt 16 cfg0.N = softplusArr (rawArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)) (m ((c.tc : Thread nD τ).loc main_arg8))) := by
  refine (dats m 0 c).arrAt_eq_of_covers 16 _ (by decide +kernel) fun t _ y => ?_
  blk_simp
  rw [after0_16]
  have ht : t.val < 256 := (idx t).2.2.2.2.2.2.2.2.2.2.2.2.2.2.2.2.2
  have hy1 : (y 1).val < 256 := (y 1).isLt
  have hy2 : (y 2).val < 128 := (y 2).isLt
  have hy : y = ix3 (n0 := 1) (n1 := 256) (n2 := 128) ⟨(y 0).val, (y 0).isLt⟩ ⟨(y 1).val, hy1⟩ ⟨(y 2).val, hy2⟩ := by
    blk_ext []
  rw [hy]
  refine (dt_point m c t (by omega) (by omega) ⟨(y 0).val, (y 0).isLt⟩ ⟨(y 1).val, hy1⟩ ⟨(y 2).val, hy2⟩).trans ?_
  refine congrArg _ ?_
  blk_ext [idx t]

end Cert.SsmIdeal.Value
-- ==== Proof.SsmClaims.lean ====
/- The five claims about the recurrent mixer's input. -/
module

public import proofs.«01_k».proof.Defs
public import proofs.«01_k».proof.Proof.SsmEntry
public import proofs.«01_k».proof.Proof.Gen.Ssm.Frame
public import proofs.«01_k».proof.Proof.Gen.SsmIdeal.Frame
public import proofs.«01_k».proof.Proof.Gen.SsmIdeal.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.SsmClaims

/-- The kernel runs, leaves its arguments alone and ends quiet. -/
theorem frame_p : Cert.quiescent_Ssm := fun m ρ _ => Cert.Ssm.Gen.frame m ρ

/-- So does its ideal reading. -/
theorem frame_pi : Cert.quiescent_SsmIdeal := fun m ρ _ => Cert.SsmIdeal.Gen.frame m ρ

/-- So does the reference's ideal reading. -/
theorem frame_ri : Cert.quiescent_SsmRefIdeal := fun m ρ _ =>
  (θ_run Cert.SsmRefIdeal.defs _ _).mono (fun r h => ⟨fun c => (h c).2.2.2.2.2, sem_eq_zero_of_no_sems (by decide) r.2⟩)
    (Cert.SsmRefIdeal.Value.run (F := Ideal) m ρ)

/-- The ideal reading rewrites no operation. -/
theorem preserves : Cert.preserves_Ssm_SsmIdeal := trivial

/-- Kernel and reference end with equal results from equal arguments. -/
theorem algebraic : Cert.algebraic_SsmIdeal_SsmRefIdeal := by
  pair_intro
  · run_from Cert.SsmIdeal.Value.run_blocks m g
  · refine (θ_run Cert.SsmRefIdeal.defs _ _).mono (fun r h c => ?_) (Cert.SsmRefIdeal.Value.run (F := Ideal) m' g')
    obtain ⟨h0, h1, h2, h3, h4, h5, h6, h7, h8⟩ := hagree c
    refine ⟨(h c).1.trans ?_, (h c).2.1.trans ?_, (h c).2.2.1.trans ?_, (h c).2.2.2.1.trans ?_, (h c).2.2.2.2.1.trans ?_, (h c).2.2.2.2.2⟩
    · rw [Cert.SsmIdeal.Value.z_final m c, ← h0, ← h1, ← h2, ← h3, ← h4]
      unfold Cert.SsmRefIdeal.Value.zArr Cert.SsmRefIdeal.Value.inArr Cert.SsmRefIdeal.Value.hArr Cert.SsmRefIdeal.Value.modArr
        Cert.SsmRefIdeal.Value.normArr Cert.SsmRefIdeal.Value.invRms
      rfl
    · refine (Cert.SsmRefIdeal.Value.res1_eq m' c).trans ?_
      rw [Cert.SsmIdeal.Value.xs_final m c, h0, h1, h2, h3, h4, h5, h6]
    · refine (Cert.SsmRefIdeal.Value.res2_eq m' c).trans ?_
      rw [Cert.SsmIdeal.Value.bm_final m c, h0, h1, h2, h3, h4, h5, h6]
    · refine (Cert.SsmRefIdeal.Value.res3_eq m' c).trans ?_
      rw [Cert.SsmIdeal.Value.cm_final m c, h0, h1, h2, h3, h4, h5, h6]
    · refine (Cert.SsmRefIdeal.Value.res4_eq m' c).trans ?_
      rw [Cert.SsmIdeal.Value.dt_final m c, h0, h1, h2, h3, h7, h8]

end Cert.Proof.SsmClaims
-- ==== Proof.QkvRef.lean ====
/- The attention's input, reference results at an index: the normed and modulated rows, their product with the weight, each
   head's normed row and its rotation. -/
module

public import proofs.«01_k».proof.Proof.Gen.QkvRefIdeal.Run
public import Idealize.ShloMosaic.Lib.Pointwise

@[expose] public section

set_option maxRecDepth 16384

noncomputable section

open Idealize.ShloMosaic Idealize.ShloMosaic.TcCoe Idealize.SL.Sem

namespace Cert.QkvRefIdeal.Value
open Cert.QkvRefIdeal Cert.QkvRefIdeal.Gen

/-- One divided by the root of each row's mean square. -/
def invRms (x : Vec Ideal S8x8192x1024 .f32) : Vec Ideal S8x8192x1 .f32 :=
  Host.rsqrt (F := Ideal) (φ := .f32) (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))

/-- The normed rows, with the norm's weight. -/
def normArr (x : Vec Ideal S8x8192x1024 .f32) (w : Vec Ideal S1024 .f32) : Vec Ideal S8x8192x1024 .f32 :=
  mulf (F := Ideal) (φ := .f32) (mulf x (broadcastInDim S8x8192x1024 ![0, 1, 2] bcast_S8x8192x1_S8x8192x1024_0_1_2 (invRms x))) (broadcastInDim S8x8192x1024 ![0, 1, 2] bcast_S1x1x1024_S8x8192x1024_0_1_2 (broadcastInDim S1x1x1024 ![2] bcast_S1024_S1x1x1024_2 w))

/-- The normed and modulated rows. -/
def hArr (x : Vec Ideal S8x8192x1024 .f32) (sh sc : Vec Ideal S8x1x1024 .f32) (nw : Vec Ideal S1024 .f32) : Vec Ideal S8x8192x1024 .f32 :=
  addf (F := Ideal) (φ := .f32) (mulf (normArr x nw) (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)

/-- The product with the weight. -/
def uArr (h : Vec Ideal S8x8192x1024 .f32) (w : Vec Ideal S1024x1536 .f32) : Vec Ideal S8x8192x1536 .f32 :=
  Host.dotGeneral (F := Ideal) (φ₁ := .f32) (φ₂ := .f32) dot_S8x8192x1024_S1024x1536_S8x8192x1536_2_0_01_1_n_n none h w

/-- The first 256 columns: the pooled part. -/
def aArr (u : Vec Ideal S8x8192x1536 .f32) : Vec Ideal S8x8192x256 .f32 :=
  extractStridedSlice S8x8192x256 ![0, 0, 0] u slices_S8x8192x1536_S8x8192x256_0_0_0

/-- The last 256 columns: the values. -/
def vArr (u : Vec Ideal S8x8192x1536 .f32) : Vec Ideal S8x8192x256 .bf16 :=
  truncf (F := Ideal) .bf16 (extractStridedSlice S8x8192x256 ![0, 0, 1280] u slices_S8x8192x1536_S8x8192x256_0_0_1280) bitsLt_bf16_f32

/-- A head's row over the root of its mean square, with the gain. -/
def headNorm (y g : Fin 128 → EReal) (j : Fin 128) : EReal :=
  y j * Ideal.rsqrt (Ideal.div (∑ e : Fin 128, y e * y e) (Ideal.ofBits .f32 0x43000000#32) + Ideal.ofBits .f32 0x358637BD#32) * g j

/-- The rotation of a head's row `n`: coordinates `j` and `64 + j` are a pair. -/
def ropeAt (n : Fin 128 → EReal) (cos sin : Fin 64 → EReal) (j : Fin 128) : EReal :=
  if h : j.val < 64 then n j * cos ⟨j.val, h⟩ - n ⟨64 + j.val, by omega⟩ * sin ⟨j.val, h⟩
  else n ⟨j.val - 64, by omega⟩ * sin ⟨j.val - 64, by omega⟩ + n j * cos ⟨j.val - 64, by omega⟩

/-- The queries' columns as heads of 128. -/
def qHeads (u : Vec Ideal S8x8192x1536 .f32) : Vec Ideal S8x8192x6x128 .f32 :=
  shapeCast _ (extractStridedSlice S8x8192x768 ![0, 0, 256] u slices_S8x8192x1536_S8x8192x768_0_0_256) shapeCasts_S8x8192x768_S8x8192x6x128

/-- The queries' normed rows. -/
def qNorm (y : Vec Ideal S8x8192x6x128 .f32) (g : Vec Ideal S128 .f32) : Vec Ideal S8x8192x6x128 .f32 :=
  mulf (F := Ideal) (φ := .f32) (mulf y (broadcastInDim S8x8192x6x128 ![0, 1, 2, 3] bcast_S8x8192x6x1_S8x8192x6x128_0_1_2_3 (Host.rsqrt (addf (Host.divf (broadcastInDim S8x8192x6x1 ![0, 1, 2] bcast_S8x8192x6_S8x8192x6x1_0_1_2 (Host.reduceAdd (mulf y y) (constant S_ .f32 0x00000000#32) reducesTo_S8x8192x6x128_S8x8192x6_d3 h_S_)) (broadcastInDim S8x8192x6x1 ![] bcast_S_S8x8192x6x1 (constant S_ .f32 0x43000000#32))) (broadcastInDim S8x8192x6x1 ![] bcast_S_S8x8192x6x1 (constant S_ .f32 0x358637BD#32)))))) (broadcastInDim S8x8192x6x128 ![0, 1, 2, 3] bcast_S1x1x1x128_S8x8192x6x128_0_1_2_3 (broadcastInDim S1x1x1x128 ![3] bcast_S128_S1x1x1x128_3 g))

/-- The queries' first halves, rotated. -/
def qLo (n : Vec Ideal S8x8192x6x128 .f32) (co si : Vec Ideal S8192x64 .f32) : Vec Ideal S8x8192x6x64 .f32 :=
  subf (F := Ideal) (φ := .f32) (mulf (extractStridedSlice S8x8192x6x64 ![0, 0, 0, 0] n slices_S8x8192x6x128_S8x8192x6x64_0_0_0_0) (broadcastInDim S8x8192x6x64 ![0, 1, 2, 3] bcast_S1x8192x1x64_S8x8192x6x64_0_1_2_3 (broadcastInDim S1x8192x1x64 ![1, 3] bcast_S8192x64_S1x8192x1x64_1_3 co)))
    (mulf (extractStridedSlice S8x8192x6x64 ![0, 0, 0, 64] n slices_S8x8192x6x128_S8x8192x6x64_0_0_0_64) (broadcastInDim S8x8192x6x64 ![0, 1, 2, 3] bcast_S1x8192x1x64_S8x8192x6x64_0_1_2_3 (broadcastInDim S1x8192x1x64 ![1, 3] bcast_S8192x64_S1x8192x1x64_1_3 si)))

/-- The queries' second halves, rotated. -/
def qHi (n : Vec Ideal S8x8192x6x128 .f32) (co si : Vec Ideal S8192x64 .f32) : Vec Ideal S8x8192x6x64 .f32 :=
  addf (F := Ideal) (φ := .f32) (mulf (extractStridedSlice S8x8192x6x64 ![0, 0, 0, 0] n slices_S8x8192x6x128_S8x8192x6x64_0_0_0_0) (broadcastInDim S8x8192x6x64 ![0, 1, 2, 3] bcast_S1x8192x1x64_S8x8192x6x64_0_1_2_3 (broadcastInDim S1x8192x1x64 ![1, 3] bcast_S8192x64_S1x8192x1x64_1_3 si)))
    (mulf (extractStridedSlice S8x8192x6x64 ![0, 0, 0, 64] n slices_S8x8192x6x128_S8x8192x6x64_0_0_0_64) (broadcastInDim S8x8192x6x64 ![0, 1, 2, 3] bcast_S1x8192x1x64_S8x8192x6x64_0_1_2_3 (broadcastInDim S1x8192x1x64 ![1, 3] bcast_S8192x64_S1x8192x1x64_1_3 co)))

/-- The two halves side by side. -/
def qCat (lo hi : Vec Ideal S8x8192x6x64 .f32) : Vec Ideal S8x8192x6x128 .f32 :=
  concatenate S8x8192x6x128 3 [⟨S8x8192x6x64, lo⟩, ⟨S8x8192x6x64, hi⟩] concatenates_S8x8192x6x64_S8x8192x6x64_S8x8192x6x128_d3

/-- The heads side by side again. -/
def qFlat (y : Vec Ideal S8x8192x6x128 .f32) : Vec Ideal S8x8192x768 .bf16 :=
  truncf (F := Ideal) .bf16 (shapeCast (α := Elt Ideal .f32) S8x8192x768 y shapeCasts_S8x8192x6x128_S8x8192x768) bitsLt_bf16_f32

/-- The queries' result, from the product. -/
def qArr (u : Vec Ideal S8x8192x1536 .f32) (g : Vec Ideal S128 .f32) (co si : Vec Ideal S8192x64 .f32) : Vec Ideal S8x8192x768 .bf16 :=
  qFlat (qCat (qLo (qNorm (qHeads u) g) co si) (qHi (qNorm (qHeads u) g) co si))

theorem qHeads_at (u : Vec Ideal S8x8192x1536 .f32) (b : Fin 8) (r : Fin 8192) (k : Fin 6) (j : Fin 128) :
    qHeads u (ix4 b r k j) = u (ix3 b r ⟨256 + (k.val * 128 + j.val), by omega⟩) := by
  pointwise [qHeads]

theorem qNorm_at (y : Vec Ideal S8x8192x6x128 .f32) (g : Vec Ideal S128 .f32) (b : Fin 8) (r : Fin 8192) (k : Fin 6) (j : Fin 128) :
    qNorm y g (ix4 b r k j) = headNorm (fun e => y (ix4 b r k e)) (fun e => g (ix1 e)) j := by
  pointwise [qNorm, headNorm]

theorem qLo_at (n : Vec Ideal S8x8192x6x128 .f32) (co si : Vec Ideal S8192x64 .f32) (b : Fin 8) (r : Fin 8192) (k : Fin 6) (j : Fin 64) :
    qLo n co si (ix4 b r k j) = n (ix4 b r k ⟨j.val, by omega⟩) * co (ix2 r j) - n (ix4 b r k ⟨64 + j.val, by omega⟩) * si (ix2 r j) := by
  pointwise [qLo]

theorem qHi_at (n : Vec Ideal S8x8192x6x128 .f32) (co si : Vec Ideal S8192x64 .f32) (b : Fin 8) (r : Fin 8192) (k : Fin 6) (j : Fin 64) :
    qHi n co si (ix4 b r k j) = n (ix4 b r k ⟨j.val, by omega⟩) * si (ix2 r j) + n (ix4 b r k ⟨64 + j.val, by omega⟩) * co (ix2 r j) := by
  pointwise [qHi]

theorem qCat_at (lo hi : Vec Ideal S8x8192x6x64 .f32) (b : Fin 8) (r : Fin 8192) (k : Fin 6) (j : Fin 128) :
    qCat lo hi (ix4 b r k j) = if h : j.val < 64 then lo (ix4 b r k ⟨j.val, h⟩) else hi (ix4 b r k ⟨j.val - 64, by omega⟩) := by
  pointwise [qCat]

theorem qFlat_at (y : Vec Ideal S8x8192x6x128 .f32) (b : Fin 8) (r : Fin 8192) (C : Fin 768) :
    qFlat y (ix3 b r C) = y (ix4 b r ⟨C.val / 128, by omega⟩ ⟨C.val % 128, by omega⟩) := by
  pointwise [qFlat]

/-- The queries' result at an index: the rotated normed row of the column's head. -/
theorem qArr_at (u : Vec Ideal S8x8192x1536 .f32) (g : Vec Ideal S128 .f32) (co si : Vec Ideal S8192x64 .f32) (b : Fin 8) (r : Fin 8192) (C : Fin 768)
    (k : Fin 6) (j : Fin 128) (hC : C.val = k.val * 128 + j.val) :
    qArr u g co si (ix3 b r C) = ropeAt (headNorm (fun e => u (ix3 b r ⟨256 + (k.val * 128 + e.val), by omega⟩)) (fun e => g (ix1 e)))
      (fun e => co (ix2 r e)) (fun e => si (ix2 r e)) j := by
  have hk : (⟨C.val / 128, by omega⟩ : Fin 6) = k := Fin.ext (by simp only; omega)
  have hj : (⟨C.val % 128, by omega⟩ : Fin 128) = j := Fin.ext (by simp only; omega)
  unfold qArr ropeAt
  rw [qFlat_at, hk, hj, qCat_at]
  by_cases h : j.val < 64
  · rw [dif_pos h, dif_pos h, qLo_at, qNorm_at, qNorm_at]
    simp only [qHeads_at]
  · rw [dif_neg h, dif_neg h, qHi_at, qNorm_at, qNorm_at]
    have hj' : (⟨64 + (j.val - 64), by omega⟩ : Fin 128) = j := Fin.ext (by simp only; omega)
    simp only [qHeads_at, hj']

theorem res1_eq (m : (ℓ : Loc nD τ sig) → Buf (Elt Ideal) ℓ) (c : Dev nD) : res_out1 (F := Ideal) m c
    = qArr (uArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
        (m ((c.tc : Thread nD τ).loc main_arg5)) (m ((c.tc : Thread nD τ).loc main_arg7)) (m ((c.tc : Thread nD τ).loc main_arg8)) := by
  unfold res_out1 res_main_v84 qArr qFlat qCat qLo qHi qNorm qHeads uArr hArr normArr invRms
  rfl

/-- The keys' columns as heads of 128. -/
def kHeads (u : Vec Ideal S8x8192x1536 .f32) : Vec Ideal S8x8192x2x128 .f32 :=
  shapeCast _ (extractStridedSlice S8x8192x256 ![0, 0, 1024] u slices_S8x8192x1536_S8x8192x256_0_0_1024) shapeCasts_S8x8192x256_S8x8192x2x128

/-- The keys' heads' normed rows. -/
def kNorm (y : Vec Ideal S8x8192x2x128 .f32) (g : Vec Ideal S128 .f32) : Vec Ideal S8x8192x2x128 .f32 :=
  mulf (F := Ideal) (φ := .f32) (mulf y (broadcastInDim S8x8192x2x128 ![0, 1, 2, 3] bcast_S8x8192x2x1_S8x8192x2x128_0_1_2_3 (Host.rsqrt (addf (Host.divf (broadcastInDim S8x8192x2x1 ![0, 1, 2] bcast_S8x8192x2_S8x8192x2x1_0_1_2 (Host.reduceAdd (mulf y y) (constant S_ .f32 0x00000000#32) reducesTo_S8x8192x2x128_S8x8192x2_d3 h_S_)) (broadcastInDim S8x8192x2x1 ![] bcast_S_S8x8192x2x1 (constant S_ .f32 0x43000000#32))) (broadcastInDim S8x8192x2x1 ![] bcast_S_S8x8192x2x1 (constant S_ .f32 0x358637BD#32)))))) (broadcastInDim S8x8192x2x128 ![0, 1, 2, 3] bcast_S1x1x1x128_S8x8192x2x128_0_1_2_3 (broadcastInDim S1x1x1x128 ![3] bcast_S128_S1x1x1x128_3 g))

/-- The keys' heads' first halves, rotated. -/
def kLo (n : Vec Ideal S8x8192x2x128 .f32) (co si : Vec Ideal S8192x64 .f32) : Vec Ideal S8x8192x2x64 .f32 :=
  subf (F := Ideal) (φ := .f32) (mulf (extractStridedSlice S8x8192x2x64 ![0, 0, 0, 0] n slices_S8x8192x2x128_S8x8192x2x64_0_0_0_0) (broadcastInDim S8x8192x2x64 ![0, 1, 2, 3] bcast_S1x8192x1x64_S8x8192x2x64_0_1_2_3 (broadcastInDim S1x8192x1x64 ![1, 3] bcast_S8192x64_S1x8192x1x64_1_3 co)))
    (mulf (extractStridedSlice S8x8192x2x64 ![0, 0, 0, 64] n slices_S8x8192x2x128_S8x8192x2x64_0_0_0_64) (broadcastInDim S8x8192x2x64 ![0, 1, 2, 3] bcast_S1x8192x1x64_S8x8192x2x64_0_1_2_3 (broadcastInDim S1x8192x1x64 ![1, 3] bcast_S8192x64_S1x8192x1x64_1_3 si)))

/-- The keys' heads' second halves, rotated. -/
def kHi (n : Vec Ideal S8x8192x2x128 .f32) (co si : Vec Ideal S8192x64 .f32) : Vec Ideal S8x8192x2x64 .f32 :=
  addf (F := Ideal) (φ := .f32) (mulf (extractStridedSlice S8x8192x2x64 ![0, 0, 0, 0] n slices_S8x8192x2x128_S8x8192x2x64_0_0_0_0) (broadcastInDim S8x8192x2x64 ![0, 1, 2, 3] bcast_S1x8192x1x64_S8x8192x2x64_0_1_2_3 (broadcastInDim S1x8192x1x64 ![1, 3] bcast_S8192x64_S1x8192x1x64_1_3 si)))
    (mulf (extractStridedSlice S8x8192x2x64 ![0, 0, 0, 64] n slices_S8x8192x2x128_S8x8192x2x64_0_0_0_64) (broadcastInDim S8x8192x2x64 ![0, 1, 2, 3] bcast_S1x8192x1x64_S8x8192x2x64_0_1_2_3 (broadcastInDim S1x8192x1x64 ![1, 3] bcast_S8192x64_S1x8192x1x64_1_3 co)))

/-- The two halves side by side. -/
def kCat (lo hi : Vec Ideal S8x8192x2x64 .f32) : Vec Ideal S8x8192x2x128 .f32 :=
  concatenate S8x8192x2x128 3 [⟨S8x8192x2x64, lo⟩, ⟨S8x8192x2x64, hi⟩] concatenates_S8x8192x2x64_S8x8192x2x64_S8x8192x2x128_d3

/-- The heads side by side again. -/
def kFlat (y : Vec Ideal S8x8192x2x128 .f32) : Vec Ideal S8x8192x256 .bf16 :=
  truncf (F := Ideal) .bf16 (shapeCast (α := Elt Ideal .f32) S8x8192x256 y shapeCasts_S8x8192x2x128_S8x8192x256) bitsLt_bf16_f32

/-- The keys' result, from the product. -/
def kArr (u : Vec Ideal S8x8192x1536 .f32) (g : Vec Ideal S128 .f32) (co si : Vec Ideal S8192x64 .f32) : Vec Ideal S8x8192x256 .bf16 :=
  kFlat (kCat (kLo (kNorm (kHeads u) g) co si) (kHi (kNorm (kHeads u) g) co si))

theorem kHeads_at (u : Vec Ideal S8x8192x1536 .f32) (b : Fin 8) (r : Fin 8192) (k : Fin 2) (j : Fin 128) :
    kHeads u (ix4 b r k j) = u (ix3 b r ⟨1024 + (k.val * 128 + j.val), by omega⟩) := by
  pointwise [kHeads]

theorem kNorm_at (y : Vec Ideal S8x8192x2x128 .f32) (g : Vec Ideal S128 .f32) (b : Fin 8) (r : Fin 8192) (k : Fin 2) (j : Fin 128) :
    kNorm y g (ix4 b r k j) = headNorm (fun e => y (ix4 b r k e)) (fun e => g (ix1 e)) j := by
  pointwise [kNorm, headNorm]

theorem kLo_at (n : Vec Ideal S8x8192x2x128 .f32) (co si : Vec Ideal S8192x64 .f32) (b : Fin 8) (r : Fin 8192) (k : Fin 2) (j : Fin 64) :
    kLo n co si (ix4 b r k j) = n (ix4 b r k ⟨j.val, by omega⟩) * co (ix2 r j) - n (ix4 b r k ⟨64 + j.val, by omega⟩) * si (ix2 r j) := by
  pointwise [kLo]

theorem kHi_at (n : Vec Ideal S8x8192x2x128 .f32) (co si : Vec Ideal S8192x64 .f32) (b : Fin 8) (r : Fin 8192) (k : Fin 2) (j : Fin 64) :
    kHi n co si (ix4 b r k j) = n (ix4 b r k ⟨j.val, by omega⟩) * si (ix2 r j) + n (ix4 b r k ⟨64 + j.val, by omega⟩) * co (ix2 r j) := by
  pointwise [kHi]

theorem kCat_at (lo hi : Vec Ideal S8x8192x2x64 .f32) (b : Fin 8) (r : Fin 8192) (k : Fin 2) (j : Fin 128) :
    kCat lo hi (ix4 b r k j) = if h : j.val < 64 then lo (ix4 b r k ⟨j.val, h⟩) else hi (ix4 b r k ⟨j.val - 64, by omega⟩) := by
  pointwise [kCat]

theorem kFlat_at (y : Vec Ideal S8x8192x2x128 .f32) (b : Fin 8) (r : Fin 8192) (C : Fin 256) :
    kFlat y (ix3 b r C) = y (ix4 b r ⟨C.val / 128, by omega⟩ ⟨C.val % 128, by omega⟩) := by
  pointwise [kFlat]

/-- The keys' result at an index: the rotated normed row of the column's head. -/
theorem kArr_at (u : Vec Ideal S8x8192x1536 .f32) (g : Vec Ideal S128 .f32) (co si : Vec Ideal S8192x64 .f32) (b : Fin 8) (r : Fin 8192) (C : Fin 256)
    (k : Fin 2) (j : Fin 128) (hC : C.val = k.val * 128 + j.val) :
    kArr u g co si (ix3 b r C) = ropeAt (headNorm (fun e => u (ix3 b r ⟨1024 + (k.val * 128 + e.val), by omega⟩)) (fun e => g (ix1 e)))
      (fun e => co (ix2 r e)) (fun e => si (ix2 r e)) j := by
  have hk : (⟨C.val / 128, by omega⟩ : Fin 2) = k := Fin.ext (by simp only; omega)
  have hj : (⟨C.val % 128, by omega⟩ : Fin 128) = j := Fin.ext (by simp only; omega)
  unfold kArr ropeAt
  rw [kFlat_at, hk, hj, kCat_at]
  by_cases h : j.val < 64
  · rw [dif_pos h, dif_pos h, kLo_at, kNorm_at, kNorm_at]
    simp only [kHeads_at]
  · rw [dif_neg h, dif_neg h, kHi_at, kNorm_at, kNorm_at]
    have hj' : (⟨64 + (j.val - 64), by omega⟩ : Fin 128) = j := Fin.ext (by simp only; omega)
    simp only [kHeads_at, hj']

theorem res2_eq (m : (ℓ : Loc nD τ sig) → Buf (Elt Ideal) ℓ) (c : Dev nD) : res_out2 (F := Ideal) m c
    = kArr (uArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
        (m ((c.tc : Thread nD τ).loc main_arg6)) (m ((c.tc : Thread nD τ).loc main_arg7)) (m ((c.tc : Thread nD τ).loc main_arg8)) := by
  unfold res_out2 res_main_v85 kArr kFlat kCat kLo kHi kNorm kHeads uArr hArr normArr invRms
  rfl

/-- The normed and modulated rows at an index. -/
theorem invRms_at (x : Vec Ideal S8x8192x1024 .f32) (b : Fin 8) (r : Fin 8192) (z : Fin 1) :
    invRms x (ix3 b r z) = Ideal.rsqrt (Ideal.div (∑ d : Fin 1024, x (ix3 b r d) * x (ix3 b r d)) (Ideal.ofBits .f32 0x44800000#32)
      + Ideal.ofBits .f32 0x358637BD#32) := by
  pointwise [invRms]

theorem normArr_at (x : Vec Ideal S8x8192x1024 .f32) (w : Vec Ideal S1024 .f32) (b : Fin 8) (r : Fin 8192) (d : Fin 1024) :
    normArr x w (ix3 b r d) = x (ix3 b r d) * invRms x (ix3 b r 0) * w (ix1 d) := by
  pointwise [normArr]

theorem hArr_at (x : Vec Ideal S8x8192x1024 .f32) (sh sc : Vec Ideal S8x1x1024 .f32) (nw : Vec Ideal S1024 .f32) (b : Fin 8) (r : Fin 8192) (d : Fin 1024) :
    hArr x sh sc nw (ix3 b r d) = normArr x nw (ix3 b r d) * (Ideal.ofBits .f32 0x3F800000#32 + sc (ix3 b 0 d)) + sh (ix3 b 0 d) := by
  pointwise [hArr]

theorem uArr_at (h : Vec Ideal S8x8192x1024 .f32) (w : Vec Ideal S1024x1536 .f32) (b : Fin 8) (r : Fin 8192) (c : Fin 1536) :
    uArr h w (ix3 b r c) = ∑ d : Fin 1024, h (ix3 b r d) * w (ix2 d c) := by
  pointwise [uArr]

theorem aArr_at (u : Vec Ideal S8x8192x1536 .f32) (b : Fin 8) (r : Fin 8192) (c : Fin 256) :
    aArr u (ix3 b r c) = u (ix3 b r ⟨c.val, by omega⟩) := by
  pointwise [aArr]

theorem vArr_at (u : Vec Ideal S8x8192x1536 .f32) (b : Fin 8) (r : Fin 8192) (c : Fin 256) :
    vArr u (ix3 b r c) = u (ix3 b r ⟨1280 + c.val, by omega⟩) := by
  pointwise [vArr]

end Cert.QkvRefIdeal.Value
-- ==== Proof.QkvPay.lean ====
/- The attention's input kernel: its stored values at an index. -/
module

public import proofs.«01_k».proof.Proof.Gen.QkvIdeal.Skeleton
public import proofs.«01_k».proof.Proof.QkvRef
public import Idealize.ShloMosaic.Lib.Pipeline.ValueKit
public import Idealize.ShloMosaic.Lib.VecWindow
public import Idealize.ShloMosaic.Lib.Pointwise

@[expose] public section

set_option maxRecDepth 16384

noncomputable section

open Idealize.ShloMosaic Idealize.ShloMosaic.TcCoe Idealize.SL.Sem

namespace Cert.QkvIdeal.Value

open Cert.QkvIdeal Cert.QkvIdeal.Gen
open Cert.QkvRefIdeal.Value (headNorm)

/-- A tile's normed and modulated row at a column. -/
def hAt (x : Vec Ideal S1x512x1024 .f32) (nw : Vec Ideal S1x1024 .f32) (sc sh : Vec Ideal S1x1x1024 .f32) (r : Fin 512) (d : Fin 1024) : EReal :=
  x (ix3 0 r d) * Ideal.rsqrt (Ideal.div (∑ e : Fin 1024, x (ix3 0 r e) * x (ix3 0 r e)) (Ideal.ofBits .f32 0x44800000#32)
    + Ideal.ofBits .f32 0x358637BD#32) * nw (ix2 0 d) * (Ideal.ofBits .f32 0x3F800000#32 + sc (ix3 0 0 d)) + sh (ix3 0 0 d)

/-- The product of the tile's rows with the weight at an index. -/
theorem pay5_at (x : Vec Ideal S1x512x1024 .f32) (nw : Vec Ideal S1x1024 .f32) (sc sh : Vec Ideal S1x1x1024 .f32) (w : Vec Ideal S1024x1536 .bf16)
    (r : Fin 512) (c : Fin 1536) :
    k0_pay5 (F := Ideal) x nw sc sh w (ix2 r c) = ∑ d : Fin 1024, hAt x nw sc sh r d * w (ix2 d c) := by
  pointwise [k0_pay5, hAt]

theorem pay3_at (x : Vec Ideal S512x128 .f32) (r : Fin 512) (j : Fin 128) : k0_pay3 (F := Ideal) x (ix2 r j) = x (ix2 r j) := by
  pointwise [k0_pay3]
theorem pay4_at (x : Vec Ideal S512x128 .f32) (r : Fin 512) (j : Fin 128) : k0_pay4 (F := Ideal) x (ix2 r j) = x (ix2 r j) := by
  pointwise [k0_pay4]

/-- The pooled part's stored value. -/
theorem a_at (x : Vec Ideal S1x512x1024 .f32) (nw : Vec Ideal S1x1024 .f32) (sc sh : Vec Ideal S1x1x1024 .f32) (w : Vec Ideal S1024x1536 .bf16)
    (z : Fin 1) (r : Fin 512) (c : Fin 256) :
    k0_pay7 (F := Ideal) (k0_pay6 x nw sc sh w) (ix3 z r c) = k0_pay5 (F := Ideal) x nw sc sh w (ix2 r ⟨c.val, by omega⟩) := by
  pointwise [k0_pay7, k0_pay6]

/-- The values' stored value. -/
theorem v_at (u : FVec Ideal S512x1536 .f32) (z : Fin 1) (r : Fin 512) (c : Fin 256) :
    k0_pay2 (F := Ideal) u (ix3 z r c) = u (ix2 r ⟨1280 + c.val, by omega⟩) := by
  pointwise [k0_pay2]

/-- A head's normed row over the two tables: the row by the first, the row turned by half its length by the second. -/
def turn (n : Fin 128 → EReal) (co si : Fin 128 → EReal) (j : Fin 128) : EReal :=
  n j * co j + n ⟨(j.val + 128 - 64) % 128, Nat.mod_lt _ (by decide)⟩ * si j

section Heads
variable (co si : FVec Ideal S512x128 .f32) (u : FVec Ideal S512x1536 .f32) (g : Vec Ideal S1x128 .f32) (z : Fin 1) (r : Fin 512) (j : Fin 128)

theorem q0_at : k0_pay8 (F := Ideal) co si u g (ix3 z r j)
    = turn (headNorm (fun e => u (ix2 r ⟨256 + e.val, by omega⟩)) (fun e => g (ix2 0 e))) (fun e => co (ix2 r e)) (fun e => si (ix2 r e)) j := by
  pointwise [k0_pay8, turn, headNorm]

theorem q1_at : k0_pay11 (F := Ideal) si (k0_pay9 u g) (k0_pay10 co u g) (ix3 z r j)
    = turn (headNorm (fun e => u (ix2 r ⟨384 + e.val, by omega⟩)) (fun e => g (ix2 0 e))) (fun e => co (ix2 r e)) (fun e => si (ix2 r e)) j := by
  pointwise [k0_pay11, k0_pay10, k0_pay9, turn, headNorm]

theorem q2_at : k0_pay12 (F := Ideal) co si u g (ix3 z r j)
    = turn (headNorm (fun e => u (ix2 r ⟨512 + e.val, by omega⟩)) (fun e => g (ix2 0 e))) (fun e => co (ix2 r e)) (fun e => si (ix2 r e)) j := by
  pointwise [k0_pay12, turn, headNorm]

theorem q3_at : k0_pay16 (F := Ideal) co si (k0_pay13 u) (k0_pay14 g) (k0_pay15 u) (ix3 z r j)
    = turn (headNorm (fun e => u (ix2 r ⟨640 + e.val, by omega⟩)) (fun e => g (ix2 0 e))) (fun e => co (ix2 r e)) (fun e => si (ix2 r e)) j := by
  pointwise [k0_pay16, k0_pay15, k0_pay14, k0_pay13, turn, headNorm]

theorem q4_at : k0_pay17 (F := Ideal) co si u g (ix3 z r j)
    = turn (headNorm (fun e => u (ix2 r ⟨768 + e.val, by omega⟩)) (fun e => g (ix2 0 e))) (fun e => co (ix2 r e)) (fun e => si (ix2 r e)) j := by
  pointwise [k0_pay17, turn, headNorm]

theorem q5_at : k0_pay21 (F := Ideal) co si (k0_pay18 u) (k0_pay19 g) (k0_pay20 u) (ix3 z r j)
    = turn (headNorm (fun e => u (ix2 r ⟨896 + e.val, by omega⟩)) (fun e => g (ix2 0 e))) (fun e => co (ix2 r e)) (fun e => si (ix2 r e)) j := by
  pointwise [k0_pay21, k0_pay20, k0_pay19, k0_pay18, turn, headNorm]

theorem k0_at : k0_pay22 (F := Ideal) co si u g (ix3 z r j)
    = turn (headNorm (fun e => u (ix2 r ⟨1024 + e.val, by omega⟩)) (fun e => g (ix2 0 e))) (fun e => co (ix2 r e)) (fun e => si (ix2 r e)) j := by
  pointwise [k0_pay22, turn, headNorm]

theorem k1_at : k0_pay1 (F := Ideal) co si (k0_pay23 u) g (ix3 z r j)
    = turn (headNorm (fun e => u (ix2 r ⟨1152 + e.val, by omega⟩)) (fun e => g (ix2 0 e))) (fun e => co (ix2 r e)) (fun e => si (ix2 r e)) j := by
  pointwise [k0_pay1, k0_pay23, turn, headNorm]

end Heads

end Cert.QkvIdeal.Value
-- ==== Proof.QkvOut.lean ====
/- The attention's input kernel's output blocks at a grid point, at an index. -/
module

public import proofs.«01_k».proof.Proof.QkvPay
public import proofs.«01_k».proof.Proof.SsmOut
public import proofs.«01_k».proof.Proof.Gen.QkvIdeal.Value

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen
open Cert.QkvRefIdeal.Value (headNorm)
open Cert.SsmIdeal.Value (canon_col_mem canon_col_not_mem)

/-- A tile's product with the weight, from its blocks. -/
def uT (x0 : Vec Ideal S1x512x1024 .f32) (x1 x2 : Vec Ideal S1x1x1024 .f32) (x3 : Vec Ideal S1x1024 .f32) (x4 : Vec Ideal S1024x1536 .bf16) :
    FVec Ideal S512x1536 .f32 :=
  k0_pay5 (F := Ideal) x0 x3 x2 x1 x4

/-- The columns of a head, from the first column of its part. -/
theorem headCols (u : FVec Ideal S512x1536 .f32) (r : Fin 512) {o p : ℕ} (k : ℕ) (h : o = p + k * 128) (ho : o + 128 ≤ 1536) :
    (fun e : Fin 128 => u (ix2 r ⟨o + e.val, by omega⟩)) = fun e : Fin 128 => u (ix2 r ⟨p + (k * 128 + e.val), by omega⟩) :=
  funext fun e => congrArg u (congrArg (ix2 r) (Fin.ext (by simp only; omega)))

variable (x0 : Vec Ideal S1x512x1024 .f32) (x1 x2 : Vec Ideal S1x1x1024 .f32) (x3 : Vec Ideal S1x1024 .f32) (x4 : Vec Ideal S1024x1536 .bf16)
  (x5 x6 : Vec Ideal S1x128 .f32) (x7 x8 : Vec Ideal S512x128 .f32) (z : Fin 1) (r : Fin 512)

/-- The pooled part's block. -/
theorem out9_at (C : Fin 256) : out0_9 (F := Ideal) x0 x1 x2 x3 x4 x5 x6 x7 x8 (ix3 z r C) = uT x0 x1 x2 x3 x4 (ix2 r ⟨C.val, by omega⟩) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_9
  simp only [View.ld_unit_zero (S := S1x512x1024) hz3, View.ld_unit_zero (S := S1x1x1024) hz3, View.ld_unit_zero (S := S1x1024) hz2,
    View.ld_unit_zero (S := S1024x1536) hz2]
  refine (canon_col_mem inb_S1x512x256_S1x512x256_0_0_0 _ _ z r C C (by omega)).trans ?_
  exact a_at ..

/-- The values' block. -/
theorem out12_at (C : Fin 256) : out0_12 (F := Ideal) x0 x1 x2 x3 x4 x5 x6 x7 x8 (ix3 z r C) = uT x0 x1 x2 x3 x4 (ix2 r ⟨1280 + C.val, by omega⟩) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_12 k0_pay26
  simp only [View.ld_unit_zero (S := S1x512x1024) hz3, View.ld_unit_zero (S := S1x1x1024) hz3, View.ld_unit_zero (S := S1x1024) hz2,
    View.ld_unit_zero (S := S1024x1536) hz2]
  refine (canon_col_mem inb_S1x512x256_S1x512x256_0_0_0 _ _ z r C C (by omega)).trans ?_
  exact v_at ..

/-- A head's block: its normed row over the two tables. -/
def headT (u : FVec Ideal S512x1536 .f32) (g : Vec Ideal S1x128 .f32) (r : Fin 512) (p : ℕ) (k : ℕ) (j : Fin 128) (h : p + k * 128 + 128 ≤ 1536) : EReal :=
  turn (headNorm (fun e => u (ix2 r ⟨p + (k * 128 + e.val), by omega⟩)) (fun e => g (ix2 0 e))) (fun e => x7 (ix2 r e)) (fun e => x8 (ix2 r e)) j

/-- The queries' block. -/
theorem out10_at (C : Fin 768) (k : Fin 6) (j : Fin 128) (hC : C.val = k.val * 128 + j.val) :
    out0_10 (F := Ideal) x0 x1 x2 x3 x4 x5 x6 x7 x8 (ix3 z r C) = headT x7 x8 (uT x0 x1 x2 x3 x4) x5 r 256 k.val j (by omega) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_10 k0_pay26 k0_pay25 k0_pay24 headT
  simp only [View.ld_unit_zero (S := S1x512x1024) hz3, View.ld_unit_zero (S := S1x1x1024) hz3, View.ld_unit_zero (S := S1x1024) hz2,
    View.ld_unit_zero (S := S1024x1536) hz2, View.ld_unit_zero (S := S1x128) hz2, View.ld_unit_zero (S := S512x128) hz2]
  by_cases h5 : k.val = 5
  · refine (canon_col_mem inb_S1x512x768_S1x512x128_0_0_640 _ _ z r C j (by omega)).trans ?_
    refine (q5_at ..).trans ?_
    rw [headCols (k0_pay5 (F := Ideal) x0 x3 x2 x1 x4) r (p := 256) k.val (by omega) (by omega)]
    simp only [pay3_at, pay4_at]
    rfl
  refine (canon_col_not_mem inb_S1x512x768_S1x512x128_0_0_640 _ _ z r C (by omega)).trans ?_
  by_cases h4 : k.val = 4
  · refine (canon_col_mem inb_S1x512x768_S1x512x128_0_0_512 _ _ z r C j (by omega)).trans ?_
    refine (q4_at ..).trans ?_
    rw [headCols (k0_pay5 (F := Ideal) x0 x3 x2 x1 x4) r (p := 256) k.val (by omega) (by omega)]
    simp only [pay3_at, pay4_at]
    rfl
  refine (canon_col_not_mem inb_S1x512x768_S1x512x128_0_0_512 _ _ z r C (by omega)).trans ?_
  by_cases h3 : k.val = 3
  · refine (canon_col_mem inb_S1x512x768_S1x512x128_0_0_384 _ _ z r C j (by omega)).trans ?_
    refine (q3_at ..).trans ?_
    rw [headCols (k0_pay5 (F := Ideal) x0 x3 x2 x1 x4) r (p := 256) k.val (by omega) (by omega)]
    simp only [pay3_at, pay4_at]
    rfl
  refine (canon_col_not_mem inb_S1x512x768_S1x512x128_0_0_384 _ _ z r C (by omega)).trans ?_
  by_cases h2 : k.val = 2
  · refine (canon_col_mem inb_S1x512x768_S1x512x128_0_0_256 _ _ z r C j (by omega)).trans ?_
    refine (q2_at ..).trans ?_
    rw [headCols (k0_pay5 (F := Ideal) x0 x3 x2 x1 x4) r (p := 256) k.val (by omega) (by omega)]
    simp only [pay3_at, pay4_at]
    rfl
  refine (canon_col_not_mem inb_S1x512x768_S1x512x128_0_0_256 _ _ z r C (by omega)).trans ?_
  by_cases h1 : k.val = 1
  · refine (canon_col_mem inb_S1x512x768_S1x512x128_0_0_128 _ _ z r C j (by omega)).trans ?_
    refine (q1_at ..).trans ?_
    rw [headCols (k0_pay5 (F := Ideal) x0 x3 x2 x1 x4) r (p := 256) k.val (by omega) (by omega)]
    simp only [pay3_at, pay4_at]
    rfl
  refine (canon_col_not_mem inb_S1x512x768_S1x512x128_0_0_128 _ _ z r C (by omega)).trans ?_
  refine (canon_col_mem inb_S1x512x768_S1x512x128_0_0_0 _ _ z r C j (by omega)).trans ?_
  refine (q0_at ..).trans ?_
  rw [headCols (k0_pay5 (F := Ideal) x0 x3 x2 x1 x4) r (p := 256) k.val (by omega) (by omega)]
  simp only [pay3_at, pay4_at]
  rfl

/-- The keys' block. -/
theorem out11_at (C : Fin 256) (k : Fin 2) (j : Fin 128) (hC : C.val = k.val * 128 + j.val) :
    out0_11 (F := Ideal) x0 x1 x2 x3 x4 x5 x6 x7 x8 (ix3 z r C) = headT x7 x8 (uT x0 x1 x2 x3 x4) x6 r 1024 k.val j (by omega) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_11 k0_pay26 k0_pay25 k0_pay24 headT
  simp only [View.ld_unit_zero (S := S1x512x1024) hz3, View.ld_unit_zero (S := S1x1x1024) hz3, View.ld_unit_zero (S := S1x1024) hz2,
    View.ld_unit_zero (S := S1024x1536) hz2, View.ld_unit_zero (S := S1x128) hz2, View.ld_unit_zero (S := S512x128) hz2]
  by_cases h1 : k.val = 1
  · refine (canon_col_mem inb_S1x512x256_S1x512x128_0_0_128 _ _ z r C j (by omega)).trans ?_
    refine (k1_at ..).trans ?_
    rw [headCols (k0_pay5 (F := Ideal) x0 x3 x2 x1 x4) r (p := 1024) k.val (by omega) (by omega)]
    simp only [pay3_at, pay4_at]
    rfl
  refine (canon_col_not_mem inb_S1x512x256_S1x512x128_0_0_128 _ _ z r C (by omega)).trans ?_
  refine (canon_col_mem inb_S1x512x256_S1x512x128_0_0_0 _ _ z r C j (by omega)).trans ?_
  refine (k0_at ..).trans ?_
  rw [headCols (k0_pay5 (F := Ideal) x0 x3 x2 x1 x4) r (p := 1024) k.val (by omega) (by omega)]
  simp only [pay3_at, pay4_at]
  rfl

end Cert.QkvIdeal.Value
-- ==== Proof.QkvFinal.lean ====
/- The attention's input kernel's blocks at a grid point are the reference's terms of the arguments. -/
module

public import proofs.«01_k».proof.Proof.QkvOut

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen
open Cert.QkvRefIdeal.Value (hArr uArr aArr vArr qArr kArr headNorm ropeAt)

section Point

variable (X : Vec Ideal S8x8192x1024 .f32) (SH SC : Vec Ideal S8x1x1024 .f32) (NW : Vec Ideal S1024 .f32) (W : Vec Ideal S1024x1536 .f32)
  (QG KG : Vec Ideal S128 .f32) (CO SI : Vec Ideal S8192x64 .f32)
  (x : Vec Ideal S1x512x1024 .f32) (sh sc : Vec Ideal S1x1x1024 .f32) (nw : Vec Ideal S1x1024 .f32) (w : Vec Ideal S1024x1536 .bf16)
  (qg kg : Vec Ideal S1x128 .f32) (co si : Vec Ideal S512x128 .f32) (b : Fin 8) (i : Fin 16)

/-- What each input block of a grid point reads of the arguments. -/
structure Reads : Prop where
  hx : ∀ (r : Fin 512) (d : Fin 1024), x (ix3 0 r d) = X (ix3 b ⟨i.val * 512 + r.val, by omega⟩ d)
  hsh : ∀ d : Fin 1024, sh (ix3 0 0 d) = SH (ix3 b 0 d)
  hsc : ∀ d : Fin 1024, sc (ix3 0 0 d) = SC (ix3 b 0 d)
  hnw : ∀ d : Fin 1024, nw (ix2 0 d) = NW (ix1 d)
  hw : ∀ (d : Fin 1024) (C : Fin 1536), w (ix2 d C) = W (ix2 d C)
  hqg : ∀ j : Fin 128, qg (ix2 0 j) = QG (ix1 j)
  hkg : ∀ j : Fin 128, kg (ix2 0 j) = KG (ix1 j)
  hco : ∀ (r : Fin 512) (j : Fin 128), co (ix2 r j) = if h : j.val < 64 then CO (ix2 ⟨i.val * 512 + r.val, by omega⟩ ⟨j.val, h⟩)
    else CO (ix2 ⟨i.val * 512 + r.val, by omega⟩ ⟨j.val - 64, by omega⟩)
  hsi : ∀ (r : Fin 512) (j : Fin 128), si (ix2 r j) = if h : j.val < 64 then -(SI (ix2 ⟨i.val * 512 + r.val, by omega⟩ ⟨j.val, h⟩) : EReal)
    else SI (ix2 ⟨i.val * 512 + r.val, by omega⟩ ⟨j.val - 64, by omega⟩)

variable {X SH SC NW W QG KG CO SI x sh sc nw w qg kg co si b i}
variable (H : Reads X SH SC NW W QG KG CO SI x sh sc nw w qg kg co si b i)
include H

/-- A tile's normed and modulated row is the argument's. -/
theorem h_eq (r : Fin 512) (d : Fin 1024) : hAt x nw sc sh r d = hArr X SH SC NW (ix3 b ⟨i.val * 512 + r.val, by omega⟩ d) := by
  unfold hAt
  rw [Cert.QkvRefIdeal.Value.hArr_at, Cert.QkvRefIdeal.Value.normArr_at, Cert.QkvRefIdeal.Value.invRms_at]
  simp only [H.hx, H.hnw, H.hsc, H.hsh]

/-- So is its product with the weight. -/
theorem u_eq (r : Fin 512) (C : Fin 1536) :
    uT x sh sc nw w (ix2 r C) = uArr (hArr X SH SC NW) W (ix3 b ⟨i.val * 512 + r.val, by omega⟩ C) := by
  unfold uT
  rw [pay5_at, Cert.QkvRefIdeal.Value.uArr_at]
  exact Finset.sum_congr rfl fun d _ => by rw [h_eq H, H.hw]

/-- The turned row over the two tables is the rotation. -/
theorem turn_eq (n : Fin 128 → EReal) (r : Fin 512) (j : Fin 128) :
    turn n (fun e => co (ix2 r e)) (fun e => si (ix2 r e)) j
      = ropeAt n (fun e => CO (ix2 ⟨i.val * 512 + r.val, by omega⟩ e)) (fun e => SI (ix2 ⟨i.val * 512 + r.val, by omega⟩ e)) j := by
  unfold turn ropeAt
  simp only [H.hco, H.hsi]
  by_cases h : j.val < 64
  · have e : (⟨(j.val + 128 - 64) % 128, Nat.mod_lt _ (by decide)⟩ : Fin 128) = ⟨64 + j.val, by omega⟩ := Fin.ext (by simp only; omega)
    rw [dif_pos h, dif_pos h, dif_pos h, e, mul_neg, ← sub_eq_add_neg]
  · have e : (⟨(j.val + 128 - 64) % 128, Nat.mod_lt _ (by decide)⟩ : Fin 128) = ⟨j.val - 64, by omega⟩ := Fin.ext (by simp only; omega)
    rw [dif_neg h, dif_neg h, dif_neg h, e, add_comm]

/-- The pooled part's block. -/
theorem a_eq (z : Fin 1) (r : Fin 512) (C : Fin 256) :
    out0_9 (F := Ideal) x sh sc nw w qg kg co si (ix3 z r C) = aArr (uArr (hArr X SH SC NW) W) (ix3 b ⟨i.val * 512 + r.val, by omega⟩ C) := by
  rw [out9_at, u_eq H, Cert.QkvRefIdeal.Value.aArr_at]

/-- The values' block. -/
theorem v_eq (z : Fin 1) (r : Fin 512) (C : Fin 256) :
    out0_12 (F := Ideal) x sh sc nw w qg kg co si (ix3 z r C) = vArr (uArr (hArr X SH SC NW) W) (ix3 b ⟨i.val * 512 + r.val, by omega⟩ C) := by
  rw [out12_at, u_eq H, Cert.QkvRefIdeal.Value.vArr_at]

/-- The queries' block. -/
theorem q_eq (z : Fin 1) (r : Fin 512) (C : Fin 768) :
    out0_10 (F := Ideal) x sh sc nw w qg kg co si (ix3 z r C)
      = qArr (uArr (hArr X SH SC NW) W) QG CO SI (ix3 b ⟨i.val * 512 + r.val, by omega⟩ C) := by
  have hC : C.val = (⟨C.val / 128, by omega⟩ : Fin 6).val * 128 + (⟨C.val % 128, by omega⟩ : Fin 128).val := by simp only; omega
  rw [out10_at x sh sc nw w qg kg co si z r C _ _ hC, Cert.QkvRefIdeal.Value.qArr_at _ _ _ _ _ _ C _ _ hC]
  unfold headT
  rw [turn_eq H]
  simp only [u_eq H, H.hqg]

/-- The keys' block. -/
theorem k_eq (z : Fin 1) (r : Fin 512) (C : Fin 256) :
    out0_11 (F := Ideal) x sh sc nw w qg kg co si (ix3 z r C)
      = kArr (uArr (hArr X SH SC NW) W) KG CO SI (ix3 b ⟨i.val * 512 + r.val, by omega⟩ C) := by
  have hC : C.val = (⟨C.val / 128, by omega⟩ : Fin 2).val * 128 + (⟨C.val % 128, by omega⟩ : Fin 128).val := by simp only; omega
  rw [out11_at x sh sc nw w qg kg co si z r C _ _ hC, Cert.QkvRefIdeal.Value.kArr_at _ _ _ _ _ _ C _ _ hC]
  unfold headT
  rw [turn_eq H]
  simp only [u_eq H, H.hkg]

end Point

end Cert.QkvIdeal.Value
-- ==== Proof.QkvEntry.lean ====
/- The attention's input kernel's result arrays are the reference's terms of the arguments. -/
module

public import proofs.«01_k».proof.Proof.QkvFinal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen
open Cert.QkvRefIdeal.Value (hArr uArr aArr vArr qArr kArr)

variable (m : (ℓ : Loc nD τ sig) → Buf (Elt Ideal) ℓ)

/-- The cosines, once for each half of a head. -/
theorem V_main_v0_at (c : Dev nD) (r : Fin 8192) (j : Fin 128) :
    (V m c main_v0 : Vec Ideal S8192x128 .f32) (ix2 r j) = if h : j.val < 64 then (m ((c.tc : Thread nD τ).loc main_arg7) : Vec Ideal S8192x64 .f32) (ix2 r ⟨j.val, h⟩)
      else (m ((c.tc : Thread nD τ).loc main_arg7) : Vec Ideal S8192x64 .f32) (ix2 r ⟨j.val - 64, by omega⟩) := by
  entry_read
  pointwise []

/-- The sines, negated for the first half of a head. -/
theorem V_main_v2_at (c : Dev nD) (r : Fin 8192) (j : Fin 128) :
    (V m c main_v2 : Vec Ideal S8192x128 .f32) (ix2 r j) = if h : j.val < 64 then Neg.neg (α := EReal) ((m ((c.tc : Thread nD τ).loc main_arg8) : Vec Ideal S8192x64 .f32) (ix2 r ⟨j.val, h⟩))
      else (m ((c.tc : Thread nD τ).loc main_arg8) : Vec Ideal S8192x64 .f32) (ix2 r ⟨j.val - 64, by omega⟩) := by
  entry_read
  pointwise []

/-- The norm weight as a row. -/
theorem V_main_v3_at (c : Dev nD) (d : Fin 1024) :
    (V m c main_v3 : Vec Ideal S1x1024 .f32) (ix2 0 d) = (m ((c.tc : Thread nD τ).loc main_arg3) : Vec Ideal S1024 .f32) (ix1 d) := by
  entry_read
  pointwise []

/-- The projection. -/
theorem V_main_v4_at (c : Dev nD) (d : Fin 1024) (C : Fin 1536) :
    (V m c main_v4 : Vec Ideal S1024x1536 .bf16) (ix2 d C) = (m ((c.tc : Thread nD τ).loc main_arg4) : Vec Ideal S1024x1536 .f32) (ix2 d C) := by
  entry_read
  pointwise []

/-- The queries' gain as a row. -/
theorem V_main_v5_at (c : Dev nD) (j : Fin 128) :
    (V m c main_v5 : Vec Ideal S1x128 .f32) (ix2 0 j) = (m ((c.tc : Thread nD τ).loc main_arg5) : Vec Ideal S128 .f32) (ix1 j) := by
  entry_read
  pointwise []

/-- The keys' gain as a row. -/
theorem V_main_v6_at (c : Dev nD) (j : Fin 128) :
    (V m c main_v6 : Vec Ideal S1x128 .f32) (ix2 0 j) = (m ((c.tc : Thread nD τ).loc main_arg6) : Vec Ideal S128 .f32) (ix1 j) := by
  entry_read
  pointwise []

/-- The block each window stages at a grid point. -/
theorem idx : ∀ t : Fin cfg0.N, win0_0.index t = ![t.val / 16, t.val % 16, 0]
    ∧ win0_1.index t = ![t.val / 16, 0, 0] ∧ win0_2.index t = ![t.val / 16, 0, 0]
    ∧ win0_3.index t = ![0, 0] ∧ win0_4.index t = ![0, 0] ∧ win0_5.index t = ![0, 0] ∧ win0_6.index t = ![0, 0]
    ∧ win0_7.index t = ![t.val % 16, 0] ∧ win0_8.index t = ![t.val % 16, 0]
    ∧ win0_9.index t = ![t.val / 16, t.val % 16, 0] ∧ win0_10.index t = ![t.val / 16, t.val % 16, 0]
    ∧ win0_11.index t = ![t.val / 16, t.val % 16, 0] ∧ win0_12.index t = ![t.val / 16, t.val % 16, 0] ∧ t.val < 128 :=
  (by decide +kernel : ∀ t : Fin grid0.N, _)

set_option maxHeartbeats 1600000 in
/-- At every grid point the input blocks read the arguments as a tile must. -/
theorem reads (c : Dev nD) (t : Fin cfg0.N) (hb : t.val / 16 < 8) (hi : t.val % 16 < 16) :
    Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      (iblk m c 0 t) (iblk m c 1 t) (iblk m c 2 t) (iblk m c 3 t) (iblk m c 4 t) (iblk m c 5 t) (iblk m c 6 t) (iblk m c 7 t) (iblk m c 8 t)
      ⟨t.val / 16, hb⟩ ⟨t.val % 16, hi⟩ where
  hx r d := by refine Eq.trans ?_ (congrFun (V_main_arg0 m c) _); blk_ext [iblk, idx t]
  hsh d := by refine Eq.trans ?_ (congrFun (V_main_arg1 m c) _); blk_ext [iblk, idx t]
  hsc d := by refine Eq.trans ?_ (congrFun (V_main_arg2 m c) _); blk_ext [iblk, idx t]
  hnw d := by refine Eq.trans ?_ (V_main_v3_at m c d); blk_ext [iblk, idx t]
  hw d C := by refine Eq.trans ?_ (V_main_v4_at m c d C); blk_ext [iblk, idx t]
  hqg j := by refine Eq.trans ?_ (V_main_v5_at m c j); blk_ext [iblk, idx t]
  hkg j := by refine Eq.trans ?_ (V_main_v6_at m c j); blk_ext [iblk, idx t]
  hco r j := by refine Eq.trans ?_ (V_main_v0_at m c ⟨t.val % 16 * 512 + r.val, by omega⟩ j); blk_ext [iblk, idx t]
  hsi r j := by refine Eq.trans ?_ (V_main_v2_at m c ⟨t.val % 16 * 512 + r.val, by omega⟩ j); blk_ext [iblk, idx t]

/-- The pooled part after the run: the reference's term of the arguments. -/
theorem a_final (c : Dev nD) : (dats m 0 c).arrAt 9 cfg0.N = aArr (uArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := by
  refine (dats m 0 c).arrAt_eq_of_covers 9 _ (by decide +kernel) fun t _ y => ?_
  blk_simp
  rw [after0_9]
  have ht : t.val < 128 := (idx t).2.2.2.2.2.2.2.2.2.2.2.2.2
  have hy1 : (y 1).val < 512 := (y 1).isLt
  have hy2 : (y 2).val < 256 := (y 2).isLt
  have hy : y = ix3 (n0 := 1) (n1 := 512) (n2 := 256) ⟨(y 0).val, (y 0).isLt⟩ ⟨(y 1).val, hy1⟩ ⟨(y 2).val, hy2⟩ := by
    blk_ext []
  rw [hy]
  refine (a_eq (reads m c t (by omega) (by omega)) ⟨(y 0).val, (y 0).isLt⟩ ⟨(y 1).val, hy1⟩ ⟨(y 2).val, hy2⟩).trans ?_
  refine congrArg _ ?_
  blk_ext [idx t]

/-- The queries after the run: the reference's term of the arguments. -/
theorem q_final (c : Dev nD) : (dats m 0 c).arrAt 10 cfg0.N = qArr (uArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)) (m ((c.tc : Thread nD τ).loc main_arg7)) (m ((c.tc : Thread nD τ).loc main_arg8)) := by
  refine (dats m 0 c).arrAt_eq_of_covers 10 _ (by decide +kernel) fun t _ y => ?_
  blk_simp
  rw [after0_10]
  have ht : t.val < 128 := (idx t).2.2.2.2.2.2.2.2.2.2.2.2.2
  have hy1 : (y 1).val < 512 := (y 1).isLt
  have hy2 : (y 2).val < 768 := (y 2).isLt
  have hy : y = ix3 (n0 := 1) (n1 := 512) (n2 := 768) ⟨(y 0).val, (y 0).isLt⟩ ⟨(y 1).val, hy1⟩ ⟨(y 2).val, hy2⟩ := by
    blk_ext []
  rw [hy]
  refine (q_eq (reads m c t (by omega) (by omega)) ⟨(y 0).val, (y 0).isLt⟩ ⟨(y 1).val, hy1⟩ ⟨(y 2).val, hy2⟩).trans ?_
  refine congrArg _ ?_
  blk_ext [idx t]

/-- The keys after the run: the reference's term of the arguments. -/
theorem k_final (c : Dev nD) : (dats m 0 c).arrAt 11 cfg0.N = kArr (uArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg6)) (m ((c.tc : Thread nD τ).loc main_arg7)) (m ((c.tc : Thread nD τ).loc main_arg8)) := by
  refine (dats m 0 c).arrAt_eq_of_covers 11 _ (by decide +kernel) fun t _ y => ?_
  blk_simp
  rw [after0_11]
  have ht : t.val < 128 := (idx t).2.2.2.2.2.2.2.2.2.2.2.2.2
  have hy1 : (y 1).val < 512 := (y 1).isLt
  have hy2 : (y 2).val < 256 := (y 2).isLt
  have hy : y = ix3 (n0 := 1) (n1 := 512) (n2 := 256) ⟨(y 0).val, (y 0).isLt⟩ ⟨(y 1).val, hy1⟩ ⟨(y 2).val, hy2⟩ := by
    blk_ext []
  rw [hy]
  refine (k_eq (reads m c t (by omega) (by omega)) ⟨(y 0).val, (y 0).isLt⟩ ⟨(y 1).val, hy1⟩ ⟨(y 2).val, hy2⟩).trans ?_
  refine congrArg _ ?_
  blk_ext [idx t]

/-- The values after the run: the reference's term of the arguments. -/
theorem v_final (c : Dev nD) : (dats m 0 c).arrAt 12 cfg0.N = vArr (uArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := by
  refine (dats m 0 c).arrAt_eq_of_covers 12 _ (by decide +kernel) fun t _ y => ?_
  blk_simp
  rw [after0_12]
  have ht : t.val < 128 := (idx t).2.2.2.2.2.2.2.2.2.2.2.2.2
  have hy1 : (y 1).val < 512 := (y 1).isLt
  have hy2 : (y 2).val < 256 := (y 2).isLt
  have hy : y = ix3 (n0 := 1) (n1 := 512) (n2 := 256) ⟨(y 0).val, (y 0).isLt⟩ ⟨(y 1).val, hy1⟩ ⟨(y 2).val, hy2⟩ := by
    blk_ext []
  rw [hy]
  refine (v_eq (reads m c t (by omega) (by omega)) ⟨(y 0).val, (y 0).isLt⟩ ⟨(y 1).val, hy1⟩ ⟨(y 2).val, hy2⟩).trans ?_
  refine congrArg _ ?_
  blk_ext [idx t]

end Cert.QkvIdeal.Value
-- ==== Proof.QkvClaims.lean ====
/- The five claims about the attention's input. -/
module

public import proofs.«01_k».proof.Defs
public import proofs.«01_k».proof.Proof.QkvEntry
public import proofs.«01_k».proof.Proof.Gen.Qkv.Frame
public import proofs.«01_k».proof.Proof.Gen.QkvIdeal.Frame
public import proofs.«01_k».proof.Proof.Gen.QkvIdeal.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.QkvClaims

/-- The kernel runs, leaves its arguments alone and ends quiet. -/
theorem frame_p : Cert.quiescent_Qkv := fun m ρ _ => Cert.Qkv.Gen.frame m ρ

/-- So does its ideal reading. -/
theorem frame_pi : Cert.quiescent_QkvIdeal := fun m ρ _ => Cert.QkvIdeal.Gen.frame m ρ

/-- So does the reference's ideal reading. -/
theorem frame_ri : Cert.quiescent_QkvRefIdeal := fun m ρ _ =>
  (θ_run Cert.QkvRefIdeal.defs _ _).mono (fun r h => ⟨fun c => (h c).2.2.2.2, sem_eq_zero_of_no_sems (by decide) r.2⟩)
    (Cert.QkvRefIdeal.Value.run (F := Ideal) m ρ)

/-- The ideal reading rewrites no operation. -/
theorem preserves : Cert.preserves_Qkv_QkvIdeal := trivial

/-- Kernel and reference end with equal results from equal arguments. -/
theorem algebraic : Cert.algebraic_QkvIdeal_QkvRefIdeal := by
  pair_intro
  · run_from Cert.QkvIdeal.Value.run_blocks m g
  · refine (θ_run Cert.QkvRefIdeal.defs _ _).mono (fun r h c => ?_) (Cert.QkvRefIdeal.Value.run (F := Ideal) m' g')
    obtain ⟨h0, h1, h2, h3, h4, h5, h6, h7, h8⟩ := hagree c
    refine ⟨(h c).1.trans ?_, (h c).2.1.trans ?_, (h c).2.2.1.trans ?_, (h c).2.2.2.1.trans ?_, (h c).2.2.2.2⟩
    · rw [Cert.QkvIdeal.Value.a_final m c, ← h0, ← h1, ← h2, ← h3, ← h4]
      unfold Cert.QkvRefIdeal.Value.aArr Cert.QkvRefIdeal.Value.uArr Cert.QkvRefIdeal.Value.hArr
        Cert.QkvRefIdeal.Value.normArr Cert.QkvRefIdeal.Value.invRms
      rfl
    · refine (Cert.QkvRefIdeal.Value.res1_eq m' c).trans ?_
      rw [Cert.QkvIdeal.Value.q_final m c, h0, h1, h2, h3, h4, h5, h7, h8]
    · refine (Cert.QkvRefIdeal.Value.res2_eq m' c).trans ?_
      rw [Cert.QkvIdeal.Value.k_final m c, h0, h1, h2, h3, h4, h6, h7, h8]
    · rw [Cert.QkvIdeal.Value.v_final m c, ← h0, ← h1, ← h2, ← h3, ← h4]
      unfold Cert.QkvRefIdeal.Value.vArr Cert.QkvRefIdeal.Value.uArr Cert.QkvRefIdeal.Value.hArr
        Cert.QkvRefIdeal.Value.normArr Cert.QkvRefIdeal.Value.invRms
      rfl

end Cert.Proof.QkvClaims
-- ==== Proof.MixRef.lean ====
/- The attention mixer's output, reference result at an index: the window means less the tokens, the per-group map, the
   output projection, its norm, the gate and the residual. -/
module

public import proofs.«01_k».proof.Proof.Gen.MixRefIdeal.Run
public import Idealize.ShloMosaic.Lib.Pointwise

@[expose] public section

set_option maxRecDepth 16384

noncomputable section

open Idealize.ShloMosaic Idealize.ShloMosaic.TcCoe Idealize.SL.Sem

namespace Cert.MixRefIdeal.Value
open Cert.MixRefIdeal Cert.MixRefIdeal.Gen

/-- How many positions of the sequence a position's window holds, at every channel of a group: `rt` after it and `lf` before it. -/
def cntArr (rt lf : BitVec 32) : Vec Ideal S8x8192x64 .f32 :=
  broadcastInDim S8x8192x64 ![0, 1, 2] bcast_S1x8192x1_S8x8192x64_0_1_2 (broadcastInDim S1x8192x1 ![1] bcast_S8192_S1x8192x1_1 (sitofp (F := Ideal) .f32 (addi (subi (minsi (addi (iotaInDim S8192 32 0) (broadcastInDim S8192 ![] bcast_S_S8192 (constantI S_ 32 rt))) (broadcastInDim S8192 ![] bcast_S_S8192 (constantI S_ 32 8191#32))) (maxsi (subi (iotaInDim S8192 32 0) (broadcastInDim S8192 ![] bcast_S_S8192 (constantI S_ 32 lf))) (broadcastInDim S8192 ![] bcast_S_S8192 (constantI S_ 32 0#32)))) (broadcastInDim S8192 ![] bcast_S_S8192 (constantI S_ 32 1#32)))))

/-- Group 0's channels. -/
def ug0 (a : Vec Ideal S8x8192x256 .f32) : Vec Ideal S8x8192x64 .f32 :=
  extractStridedSlice S8x8192x64 ![0, 0, 0] a slices_S8x8192x256_S8x8192x64_0_0_0

/-- The same with the window's zero rows before and after the sequence. -/
def pad0 (u : Vec Ideal S8x8192x64 .f32) : Vec Ideal S8x8193x64 .f32 :=
  pad S8x8193x64 ![0, 1, 0] ![0, 0, 0] ![0, 0, 0] u (sitofp (F := Ideal) .f32 (constantI S_ 32 0#32)) pads_S8x8192x64_S8x8193x64_000_100_000 h_S_

/-- The sum of its 2 shifts. -/
def sum0 (u : Vec Ideal S8x8193x64 .f32) : Vec Ideal S8x8192x64 .f32 :=
  addf (F := Ideal) (φ := .f32) (extractStridedSlice S8x8192x64 ![0, 0, 0] u slices_S8x8193x64_S8x8192x64_0_0_0) (extractStridedSlice S8x8192x64 ![0, 1, 0] u slices_S8x8193x64_S8x8192x64_0_1_0)

/-- Group 0's window means less its tokens. -/
def part0 (a : Vec Ideal S8x8192x256 .f32) : Vec Ideal S8x8192x64 .f32 :=
  subf (F := Ideal) (φ := .f32) (Host.divf (sum0 (pad0 (ug0 a))) (cntArr 0#32 1#32)) (ug0 a)

/-- Group 1's channels. -/
def ug1 (a : Vec Ideal S8x8192x256 .f32) : Vec Ideal S8x8192x64 .f32 :=
  extractStridedSlice S8x8192x64 ![0, 0, 64] a slices_S8x8192x256_S8x8192x64_0_0_64

/-- The same with the window's zero rows before and after the sequence. -/
def pad1 (u : Vec Ideal S8x8192x64 .f32) : Vec Ideal S8x8195x64 .f32 :=
  pad S8x8195x64 ![0, 2, 0] ![0, 1, 0] ![0, 0, 0] u (sitofp (F := Ideal) .f32 (constantI S_ 32 0#32)) pads_S8x8192x64_S8x8195x64_000_210_000 h_S_

/-- The sum of its 4 shifts. -/
def sum1 (u : Vec Ideal S8x8195x64 .f32) : Vec Ideal S8x8192x64 .f32 :=
  addf (F := Ideal) (φ := .f32) (addf (addf (extractStridedSlice S8x8192x64 ![0, 0, 0] u slices_S8x8195x64_S8x8192x64_0_0_0) (extractStridedSlice S8x8192x64 ![0, 1, 0] u slices_S8x8195x64_S8x8192x64_0_1_0)) (extractStridedSlice S8x8192x64 ![0, 2, 0] u slices_S8x8195x64_S8x8192x64_0_2_0)) (extractStridedSlice S8x8192x64 ![0, 3, 0] u slices_S8x8195x64_S8x8192x64_0_3_0)

/-- Group 1's window means less its tokens. -/
def part1 (a : Vec Ideal S8x8192x256 .f32) : Vec Ideal S8x8192x64 .f32 :=
  subf (F := Ideal) (φ := .f32) (Host.divf (sum1 (pad1 (ug1 a))) (cntArr 1#32 2#32)) (ug1 a)

/-- Group 2's channels. -/
def ug2 (a : Vec Ideal S8x8192x256 .f32) : Vec Ideal S8x8192x64 .f32 :=
  extractStridedSlice S8x8192x64 ![0, 0, 128] a slices_S8x8192x256_S8x8192x64_0_0_128

/-- The same with the window's zero rows before and after the sequence. -/
def pad2 (u : Vec Ideal S8x8192x64 .f32) : Vec Ideal S8x8199x64 .f32 :=
  pad S8x8199x64 ![0, 4, 0] ![0, 3, 0] ![0, 0, 0] u (sitofp (F := Ideal) .f32 (constantI S_ 32 0#32)) pads_S8x8192x64_S8x8199x64_000_430_000 h_S_

/-- The sum of its 8 shifts. -/
def sum2 (u : Vec Ideal S8x8199x64 .f32) : Vec Ideal S8x8192x64 .f32 :=
  addf (F := Ideal) (φ := .f32) (addf (addf (addf (addf (addf (addf (extractStridedSlice S8x8192x64 ![0, 0, 0] u slices_S8x8199x64_S8x8192x64_0_0_0) (extractStridedSlice S8x8192x64 ![0, 1, 0] u slices_S8x8199x64_S8x8192x64_0_1_0)) (extractStridedSlice S8x8192x64 ![0, 2, 0] u slices_S8x8199x64_S8x8192x64_0_2_0)) (extractStridedSlice S8x8192x64 ![0, 3, 0] u slices_S8x8199x64_S8x8192x64_0_3_0)) (extractStridedSlice S8x8192x64 ![0, 4, 0] u slices_S8x8199x64_S8x8192x64_0_4_0)) (extractStridedSlice S8x8192x64 ![0, 5, 0] u slices_S8x8199x64_S8x8192x64_0_5_0)) (extractStridedSlice S8x8192x64 ![0, 6, 0] u slices_S8x8199x64_S8x8192x64_0_6_0)) (extractStridedSlice S8x8192x64 ![0, 7, 0] u slices_S8x8199x64_S8x8192x64_0_7_0)

/-- Group 2's window means less its tokens. -/
def part2 (a : Vec Ideal S8x8192x256 .f32) : Vec Ideal S8x8192x64 .f32 :=
  subf (F := Ideal) (φ := .f32) (Host.divf (sum2 (pad2 (ug2 a))) (cntArr 3#32 4#32)) (ug2 a)

/-- Group 3's channels. -/
def ug3 (a : Vec Ideal S8x8192x256 .f32) : Vec Ideal S8x8192x64 .f32 :=
  extractStridedSlice S8x8192x64 ![0, 0, 192] a slices_S8x8192x256_S8x8192x64_0_0_192

/-- The same with the window's zero rows before and after the sequence. -/
def pad3 (u : Vec Ideal S8x8192x64 .f32) : Vec Ideal S8x8207x64 .f32 :=
  pad S8x8207x64 ![0, 8, 0] ![0, 7, 0] ![0, 0, 0] u (sitofp (F := Ideal) .f32 (constantI S_ 32 0#32)) pads_S8x8192x64_S8x8207x64_000_870_000 h_S_

/-- The sum of its 16 shifts. -/
def sum3 (u : Vec Ideal S8x8207x64 .f32) : Vec Ideal S8x8192x64 .f32 :=
  addf (F := Ideal) (φ := .f32) (addf (addf (addf (addf (addf (addf (addf (addf (addf (addf (addf (addf (addf (addf (extractStridedSlice S8x8192x64 ![0, 0, 0] u slices_S8x8207x64_S8x8192x64_0_0_0) (extractStridedSlice S8x8192x64 ![0, 1, 0] u slices_S8x8207x64_S8x8192x64_0_1_0)) (extractStridedSlice S8x8192x64 ![0, 2, 0] u slices_S8x8207x64_S8x8192x64_0_2_0)) (extractStridedSlice S8x8192x64 ![0, 3, 0] u slices_S8x8207x64_S8x8192x64_0_3_0)) (extractStridedSlice S8x8192x64 ![0, 4, 0] u slices_S8x8207x64_S8x8192x64_0_4_0)) (extractStridedSlice S8x8192x64 ![0, 5, 0] u slices_S8x8207x64_S8x8192x64_0_5_0)) (extractStridedSlice S8x8192x64 ![0, 6, 0] u slices_S8x8207x64_S8x8192x64_0_6_0)) (extractStridedSlice S8x8192x64 ![0, 7, 0] u slices_S8x8207x64_S8x8192x64_0_7_0)) (extractStridedSlice S8x8192x64 ![0, 8, 0] u slices_S8x8207x64_S8x8192x64_0_8_0)) (extractStridedSlice S8x8192x64 ![0, 9, 0] u slices_S8x8207x64_S8x8192x64_0_9_0)) (extractStridedSlice S8x8192x64 ![0, 10, 0] u slices_S8x8207x64_S8x8192x64_0_10_0)) (extractStridedSlice S8x8192x64 ![0, 11, 0] u slices_S8x8207x64_S8x8192x64_0_11_0)) (extractStridedSlice S8x8192x64 ![0, 12, 0] u slices_S8x8207x64_S8x8192x64_0_12_0)) (extractStridedSlice S8x8192x64 ![0, 13, 0] u slices_S8x8207x64_S8x8192x64_0_13_0)) (extractStridedSlice S8x8192x64 ![0, 14, 0] u slices_S8x8207x64_S8x8192x64_0_14_0)) (extractStridedSlice S8x8192x64 ![0, 15, 0] u slices_S8x8207x64_S8x8192x64_0_15_0)

/-- Group 3's window means less its tokens. -/
def part3 (a : Vec Ideal S8x8192x256 .f32) : Vec Ideal S8x8192x64 .f32 :=
  subf (F := Ideal) (φ := .f32) (Host.divf (sum3 (pad3 (ug3 a))) (cntArr 7#32 8#32)) (ug3 a)

/-- The four groups side by side. -/
def pArr (p0 p1 p2 p3 : Vec Ideal S8x8192x64 .f32) : Vec Ideal S8x8192x4x64 .f32 :=
  concatenate S8x8192x4x64 2 [⟨S8x8192x1x64, broadcastInDim S8x8192x1x64 ![0, 1, 3] bcast_S8x8192x64_S8x8192x1x64_0_1_3 p0⟩, ⟨S8x8192x1x64, broadcastInDim S8x8192x1x64 ![0, 1, 3] bcast_S8x8192x64_S8x8192x1x64_0_1_3 p1⟩, ⟨S8x8192x1x64, broadcastInDim S8x8192x1x64 ![0, 1, 3] bcast_S8x8192x64_S8x8192x1x64_0_1_3 p2⟩, ⟨S8x8192x1x64, broadcastInDim S8x8192x1x64 ![0, 1, 3] bcast_S8x8192x64_S8x8192x1x64_0_1_3 p3⟩] concatenates_S8x8192x1x64_S8x8192x1x64_S8x8192x1x64_S8x8192x1x64_S8x8192x4x64_d2

/-- The per-group linear map, its groups' channels in a row, scaled per channel. -/
def poolArr (p : Vec Ideal S8x8192x4x64 .f32) (pw : Vec Ideal S4x64x64 .f32) (ps : Vec Ideal S256 .f32) : Vec Ideal S8x8192x256 .f32 :=
  mulf (F := Ideal) (φ := .f32) (shapeCast _ (transpose S8x8192x4x64 [2, 3, 0, 1] (Host.dotGeneral (F := Ideal) (φ₁ := .f32) (φ₂ := .f32) dot_S4x64x64_S8x8192x4x64_S4x64x8x8192_1_3_2_01_0_2 none pw p) transposes_S4x64x8x8192_S8x8192x4x64_2_3_0_1) shapeCasts_S8x8192x4x64_S8x8192x256) (broadcastInDim S8x8192x256 ![0, 1, 2] bcast_S1x1x256_S8x8192x256_0_1_2 (broadcastInDim S1x1x256 ![2] bcast_S256_S1x1x256_2 ps))

/-- Beside the attention's result, through the output weight. -/
def yArr (pool : Vec Ideal S8x8192x256 .f32) (o : Vec Ideal S8x8192x768 .bf16) (w : Vec Ideal S1024x1024 .f32) : Vec Ideal S8x8192x1024 .f32 :=
  Host.dotGeneral (F := Ideal) (φ₁ := .f32) (φ₂ := .f32) dot_S8x8192x1024_S1024x1024_S8x8192x1024_2_0_01_1_n_n none (concatenate S8x8192x1024 2 [⟨S8x8192x256, pool⟩, ⟨S8x8192x768, (extf (F := Ideal) .f32 o bitsLt_bf16_f32)⟩] concatenates_S8x8192x256_S8x8192x768_S8x8192x1024_d2) w

/-- The residual with the gated normed rows. -/
def outArr (x y : Vec Ideal S8x8192x1024 .f32) (g : Vec Ideal S8x1x1024 .f32) (nw : Vec Ideal S1024 .f32) : Vec Ideal S8x8192x1024 .f32 :=
  addf (F := Ideal) (φ := .f32) x (mulf (broadcastInDim S8x8192x1024 ![0, 1, 2] bcast_S8x1x1024_S8x8192x1024_0_1_2 g) (mulf (mulf y (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf y y) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 nw))))

/-- The pooled columns, from the arguments. -/
def pooled (a : Vec Ideal S8x8192x256 .f32) (pw : Vec Ideal S4x64x64 .f32) (ps : Vec Ideal S256 .f32) : Vec Ideal S8x8192x256 .f32 :=
  poolArr (pArr (part0 a) (part1 a) (part2 a) (part3 a)) pw ps

/-- The groups' term is the printed one. -/
theorem v136_eq (m : (ℓ : Loc nD τ sig) → Buf (Elt Ideal) ℓ) (c : Dev nD) : res_main_v136 (F := Ideal) (StableHlo.launchContents m c)
    = pArr (part0 (m ((c.tc : Thread nD τ).loc main_arg3))) (part1 (m ((c.tc : Thread nD τ).loc main_arg3))) (part2 (m ((c.tc : Thread nD τ).loc main_arg3))) (part3 (m ((c.tc : Thread nD τ).loc main_arg3))) := by
  unfold res_main_v136 pArr part0 part1 part2 part3 sum0 sum1 sum2 sum3 res_main_v1 res_main_v23 res_main_v49 res_main_v83
    res_main_v0 res_main_v22 res_main_v48 res_main_v82 res_main_v5 res_main_v31 res_main_v65 res_main_v115 pad0 pad1 pad2 pad3 ug0 ug1 ug2 ug3 cntArr
  rfl

/-- So is the projection's. -/
theorem v145_eq (m : (ℓ : Loc nD τ sig) → Buf (Elt Ideal) ℓ) (c : Dev nD) : res_main_v145 (F := Ideal) (StableHlo.launchContents m c)
    = yArr (pooled (m ((c.tc : Thread nD τ).loc main_arg3)) (m ((c.tc : Thread nD τ).loc main_arg5)) (m ((c.tc : Thread nD τ).loc main_arg6)))
        (m ((c.tc : Thread nD τ).loc main_arg4)) (m ((c.tc : Thread nD τ).loc main_arg7)) := by
  unfold res_main_v145 yArr pooled poolArr
  rw [v136_eq]

/-- The number of positions a window holds, as the integers count it. -/
def cntBV (p rt lf : BitVec 32) : BitVec 32 := IntOp.addi (IntOp.subi (IntOp.minsi (IntOp.addi p rt) 8191#32) (IntOp.maxsi (IntOp.subi p lf) 0#32)) 1#32

theorem cntArr_at (rt lf : BitVec 32) (b : Fin 8) (R : Fin 8192) (j : Fin 64) :
    cntArr rt lf (ix3 b R j) = FloatOps.sitofp (F := Ideal) .f32 (cntBV (BitVec.ofNat 32 R.val) rt lf) := by
  pointwise [cntArr, cntBV]

/-- The sequence with eight zero rows before it and zero rows after it. -/
def seqAt (a : Vec Ideal S8x8192x256 .f32) (b : Fin 8) (k : ℕ) (C : Fin 256) : EReal :=
  if h : 8 ≤ k ∧ k - 8 < 8192 then a (ix3 b ⟨k - 8, h.2⟩ C) else 0

theorem zero_of : (FloatOps.sitofp FTy.f32 0#32 : Ideal .f32) = (0 : EReal) := by
  show (((0#32 : BitVec 32).toInt : ℝ) : EReal) = 0
  simp

theorem ug0_at (a : Vec Ideal S8x8192x256 .f32) (b : Fin 8) (R : Fin 8192) (j : Fin 64) :
    ug0 a (ix3 b R j) = a (ix3 b R ⟨j.val, by omega⟩) := by
  pointwise [ug0]

theorem pad0_at (u : Vec Ideal S8x8192x64 .f32) (b : Fin 8) (r : Fin 8193) (j : Fin 64) :
    pad0 u (ix3 b r j) = if h : 1 ≤ r.val ∧ r.val - 1 < 8192 then u (ix3 b ⟨r.val - 1, by omega⟩ j) else 0 := by
  rw [← zero_of]
  pointwise [pad0]

theorem pseq0 (a : Vec Ideal S8x8192x256 .f32) (b : Fin 8) (r : Fin 8193) (j : Fin 64) (C : Fin 256) (hC : C.val = 0 + j.val) (k : ℕ) (hk : k = r.val + 7) :
    pad0 (ug0 a) (ix3 b r j) = seqAt a b k C := by
  subst hk
  rw [pad0_at]
  unfold seqAt
  by_cases h : 1 ≤ r.val ∧ r.val - 1 < 8192
  · rw [dif_pos h, dif_pos (by omega), ug0_at]
    exact congrArg a (congrArg₂ (fun z w => ix3 b z w) (Fin.ext (by simp only; omega)) (Fin.ext (by simp only; omega)))
  · rw [dif_neg h, dif_neg (by omega)]

theorem sum0_at (u : Vec Ideal S8x8193x64 .f32) (b : Fin 8) (R : Fin 8192) (j : Fin 64) :
    sum0 u (ix3 b R j) = u (ix3 b ⟨R.val, by omega⟩ j) + u (ix3 b ⟨1 + R.val, by omega⟩ j) := by
  pointwise [sum0]

/-- Group 0's window mean less the token, at an index. -/
theorem part0_at (a : Vec Ideal S8x8192x256 .f32) (b : Fin 8) (R : Fin 8192) (j : Fin 64) (C : Fin 256) (hC : C.val = 0 + j.val) :
    part0 a (ix3 b R j) = Ideal.div (seqAt a b (7 + R.val) C + seqAt a b (8 + R.val) C)
      (FloatOps.sitofp (F := Ideal) .f32 (cntBV (BitVec.ofNat 32 R.val) 0#32 1#32)) - a (ix3 b R C) := by
  have e : part0 a (ix3 b R j) = Ideal.div (sum0 (pad0 (ug0 a)) (ix3 b R j)) (cntArr 0#32 1#32 (ix3 b R j)) - ug0 a (ix3 b R j) := by
    pointwise [part0]
  have e' : (⟨j.val, by omega⟩ : Fin 256) = C := Fin.ext (by simp only; omega)
  rw [e, cntArr_at, ug0_at, sum0_at, e']
  rw [pseq0 a b ⟨R.val, by omega⟩ j C hC (7 + R.val) (by simp only; omega), pseq0 a b ⟨1 + R.val, by omega⟩ j C hC (8 + R.val) (by simp only; omega)]

theorem ug1_at (a : Vec Ideal S8x8192x256 .f32) (b : Fin 8) (R : Fin 8192) (j : Fin 64) :
    ug1 a (ix3 b R j) = a (ix3 b R ⟨64 + j.val, by omega⟩) := by
  pointwise [ug1]

theorem pad1_at (u : Vec Ideal S8x8192x64 .f32) (b : Fin 8) (r : Fin 8195) (j : Fin 64) :
    pad1 u (ix3 b r j) = if h : 2 ≤ r.val ∧ r.val - 2 < 8192 then u (ix3 b ⟨r.val - 2, by omega⟩ j) else 0 := by
  rw [← zero_of]
  pointwise [pad1]

theorem pseq1 (a : Vec Ideal S8x8192x256 .f32) (b : Fin 8) (r : Fin 8195) (j : Fin 64) (C : Fin 256) (hC : C.val = 64 + j.val) (k : ℕ) (hk : k = r.val + 6) :
    pad1 (ug1 a) (ix3 b r j) = seqAt a b k C := by
  subst hk
  rw [pad1_at]
  unfold seqAt
  by_cases h : 2 ≤ r.val ∧ r.val - 2 < 8192
  · rw [dif_pos h, dif_pos (by omega), ug1_at]
    exact congrArg a (congrArg₂ (fun z w => ix3 b z w) (Fin.ext (by simp only; omega)) (Fin.ext (by simp only; omega)))
  · rw [dif_neg h, dif_neg (by omega)]

theorem sum1_at (u : Vec Ideal S8x8195x64 .f32) (b : Fin 8) (R : Fin 8192) (j : Fin 64) :
    sum1 u (ix3 b R j) = u (ix3 b ⟨R.val, by omega⟩ j) + u (ix3 b ⟨1 + R.val, by omega⟩ j) + u (ix3 b ⟨2 + R.val, by omega⟩ j) + u (ix3 b ⟨3 + R.val, by omega⟩ j) := by
  pointwise [sum1]

/-- Group 1's window mean less the token, at an index. -/
theorem part1_at (a : Vec Ideal S8x8192x256 .f32) (b : Fin 8) (R : Fin 8192) (j : Fin 64) (C : Fin 256) (hC : C.val = 64 + j.val) :
    part1 a (ix3 b R j) = Ideal.div (seqAt a b (6 + R.val) C + seqAt a b (7 + R.val) C + seqAt a b (8 + R.val) C + seqAt a b (9 + R.val) C)
      (FloatOps.sitofp (F := Ideal) .f32 (cntBV (BitVec.ofNat 32 R.val) 1#32 2#32)) - a (ix3 b R C) := by
  have e : part1 a (ix3 b R j) = Ideal.div (sum1 (pad1 (ug1 a)) (ix3 b R j)) (cntArr 1#32 2#32 (ix3 b R j)) - ug1 a (ix3 b R j) := by
    pointwise [part1]
  have e' : (⟨64 + j.val, by omega⟩ : Fin 256) = C := Fin.ext (by simp only; omega)
  rw [e, cntArr_at, ug1_at, sum1_at, e']
  rw [pseq1 a b ⟨R.val, by omega⟩ j C hC (6 + R.val) (by simp only; omega), pseq1 a b ⟨1 + R.val, by omega⟩ j C hC (7 + R.val) (by simp only; omega), pseq1 a b ⟨2 + R.val, by omega⟩ j C hC (8 + R.val) (by simp only; omega), pseq1 a b ⟨3 + R.val, by omega⟩ j C hC (9 + R.val) (by simp only; omega)]

theorem ug2_at (a : Vec Ideal S8x8192x256 .f32) (b : Fin 8) (R : Fin 8192) (j : Fin 64) :
    ug2 a (ix3 b R j) = a (ix3 b R ⟨128 + j.val, by omega⟩) := by
  pointwise [ug2]

theorem pad2_at (u : Vec Ideal S8x8192x64 .f32) (b : Fin 8) (r : Fin 8199) (j : Fin 64) :
    pad2 u (ix3 b r j) = if h : 4 ≤ r.val ∧ r.val - 4 < 8192 then u (ix3 b ⟨r.val - 4, by omega⟩ j) else 0 := by
  rw [← zero_of]
  pointwise [pad2]

theorem pseq2 (a : Vec Ideal S8x8192x256 .f32) (b : Fin 8) (r : Fin 8199) (j : Fin 64) (C : Fin 256) (hC : C.val = 128 + j.val) (k : ℕ) (hk : k = r.val + 4) :
    pad2 (ug2 a) (ix3 b r j) = seqAt a b k C := by
  subst hk
  rw [pad2_at]
  unfold seqAt
  by_cases h : 4 ≤ r.val ∧ r.val - 4 < 8192
  · rw [dif_pos h, dif_pos (by omega), ug2_at]
    exact congrArg a (congrArg₂ (fun z w => ix3 b z w) (Fin.ext (by simp only; omega)) (Fin.ext (by simp only; omega)))
  · rw [dif_neg h, dif_neg (by omega)]

theorem sum2_at (u : Vec Ideal S8x8199x64 .f32) (b : Fin 8) (R : Fin 8192) (j : Fin 64) :
    sum2 u (ix3 b R j) = u (ix3 b ⟨R.val, by omega⟩ j) + u (ix3 b ⟨1 + R.val, by omega⟩ j) + u (ix3 b ⟨2 + R.val, by omega⟩ j) + u (ix3 b ⟨3 + R.val, by omega⟩ j) + u (ix3 b ⟨4 + R.val, by omega⟩ j) + u (ix3 b ⟨5 + R.val, by omega⟩ j) + u (ix3 b ⟨6 + R.val, by omega⟩ j) + u (ix3 b ⟨7 + R.val, by omega⟩ j) := by
  pointwise [sum2]

/-- Group 2's window mean less the token, at an index. -/
theorem part2_at (a : Vec Ideal S8x8192x256 .f32) (b : Fin 8) (R : Fin 8192) (j : Fin 64) (C : Fin 256) (hC : C.val = 128 + j.val) :
    part2 a (ix3 b R j) = Ideal.div (seqAt a b (4 + R.val) C + seqAt a b (5 + R.val) C + seqAt a b (6 + R.val) C + seqAt a b (7 + R.val) C + seqAt a b (8 + R.val) C + seqAt a b (9 + R.val) C + seqAt a b (10 + R.val) C + seqAt a b (11 + R.val) C)
      (FloatOps.sitofp (F := Ideal) .f32 (cntBV (BitVec.ofNat 32 R.val) 3#32 4#32)) - a (ix3 b R C) := by
  have e : part2 a (ix3 b R j) = Ideal.div (sum2 (pad2 (ug2 a)) (ix3 b R j)) (cntArr 3#32 4#32 (ix3 b R j)) - ug2 a (ix3 b R j) := by
    pointwise [part2]
  have e' : (⟨128 + j.val, by omega⟩ : Fin 256) = C := Fin.ext (by simp only; omega)
  rw [e, cntArr_at, ug2_at, sum2_at, e']
  rw [pseq2 a b ⟨R.val, by omega⟩ j C hC (4 + R.val) (by simp only; omega), pseq2 a b ⟨1 + R.val, by omega⟩ j C hC (5 + R.val) (by simp only; omega), pseq2 a b ⟨2 + R.val, by omega⟩ j C hC (6 + R.val) (by simp only; omega), pseq2 a b ⟨3 + R.val, by omega⟩ j C hC (7 + R.val) (by simp only; omega), pseq2 a b ⟨4 + R.val, by omega⟩ j C hC (8 + R.val) (by simp only; omega), pseq2 a b ⟨5 + R.val, by omega⟩ j C hC (9 + R.val) (by simp only; omega), pseq2 a b ⟨6 + R.val, by omega⟩ j C hC (10 + R.val) (by simp only; omega), pseq2 a b ⟨7 + R.val, by omega⟩ j C hC (11 + R.val) (by simp only; omega)]

theorem ug3_at (a : Vec Ideal S8x8192x256 .f32) (b : Fin 8) (R : Fin 8192) (j : Fin 64) :
    ug3 a (ix3 b R j) = a (ix3 b R ⟨192 + j.val, by omega⟩) := by
  pointwise [ug3]

theorem pad3_at (u : Vec Ideal S8x8192x64 .f32) (b : Fin 8) (r : Fin 8207) (j : Fin 64) :
    pad3 u (ix3 b r j) = if h : 8 ≤ r.val ∧ r.val - 8 < 8192 then u (ix3 b ⟨r.val - 8, by omega⟩ j) else 0 := by
  rw [← zero_of]
  pointwise [pad3]

theorem pseq3 (a : Vec Ideal S8x8192x256 .f32) (b : Fin 8) (r : Fin 8207) (j : Fin 64) (C : Fin 256) (hC : C.val = 192 + j.val) (k : ℕ) (hk : k = r.val + 0) :
    pad3 (ug3 a) (ix3 b r j) = seqAt a b k C := by
  subst hk
  rw [pad3_at]
  unfold seqAt
  by_cases h : 8 ≤ r.val ∧ r.val - 8 < 8192
  · rw [dif_pos h, dif_pos (by omega), ug3_at]
    exact congrArg a (congrArg₂ (fun z w => ix3 b z w) (Fin.ext (by simp only; omega)) (Fin.ext (by simp only; omega)))
  · rw [dif_neg h, dif_neg (by omega)]

theorem sum3_at (u : Vec Ideal S8x8207x64 .f32) (b : Fin 8) (R : Fin 8192) (j : Fin 64) :
    sum3 u (ix3 b R j) = u (ix3 b ⟨R.val, by omega⟩ j) + u (ix3 b ⟨1 + R.val, by omega⟩ j) + u (ix3 b ⟨2 + R.val, by omega⟩ j) + u (ix3 b ⟨3 + R.val, by omega⟩ j) + u (ix3 b ⟨4 + R.val, by omega⟩ j) + u (ix3 b ⟨5 + R.val, by omega⟩ j) + u (ix3 b ⟨6 + R.val, by omega⟩ j) + u (ix3 b ⟨7 + R.val, by omega⟩ j) + u (ix3 b ⟨8 + R.val, by omega⟩ j) + u (ix3 b ⟨9 + R.val, by omega⟩ j) + u (ix3 b ⟨10 + R.val, by omega⟩ j) + u (ix3 b ⟨11 + R.val, by omega⟩ j) + u (ix3 b ⟨12 + R.val, by omega⟩ j) + u (ix3 b ⟨13 + R.val, by omega⟩ j) + u (ix3 b ⟨14 + R.val, by omega⟩ j) + u (ix3 b ⟨15 + R.val, by omega⟩ j) := by
  pointwise [sum3]

/-- Group 3's window mean less the token, at an index. -/
theorem part3_at (a : Vec Ideal S8x8192x256 .f32) (b : Fin 8) (R : Fin 8192) (j : Fin 64) (C : Fin 256) (hC : C.val = 192 + j.val) :
    part3 a (ix3 b R j) = Ideal.div (seqAt a b (0 + R.val) C + seqAt a b (1 + R.val) C + seqAt a b (2 + R.val) C + seqAt a b (3 + R.val) C + seqAt a b (4 + R.val) C + seqAt a b (5 + R.val) C + seqAt a b (6 + R.val) C + seqAt a b (7 + R.val) C + seqAt a b (8 + R.val) C + seqAt a b (9 + R.val) C + seqAt a b (10 + R.val) C + seqAt a b (11 + R.val) C + seqAt a b (12 + R.val) C + seqAt a b (13 + R.val) C + seqAt a b (14 + R.val) C + seqAt a b (15 + R.val) C)
      (FloatOps.sitofp (F := Ideal) .f32 (cntBV (BitVec.ofNat 32 R.val) 7#32 8#32)) - a (ix3 b R C) := by
  have e : part3 a (ix3 b R j) = Ideal.div (sum3 (pad3 (ug3 a)) (ix3 b R j)) (cntArr 7#32 8#32 (ix3 b R j)) - ug3 a (ix3 b R j) := by
    pointwise [part3]
  have e' : (⟨192 + j.val, by omega⟩ : Fin 256) = C := Fin.ext (by simp only; omega)
  rw [e, cntArr_at, ug3_at, sum3_at, e']
  rw [pseq3 a b ⟨R.val, by omega⟩ j C hC (0 + R.val) (by simp only; omega), pseq3 a b ⟨1 + R.val, by omega⟩ j C hC (1 + R.val) (by simp only; omega), pseq3 a b ⟨2 + R.val, by omega⟩ j C hC (2 + R.val) (by simp only; omega), pseq3 a b ⟨3 + R.val, by omega⟩ j C hC (3 + R.val) (by simp only; omega), pseq3 a b ⟨4 + R.val, by omega⟩ j C hC (4 + R.val) (by simp only; omega), pseq3 a b ⟨5 + R.val, by omega⟩ j C hC (5 + R.val) (by simp only; omega), pseq3 a b ⟨6 + R.val, by omega⟩ j C hC (6 + R.val) (by simp only; omega), pseq3 a b ⟨7 + R.val, by omega⟩ j C hC (7 + R.val) (by simp only; omega), pseq3 a b ⟨8 + R.val, by omega⟩ j C hC (8 + R.val) (by simp only; omega), pseq3 a b ⟨9 + R.val, by omega⟩ j C hC (9 + R.val) (by simp only; omega), pseq3 a b ⟨10 + R.val, by omega⟩ j C hC (10 + R.val) (by simp only; omega), pseq3 a b ⟨11 + R.val, by omega⟩ j C hC (11 + R.val) (by simp only; omega), pseq3 a b ⟨12 + R.val, by omega⟩ j C hC (12 + R.val) (by simp only; omega), pseq3 a b ⟨13 + R.val, by omega⟩ j C hC (13 + R.val) (by simp only; omega), pseq3 a b ⟨14 + R.val, by omega⟩ j C hC (14 + R.val) (by simp only; omega), pseq3 a b ⟨15 + R.val, by omega⟩ j C hC (15 + R.val) (by simp only; omega)]

theorem pArr_at0 (p0 p1 p2 p3 : Vec Ideal S8x8192x64 .f32) (b : Fin 8) (R : Fin 8192) (j : Fin 64) : pArr p0 p1 p2 p3 (ix4 b R 0 j) = p0 (ix3 b R j) := by
  pointwise [pArr]
theorem pArr_at1 (p0 p1 p2 p3 : Vec Ideal S8x8192x64 .f32) (b : Fin 8) (R : Fin 8192) (j : Fin 64) : pArr p0 p1 p2 p3 (ix4 b R 1 j) = p1 (ix3 b R j) := by
  pointwise [pArr]
theorem pArr_at2 (p0 p1 p2 p3 : Vec Ideal S8x8192x64 .f32) (b : Fin 8) (R : Fin 8192) (j : Fin 64) : pArr p0 p1 p2 p3 (ix4 b R 2 j) = p2 (ix3 b R j) := by
  pointwise [pArr]
theorem pArr_at3 (p0 p1 p2 p3 : Vec Ideal S8x8192x64 .f32) (b : Fin 8) (R : Fin 8192) (j : Fin 64) : pArr p0 p1 p2 p3 (ix4 b R 3 j) = p3 (ix3 b R j) := by
  pointwise [pArr]

/-- The per-group map at an index. -/
theorem poolArr_at (p : Vec Ideal S8x8192x4x64 .f32) (pw : Vec Ideal S4x64x64 .f32) (ps : Vec Ideal S256 .f32) (b : Fin 8) (R : Fin 8192) (C : Fin 256) :
    poolArr p pw ps (ix3 b R C) = (∑ e : Fin 64, pw (ix3 ⟨C.val / 64, by omega⟩ e ⟨C.val % 64, by omega⟩) * p (ix4 b R ⟨C.val / 64, by omega⟩ e)) * ps (ix1 C) := by
  pointwise [poolArr]

/-- The projection at an index. -/
theorem yArr_at (pool : Vec Ideal S8x8192x256 .f32) (o : Vec Ideal S8x8192x768 .bf16) (w : Vec Ideal S1024x1024 .f32) (b : Fin 8) (R : Fin 8192) (C : Fin 1024) :
    yArr pool o w (ix3 b R C) = ∑ d : Fin 1024, (if h : d.val < 256 then pool (ix3 b R ⟨d.val, h⟩) else o (ix3 b R ⟨d.val - 256, by omega⟩)) * w (ix2 d C) := by
  pointwise [yArr]

/-- The result at an index. -/
theorem outArr_at (x y : Vec Ideal S8x8192x1024 .f32) (g : Vec Ideal S8x1x1024 .f32) (nw : Vec Ideal S1024 .f32) (b : Fin 8) (R : Fin 8192) (C : Fin 1024) :
    outArr x y g nw (ix3 b R C) = x (ix3 b R C) + g (ix3 b 0 C) * (y (ix3 b R C) * Ideal.rsqrt (Ideal.div (∑ d : Fin 1024, y (ix3 b R d) * y (ix3 b R d)) (Ideal.ofBits .f32 0x44800000#32)
      + Ideal.ofBits .f32 0x358637BD#32) * nw (ix1 C)) := by
  pointwise [outArr]

end Cert.MixRefIdeal.Value
-- ==== Proof.MixPay.lean ====
/- The attention mixer's output kernel: its stored values at an index. -/
module

public import proofs.«01_k».proof.Proof.Gen.MixIdeal.Skeleton
public import proofs.«01_k».proof.Proof.MixRef
public import proofs.«01_k».proof.Proof.SsmPay

@[expose] public section

set_option maxRecDepth 16384

noncomputable section

open Idealize.ShloMosaic Idealize.ShloMosaic.TcCoe Idealize.SL.Sem

namespace Cert.MixIdeal.Value

open Cert.MixIdeal Cert.MixIdeal.Gen
open Cert.MixRefIdeal.Value (cntBV)

theorem pay3_at (x : Vec Ideal S1x512x256 .f32) (r : Fin 512) (d : Fin 256) : k0_pay3 (F := Ideal) x (ix2 r d) = x (ix3 0 r d) := by
  pointwise [k0_pay3]

theorem first_bit : ∀ n : Fin 16, Scalar.cmpi .eq (BitVec.ofNat 32 n.val) 0#32 = if n.val = 0 then 1#1 else 0#1 := by decide
theorem last_bit : ∀ n : Fin 16, Scalar.cmpi .eq (BitVec.ofNat 32 n.val) 15#32 = if n.val = 15 then 1#1 else 0#1 := by decide

/-- The rows before the tile, none of them before the first. -/
theorem pay2_at (i : grid0.Coords) (n : Fin 16) (hn : (i 1).val = n.val) (x : Vec Ideal S1x8x256 .f32) (r : Fin 8) (d : Fin 256) :
    k0_pay2 (F := Ideal) i x (ix2 r d) = if n.val = 0 then 0 else x (ix3 0 r d) := by
  unfold k0_pay2
  rw [hn, first_bit n]
  by_cases h : n.val = 0
  · rw [if_pos h, if_pos h]
    pointwise []
  · rw [if_neg h, if_neg h]
    pointwise []

/-- The rows after the tile, none of them after the last. -/
theorem pay4_at (i : grid0.Coords) (n : Fin 16) (hn : (i 1).val = n.val) (x : Vec Ideal S1x8x256 .f32) (r : Fin 8) (d : Fin 256) :
    k0_pay4 (F := Ideal) i x (ix2 r d) = if n.val = 15 then 0 else x (ix3 0 r d) := by
  unfold k0_pay4
  rw [hn, last_bit n]
  by_cases h : n.val = 15
  · rw [if_pos h, if_pos h]
    pointwise []
  · rw [if_neg h, if_neg h]
    pointwise []

/-- A row's position in the sequence. -/
theorem pay9_at (n : Fin 16) (r : Fin 512) (z : Fin 1) : k0_pay9 (BitVec.ofNat 32 n.val) (ix2 r z) = BitVec.ofNat 32 (n.val * 512 + r.val) := by
  pointwise [k0_pay9]
  show BitVec.ofNat 32 n.val * BitVec.ofNat 32 512 + BitVec.ofNat 32 r.val = _
  rw [BitVec.ofNat_add, BitVec.ofNat_mul]
theorem pay11_at (a : BitVec 32) (r : Fin 512) (z : Fin 1) : k0_pay11 a (ix2 r z) = IntOp.addi (k0_pay9 a (ix2 r z)) 0#32 := by
  pointwise [k0_pay11]

theorem pay5_at (a b : Vec Ideal S512x256 .f32) (r : Fin 512) (e : Fin 256) : k0_pay5 (F := Ideal) a b (ix2 r e) = b (ix2 r e) + a (ix2 r e) := by
  pointwise [k0_pay5]
theorem pay6_at (a b c d : Vec Ideal S512x256 .f32) (r : Fin 512) (e : Fin 256) :
    k0_pay6 (F := Ideal) a b c d (ix2 r e) = b (ix2 r e) + a (ix2 r e) + c (ix2 r e) + d (ix2 r e) := by
  pointwise [k0_pay6, k0_pay5]
theorem pay7_at (s a b c d : Vec Ideal S512x256 .f32) (r : Fin 512) (e : Fin 256) :
    k0_pay7 (F := Ideal) s a b c d (ix2 r e) = s (ix2 r e) + a (ix2 r e) + b (ix2 r e) + c (ix2 r e) + d (ix2 r e) := by
  pointwise [k0_pay7]
theorem pay8_at (s a b c d f g h i j k l q : Vec Ideal S512x256 .f32) (r : Fin 512) (e : Fin 256) :
    k0_pay8 (F := Ideal) s a b c d f g h i j k l q (ix2 r e) = k0_pay7 (F := Ideal) s a b c d (ix2 r e) + f (ix2 r e) + g (ix2 r e) + h (ix2 r e) + i (ix2 r e)
      + j (ix2 r e) + k (ix2 r e) + l (ix2 r e) + q (ix2 r e) := by
  pointwise [k0_pay8, k0_pay7]

/-- The sums over the positions they hold. -/
theorem pay12_at (s : FVec Ideal S512x256 .f32) (p p0 : IVec S512x1 32) (h : ∀ r, p0 (ix2 r 0) = IntOp.addi (p (ix2 r 0)) 0#32) (r : Fin 512) (e : Fin 256) :
    k0_pay12 (F := Ideal) s p p0 (ix2 r e) = Ideal.div (s (ix2 r e)) (FloatOps.sitofp (F := Ideal) .f32 (cntBV (p (ix2 r 0)) 0#32 1#32)) := by
  unfold cntBV
  rw [← h]
  pointwise [k0_pay12]
theorem pay14_at (s : FVec Ideal S512x256 .f32) (p : IVec S512x1 32) (r : Fin 512) (e : Fin 256) :
    k0_pay14 (F := Ideal) s p (ix2 r e) = Ideal.div (s (ix2 r e)) (FloatOps.sitofp (F := Ideal) .f32 (cntBV (p (ix2 r 0)) 1#32 2#32)) := by
  pointwise [k0_pay14, cntBV]
theorem pay16_at (s : FVec Ideal S512x256 .f32) (p : IVec S512x1 32) (r : Fin 512) (e : Fin 256) :
    k0_pay16 (F := Ideal) s p (ix2 r e) = Ideal.div (s (ix2 r e)) (FloatOps.sitofp (F := Ideal) .f32 (cntBV (p (ix2 r 0)) 3#32 4#32)) := by
  pointwise [k0_pay16, cntBV]

theorem bit64 : ∀ e : Fin 256, IntOp.cmpi .slt (BitVec.ofNat 32 e.val) 64#32 = if e.val < 64 then 1#1 else 0#1 := by decide +kernel
theorem bit128 : ∀ e : Fin 256, IntOp.cmpi .slt (BitVec.ofNat 32 e.val) 128#32 = if e.val < 128 then 1#1 else 0#1 := by decide +kernel
theorem bit192 : ∀ e : Fin 256, IntOp.cmpi .slt (BitVec.ofNat 32 e.val) 192#32 = if e.val < 192 then 1#1 else 0#1 := by decide +kernel
theorem pay10_at (e : Fin 256) : k0_pay10 (ix2 0 e) = if e.val < 64 then 1#1 else 0#1 := by
  rw [← bit64 e]
  pointwise [k0_pay10]
theorem pay13_at (e : Fin 256) : k0_pay13 (iota .tc S1x256 32 [1] iota_S1x256_d1_w32) (ix2 0 e) = if e.val < 128 then 1#1 else 0#1 := by
  rw [← bit128 e]
  pointwise [k0_pay13]
theorem pay15_at (e : Fin 256) : k0_pay15 (iota .tc S1x256 32 [1] iota_S1x256_d1_w32) (ix2 0 e) = if e.val < 192 then 1#1 else 0#1 := by
  rw [← bit192 e]
  pointwise [k0_pay15]

/-- The pooled rows through the groups' maps, scaled, through their part of the output weight. -/
theorem pay17_at (x s16 : FVec Ideal S512x256 .f32) (p : IVec S512x1 32) (b0 : IVec S1x256 1) (m0 : FVec Ideal S512x256 .f32) (b1 : IVec S1x256 1) (m1 : FVec Ideal S512x256 .f32)
    (b2 : IVec S1x256 1) (m2 : FVec Ideal S512x256 .f32) (bd : Vec Ideal S256x256 .bf16) (ps : Vec Ideal S1x256 .f32) (wa : Vec Ideal S256x1024 .bf16) (r : Fin 512) (D : Fin 1024) :
    k0_pay17 (F := Ideal) x s16 p b0 m0 b1 m1 b2 m2 bd ps wa (ix2 r D)
      = ∑ C : Fin 256, ((∑ e : Fin 256, (Scalar.select (b0 (ix2 0 e)) (m0 (ix2 r e)) (Scalar.select (b1 (ix2 0 e)) (m1 (ix2 r e)) (Scalar.select (b2 (ix2 0 e)) (m2 (ix2 r e))
          (Ideal.div (s16 (ix2 r e)) (FloatOps.sitofp (F := Ideal) .f32 (cntBV (p (ix2 r 0)) 7#32 8#32))))) - x (ix2 r e)) * bd (ix2 e C)) * ps (ix2 0 C)) * wa (ix2 C D) := by
  pointwise [k0_pay17, cntBV]

theorem pay18_at (o : Vec Ideal S1x512x768 .bf16) (wo : Vec Ideal S768x1024 .bf16) (r : Fin 512) (D : Fin 1024) :
    k0_pay18 (F := Ideal) o wo (ix2 r D) = ∑ d : Fin 768, o (ix3 0 r d) * wo (ix2 d D) := by
  pointwise [k0_pay18]

/-- The residual with the gated normed sum. -/
theorem pay1_at (a b : FVec Ideal S512x1024 .f32) (x : Vec Ideal S1x512x1024 .f32) (g : Vec Ideal S1x1x1024 .f32) (nw : Vec Ideal S1x1024 .f32) (z : Fin 1) (r : Fin 512) (D : Fin 1024) :
    k0_pay1 (F := Ideal) a b x g nw (ix3 z r D) = x (ix3 0 r D) + g (ix3 0 0 D) * ((a (ix2 r D) + b (ix2 r D))
      * Ideal.rsqrt (Ideal.div (∑ d : Fin 1024, (a (ix2 r d) + b (ix2 r d)) * (a (ix2 r d) + b (ix2 r d))) (Ideal.ofBits .f32 0x44800000#32) + Ideal.ofBits .f32 0x358637BD#32) * nw (ix2 0 D)) := by
  pointwise [k0_pay1]

end Cert.MixIdeal.Value
-- ==== Proof.MixOut.lean ====
/- The attention mixer's output kernel's block at a grid point, at an index. -/
module

public import proofs.«01_k».proof.Proof.MixPay
public import proofs.«01_k».proof.Proof.SsmOut
public import proofs.«01_k».proof.Proof.Gen.MixIdeal.Value

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen
open Cert.MixRefIdeal.Value (cntBV)
open Cert.SsmIdeal.Value (canon_col_mem canon_col_not_mem canon_row_mem canon_row_not_mem readCov_ld ld2_at)

variable (m : (ℓ : Loc nD τ sig) → Buf (Elt Ideal) ℓ)

/-- The rows of the three stored pieces: the halo before, the tile, the halo after. -/
def rows (i : grid0.Coords) (xp : Vec Ideal S1x8x256 .f32) (xm : Vec Ideal S1x512x256 .f32) (xn : Vec Ideal S1x8x256 .f32) : Vec Ideal S528x256 .f32 :=
  View.canon (Val := Elt Ideal) (s := S528x256) (e := .f32)
    [⟨Rect.unit ![520, 0] ![8, 256] inb_S528x256_S8x256_520_0, k0_pay4 i xn⟩,
     ⟨Rect.unit ![8, 0] ![512, 256] inb_S528x256_S512x256_8_0, k0_pay3 xm⟩,
     ⟨Rect.unit ![0, 0] ![8, 256] inb_S528x256_S8x256_0_0, k0_pay2 i xp⟩]

/-- A row of them: zero before a first tile and after a last one. -/
theorem rows_at (i : grid0.Coords) (n : Fin 16) (hn : (i 1).val = n.val) (xp : Vec Ideal S1x8x256 .f32) (xm : Vec Ideal S1x512x256 .f32) (xn : Vec Ideal S1x8x256 .f32)
    (q : Fin 528) (d : Fin 256) : rows i xp xm xn (ix2 q d)
      = if h : q.val < 8 then (if n.val = 0 then 0 else xp (ix3 0 ⟨q.val, h⟩ d))
        else if h' : q.val < 520 then xm (ix3 0 ⟨q.val - 8, by omega⟩ d)
        else (if n.val = 15 then 0 else xn (ix3 0 ⟨q.val - 520, by omega⟩ d)) := by
  unfold rows
  by_cases h : q.val < 8
  · rw [dif_pos h]
    refine (canon_row_not_mem inb_S528x256_S8x256_520_0 _ _ q d (by omega)).trans ?_
    refine (canon_row_not_mem inb_S528x256_S512x256_8_0 _ _ q d (by omega)).trans ?_
    exact (canon_row_mem inb_S528x256_S8x256_0_0 _ _ q ⟨q.val, h⟩ d (by simp)).trans (pay2_at i n hn xp _ _)
  · rw [dif_neg h]
    by_cases h' : q.val < 520
    · rw [dif_pos h']
      refine (canon_row_not_mem inb_S528x256_S8x256_520_0 _ _ q d (by omega)).trans ?_
      exact (canon_row_mem inb_S528x256_S512x256_8_0 _ _ q ⟨q.val - 8, by omega⟩ d (by simp only; omega)).trans (pay3_at ..)
    · rw [dif_neg h']
      exact (canon_row_mem inb_S528x256_S8x256_520_0 _ _ q ⟨q.val - 520, by omega⟩ d (by simp only; omega)).trans (pay4_at i n hn xn _ _)

/-- The number of positions a window holds, as a float. -/
def cntF (n : ℕ) (r : Fin 512) (rt lf : BitVec 32) : EReal := FloatOps.sitofp (F := Ideal) .f32 (cntBV (BitVec.ofNat 32 (n * 512 + r.val)) rt lf)

/-- A channel's window mean over the rows, its window by its group. -/
def meanAt (n : ℕ) (u : Vec Ideal S528x256 .f32) (r : Fin 512) (e : Fin 256) : EReal :=
  if e.val < 64 then Ideal.div (u (ix2 ⟨7 + r.val, by omega⟩ e) + u (ix2 ⟨8 + r.val, by omega⟩ e)) (cntF n r 0#32 1#32)
  else if e.val < 128 then Ideal.div (u (ix2 ⟨7 + r.val, by omega⟩ e) + u (ix2 ⟨8 + r.val, by omega⟩ e) + u (ix2 ⟨6 + r.val, by omega⟩ e) + u (ix2 ⟨9 + r.val, by omega⟩ e)) (cntF n r 1#32 2#32)
  else if e.val < 192 then Ideal.div (u (ix2 ⟨7 + r.val, by omega⟩ e) + u (ix2 ⟨8 + r.val, by omega⟩ e) + u (ix2 ⟨6 + r.val, by omega⟩ e) + u (ix2 ⟨9 + r.val, by omega⟩ e) + u (ix2 ⟨4 + r.val, by omega⟩ e) + u (ix2 ⟨5 + r.val, by omega⟩ e) + u (ix2 ⟨10 + r.val, by omega⟩ e) + u (ix2 ⟨11 + r.val, by omega⟩ e)) (cntF n r 3#32 4#32)
  else Ideal.div (u (ix2 ⟨7 + r.val, by omega⟩ e) + u (ix2 ⟨8 + r.val, by omega⟩ e) + u (ix2 ⟨6 + r.val, by omega⟩ e) + u (ix2 ⟨9 + r.val, by omega⟩ e) + u (ix2 ⟨4 + r.val, by omega⟩ e) + u (ix2 ⟨5 + r.val, by omega⟩ e) + u (ix2 ⟨10 + r.val, by omega⟩ e) + u (ix2 ⟨11 + r.val, by omega⟩ e) + u (ix2 ⟨0 + r.val, by omega⟩ e) + u (ix2 ⟨1 + r.val, by omega⟩ e) + u (ix2 ⟨2 + r.val, by omega⟩ e) + u (ix2 ⟨3 + r.val, by omega⟩ e) + u (ix2 ⟨12 + r.val, by omega⟩ e) + u (ix2 ⟨13 + r.val, by omega⟩ e) + u (ix2 ⟨14 + r.val, by omega⟩ e) + u (ix2 ⟨15 + r.val, by omega⟩ e)) (cntF n r 7#32 8#32)

/-- The pooled columns' part of the projection, from the stored rows. -/
def yk (a : BitVec 32) (u : Vec Ideal S528x256 .f32) (bd : Vec Ideal S256x256 .bf16) (ps : Vec Ideal S1x256 .f32) (wa : Vec Ideal S256x1024 .bf16) : FVec Ideal S512x1024 .f32 :=
  k0_pay17 (F := Ideal) (View.ld u (Rect.unit ![8, 0] ![512, 256] inb_S528x256_S512x256_8_0)) (k0_pay8 (k0_pay6 (View.ld u (Rect.unit ![8, 0] ![512, 256] inb_S528x256_S512x256_8_0)) (View.ld u (Rect.unit ![7, 0] ![512, 256] inb_S528x256_S512x256_7_0)) (View.ld u (Rect.unit ![6, 0] ![512, 256] inb_S528x256_S512x256_6_0)) (View.ld u (Rect.unit ![9, 0] ![512, 256] inb_S528x256_S512x256_9_0))) (View.ld u (Rect.unit ![4, 0] ![512, 256] inb_S528x256_S512x256_4_0)) (View.ld u (Rect.unit ![5, 0] ![512, 256] inb_S528x256_S512x256_5_0)) (View.ld u (Rect.unit ![10, 0] ![512, 256] inb_S528x256_S512x256_10_0)) (View.ld u (Rect.unit ![11, 0] ![512, 256] inb_S528x256_S512x256_11_0)) (View.ld u (Rect.unit ![0, 0] ![512, 256] inb_S528x256_S512x256_0_0)) (View.ld u (Rect.unit ![1, 0] ![512, 256] inb_S528x256_S512x256_1_0)) (View.ld u (Rect.unit ![2, 0] ![512, 256] inb_S528x256_S512x256_2_0)) (View.ld u (Rect.unit ![3, 0] ![512, 256] inb_S528x256_S512x256_3_0)) (View.ld u (Rect.unit ![12, 0] ![512, 256] inb_S528x256_S512x256_12_0)) (View.ld u (Rect.unit ![13, 0] ![512, 256] inb_S528x256_S512x256_13_0)) (View.ld u (Rect.unit ![14, 0] ![512, 256] inb_S528x256_S512x256_14_0)) (View.ld u (Rect.unit ![15, 0] ![512, 256] inb_S528x256_S512x256_15_0))) (k0_pay9 a) k0_pay10 (k0_pay12 (k0_pay5 (View.ld u (Rect.unit ![8, 0] ![512, 256] inb_S528x256_S512x256_8_0)) (View.ld u (Rect.unit ![7, 0] ![512, 256] inb_S528x256_S512x256_7_0))) (k0_pay9 a) (k0_pay11 a)) (k0_pay13 (iota .tc S1x256 32 [1] iota_S1x256_d1_w32))
    (k0_pay14 (k0_pay6 (View.ld u (Rect.unit ![8, 0] ![512, 256] inb_S528x256_S512x256_8_0)) (View.ld u (Rect.unit ![7, 0] ![512, 256] inb_S528x256_S512x256_7_0)) (View.ld u (Rect.unit ![6, 0] ![512, 256] inb_S528x256_S512x256_6_0)) (View.ld u (Rect.unit ![9, 0] ![512, 256] inb_S528x256_S512x256_9_0))) (k0_pay9 a)) (k0_pay15 (iota .tc S1x256 32 [1] iota_S1x256_d1_w32)) (k0_pay16 (k0_pay7 (k0_pay6 (View.ld u (Rect.unit ![8, 0] ![512, 256] inb_S528x256_S512x256_8_0)) (View.ld u (Rect.unit ![7, 0] ![512, 256] inb_S528x256_S512x256_7_0)) (View.ld u (Rect.unit ![6, 0] ![512, 256] inb_S528x256_S512x256_6_0)) (View.ld u (Rect.unit ![9, 0] ![512, 256] inb_S528x256_S512x256_9_0))) (View.ld u (Rect.unit ![4, 0] ![512, 256] inb_S528x256_S512x256_4_0)) (View.ld u (Rect.unit ![5, 0] ![512, 256] inb_S528x256_S512x256_5_0)) (View.ld u (Rect.unit ![10, 0] ![512, 256] inb_S528x256_S512x256_10_0)) (View.ld u (Rect.unit ![11, 0] ![512, 256] inb_S528x256_S512x256_11_0))) (k0_pay9 a)) bd ps wa

theorem sh0 (u : Vec Ideal S528x256 .f32) (r : Fin 512) (e : Fin 256) : View.ld u (Rect.unit ![0, 0] ![512, 256] inb_S528x256_S512x256_0_0) (ix2 r e) = u (ix2 ⟨0 + r.val, by omega⟩ e) :=
  ld2_at (e := .f32) u inb_S528x256_S512x256_0_0 r e _ e rfl (Nat.zero_add _).symm
theorem sh1 (u : Vec Ideal S528x256 .f32) (r : Fin 512) (e : Fin 256) : View.ld u (Rect.unit ![1, 0] ![512, 256] inb_S528x256_S512x256_1_0) (ix2 r e) = u (ix2 ⟨1 + r.val, by omega⟩ e) :=
  ld2_at (e := .f32) u inb_S528x256_S512x256_1_0 r e _ e rfl (Nat.zero_add _).symm
theorem sh2 (u : Vec Ideal S528x256 .f32) (r : Fin 512) (e : Fin 256) : View.ld u (Rect.unit ![2, 0] ![512, 256] inb_S528x256_S512x256_2_0) (ix2 r e) = u (ix2 ⟨2 + r.val, by omega⟩ e) :=
  ld2_at (e := .f32) u inb_S528x256_S512x256_2_0 r e _ e rfl (Nat.zero_add _).symm
theorem sh3 (u : Vec Ideal S528x256 .f32) (r : Fin 512) (e : Fin 256) : View.ld u (Rect.unit ![3, 0] ![512, 256] inb_S528x256_S512x256_3_0) (ix2 r e) = u (ix2 ⟨3 + r.val, by omega⟩ e) :=
  ld2_at (e := .f32) u inb_S528x256_S512x256_3_0 r e _ e rfl (Nat.zero_add _).symm
theorem sh4 (u : Vec Ideal S528x256 .f32) (r : Fin 512) (e : Fin 256) : View.ld u (Rect.unit ![4, 0] ![512, 256] inb_S528x256_S512x256_4_0) (ix2 r e) = u (ix2 ⟨4 + r.val, by omega⟩ e) :=
  ld2_at (e := .f32) u inb_S528x256_S512x256_4_0 r e _ e rfl (Nat.zero_add _).symm
theorem sh5 (u : Vec Ideal S528x256 .f32) (r : Fin 512) (e : Fin 256) : View.ld u (Rect.unit ![5, 0] ![512, 256] inb_S528x256_S512x256_5_0) (ix2 r e) = u (ix2 ⟨5 + r.val, by omega⟩ e) :=
  ld2_at (e := .f32) u inb_S528x256_S512x256_5_0 r e _ e rfl (Nat.zero_add _).symm
theorem sh6 (u : Vec Ideal S528x256 .f32) (r : Fin 512) (e : Fin 256) : View.ld u (Rect.unit ![6, 0] ![512, 256] inb_S528x256_S512x256_6_0) (ix2 r e) = u (ix2 ⟨6 + r.val, by omega⟩ e) :=
  ld2_at (e := .f32) u inb_S528x256_S512x256_6_0 r e _ e rfl (Nat.zero_add _).symm
theorem sh7 (u : Vec Ideal S528x256 .f32) (r : Fin 512) (e : Fin 256) : View.ld u (Rect.unit ![7, 0] ![512, 256] inb_S528x256_S512x256_7_0) (ix2 r e) = u (ix2 ⟨7 + r.val, by omega⟩ e) :=
  ld2_at (e := .f32) u inb_S528x256_S512x256_7_0 r e _ e rfl (Nat.zero_add _).symm
theorem sh8 (u : Vec Ideal S528x256 .f32) (r : Fin 512) (e : Fin 256) : View.ld u (Rect.unit ![8, 0] ![512, 256] inb_S528x256_S512x256_8_0) (ix2 r e) = u (ix2 ⟨8 + r.val, by omega⟩ e) :=
  ld2_at (e := .f32) u inb_S528x256_S512x256_8_0 r e _ e rfl (Nat.zero_add _).symm
theorem sh9 (u : Vec Ideal S528x256 .f32) (r : Fin 512) (e : Fin 256) : View.ld u (Rect.unit ![9, 0] ![512, 256] inb_S528x256_S512x256_9_0) (ix2 r e) = u (ix2 ⟨9 + r.val, by omega⟩ e) :=
  ld2_at (e := .f32) u inb_S528x256_S512x256_9_0 r e _ e rfl (Nat.zero_add _).symm
theorem sh10 (u : Vec Ideal S528x256 .f32) (r : Fin 512) (e : Fin 256) : View.ld u (Rect.unit ![10, 0] ![512, 256] inb_S528x256_S512x256_10_0) (ix2 r e) = u (ix2 ⟨10 + r.val, by omega⟩ e) :=
  ld2_at (e := .f32) u inb_S528x256_S512x256_10_0 r e _ e rfl (Nat.zero_add _).symm
theorem sh11 (u : Vec Ideal S528x256 .f32) (r : Fin 512) (e : Fin 256) : View.ld u (Rect.unit ![11, 0] ![512, 256] inb_S528x256_S512x256_11_0) (ix2 r e) = u (ix2 ⟨11 + r.val, by omega⟩ e) :=
  ld2_at (e := .f32) u inb_S528x256_S512x256_11_0 r e _ e rfl (Nat.zero_add _).symm
theorem sh12 (u : Vec Ideal S528x256 .f32) (r : Fin 512) (e : Fin 256) : View.ld u (Rect.unit ![12, 0] ![512, 256] inb_S528x256_S512x256_12_0) (ix2 r e) = u (ix2 ⟨12 + r.val, by omega⟩ e) :=
  ld2_at (e := .f32) u inb_S528x256_S512x256_12_0 r e _ e rfl (Nat.zero_add _).symm
theorem sh13 (u : Vec Ideal S528x256 .f32) (r : Fin 512) (e : Fin 256) : View.ld u (Rect.unit ![13, 0] ![512, 256] inb_S528x256_S512x256_13_0) (ix2 r e) = u (ix2 ⟨13 + r.val, by omega⟩ e) :=
  ld2_at (e := .f32) u inb_S528x256_S512x256_13_0 r e _ e rfl (Nat.zero_add _).symm
theorem sh14 (u : Vec Ideal S528x256 .f32) (r : Fin 512) (e : Fin 256) : View.ld u (Rect.unit ![14, 0] ![512, 256] inb_S528x256_S512x256_14_0) (ix2 r e) = u (ix2 ⟨14 + r.val, by omega⟩ e) :=
  ld2_at (e := .f32) u inb_S528x256_S512x256_14_0 r e _ e rfl (Nat.zero_add _).symm
theorem sh15 (u : Vec Ideal S528x256 .f32) (r : Fin 512) (e : Fin 256) : View.ld u (Rect.unit ![15, 0] ![512, 256] inb_S528x256_S512x256_15_0) (ix2 r e) = u (ix2 ⟨15 + r.val, by omega⟩ e) :=
  ld2_at (e := .f32) u inb_S528x256_S512x256_15_0 r e _ e rfl (Nat.zero_add _).symm

theorem s2_at (u : Vec Ideal S528x256 .f32) (r : Fin 512) (e : Fin 256) : k0_pay5 (F := Ideal) (View.ld u (Rect.unit ![8, 0] ![512, 256] inb_S528x256_S512x256_8_0)) (View.ld u (Rect.unit ![7, 0] ![512, 256] inb_S528x256_S512x256_7_0)) (ix2 r e) = u (ix2 ⟨7 + r.val, by omega⟩ e) + u (ix2 ⟨8 + r.val, by omega⟩ e) := by
  rw [pay5_at, sh7, sh8]
theorem s4_at (u : Vec Ideal S528x256 .f32) (r : Fin 512) (e : Fin 256) : (k0_pay6 (View.ld u (Rect.unit ![8, 0] ![512, 256] inb_S528x256_S512x256_8_0)) (View.ld u (Rect.unit ![7, 0] ![512, 256] inb_S528x256_S512x256_7_0)) (View.ld u (Rect.unit ![6, 0] ![512, 256] inb_S528x256_S512x256_6_0)) (View.ld u (Rect.unit ![9, 0] ![512, 256] inb_S528x256_S512x256_9_0)) (ix2 r e)) = u (ix2 ⟨7 + r.val, by omega⟩ e) + u (ix2 ⟨8 + r.val, by omega⟩ e) + u (ix2 ⟨6 + r.val, by omega⟩ e) + u (ix2 ⟨9 + r.val, by omega⟩ e) := by
  rw [pay6_at, sh7, sh8, sh6, sh9]
theorem s8_at (u : Vec Ideal S528x256 .f32) (r : Fin 512) (e : Fin 256) : (k0_pay7 (k0_pay6 (View.ld u (Rect.unit ![8, 0] ![512, 256] inb_S528x256_S512x256_8_0)) (View.ld u (Rect.unit ![7, 0] ![512, 256] inb_S528x256_S512x256_7_0)) (View.ld u (Rect.unit ![6, 0] ![512, 256] inb_S528x256_S512x256_6_0)) (View.ld u (Rect.unit ![9, 0] ![512, 256] inb_S528x256_S512x256_9_0))) (View.ld u (Rect.unit ![4, 0] ![512, 256] inb_S528x256_S512x256_4_0)) (View.ld u (Rect.unit ![5, 0] ![512, 256] inb_S528x256_S512x256_5_0)) (View.ld u (Rect.unit ![10, 0] ![512, 256] inb_S528x256_S512x256_10_0)) (View.ld u (Rect.unit ![11, 0] ![512, 256] inb_S528x256_S512x256_11_0)) (ix2 r e)) = u (ix2 ⟨7 + r.val, by omega⟩ e) + u (ix2 ⟨8 + r.val, by omega⟩ e) + u (ix2 ⟨6 + r.val, by omega⟩ e) + u (ix2 ⟨9 + r.val, by omega⟩ e) + u (ix2 ⟨4 + r.val, by omega⟩ e) + u (ix2 ⟨5 + r.val, by omega⟩ e) + u (ix2 ⟨10 + r.val, by omega⟩ e) + u (ix2 ⟨11 + r.val, by omega⟩ e) := by
  rw [pay7_at, s4_at, sh4, sh5, sh10, sh11]
theorem s16_at (u : Vec Ideal S528x256 .f32) (r : Fin 512) (e : Fin 256) : (k0_pay8 (k0_pay6 (View.ld u (Rect.unit ![8, 0] ![512, 256] inb_S528x256_S512x256_8_0)) (View.ld u (Rect.unit ![7, 0] ![512, 256] inb_S528x256_S512x256_7_0)) (View.ld u (Rect.unit ![6, 0] ![512, 256] inb_S528x256_S512x256_6_0)) (View.ld u (Rect.unit ![9, 0] ![512, 256] inb_S528x256_S512x256_9_0))) (View.ld u (Rect.unit ![4, 0] ![512, 256] inb_S528x256_S512x256_4_0)) (View.ld u (Rect.unit ![5, 0] ![512, 256] inb_S528x256_S512x256_5_0)) (View.ld u (Rect.unit ![10, 0] ![512, 256] inb_S528x256_S512x256_10_0)) (View.ld u (Rect.unit ![11, 0] ![512, 256] inb_S528x256_S512x256_11_0)) (View.ld u (Rect.unit ![0, 0] ![512, 256] inb_S528x256_S512x256_0_0)) (View.ld u (Rect.unit ![1, 0] ![512, 256] inb_S528x256_S512x256_1_0)) (View.ld u (Rect.unit ![2, 0] ![512, 256] inb_S528x256_S512x256_2_0)) (View.ld u (Rect.unit ![3, 0] ![512, 256] inb_S528x256_S512x256_3_0)) (View.ld u (Rect.unit ![12, 0] ![512, 256] inb_S528x256_S512x256_12_0)) (View.ld u (Rect.unit ![13, 0] ![512, 256] inb_S528x256_S512x256_13_0)) (View.ld u (Rect.unit ![14, 0] ![512, 256] inb_S528x256_S512x256_14_0)) (View.ld u (Rect.unit ![15, 0] ![512, 256] inb_S528x256_S512x256_15_0)) (ix2 r e)) = u (ix2 ⟨7 + r.val, by omega⟩ e) + u (ix2 ⟨8 + r.val, by omega⟩ e) + u (ix2 ⟨6 + r.val, by omega⟩ e) + u (ix2 ⟨9 + r.val, by omega⟩ e) + u (ix2 ⟨4 + r.val, by omega⟩ e) + u (ix2 ⟨5 + r.val, by omega⟩ e) + u (ix2 ⟨10 + r.val, by omega⟩ e) + u (ix2 ⟨11 + r.val, by omega⟩ e) + u (ix2 ⟨0 + r.val, by omega⟩ e) + u (ix2 ⟨1 + r.val, by omega⟩ e) + u (ix2 ⟨2 + r.val, by omega⟩ e) + u (ix2 ⟨3 + r.val, by omega⟩ e) + u (ix2 ⟨12 + r.val, by omega⟩ e) + u (ix2 ⟨13 + r.val, by omega⟩ e) + u (ix2 ⟨14 + r.val, by omega⟩ e) + u (ix2 ⟨15 + r.val, by omega⟩ e) := by
  rw [pay8_at, s8_at, sh0, sh1, sh2, sh3, sh12, sh13, sh14, sh15]

theorem sel_if {p : Prop} [Decidable p] (a b : EReal) : Scalar.select (if p then 1#1 else 0#1) a b = if p then a else b := by
  by_cases h : p
  · rw [if_pos h, if_pos h]
    rfl
  · rw [if_neg h, if_neg h]
    rfl

/-- That part at an index. -/
theorem yk_at (n : Fin 16) (u : Vec Ideal S528x256 .f32) (bd : Vec Ideal S256x256 .bf16) (ps : Vec Ideal S1x256 .f32) (wa : Vec Ideal S256x1024 .bf16)
    (r : Fin 512) (D : Fin 1024) : yk (BitVec.ofNat 32 n.val) u bd ps wa (ix2 r D)
      = ∑ C : Fin 256, ((∑ e : Fin 256, (meanAt n.val u r e - u (ix2 ⟨8 + r.val, by omega⟩ e)) * bd (ix2 e C)) * ps (ix2 0 C)) * wa (ix2 C D) := by
  unfold yk
  rw [pay17_at]
  refine Finset.sum_congr rfl fun C _ => congrArg (fun z => z * ps (ix2 0 C) * wa (ix2 C D)) (Finset.sum_congr rfl fun e _ => ?_)
  rw [pay10_at, pay13_at, pay15_at, sel_if, sel_if, sel_if, sh8, pay12_at _ _ _ (fun r => pay11_at _ r 0), pay14_at, pay16_at, pay9_at, s2_at, s4_at, s8_at, s16_at]
  rfl

/-- The block a point writes, from its input blocks. -/
theorem out_at (c : Dev nD) (t : Fin cfg0.N) (z : Fin 1) (r : Fin 512) (D : Fin 1024) :
    outsAt0 m c t (ix3 z r D)
      = k0_pay1 (F := Ideal) (yk (BitVec.ofNat 32 (grid0.coords t 1).val) (rows (grid0.coords t) (iblk m c 4 t) (iblk m c 3 t) (iblk m c 5 t)) (iblk m c 7 t) (iblk m c 8 t) (iblk m c 9 t))
          (k0_pay18 (iblk m c 6 t) (iblk m c 10 t)) (iblk m c 0 t) (iblk m c 1 t) (iblk m c 2 t) (ix3 z r D) := by
  have hz2 : (![0, 0] : Fin 2 → Nat) = fun _ => 0 := funext fun a => by fin_cases a <;> rfl
  have hz3 : (![0, 0, 0] : Fin 3 → Nat) = fun _ => 0 := funext fun a => by fin_cases a <;> rfl
  unfold outsAt0
  frame_out
  simp only [readCov_ld, View.ld_unit_zero (S := S1x512x1024) hz3, View.ld_unit_zero (S := S1x1x1024) hz3, View.ld_unit_zero (S := S1x512x768) hz3, View.ld_unit_zero (S := S1x512x256) hz3,
    View.ld_unit_zero (S := S1x8x256) hz3, View.ld_unit_zero (S := S1x1024) hz2, View.ld_unit_zero (S := S1x256) hz2, View.ld_unit_zero (S := S256x256) hz2, View.ld_unit_zero (S := S256x1024) hz2, View.ld_unit_zero (S := S768x1024) hz2]
  rfl

end Cert.MixIdeal.Value
-- ==== Proof.MixFinal.lean ====
/- The attention mixer's output kernel's block is the reference's term at the block's rows. -/
module

public import proofs.«01_k».proof.Proof.MixOut

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen
open Cert.MixRefIdeal.Value (cntBV seqAt part0 part1 part2 part3 pArr poolArr yArr outArr pooled)

/-- A sum over the channels is one over the groups and the channels of a group. -/
theorem sum_groups (f : Fin 256 → EReal) : (∑ e : Fin 256, f e) = ∑ g : Fin 4, ∑ j : Fin 64, f ⟨g.val * 64 + j.val, by omega⟩ := by
  rw [← Fintype.sum_prod_type' (f := fun (g : Fin 4) (j : Fin 64) => f ⟨g.val * 64 + j.val, by omega⟩)]
  refine (Fintype.sum_equiv (finProdFinEquiv (m := 4) (n := 64)) _ f fun x => ?_).symm
  refine congrArg f (Fin.ext ?_)
  show x.1.val * 64 + x.2.val = x.2.val + 64 * x.1.val
  omega

/-- A block-diagonal map's row sums only over its group's channels. -/
theorem diag_sum (P : Fin 256 → EReal) (Q : Fin 4 → Fin 64 → EReal) (PW : Vec Ideal S4x64x64 .f32) (C : Fin 256)
    (hP : ∀ e : Fin 256, P e = Q ⟨e.val / 64, by omega⟩ ⟨e.val % 64, by omega⟩) :
    (∑ e : Fin 256, P e * (if e.val / 64 = C.val / 64 then PW (ix3 ⟨e.val / 64, by omega⟩ ⟨e.val % 64, by omega⟩ ⟨C.val % 64, by omega⟩) else 0))
      = ∑ j : Fin 64, PW (ix3 ⟨C.val / 64, by omega⟩ j ⟨C.val % 64, by omega⟩) * Q ⟨C.val / 64, by omega⟩ j := by
  rw [sum_groups, Finset.sum_eq_single (⟨C.val / 64, by omega⟩ : Fin 4)]
  · refine Finset.sum_congr rfl fun j _ => ?_
    have h1 : (C.val / 64 * 64 + j.val) / 64 = C.val / 64 := by omega
    have h2 : (C.val / 64 * 64 + j.val) % 64 = j.val := by omega
    have e1 : (⟨(C.val / 64 * 64 + j.val) / 64, by omega⟩ : Fin 4) = ⟨C.val / 64, by omega⟩ := Fin.ext h1
    have e2 : (⟨(C.val / 64 * 64 + j.val) % 64, by omega⟩ : Fin 64) = j := Fin.ext h2
    rw [if_pos h1, hP, mul_comm]
    exact congrArg₂ (fun g k => PW (ix3 g k ⟨C.val % 64, by omega⟩) * Q g k) e1 e2
  · intro g _ hg
    refine Finset.sum_eq_zero fun j _ => ?_
    rw [if_neg, mul_zero]
    intro h
    refine hg (Fin.ext ?_)
    have h' : (g.val * 64 + j.val) / 64 = C.val / 64 := h
    show g.val = C.val / 64
    omega
  · intro h
    exact absurd (Finset.mem_univ _) h

theorem seqAt_self (A : Vec Ideal S8x8192x256 .f32) (b : Fin 8) (R : Fin 8192) (k : ℕ) (hk : k = 8 + R.val) (e : Fin 256) : seqAt A b k e = A (ix3 b R e) := by
  subst hk
  unfold seqAt
  rw [dif_pos (by omega)]
  exact congrArg A (congrArg (fun z => ix3 b z e) (Fin.ext (by simp only; omega)))

variable (X : Vec Ideal S8x8192x1024 .f32) (G : Vec Ideal S8x1x1024 .f32) (NW : Vec Ideal S1024 .f32) (A : Vec Ideal S8x8192x256 .f32) (O : Vec Ideal S8x8192x768 .bf16)
  (PW : Vec Ideal S4x64x64 .f32) (PS : Vec Ideal S256 .f32) (W : Vec Ideal S1024x1024 .f32)
  (x : Vec Ideal S1x512x1024 .f32) (g : Vec Ideal S1x1x1024 .f32) (nw : Vec Ideal S1x1024 .f32) (am : Vec Ideal S1x512x256 .f32) (ap an : Vec Ideal S1x8x256 .f32)
  (o : Vec Ideal S1x512x768 .bf16) (bd : Vec Ideal S256x256 .bf16) (ps : Vec Ideal S1x256 .f32) (wa : Vec Ideal S256x1024 .bf16) (wo : Vec Ideal S768x1024 .bf16)
  (b : Fin 8) (n : Fin 16)

/-- What each input block of a grid point reads of the arguments. -/
structure Reads : Prop where
  hx : ∀ (r : Fin 512) (d : Fin 1024), x (ix3 0 r d) = X (ix3 b ⟨n.val * 512 + r.val, by omega⟩ d)
  hg : ∀ d : Fin 1024, g (ix3 0 0 d) = G (ix3 b 0 d)
  hnw : ∀ d : Fin 1024, nw (ix2 0 d) = NW (ix1 d)
  ham : ∀ (r : Fin 512) (e : Fin 256), am (ix3 0 r e) = A (ix3 b ⟨n.val * 512 + r.val, by omega⟩ e)
  hap : ∀ (h : n.val ≠ 0) (r : Fin 8) (e : Fin 256), ap (ix3 0 r e) = A (ix3 b ⟨n.val * 512 - 8 + r.val, by omega⟩ e)
  han : ∀ (h : n.val ≠ 15) (r : Fin 8) (e : Fin 256), an (ix3 0 r e) = A (ix3 b ⟨n.val * 512 + 512 + r.val, by omega⟩ e)
  ho : ∀ (r : Fin 512) (d : Fin 768), o (ix3 0 r d) = O (ix3 b ⟨n.val * 512 + r.val, by omega⟩ d)
  hbd : ∀ e C : Fin 256, bd (ix2 e C) = if e.val / 64 = C.val / 64 then PW (ix3 ⟨e.val / 64, by omega⟩ ⟨e.val % 64, by omega⟩ ⟨C.val % 64, by omega⟩) else 0
  hps : ∀ C : Fin 256, ps (ix2 0 C) = PS (ix1 C)
  hwa : ∀ (C : Fin 256) (D : Fin 1024), wa (ix2 C D) = W (ix2 ⟨C.val, by omega⟩ D)
  hwo : ∀ (d : Fin 768) (D : Fin 1024), wo (ix2 d D) = W (ix2 ⟨256 + d.val, by omega⟩ D)

variable {X G NW A O PW PS W x g nw am ap an o bd ps wa wo b n}
variable (H : Reads X G NW A O PW PS W x g nw am ap an o bd ps wa wo b n) (i : grid0.Coords) (hi : (i 1).val = n.val)
include H hi

/-- The stored rows are the sequence's, zero outside it. -/
theorem rows_seq (q : Fin 528) (e : Fin 256) (k : ℕ) (hk : k = n.val * 512 + q.val) : rows i ap am an (ix2 q e) = seqAt A b k e := by
  subst hk
  rw [rows_at i n hi]
  unfold seqAt
  by_cases h : q.val < 8
  · rw [dif_pos h]
    by_cases h0 : n.val = 0
    · rw [if_pos h0, dif_neg (by omega)]
    · rw [if_neg h0, dif_pos (by omega), H.hap h0]
      exact congrArg A (congrArg (fun z => ix3 b z e) (Fin.ext (by simp only; omega)))
  · rw [dif_neg h]
    by_cases h' : q.val < 520
    · rw [dif_pos h', dif_pos (by omega), H.ham]
      exact congrArg A (congrArg (fun z => ix3 b z e) (Fin.ext (by simp only; omega)))
    · rw [dif_neg h']
      by_cases h0 : n.val = 15
      · rw [if_pos h0, dif_neg (by omega)]
      · rw [if_neg h0, dif_pos (by omega), H.han h0]
        exact congrArg A (congrArg (fun z => ix3 b z e) (Fin.ext (by simp only; omega)))

/-- Group 0's window mean less the token is the reference's. -/
theorem mean0 (r : Fin 512) (e : Fin 256) (h : e.val / 64 = 0) :
    meanAt n.val (rows i ap am an) r e - rows i ap am an (ix2 ⟨8 + r.val, by omega⟩ e) = part0 A (ix3 b ⟨n.val * 512 + r.val, by omega⟩ ⟨e.val % 64, by omega⟩) := by
  unfold meanAt cntF
  rw [Cert.MixRefIdeal.Value.part0_at A b _ ⟨e.val % 64, by omega⟩ e (by simp only; omega), if_pos (by omega)]
  rw [rows_seq H i hi ⟨7 + r.val, by omega⟩ e (7 + (n.val * 512 + r.val)) (by simp only; omega), rows_seq H i hi ⟨8 + r.val, by omega⟩ e (8 + (n.val * 512 + r.val)) (by simp only; omega)]
  rw [seqAt_self A b ⟨n.val * 512 + r.val, by omega⟩ _ rfl e]

/-- Group 1's window mean less the token is the reference's. -/
theorem mean1 (r : Fin 512) (e : Fin 256) (h : e.val / 64 = 1) :
    meanAt n.val (rows i ap am an) r e - rows i ap am an (ix2 ⟨8 + r.val, by omega⟩ e) = part1 A (ix3 b ⟨n.val * 512 + r.val, by omega⟩ ⟨e.val % 64, by omega⟩) := by
  unfold meanAt cntF
  rw [Cert.MixRefIdeal.Value.part1_at A b _ ⟨e.val % 64, by omega⟩ e (by simp only; omega), if_neg (by omega), if_pos (by omega)]
  rw [rows_seq H i hi ⟨7 + r.val, by omega⟩ e (7 + (n.val * 512 + r.val)) (by simp only; omega), rows_seq H i hi ⟨8 + r.val, by omega⟩ e (8 + (n.val * 512 + r.val)) (by simp only; omega), rows_seq H i hi ⟨6 + r.val, by omega⟩ e (6 + (n.val * 512 + r.val)) (by simp only; omega), rows_seq H i hi ⟨9 + r.val, by omega⟩ e (9 + (n.val * 512 + r.val)) (by simp only; omega)]
  rw [seqAt_self A b ⟨n.val * 512 + r.val, by omega⟩ _ rfl e]
  refine congrArg (fun s => Ideal.div s (FloatOps.sitofp (F := Ideal) .f32 (cntBV (BitVec.ofNat 32 (n.val * 512 + r.val)) 1#32 2#32)) - A (ix3 b ⟨n.val * 512 + r.val, by omega⟩ e)) ?_
  dsimp only
  generalize seqAt A b (7 + (n.val * 512 + r.val)) e = z7
  generalize seqAt A b (6 + (n.val * 512 + r.val)) e = z6
  generalize seqAt A b (9 + (n.val * 512 + r.val)) e = z9
  ac_rfl

/-- Group 2's window mean less the token is the reference's. -/
theorem mean2 (r : Fin 512) (e : Fin 256) (h : e.val / 64 = 2) :
    meanAt n.val (rows i ap am an) r e - rows i ap am an (ix2 ⟨8 + r.val, by omega⟩ e) = part2 A (ix3 b ⟨n.val * 512 + r.val, by omega⟩ ⟨e.val % 64, by omega⟩) := by
  unfold meanAt cntF
  rw [Cert.MixRefIdeal.Value.part2_at A b _ ⟨e.val % 64, by omega⟩ e (by simp only; omega), if_neg (by omega), if_neg (by omega), if_pos (by omega)]
  rw [rows_seq H i hi ⟨7 + r.val, by omega⟩ e (7 + (n.val * 512 + r.val)) (by simp only; omega), rows_seq H i hi ⟨8 + r.val, by omega⟩ e (8 + (n.val * 512 + r.val)) (by simp only; omega), rows_seq H i hi ⟨6 + r.val, by omega⟩ e (6 + (n.val * 512 + r.val)) (by simp only; omega), rows_seq H i hi ⟨9 + r.val, by omega⟩ e (9 + (n.val * 512 + r.val)) (by simp only; omega), rows_seq H i hi ⟨4 + r.val, by omega⟩ e (4 + (n.val * 512 + r.val)) (by simp only; omega), rows_seq H i hi ⟨5 + r.val, by omega⟩ e (5 + (n.val * 512 + r.val)) (by simp only; omega), rows_seq H i hi ⟨10 + r.val, by omega⟩ e (10 + (n.val * 512 + r.val)) (by simp only; omega), rows_seq H i hi ⟨11 + r.val, by omega⟩ e (11 + (n.val * 512 + r.val)) (by simp only; omega)]
  rw [seqAt_self A b ⟨n.val * 512 + r.val, by omega⟩ _ rfl e]
  refine congrArg (fun s => Ideal.div s (FloatOps.sitofp (F := Ideal) .f32 (cntBV (BitVec.ofNat 32 (n.val * 512 + r.val)) 3#32 4#32)) - A (ix3 b ⟨n.val * 512 + r.val, by omega⟩ e)) ?_
  dsimp only
  generalize seqAt A b (7 + (n.val * 512 + r.val)) e = z7
  generalize seqAt A b (6 + (n.val * 512 + r.val)) e = z6
  generalize seqAt A b (9 + (n.val * 512 + r.val)) e = z9
  generalize seqAt A b (4 + (n.val * 512 + r.val)) e = z4
  generalize seqAt A b (5 + (n.val * 512 + r.val)) e = z5
  generalize seqAt A b (10 + (n.val * 512 + r.val)) e = z10
  generalize seqAt A b (11 + (n.val * 512 + r.val)) e = z11
  ac_rfl

/-- Group 3's window mean less the token is the reference's. -/
theorem mean3 (r : Fin 512) (e : Fin 256) (h : e.val / 64 = 3) :
    meanAt n.val (rows i ap am an) r e - rows i ap am an (ix2 ⟨8 + r.val, by omega⟩ e) = part3 A (ix3 b ⟨n.val * 512 + r.val, by omega⟩ ⟨e.val % 64, by omega⟩) := by
  unfold meanAt cntF
  rw [Cert.MixRefIdeal.Value.part3_at A b _ ⟨e.val % 64, by omega⟩ e (by simp only; omega), if_neg (by omega), if_neg (by omega), if_neg (by omega)]
  rw [rows_seq H i hi ⟨7 + r.val, by omega⟩ e (7 + (n.val * 512 + r.val)) (by simp only; omega), rows_seq H i hi ⟨8 + r.val, by omega⟩ e (8 + (n.val * 512 + r.val)) (by simp only; omega), rows_seq H i hi ⟨6 + r.val, by omega⟩ e (6 + (n.val * 512 + r.val)) (by simp only; omega), rows_seq H i hi ⟨9 + r.val, by omega⟩ e (9 + (n.val * 512 + r.val)) (by simp only; omega), rows_seq H i hi ⟨4 + r.val, by omega⟩ e (4 + (n.val * 512 + r.val)) (by simp only; omega), rows_seq H i hi ⟨5 + r.val, by omega⟩ e (5 + (n.val * 512 + r.val)) (by simp only; omega), rows_seq H i hi ⟨10 + r.val, by omega⟩ e (10 + (n.val * 512 + r.val)) (by simp only; omega), rows_seq H i hi ⟨11 + r.val, by omega⟩ e (11 + (n.val * 512 + r.val)) (by simp only; omega), rows_seq H i hi ⟨0 + r.val, by omega⟩ e (0 + (n.val * 512 + r.val)) (by simp only; omega), rows_seq H i hi ⟨1 + r.val, by omega⟩ e (1 + (n.val * 512 + r.val)) (by simp only; omega), rows_seq H i hi ⟨2 + r.val, by omega⟩ e (2 + (n.val * 512 + r.val)) (by simp only; omega), rows_seq H i hi ⟨3 + r.val, by omega⟩ e (3 + (n.val * 512 + r.val)) (by simp only; omega), rows_seq H i hi ⟨12 + r.val, by omega⟩ e (12 + (n.val * 512 + r.val)) (by simp only; omega), rows_seq H i hi ⟨13 + r.val, by omega⟩ e (13 + (n.val * 512 + r.val)) (by simp only; omega), rows_seq H i hi ⟨14 + r.val, by omega⟩ e (14 + (n.val * 512 + r.val)) (by simp only; omega), rows_seq H i hi ⟨15 + r.val, by omega⟩ e (15 + (n.val * 512 + r.val)) (by simp only; omega)]
  rw [seqAt_self A b ⟨n.val * 512 + r.val, by omega⟩ _ rfl e]
  refine congrArg (fun s => Ideal.div s (FloatOps.sitofp (F := Ideal) .f32 (cntBV (BitVec.ofNat 32 (n.val * 512 + r.val)) 7#32 8#32)) - A (ix3 b ⟨n.val * 512 + r.val, by omega⟩ e)) ?_
  dsimp only
  generalize seqAt A b (7 + (n.val * 512 + r.val)) e = z7
  generalize seqAt A b (6 + (n.val * 512 + r.val)) e = z6
  generalize seqAt A b (9 + (n.val * 512 + r.val)) e = z9
  generalize seqAt A b (4 + (n.val * 512 + r.val)) e = z4
  generalize seqAt A b (5 + (n.val * 512 + r.val)) e = z5
  generalize seqAt A b (10 + (n.val * 512 + r.val)) e = z10
  generalize seqAt A b (11 + (n.val * 512 + r.val)) e = z11
  generalize seqAt A b (0 + (n.val * 512 + r.val)) e = z0
  generalize seqAt A b (1 + (n.val * 512 + r.val)) e = z1
  generalize seqAt A b (2 + (n.val * 512 + r.val)) e = z2
  generalize seqAt A b (3 + (n.val * 512 + r.val)) e = z3
  generalize seqAt A b (12 + (n.val * 512 + r.val)) e = z12
  generalize seqAt A b (13 + (n.val * 512 + r.val)) e = z13
  generalize seqAt A b (14 + (n.val * 512 + r.val)) e = z14
  generalize seqAt A b (15 + (n.val * 512 + r.val)) e = z15
  ac_rfl

/-- The pooled rows before the map are the reference's. -/
theorem p_eq (r : Fin 512) (e : Fin 256) : meanAt n.val (rows i ap am an) r e - rows i ap am an (ix2 ⟨8 + r.val, by omega⟩ e)
    = pArr (part0 A) (part1 A) (part2 A) (part3 A) (ix4 b ⟨n.val * 512 + r.val, by omega⟩ ⟨e.val / 64, by omega⟩ ⟨e.val % 64, by omega⟩) := by
  have hc : e.val / 64 = 0 ∨ e.val / 64 = 1 ∨ e.val / 64 = 2 ∨ e.val / 64 = 3 := by omega
  rcases hc with h | h | h | h
  · have e1 : (⟨e.val / 64, by omega⟩ : Fin 4) = 0 := Fin.ext h
    rw [mean0 H i hi r e h, e1, Cert.MixRefIdeal.Value.pArr_at0]
  · have e1 : (⟨e.val / 64, by omega⟩ : Fin 4) = 1 := Fin.ext h
    rw [mean1 H i hi r e h, e1, Cert.MixRefIdeal.Value.pArr_at1]
  · have e1 : (⟨e.val / 64, by omega⟩ : Fin 4) = 2 := Fin.ext h
    rw [mean2 H i hi r e h, e1, Cert.MixRefIdeal.Value.pArr_at2]
  · have e1 : (⟨e.val / 64, by omega⟩ : Fin 4) = 3 := Fin.ext h
    rw [mean3 H i hi r e h, e1, Cert.MixRefIdeal.Value.pArr_at3]

/-- The pooled columns' part of the projection, from the arguments. -/
theorem yk_eq (r : Fin 512) (D : Fin 1024) : yk (BitVec.ofNat 32 n.val) (rows i ap am an) bd ps wa (ix2 r D)
    = ∑ C : Fin 256, pooled A PW PS (ix3 b ⟨n.val * 512 + r.val, by omega⟩ C) * W (ix2 ⟨C.val, by omega⟩ D) := by
  rw [yk_at]
  refine Finset.sum_congr rfl fun C _ => ?_
  unfold pooled
  rw [Cert.MixRefIdeal.Value.poolArr_at, H.hps, H.hwa]
  refine congrArg (fun s => s * PS (ix1 C) * W (ix2 ⟨C.val, by omega⟩ D)) ?_
  simp only [H.hbd]
  exact diag_sum _ (fun g j => pArr (part0 A) (part1 A) (part2 A) (part3 A) (ix4 b ⟨n.val * 512 + r.val, by omega⟩ g j)) PW C (fun e => p_eq H i hi r e)

/-- The projection is the reference's. -/
theorem y_eq (r : Fin 512) (D : Fin 1024) : yk (BitVec.ofNat 32 n.val) (rows i ap am an) bd ps wa (ix2 r D) + k0_pay18 (F := Ideal) o wo (ix2 r D)
    = yArr (pooled A PW PS) O W (ix3 b ⟨n.val * 512 + r.val, by omega⟩ D) := by
  rw [yk_eq H i hi, pay18_at, Cert.MixRefIdeal.Value.yArr_at]
  refine Eq.trans ?_ (Fin.sum_univ_add (a := 256) (b := 768) (fun d : Fin (256 + 768) => (if h : d.val < 256 then pooled A PW PS (ix3 b ⟨n.val * 512 + r.val, by omega⟩ ⟨d.val, h⟩)
    else O (ix3 b ⟨n.val * 512 + r.val, by omega⟩ ⟨d.val - 256, by omega⟩)) * W (ix2 d D))).symm
  refine congrArg₂ (· + ·) (Finset.sum_congr rfl fun C _ => ?_) (Finset.sum_congr rfl fun d _ => ?_)
  · have h : (Fin.castAdd 768 C).val < 256 := C.isLt
    rw [dif_pos h]
    rfl
  · have h : ¬ (Fin.natAdd 256 d).val < 256 := by simp
    rw [dif_neg h, H.ho, H.hwo]
    refine congrArg₂ (fun z w => O (ix3 b ⟨n.val * 512 + r.val, by omega⟩ z) * W (ix2 w D)) (Fin.ext ?_) (Fin.ext ?_)
    · show d.val = 256 + d.val - 256
      omega
    · rfl

/-- The block's row is the reference's result at that row. -/
theorem out_eq (z : Fin 1) (r : Fin 512) (D : Fin 1024) :
    k0_pay1 (F := Ideal) (yk (BitVec.ofNat 32 n.val) (rows i ap am an) bd ps wa) (k0_pay18 o wo) x g nw (ix3 z r D)
      = outArr X (yArr (pooled A PW PS) O W) G NW (ix3 b ⟨n.val * 512 + r.val, by omega⟩ D) := by
  rw [pay1_at, Cert.MixRefIdeal.Value.outArr_at]
  simp only [y_eq H i hi, H.hx, H.hg, H.hnw]

end Cert.MixIdeal.Value
-- ==== Proof.MixEntry.lean ====
/- The attention mixer's output kernel's result array is the reference's term of the arguments. -/
module

public import proofs.«01_k».proof.Proof.MixFinal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen
open Cert.MixRefIdeal.Value (yArr outArr pooled)

variable (m : (ℓ : Loc nD τ sig) → Buf (Elt Ideal) ℓ)

/-- The norm weight as a row. -/
theorem V_main_v14_at (c : Dev nD) (d : Fin 1024) :
    (V m c main_v14 : Vec Ideal S1x1024 .f32) (ix2 0 d) = (m ((c.tc : Thread nD τ).loc main_arg2) : Vec Ideal S1024 .f32) (ix1 d) := by
  entry_read
  pointwise []

/-- The pool's scale as a row. -/
theorem V_main_v15_at (c : Dev nD) (d : Fin 256) :
    (V m c main_v15 : Vec Ideal S1x256 .f32) (ix2 0 d) = (m ((c.tc : Thread nD τ).loc main_arg6) : Vec Ideal S256 .f32) (ix1 d) := by
  entry_read
  pointwise []

/-- The output weight's rows of the pooled columns. -/
theorem V_main_v16_at (c : Dev nD) (C : Fin 256) (D : Fin 1024) :
    (V m c main_v16 : Vec Ideal S256x1024 .bf16) (ix2 C D) = (m ((c.tc : Thread nD τ).loc main_arg7) : Vec Ideal S1024x1024 .f32) (ix2 ⟨C.val, by omega⟩ D) := by
  entry_read
  pointwise []

/-- The output weight's rows of the attention's result. -/
theorem V_main_v17_at (c : Dev nD) (d : Fin 768) (D : Fin 1024) :
    (V m c main_v17 : Vec Ideal S768x1024 .bf16) (ix2 d D) = (m ((c.tc : Thread nD τ).loc main_arg7) : Vec Ideal S1024x1024 .f32) (ix2 ⟨256 + d.val, by omega⟩ D) := by
  entry_read
  pointwise []

theorem eye_bit : ∀ g k : Fin 4, IntOp.cmpi .eq (IntOp.addi (BitVec.ofNat 32 g.val) 0#32) (BitVec.ofNat 32 k.val) = if g.val = k.val then 1#1 else 0#1 := by decide

theorem eye_at (g k : Fin 4) : FloatOps.uitofp (F := Ideal) .f32 (IntOp.cmpi .eq (IntOp.addi (BitVec.ofNat 32 g.val) 0#32) (BitVec.ofNat 32 k.val)) = if g.val = k.val then (1 : EReal) else 0 := by
  rw [eye_bit]
  by_cases h : g.val = k.val
  · rw [if_pos h, if_pos h]
    show (((1#1 : BitVec 1).toNat : ℝ) : EReal) = 1
    simp
  · rw [if_neg h, if_neg h]
    show (((0#1 : BitVec 1).toNat : ℝ) : EReal) = 0
    simp

/-- The groups' maps laid out block-diagonally. -/
theorem V_main_v12_at (c : Dev nD) (e C : Fin 256) :
    (V m c main_v12 : Vec Ideal S256x256 .bf16) (ix2 e C) = if e.val / 64 = C.val / 64 then (m ((c.tc : Thread nD τ).loc main_arg5) : Vec Ideal S4x64x64 .f32) (ix3 ⟨e.val / 64, by omega⟩ ⟨e.val % 64, by omega⟩ ⟨C.val % 64, by omega⟩) else (0 : EReal) := by
  have h : (V m c main_v12 : Vec Ideal S256x256 .bf16) (ix2 e C)
      = Mul.mul (α := EReal) (FloatOps.uitofp (F := Ideal) .f32 (IntOp.cmpi .eq (IntOp.addi (BitVec.ofNat 32 (e.val / 64)) 0#32) (BitVec.ofNat 32 (C.val / 64))))
        ((m ((c.tc : Thread nD τ).loc main_arg5) : Vec Ideal S4x64x64 .f32) (ix3 ⟨e.val / 64, by omega⟩ ⟨e.val % 64, by omega⟩ ⟨C.val % 64, by omega⟩)) := by
    entry_read
    pointwise []
    rfl
  rw [h]
  have he := eye_at ⟨e.val / 64, by omega⟩ ⟨C.val / 64, by omega⟩
  rw [he]
  by_cases h' : e.val / 64 = C.val / 64
  · rw [if_pos h', if_pos h']
    exact one_mul (M := EReal) _
  · rw [if_neg h', if_neg h']
    exact zero_mul (M₀ := EReal) _

/-- The block each window stages at a grid point. -/
theorem idx : ∀ t : Fin cfg0.N, win0_0.index t = ![t.val / 16, t.val % 16, 0]
    ∧ win0_1.index t = ![t.val / 16, 0, 0] ∧ win0_2.index t = ![0, 0]
    ∧ win0_3.index t = ![t.val / 16, t.val % 16, 0]
    ∧ (t.val % 16 ≠ 0 → win0_4.index t = ![t.val / 16, t.val % 16 * 64 - 1, 0])
    ∧ (t.val % 16 ≠ 15 → win0_5.index t = ![t.val / 16, t.val % 16 * 64 + 64, 0])
    ∧ win0_6.index t = ![t.val / 16, t.val % 16, 0]
    ∧ win0_7.index t = ![0, 0] ∧ win0_8.index t = ![0, 0] ∧ win0_9.index t = ![0, 0] ∧ win0_10.index t = ![0, 0]
    ∧ win0_11.index t = ![t.val / 16, t.val % 16, 0] ∧ t.val < 128 ∧ ((grid0.coords t) 1).val = t.val % 16 :=
  (by decide +kernel : ∀ t : Fin grid0.N, _)

set_option maxHeartbeats 1600000 in
/-- At every grid point the input blocks read the arguments as a tile must. -/
theorem reads (c : Dev nD) (t : Fin cfg0.N) (hb : t.val / 16 < 8) (hi : t.val % 16 < 16) :
    Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      (iblk m c 0 t) (iblk m c 1 t) (iblk m c 2 t) (iblk m c 3 t) (iblk m c 4 t) (iblk m c 5 t) (iblk m c 6 t) (iblk m c 7 t) (iblk m c 8 t) (iblk m c 9 t) (iblk m c 10 t)
      ⟨t.val / 16, hb⟩ ⟨t.val % 16, hi⟩ where
  hx r d := by refine Eq.trans ?_ (congrFun (V_main_arg0 m c) _); blk_ext [iblk, idx t]
  hg d := by refine Eq.trans ?_ (congrFun (V_main_arg1 m c) _); blk_ext [iblk, idx t]
  hnw d := by refine Eq.trans ?_ (V_main_v14_at m c d); blk_ext [iblk, idx t]
  ham r e := by refine Eq.trans ?_ (congrFun (V_main_arg3 m c) _); blk_ext [iblk, idx t]
  hap h r e := by
    have h' : t.val % 16 ≠ 0 := h
    refine Eq.trans ?_ (congrFun (V_main_arg3 m c) _); blk_ext [iblk, idx t, (idx t).2.2.2.2.1 h']
  han h r e := by
    have h' : t.val % 16 ≠ 15 := h
    refine Eq.trans ?_ (congrFun (V_main_arg3 m c) _); blk_ext [iblk, idx t, (idx t).2.2.2.2.2.1 h']
  ho r d := by refine Eq.trans ?_ (congrFun (V_main_arg4 m c) _); blk_ext [iblk, idx t]
  hbd e C := by refine Eq.trans ?_ (V_main_v12_at m c e C); blk_ext [iblk, idx t]
  hps C := by refine Eq.trans ?_ (V_main_v15_at m c C); blk_ext [iblk, idx t]
  hwa C D := by refine Eq.trans ?_ (V_main_v16_at m c C D); blk_ext [iblk, idx t]
  hwo d D := by refine Eq.trans ?_ (V_main_v17_at m c d D); blk_ext [iblk, idx t]

/-- The result after the run: the reference's term of the arguments. -/
theorem out_final (c : Dev nD) : (dats m 0 c).arrAt 11 cfg0.N = outArr (m ((c.tc : Thread nD τ).loc main_arg0)) (yArr (pooled (m ((c.tc : Thread nD τ).loc main_arg3)) (m ((c.tc : Thread nD τ).loc main_arg5)) (m ((c.tc : Thread nD τ).loc main_arg6))) (m ((c.tc : Thread nD τ).loc main_arg4)) (m ((c.tc : Thread nD τ).loc main_arg7))) (m ((c.tc : Thread nD τ).loc main_arg1)) (m ((c.tc : Thread nD τ).loc main_arg2)) := by
  refine (dats m 0 c).arrAt_eq_of_covers 11 _ (by decide +kernel) fun t _ y => ?_
  blk_simp
  rw [after0_11]
  have ht : t.val < 128 := (idx t).2.2.2.2.2.2.2.2.2.2.2.2.1
  have hn := (idx t).2.2.2.2.2.2.2.2.2.2.2.2.2
  have hy1 : (y 1).val < 512 := (y 1).isLt
  have hy2 : (y 2).val < 1024 := (y 2).isLt
  have hy : y = ix3 (n0 := 1) (n1 := 512) (n2 := 1024) ⟨(y 0).val, (y 0).isLt⟩ ⟨(y 1).val, hy1⟩ ⟨(y 2).val, hy2⟩ := by
    blk_ext []
  rw [hy, out_at m c t, hn]
  refine (out_eq (reads m c t (by omega) (by omega)) (grid0.coords t) hn ⟨(y 0).val, (y 0).isLt⟩ ⟨(y 1).val, hy1⟩ ⟨(y 2).val, hy2⟩).trans ?_
  refine congrArg _ ?_
  blk_ext [idx t]

end Cert.MixIdeal.Value
-- ==== Proof.MixClaims.lean ====
/- The five claims about the attention mixer's output. -/
module

public import proofs.«01_k».proof.Defs
public import proofs.«01_k».proof.Proof.MixEntry
public import proofs.«01_k».proof.Proof.Gen.Mix.Frame
public import proofs.«01_k».proof.Proof.Gen.MixIdeal.Frame
public import proofs.«01_k».proof.Proof.Gen.MixIdeal.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.MixClaims

/-- The kernel runs, leaves its arguments alone and ends quiet. -/
theorem frame_p : Cert.quiescent_Mix := fun m ρ _ => Cert.Mix.Gen.frame m ρ

/-- So does its ideal reading. -/
theorem frame_pi : Cert.quiescent_MixIdeal := fun m ρ _ => Cert.MixIdeal.Gen.frame m ρ

/-- So does the reference's ideal reading. -/
theorem frame_ri : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The ideal reading rewrites no operation. -/
theorem preserves : Cert.preserves_Mix_MixIdeal := trivial

/-- Kernel and reference end with equal results from equal arguments. -/
theorem algebraic : Cert.algebraic_MixIdeal_MixRefIdeal := by
  pair_intro
  · run_from Cert.MixIdeal.Value.run_blocks m g
  · refine (θ_run Cert.MixRefIdeal.defs _ _).mono (fun r h c => ?_) (Cert.MixRefIdeal.Value.run (F := Ideal) m' g')
    obtain ⟨h0, h1, h2, h3, h4, h5, h6, h7⟩ := hagree c
    refine ⟨(h c).1.trans ?_, (h c).2⟩
    rw [Cert.MixIdeal.Value.out_final m c, ← h0, ← h1, ← h2, ← h3, ← h4, ← h5, ← h6, ← h7, ← Cert.MixRefIdeal.Value.v145_eq m' c]
    unfold Cert.MixRefIdeal.Value.outArr
    rfl

end Cert.Proof.MixClaims
-- ==== Proof.SsmCtxPay.lean ====
/- The recurrent mixer's input kernel on the context: its stored values at an index. -/
module

public import proofs.«01_k».proof.Proof.Gen.SsmCtxIdeal.Skeleton
public import proofs.«01_k».proof.Proof.SsmOut
public import Idealize.ShloMosaic.Lib.Pipeline.ValueKit
public import Idealize.ShloMosaic.Lib.VecWindow
public import Idealize.ShloMosaic.Lib.Pointwise

@[expose] public section

set_option maxRecDepth 16384

noncomputable section

open Idealize.ShloMosaic Idealize.ShloMosaic.TcCoe Idealize.SL.Sem

namespace Cert.SsmCtxIdeal.Value

open Cert.SsmCtxIdeal Cert.SsmCtxIdeal.Gen
open Cert.SsmIdeal.Value (canon_row_mem canon_row_not_mem)

theorem pay2_at (x : Vec Ideal S1x8x1024 .f32) (r : Fin 8) (d : Fin 1024) : k0_pay2 (F := Ideal) x (ix2 r d) = x (ix3 0 r d) := by
  pointwise [k0_pay2]
theorem pay3_at (x : Vec Ideal S1x256x1024 .f32) (r : Fin 256) (d : Fin 1024) : k0_pay3 (F := Ideal) x (ix2 r d) = x (ix3 0 r d) := by
  pointwise [k0_pay3]
theorem pay4_at (x : Vec Ideal S1x8x1024 .f32) (r : Fin 8) (d : Fin 1024) : k0_pay4 (F := Ideal) x (ix2 r d) = x (ix3 0 r d) := by
  pointwise [k0_pay4]

/-- The normed and modulated rows at an index. -/
theorem normed_at (x : Vec Ideal S272x1024 .f32) (nw : Vec Ideal S1x1024 .f32) (sc sh : Vec Ideal S1x1x1024 .f32) (r : Fin 272) (d : Fin 1024) :
    k0_pay7 (F := Ideal) (k0_pay5 x nw) sc sh (ix2 r d)
      = x (ix2 r d) * Ideal.rsqrt (Ideal.div (∑ e : Fin 1024, x (ix2 r e) * x (ix2 r e)) (Ideal.ofBits .f32 0x44800000#32)
          + Ideal.ofBits .f32 0x358637BD#32) * nw (ix2 0 d) * (Ideal.ofBits .f32 0x3F800000#32 + sc (ix3 0 0 d)) + sh (ix3 0 0 d) := by
  pointwise [k0_pay7, k0_pay6, k0_pay5]

/-- The tile's own rows are the normed rows from the eighth on. -/
theorem mid_at (n : FVec Ideal S272x1024 .f32) (sc sh : Vec Ideal S1x1x1024 .f32) (r : Fin 256) (d : Fin 1024) :
    k0_pay8 (F := Ideal) n sc sh (ix2 r d) = k0_pay7 (F := Ideal) n sc sh (ix2 ⟨8 + r.val, by omega⟩ d) := by
  pointwise [k0_pay8, k0_pay7]

theorem pay9_at (n : FVec Ideal S272x1024 .f32) (sc sh : Vec Ideal S1x1x1024 .f32) (w : Vec Ideal S1024x512 .bf16) (z : Fin 1) (r : Fin 256) (c : Fin 512) :
    k0_pay9 (F := Ideal) n sc sh w (ix3 z r c) = ∑ d : Fin 1024, k0_pay8 (F := Ideal) n sc sh (ix2 r d) * w (ix2 d c) := by
  pointwise [k0_pay9]
theorem pay10_at (n : FVec Ideal S272x1024 .f32) (sc sh : Vec Ideal S1x1x1024 .f32) (w : Vec Ideal S1024x512 .bf16) (z : Fin 1) (r : Fin 256) (c : Fin 512) :
    k0_pay10 (F := Ideal) n sc sh w (ix3 z r c) = ∑ d : Fin 1024, k0_pay8 (F := Ideal) n sc sh (ix2 r d) * w (ix2 d c) := by
  pointwise [k0_pay10]
theorem pay11_at (n : FVec Ideal S272x1024 .f32) (sc sh : Vec Ideal S1x1x1024 .f32) (w : Vec Ideal S1024x512 .bf16) (z : Fin 1) (r : Fin 256) (c : Fin 512) :
    k0_pay11 (F := Ideal) n sc sh w (ix3 z r c) = ∑ d : Fin 1024, k0_pay8 (F := Ideal) n sc sh (ix2 r d) * w (ix2 d c) := by
  pointwise [k0_pay11]
theorem pay13_at (h : FVec Ideal S256x1024 .bf16) (w : Vec Ideal S1024x512 .bf16) (z : Fin 1) (r : Fin 256) (c : Fin 512) :
    k0_pay13 (F := Ideal) h (k0_pay12 w) (ix3 z r c) = ∑ d : Fin 1024, h (ix2 r d) * w (ix2 d c) := by
  pointwise [k0_pay13, k0_pay12]

/-- The softplus of one value. -/
def softplus (a : EReal) : EReal := max a 0 + Ideal.log1p (Ideal.exp (-(FloatOps.absf (F := Ideal) (φ := .f32) a : EReal)))

theorem pay14_at (h : FVec Ideal S256x1024 .bf16) (w : Vec Ideal S1024x128 .bf16) (b : Vec Ideal S1x128 .f32) (z : Fin 1) (r : Fin 256) (c : Fin 128) :
    k0_pay14 (F := Ideal) h w b (ix3 z r c) = softplus ((∑ d : Fin 1024, h (ix2 r d) * w (ix2 d c)) + b (ix2 0 c)) := by
  pointwise [k0_pay14, softplus]
  rw [zero_sub]

/-- The product of the normed rows with a chunk of the weight, at an index. -/
def upAt (h : FVec Ideal S272x1024 .bf16) (w : Vec Ideal S1024x512 .bf16) (r : Fin 272) (c : Fin 512) : EReal :=
  ∑ d : Fin 1024, h (ix2 r d) * w (ix2 d c)

theorem pay15_at (h : FVec Ideal S272x1024 .bf16) (w : Vec Ideal S1024x512 .bf16) (r : Fin 272) (c : Fin 512) :
    k0_pay15 (F := Ideal) h w (ix2 r c) = upAt h w r c := by
  pointwise [k0_pay15, upAt]
theorem pay20_at (h : FVec Ideal S272x1024 .bf16) (w : Vec Ideal S1024x512 .bf16) (r : Fin 272) (c : Fin 512) :
    k0_pay20 (F := Ideal) h (k0_pay19 w) (ix2 r c) = upAt h w r c := by
  pointwise [k0_pay20, k0_pay19, upAt]
theorem pay25_at (h : FVec Ideal S272x1024 .bf16) (w : Vec Ideal S1024x512 .bf16) (r : Fin 272) (c : Fin 512) :
    k0_pay25 (F := Ideal) h w (ix2 r c) = upAt h w r c := by
  pointwise [k0_pay25, upAt]
theorem pay31_at (h : FVec Ideal S272x1024 .bf16) (w : Vec Ideal S1024x512 .bf16) (r : Fin 272) (c : Fin 512) :
    k0_pay31 (F := Ideal) h w (ix2 r c) = upAt h w r c := by
  pointwise [k0_pay31, upAt]
theorem pay37_at (h : FVec Ideal S272x1024 .bf16) (w : Vec Ideal S1024x512 .bf16) (r : Fin 272) (c : Fin 512) :
    k0_pay37 (F := Ideal) (k0_pay36 h w) (ix2 r c) = upAt h w r c := by
  pointwise [k0_pay37, k0_pay36, upAt]
theorem pay43_at (h : FVec Ideal S272x1024 .bf16) (w : Vec Ideal S1024x512 .bf16) (r : Fin 272) (c : Fin 512) :
    k0_pay43 (F := Ideal) h w (ix2 r c) = upAt h w r c := by
  pointwise [k0_pay43, upAt]

/-- The convolution of four shifted row blocks at an index. -/
def conv (b : Vec Ideal S1x512 .f32) (u0 : Vec Ideal S256x512 .f32) (t0 : Vec Ideal S1x512 .f32) (u1 : Vec Ideal S256x512 .f32) (t1 : Vec Ideal S1x512 .f32)
    (u2 : Vec Ideal S256x512 .f32) (t2 : Vec Ideal S1x512 .f32) (u3 : Vec Ideal S256x512 .f32) (t3 : Vec Ideal S1x512 .f32) (r : Fin 256) (c : Fin 512) : EReal :=
  b (ix2 0 c) + u0 (ix2 r c) * t0 (ix2 0 c) + u1 (ix2 r c) * t1 (ix2 0 c) + u2 (ix2 r c) * t2 (ix2 0 c) + u3 (ix2 r c) * t3 (ix2 0 c)

/-- The sigmoid-weighted value. -/
def silu (a : EReal) : EReal := a * Ideal.logistic a

section Chunks
variable (b : Vec Ideal S1x512 .f32) (u0 : Vec Ideal S256x512 .f32) (t0 : Vec Ideal S1x512 .f32) (u1 : Vec Ideal S256x512 .f32) (t1 : Vec Ideal S1x512 .f32)
    (u2 : Vec Ideal S256x512 .f32) (t2 : Vec Ideal S1x512 .f32) (u3 : Vec Ideal S256x512 .f32) (t3 : Vec Ideal S1x512 .f32) (z : Fin 1) (r : Fin 256) (c : Fin 512)

theorem chunk0_at : k0_pay18 (F := Ideal) b u0 t0 u1 t1 u2 t2 u3 t3 (ix3 z r c) = silu (conv b u0 t0 u1 t1 u2 t2 u3 t3 r c) := by
  pointwise [k0_pay18, silu, conv]
theorem chunk1_at : k0_pay24 (F := Ideal) (k0_pay23 b u0 t0 u1 t1 u2 t2) u3 t3 (ix3 z r c) = silu (conv b u0 t0 u1 t1 u2 t2 u3 t3 r c) := by
  pointwise [k0_pay24, k0_pay23, silu, conv]
theorem chunk2_at : k0_pay30 (F := Ideal) (k0_pay28 b u0 t0) u1 (k0_pay29 t1) u2 t2 u3 t3 (ix3 z r c) = silu (conv b u0 t0 u1 t1 u2 t2 u3 t3 r c) := by
  pointwise [k0_pay30, k0_pay28, k0_pay29, silu, conv]
theorem chunk3_at : k0_pay35 (F := Ideal) (k0_pay34 b) u0 t0 u1 t1 u2 t2 u3 t3 (ix3 z r c) = silu (conv b u0 t0 u1 t1 u2 t2 u3 t3 r c) := by
  pointwise [k0_pay35, k0_pay34, silu, conv]
theorem chunk4_at : k0_pay42 (F := Ideal) (k0_pay40 b u0 t0 u1 t1 u2 t2 u3 t3) (k0_pay41 b u0 t0 u1 t1 u2 t2 u3 t3) (ix3 z r c)
    = silu (conv b u0 t0 u1 t1 u2 t2 u3 t3 r c) := by
  pointwise [k0_pay42, k0_pay41, k0_pay40, silu, conv]
theorem chunk5_at : k0_pay1 (F := Ideal) (k0_pay46 b u0 t0 u1 t1) u2 t2 u3 t3 (ix3 z r c) = silu (conv b u0 t0 u1 t1 u2 t2 u3 t3 r c) := by
  pointwise [k0_pay1, k0_pay46, silu, conv]

end Chunks

theorem pay16_at (r : Fin 8) (d : Fin 512) : k0_pay16 (F := Ideal) (ix2 r d) = 0 := by
  pointwise [k0_pay16]
theorem pay17_at (r : Fin 8) (d : Fin 512) : k0_pay17 (F := Ideal) (ix2 r d) = 0 := by
  pointwise [k0_pay17]
theorem pay21_at (r : Fin 8) (d : Fin 512) : k0_pay21 (F := Ideal) (ix2 r d) = 0 := by
  pointwise [k0_pay21]
theorem pay22_at (r : Fin 8) (d : Fin 512) : k0_pay22 (F := Ideal) (ix2 r d) = 0 := by
  pointwise [k0_pay22]
theorem pay26_at (r : Fin 8) (d : Fin 512) : k0_pay26 (F := Ideal) (ix2 r d) = 0 := by
  pointwise [k0_pay26]
theorem pay27_at (r : Fin 8) (d : Fin 512) : k0_pay27 (F := Ideal) (ix2 r d) = 0 := by
  pointwise [k0_pay27]
theorem pay32_at (r : Fin 8) (d : Fin 512) : k0_pay32 (F := Ideal) (ix2 r d) = 0 := by
  pointwise [k0_pay32]
theorem pay33_at (r : Fin 8) (d : Fin 512) : k0_pay33 (F := Ideal) (ix2 r d) = 0 := by
  pointwise [k0_pay33]
theorem pay38_at (r : Fin 8) (d : Fin 512) : k0_pay38 (F := Ideal) (ix2 r d) = 0 := by
  pointwise [k0_pay38]
theorem pay39_at (r : Fin 8) (d : Fin 512) : k0_pay39 (F := Ideal) (ix2 r d) = 0 := by
  pointwise [k0_pay39]
theorem pay44_at (r : Fin 8) (d : Fin 512) : k0_pay44 (F := Ideal) (ix2 r d) = 0 := by
  pointwise [k0_pay44]
theorem pay45_at (r : Fin 8) (d : Fin 512) : k0_pay45 (F := Ideal) (ix2 r d) = 0 := by
  pointwise [k0_pay45]

/-- The tile's rows with the eight before it and the eight after it. -/
def rows (x : Vec Ideal S1x256x1024 .f32) (xp xn : Vec Ideal S1x8x1024 .f32) : Vec Ideal S272x1024 .f32 :=
  View.canon (Val := Elt Ideal) (s := S272x1024) (e := .f32)
    [⟨Rect.unit ![264, 0] S8x1024.size inb_S272x1024_S8x1024_264_0, k0_pay4 xn⟩,
     ⟨Rect.unit ![8, 0] S256x1024.size inb_S272x1024_S256x1024_8_0, k0_pay3 x⟩,
     ⟨Rect.unit ![0, 0] S8x1024.size inb_S272x1024_S8x1024_0_0, k0_pay2 xp⟩]

/-- The tile's rows at an index: the eight rows before it, the tile, the eight rows after it. -/
theorem rows_at (x : Vec Ideal S1x256x1024 .f32) (xp xn : Vec Ideal S1x8x1024 .f32) (r : Fin 272) (d : Fin 1024) :
    rows x xp xn (ix2 r d) = if h : r.val < 8 then xp (ix3 0 ⟨r.val, h⟩ d)
      else if h' : r.val < 264 then x (ix3 0 ⟨r.val - 8, by omega⟩ d) else xn (ix3 0 ⟨r.val - 264, by omega⟩ d) := by
  unfold rows
  by_cases h : r.val < 8
  · rw [dif_pos h]
    refine (canon_row_not_mem inb_S272x1024_S8x1024_264_0 _ _ r d (by omega)).trans ?_
    refine (canon_row_not_mem inb_S272x1024_S256x1024_8_0 _ _ r d (by omega)).trans ?_
    exact (canon_row_mem inb_S272x1024_S8x1024_0_0 _ _ r ⟨r.val, h⟩ d (by simp)).trans (pay2_at ..)
  · rw [dif_neg h]
    by_cases h' : r.val < 264
    · rw [dif_pos h']
      refine (canon_row_not_mem inb_S272x1024_S8x1024_264_0 _ _ r d (by omega)).trans ?_
      exact (canon_row_mem inb_S272x1024_S256x1024_8_0 _ _ r ⟨r.val - 8, by omega⟩ d (by simp only; omega)).trans (pay3_at ..)
    · rw [dif_neg h']
      exact (canon_row_mem inb_S272x1024_S8x1024_264_0 _ _ r ⟨r.val - 264, by omega⟩ d (by simp only; omega)).trans (pay4_at ..)

end Cert.SsmCtxIdeal.Value
-- ==== Proof.SsmCtxOut.lean ====
/- The recurrent mixer's input kernel on the context: lemmas for its output blocks at an index. Each sequence is one tile,
   the first and the last at once. -/
module

public import proofs.«01_k».proof.Proof.SsmCtxPay
public import proofs.«01_k».proof.Proof.Gen.SsmCtxIdeal.Value

@[expose] public section

set_option maxRecDepth 16384

noncomputable section

open Idealize.ShloMosaic Idealize.ShloMosaic.TcCoe Idealize.SL.Sem
open Idealize.ShloMosaic.Pipeline (Dat)

namespace Cert.SsmCtxIdeal.Value

open Cert.SsmCtxIdeal Cert.SsmCtxIdeal.Gen
open Cert.SsmIdeal.Value (readCov_ld ld2_at canon_col_mem canon_col_not_mem canon_row_mem canon_row_not_mem)

/-- The normed and modulated rows of a point's blocks. -/
def he (x : Vec Ideal S1x256x1024 .f32) (xp xn : Vec Ideal S1x8x1024 .f32) (sh sc : Vec Ideal S1x1x1024 .f32) (nw : Vec Ideal S1x1024 .f32) :
    FVec Ideal S272x1024 .bf16 :=
  k0_pay7 (F := Ideal) (k0_pay5 (rows x xp xn) nw) sc sh

/-- The product of the rows with the weight, at row `q` and column `C`. -/
def uAt (h : FVec Ideal S272x1024 .bf16) (wx : Vec Ideal S1024x3072 .bf16) (q : Fin 272) (C : Fin 3072) : EReal :=
  ∑ d : Fin 1024, h (ix2 q d) * wx (ix2 d C)

/-- The same, zero on the rows before the tile and after it. -/
def hidAt (h : FVec Ideal S272x1024 .bf16) (wx : Vec Ideal S1024x3072 .bf16) (q : Fin 272) (C : Fin 3072) : EReal :=
  if q.val < 8 ∨ 264 ≤ q.val then 0 else uAt h wx q C

/-- The convolution at tile row `r` and column `C`. -/
def cAt (h : FVec Ideal S272x1024 .bf16) (wx : Vec Ideal S1024x3072 .bf16) (cw : Vec Ideal S4x3072 .f32) (cb : Vec Ideal S1x3072 .f32)
    (r : Fin 256) (C : Fin 3072) : EReal :=
  cb (ix2 0 C) + hidAt h wx ⟨6 + r.val, by omega⟩ C * cw (ix2 0 C) + hidAt h wx ⟨7 + r.val, by omega⟩ C * cw (ix2 1 C)
    + hidAt h wx ⟨8 + r.val, by omega⟩ C * cw (ix2 2 C) + hidAt h wx ⟨9 + r.val, by omega⟩ C * cw (ix2 3 C)

/-- The product of the tile's own rows with a weight. -/
def midAt {N : ℕ} (h : FVec Ideal S272x1024 .bf16) (w : Vec Ideal (⟨2, ![1024, N]⟩ : Shape) .bf16) (r : Fin 256) (C : Fin N) : EReal :=
  ∑ d : Fin 1024, h (ix2 ⟨8 + r.val, by omega⟩ d) * w (ix2 d C)

theorem mid_chunk {o : ℕ} (n : FVec Ideal S272x1024 .f32) (sc sh : Vec Ideal S1x1x1024 .f32) (w : Vec Ideal S1024x2048 .bf16)
    (inb : ∀ a : Fin 2, (![0, o] : Fin 2 → ℕ) a + (![1024, 512] : Fin 2 → ℕ) a ≤ (![1024, 2048] : Fin 2 → ℕ) a)
    (r : Fin 256) (c : Fin 512) (C : Fin 2048) (hC : C.val = o + c.val) :
    (∑ d : Fin 1024, k0_pay8 (F := Ideal) n sc sh (ix2 r d) * View.ld (Val := Elt Ideal) w (Rect.unit (s := S1024x2048) ![0, o] ![1024, 512] inb) (ix2 d c))
      = midAt (N := 2048) (k0_pay7 (F := Ideal) n sc sh) w r C :=
  Finset.sum_congr rfl fun d _ => by
    rw [mid_at]
    exact congrArg _ (ld2_at w inb d c d C (by omega) hC)

theorem up_chunk {o : ℕ} (h : FVec Ideal S272x1024 .bf16) (w : Vec Ideal S1024x3072 .bf16)
    (inb : ∀ a : Fin 2, (![0, o] : Fin 2 → ℕ) a + (![1024, 512] : Fin 2 → ℕ) a ≤ (![1024, 3072] : Fin 2 → ℕ) a)
    (q : Fin 272) (c : Fin 512) (C : Fin 3072) (hC : C.val = o + c.val) :
    upAt h (View.ld (Val := Elt Ideal) w (Rect.unit (s := S1024x3072) ![0, o] ![1024, 512] inb)) q c = uAt h w q C :=
  Finset.sum_congr rfl fun d _ => congrArg _ (ld2_at w inb d c d C (by omega) hC)

/-- The shifted rows read from pieces, when each row reads the masked product. -/
theorem conv_chunk {o : ℕ} (h : FVec Ideal S272x1024 .bf16) (wx : Vec Ideal S1024x3072 .bf16) (cw : Vec Ideal S4x3072 .f32) (cb : Vec Ideal S1x3072 .f32)
    (u : Vec Ideal S272x512 .f32)
    (inb0 : ∀ a : Fin 2, (![0, o] : Fin 2 → ℕ) a + (![1, 512] : Fin 2 → ℕ) a ≤ (![4, 3072] : Fin 2 → ℕ) a)
    (inb1 : ∀ a : Fin 2, (![1, o] : Fin 2 → ℕ) a + (![1, 512] : Fin 2 → ℕ) a ≤ (![4, 3072] : Fin 2 → ℕ) a)
    (inb2 : ∀ a : Fin 2, (![2, o] : Fin 2 → ℕ) a + (![1, 512] : Fin 2 → ℕ) a ≤ (![4, 3072] : Fin 2 → ℕ) a)
    (inb3 : ∀ a : Fin 2, (![3, o] : Fin 2 → ℕ) a + (![1, 512] : Fin 2 → ℕ) a ≤ (![4, 3072] : Fin 2 → ℕ) a)
    (inbB : ∀ a : Fin 2, (![0, o] : Fin 2 → ℕ) a + (![1, 512] : Fin 2 → ℕ) a ≤ (![1, 3072] : Fin 2 → ℕ) a)
    (r : Fin 256) (c : Fin 512) (C : Fin 3072) (hC : C.val = o + c.val)
    (hu : ∀ q : Fin 272, u (ix2 q c) = hidAt h wx q C) :
    conv (View.ld (Val := Elt Ideal) cb (Rect.unit (s := S1x3072) ![0, o] ![1, 512] inbB))
        (View.ld u (Rect.unit ![6, 0] ![256, 512] inb_S272x512_S256x512_6_0)) (View.ld (Val := Elt Ideal) cw (Rect.unit (s := S4x3072) ![0, o] ![1, 512] inb0))
        (View.ld u (Rect.unit ![7, 0] ![256, 512] inb_S272x512_S256x512_7_0)) (View.ld (Val := Elt Ideal) cw (Rect.unit (s := S4x3072) ![1, o] ![1, 512] inb1))
        (View.ld u (Rect.unit ![8, 0] ![256, 512] inb_S272x512_S256x512_8_0)) (View.ld (Val := Elt Ideal) cw (Rect.unit (s := S4x3072) ![2, o] ![1, 512] inb2))
        (View.ld u (Rect.unit ![9, 0] ![256, 512] inb_S272x512_S256x512_9_0)) (View.ld (Val := Elt Ideal) cw (Rect.unit (s := S4x3072) ![3, o] ![1, 512] inb3)) r c
      = cAt h wx cw cb r C := by
  have hb := ld2_at cb inbB 0 c 0 C rfl hC
  have h0 := ld2_at cw inb0 0 c 0 C rfl hC
  have h1 := ld2_at cw inb1 0 c 1 C rfl hC
  have h2 := ld2_at cw inb2 0 c 2 C rfl hC
  have h3 := ld2_at cw inb3 0 c 3 C rfl hC
  have u0 := ld2_at u inb_S272x512_S256x512_6_0 r c ⟨6 + r.val, by omega⟩ c rfl (Nat.zero_add _).symm
  have u1 := ld2_at u inb_S272x512_S256x512_7_0 r c ⟨7 + r.val, by omega⟩ c rfl (Nat.zero_add _).symm
  have u2 := ld2_at u inb_S272x512_S256x512_8_0 r c ⟨8 + r.val, by omega⟩ c rfl (Nat.zero_add _).symm
  have u3 := ld2_at u inb_S272x512_S256x512_9_0 r c ⟨9 + r.val, by omega⟩ c rfl (Nat.zero_add _).symm
  unfold conv cAt
  rw [← hu, ← hu, ← hu, ← hu, ← hb, ← h0, ← h1, ← h2, ← h3, ← u0, ← u1, ← u2, ← u3]

/-- The rows of a sequence's one tile: the product between eight zero rows and eight zero rows. -/
theorem hidD (h : FVec Ideal S272x1024 .bf16) (wx : Vec Ideal S1024x3072 .bf16)
    (z8 y8 : FVec Ideal S8x512 .f32) (hz : ∀ r d, z8 (ix2 r d) = 0) (hy : ∀ r d, y8 (ix2 r d) = 0) (u : FVec Ideal S272x512 .f32)
    (L : List (View.Piece (Elt Ideal) S272x512 .f32)) (c : Fin 512) (C : Fin 3072) (hu : ∀ q, u (ix2 q c) = uAt h wx q C) (q : Fin 272) :
    View.canon (Val := Elt Ideal) (s := S272x512) (e := .f32) (⟨Rect.unit ![264, 0] ![8, 512] inb_S272x512_S8x512_264_0, y8⟩
      :: ⟨Rect.unit ![0, 0] ![8, 512] inb_S272x512_S8x512_0_0, z8⟩
      :: ⟨Rect.unit ![0, 0] ![272, 512] inb_S272x512_S272x512_0_0, u⟩ :: L) (ix2 q c) = hidAt h wx q C := by
  unfold hidAt
  by_cases hq : 264 ≤ q.val
  · rw [if_pos (Or.inr hq)]
    exact (canon_row_mem (e := .f32) inb_S272x512_S8x512_264_0 y8 _ q ⟨q.val - 264, by omega⟩ c (by simp only; omega)).trans (hy _ _)
  · refine (canon_row_not_mem (e := .f32) inb_S272x512_S8x512_264_0 y8 _ q c (by omega)).trans ?_
    by_cases hq' : q.val < 8
    · rw [if_pos (Or.inl hq')]
      exact (canon_row_mem (e := .f32) inb_S272x512_S8x512_0_0 z8 _ q ⟨q.val, hq'⟩ c (Nat.zero_add _).symm).trans (hz _ _)
    · rw [if_neg (by omega)]
      refine (canon_row_not_mem (e := .f32) inb_S272x512_S8x512_0_0 z8 _ q c (by omega)).trans ?_
      exact (canon_row_mem inb_S272x512_S272x512_0_0 u L q q c (Nat.zero_add _).symm).trans (hu q)

end Cert.SsmCtxIdeal.Value
-- ==== Proof.SsmCtxRef.lean ====
/- The recurrent mixer's input on the context, reference results at an index: the normed and modulated rows, their products with the
   weights, the four-tap convolution over the rows with its sigmoid-weighted value, and the time steps. -/
module

public import proofs.«01_k».proof.Proof.Gen.SsmCtxRefIdeal.Run
public import Idealize.ShloMosaic.Lib.Pointwise

@[expose] public section

set_option maxRecDepth 16384

noncomputable section

open Idealize.ShloMosaic Idealize.ShloMosaic.TcCoe Idealize.SL.Sem

namespace Cert.SsmCtxRefIdeal.Value
open Cert.SsmCtxRefIdeal Cert.SsmCtxRefIdeal.Gen

/-- One divided by the root of each row's mean square. -/
def invRms (x : Vec Ideal S8x256x1024 .f32) : Vec Ideal S8x256x1 .f32 :=
  Host.rsqrt (F := Ideal) (φ := .f32) (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))

/-- The normed rows, with the norm's weight. -/
def normArr (x : Vec Ideal S8x256x1024 .f32) (w : Vec Ideal S1024 .f32) : Vec Ideal S8x256x1024 .f32 :=
  mulf (F := Ideal) (φ := .f32) (mulf x (broadcastInDim S8x256x1024 ![0, 1, 2] bcast_S8x256x1_S8x256x1024_0_1_2 (invRms x))) (broadcastInDim S8x256x1024 ![0, 1, 2] bcast_S1x1x1024_S8x256x1024_0_1_2 (broadcastInDim S1x1x1024 ![2] bcast_S1024_S1x1x1024_2 w))

/-- The modulated rows. -/
def modArr (n : Vec Ideal S8x256x1024 .f32) (sh sc : Vec Ideal S1x1x1024 .f32) : Vec Ideal S8x256x1024 .f32 :=
  addf (F := Ideal) (φ := .f32) (mulf n (broadcastInDim S8x256x1024 ![0, 1, 2] bcast_S1x1x1024_S8x256x1024_0_1_2 (addf (broadcastInDim S1x1x1024 ![] bcast_S_S1x1x1024 (constant S_ .f32 0x3F800000#32)) sc))) (broadcastInDim S8x256x1024 ![0, 1, 2] bcast_S1x1x1024_S8x256x1024_0_1_2 sh)

/-- The product with the input weight. -/
def inArr (h : Vec Ideal S8x256x1024 .f32) (w : Vec Ideal S1024x5120 .f32) : Vec Ideal S8x256x5120 .f32 :=
  Host.dotGeneral (F := Ideal) (φ₁ := .f32) (φ₂ := .f32) dot_S8x256x1024_S1024x5120_S8x256x5120_2_0_01_1_n_n none h w

/-- The first 2048 columns of the product: `z`. -/
def zArr (u : Vec Ideal S8x256x5120 .f32) : Vec Ideal S8x256x2048 .f32 :=
  extractStridedSlice S8x256x2048 ![0, 0, 0] u slices_S8x256x5120_S8x256x2048_0_0_0

/-- The other columns, with two zero rows before the first and one after the last. -/
def padArr (u : Vec Ideal S8x256x5120 .f32) : Vec Ideal S8x259x3072 .f32 :=
  pad S8x259x3072 ![0, 2, 0] ![0, 1, 0] ![0, 0, 0] (extractStridedSlice S8x256x3072 ![0, 0, 2048] u slices_S8x256x5120_S8x256x3072_0_0_2048) (sitofp (F := Ideal) .f32 (constantI S_ 32 0#32)) pads_S8x256x3072_S8x259x3072_000_210_000 h_S_

/-- The four-tap convolution over the rows. -/
def convArr (u : Vec Ideal S8x259x3072 .f32) (cw : Vec Ideal S3072x4 .f32) (cb : Vec Ideal S3072 .f32) : Vec Ideal S8x256x3072 .f32 :=
  addf (F := Ideal) (φ := .f32) (addf (addf (addf (broadcastInDim S8x256x3072 ![0, 1, 2] bcast_S1x1x3072_S8x256x3072_0_1_2 (broadcastInDim S1x1x3072 ![2] bcast_S3072_S1x1x3072_2 cb))
      (mulf (extractStridedSlice S8x256x3072 ![0, 0, 0] u slices_S8x259x3072_S8x256x3072_0_0_0) (broadcastInDim S8x256x3072 ![0, 1, 2] bcast_S1x1x3072_S8x256x3072_0_1_2 (broadcastInDim S1x1x3072 ![2] bcast_S3072_S1x1x3072_2 (shapeCast _ (extractStridedSlice S3072x1 ![0, 0] cw slices_S3072x4_S3072x1_0_0) shapeCasts_S3072x1_S3072)))))
      (mulf (extractStridedSlice S8x256x3072 ![0, 1, 0] u slices_S8x259x3072_S8x256x3072_0_1_0) (broadcastInDim S8x256x3072 ![0, 1, 2] bcast_S1x1x3072_S8x256x3072_0_1_2 (broadcastInDim S1x1x3072 ![2] bcast_S3072_S1x1x3072_2 (shapeCast _ (extractStridedSlice S3072x1 ![0, 1] cw slices_S3072x4_S3072x1_0_1) shapeCasts_S3072x1_S3072)))))
      (mulf (extractStridedSlice S8x256x3072 ![0, 2, 0] u slices_S8x259x3072_S8x256x3072_0_2_0) (broadcastInDim S8x256x3072 ![0, 1, 2] bcast_S1x1x3072_S8x256x3072_0_1_2 (broadcastInDim S1x1x3072 ![2] bcast_S3072_S1x1x3072_2 (shapeCast _ (extractStridedSlice S3072x1 ![0, 2] cw slices_S3072x4_S3072x1_0_2) shapeCasts_S3072x1_S3072)))))
    (mulf (extractStridedSlice S8x256x3072 ![0, 3, 0] u slices_S8x259x3072_S8x256x3072_0_3_0) (broadcastInDim S8x256x3072 ![0, 1, 2] bcast_S1x1x3072_S8x256x3072_0_1_2 (broadcastInDim S1x1x3072 ![2] bcast_S3072_S1x1x3072_2 (shapeCast _ (extractStridedSlice S3072x1 ![0, 3] cw slices_S3072x4_S3072x1_0_3) shapeCasts_S3072x1_S3072))))

/-- The sigmoid-weighted value. -/
def siluArr (c : Vec Ideal S8x256x3072 .f32) : Vec Ideal S8x256x3072 .f32 :=
  mulf (F := Ideal) (φ := .f32) c (Host.divf (broadcastInDim S8x256x3072 ![] bcast_S_S8x256x3072 (constant S_ .f32 0x3F800000#32)) (addf (broadcastInDim S8x256x3072 ![] bcast_S_S8x256x3072 (constant S_ .f32 0x3F800000#32)) (Host.exp (Host.negf c))))

/-- The first 2048 columns: the convolved x. -/
def xsArr (s : Vec Ideal S8x256x3072 .f32) : Vec Ideal S8x256x2048 .f32 :=
  extractStridedSlice S8x256x2048 ![0, 0, 0] s slices_S8x256x3072_S8x256x2048_0_0_0

/-- The next 512 columns: B. -/
def bArr (s : Vec Ideal S8x256x3072 .f32) : Vec Ideal S8x256x512 .bf16 :=
  truncf (F := Ideal) .bf16 (extractStridedSlice S8x256x512 ![0, 0, 2048] s slices_S8x256x3072_S8x256x512_0_0_2048) bitsLt_bf16_f32

/-- The last 512 columns: C. -/
def cArr (s : Vec Ideal S8x256x3072 .f32) : Vec Ideal S8x256x512 .bf16 :=
  truncf (F := Ideal) .bf16 (extractStridedSlice S8x256x512 ![0, 0, 2560] s slices_S8x256x3072_S8x256x512_0_0_2560) bitsLt_bf16_f32

/-- The time steps before the softplus. -/
def rawArr (h : Vec Ideal S8x256x1024 .f32) (w : Vec Ideal S1024x128 .f32) (b : Vec Ideal S128 .f32) : Vec Ideal S8x256x128 .f32 :=
  addf (F := Ideal) (φ := .f32) (Host.dotGeneral (φ₁ := .f32) (φ₂ := .f32) dot_S8x256x1024_S1024x128_S8x256x128_2_0_01_1_n_n none h w) (broadcastInDim S8x256x128 ![0, 1, 2] bcast_S1x1x128_S8x256x128_0_1_2 (broadcastInDim S1x1x128 ![2] bcast_S128_S1x1x128_2 b))

/-- The softplus. -/
def softplusArr (r : Vec Ideal S8x256x128 .f32) : Vec Ideal S8x256x128 .f32 :=
  select (cmpf (F := Ideal) (φ := .f32) .une (subf r (broadcastInDim S8x256x128 ![] bcast_S_S8x256x128 (constant S_ .f32 0x00000000#32))) (subf r (broadcastInDim S8x256x128 ![] bcast_S_S8x256x128 (constant S_ .f32 0x00000000#32))))
    (addf (F := Ideal) (φ := .f32) r (broadcastInDim S8x256x128 ![] bcast_S_S8x256x128 (constant S_ .f32 0x00000000#32)))
    (addf (F := Ideal) (φ := .f32) (maximumf r (broadcastInDim S8x256x128 ![] bcast_S_S8x256x128 (constant S_ .f32 0x00000000#32)))
      (Host.log1p (Host.exp (Host.negf (Host.absf (subf r (broadcastInDim S8x256x128 ![] bcast_S_S8x256x128 (constant S_ .f32 0x00000000#32))))))))

/-- The normed and modulated rows, from the arguments. -/
def hArr (x : Vec Ideal S8x256x1024 .f32) (sh sc : Vec Ideal S1x1x1024 .f32) (nw : Vec Ideal S1024 .f32) : Vec Ideal S8x256x1024 .f32 :=
  modArr (normArr x nw) sh sc

/-- The convolved columns, from the normed rows. -/
def sArr (h : Vec Ideal S8x256x1024 .f32) (w : Vec Ideal S1024x5120 .f32) (cw : Vec Ideal S3072x4 .f32) (cb : Vec Ideal S3072 .f32) :
    Vec Ideal S8x256x3072 .f32 :=
  siluArr (convArr (padArr (inArr h w)) cw cb)

theorem res1_eq (m : (ℓ : Loc nD τ sig) → Buf (Elt Ideal) ℓ) (c : Dev nD) : res_out1 (F := Ideal) m c
    = xsArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  unfold res_out1 res_main_v53 xsArr sArr siluArr convArr padArr inArr hArr modArr normArr invRms
  rfl

theorem res2_eq (m : (ℓ : Loc nD τ sig) → Buf (Elt Ideal) ℓ) (c : Dev nD) : res_out2 (F := Ideal) m c
    = bArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  unfold res_out2 res_main_v62 bArr sArr siluArr convArr padArr inArr hArr modArr normArr invRms
  rfl

theorem res3_eq (m : (ℓ : Loc nD τ sig) → Buf (Elt Ideal) ℓ) (c : Dev nD) : res_out3 (F := Ideal) m c
    = cArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  unfold res_out3 res_main_v63 cArr sArr siluArr convArr padArr inArr hArr modArr normArr invRms
  rfl

theorem res4_eq (m : (ℓ : Loc nD τ sig) → Buf (Elt Ideal) ℓ) (c : Dev nD) : res_out4 (F := Ideal) m c
    = softplusArr (rawArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)) (m ((c.tc : Thread nD τ).loc main_arg8))) := by
  unfold res_out4 res_main_v60 softplusArr rawArr hArr modArr normArr invRms
  rfl

/-- A row's factor at an index. -/
theorem invRms_at (x : Vec Ideal S8x256x1024 .f32) (b : Fin 8) (r : Fin 256) (z : Fin 1) :
    invRms x (ix3 b r z) = Ideal.rsqrt (Ideal.div (∑ d : Fin 1024, x (ix3 b r d) * x (ix3 b r d)) (Ideal.ofBits .f32 0x44800000#32)
      + Ideal.ofBits .f32 0x358637BD#32) := by
  pointwise [invRms]

theorem normArr_at (x : Vec Ideal S8x256x1024 .f32) (w : Vec Ideal S1024 .f32) (b : Fin 8) (r : Fin 256) (d : Fin 1024) :
    normArr x w (ix3 b r d) = x (ix3 b r d) * invRms x (ix3 b r 0) * w (ix1 d) := by
  pointwise [normArr]

theorem modArr_at (n : Vec Ideal S8x256x1024 .f32) (sh sc : Vec Ideal S1x1x1024 .f32) (b : Fin 8) (r : Fin 256) (d : Fin 1024) :
    modArr n sh sc (ix3 b r d) = n (ix3 b r d) * (Ideal.ofBits .f32 0x3F800000#32 + sc (ix3 0 0 d)) + sh (ix3 0 0 d) := by
  pointwise [modArr]

theorem inArr_at (h : Vec Ideal S8x256x1024 .f32) (w : Vec Ideal S1024x5120 .f32) (b : Fin 8) (r : Fin 256) (c : Fin 5120) :
    inArr h w (ix3 b r c) = ∑ d : Fin 1024, h (ix3 b r d) * w (ix2 d c) := by
  pointwise [inArr]

theorem zArr_at (u : Vec Ideal S8x256x5120 .f32) (b : Fin 8) (r : Fin 256) (c : Fin 2048) :
    zArr u (ix3 b r c) = u (ix3 b r ⟨c.val, by omega⟩) := by
  pointwise [zArr]

theorem padArr_at (u : Vec Ideal S8x256x5120 .f32) (b : Fin 8) (r : Fin 259) (c : Fin 3072) :
    padArr u (ix3 b r c) = if h : 2 ≤ r.val ∧ r.val - 2 < 256 then u (ix3 b ⟨r.val - 2, by omega⟩ ⟨2048 + c.val, by omega⟩) else 0 := by
  have e : (FloatOps.sitofp FTy.f32 0#32 : Ideal .f32) = (0 : EReal) := by
    show (((0#32 : BitVec 32).toInt : ℝ) : EReal) = 0
    simp
  rw [← e]
  pointwise [padArr]

theorem convArr_at (u : Vec Ideal S8x259x3072 .f32) (cw : Vec Ideal S3072x4 .f32) (cb : Vec Ideal S3072 .f32) (b : Fin 8) (r : Fin 256) (c : Fin 3072) :
    convArr u cw cb (ix3 b r c) = cb (ix1 c) + u (ix3 b ⟨r.val, by omega⟩ c) * cw (ix2 c 0)
      + u (ix3 b ⟨1 + r.val, by omega⟩ c) * cw (ix2 c 1) + u (ix3 b ⟨2 + r.val, by omega⟩ c) * cw (ix2 c 2)
      + u (ix3 b ⟨3 + r.val, by omega⟩ c) * cw (ix2 c 3) := by
  pointwise [convArr]

theorem siluArr_at (c : Vec Ideal S8x256x3072 .f32) (b : Fin 8) (r : Fin 256) (j : Fin 3072) :
    siluArr c (ix3 b r j) = c (ix3 b r j) * Ideal.div 1 (1 + Ideal.exp (-c (ix3 b r j))) := by
  pointwise [siluArr]

theorem xsArr_at (s : Vec Ideal S8x256x3072 .f32) (b : Fin 8) (r : Fin 256) (c : Fin 2048) :
    xsArr s (ix3 b r c) = s (ix3 b r ⟨c.val, by omega⟩) := by
  pointwise [xsArr]

theorem bArr_at (s : Vec Ideal S8x256x3072 .f32) (b : Fin 8) (r : Fin 256) (c : Fin 512) :
    bArr s (ix3 b r c) = s (ix3 b r ⟨2048 + c.val, by omega⟩) := by
  pointwise [bArr]

theorem cArr_at (s : Vec Ideal S8x256x3072 .f32) (b : Fin 8) (r : Fin 256) (c : Fin 512) :
    cArr s (ix3 b r c) = s (ix3 b r ⟨2560 + c.val, by omega⟩) := by
  pointwise [cArr]

theorem rawArr_at (h : Vec Ideal S8x256x1024 .f32) (w : Vec Ideal S1024x128 .f32) (bi : Vec Ideal S128 .f32) (b : Fin 8) (r : Fin 256) (c : Fin 128) :
    rawArr h w bi (ix3 b r c) = (∑ d : Fin 1024, h (ix3 b r d) * w (ix2 d c)) + bi (ix1 c) := by
  pointwise [rawArr]

theorem softplusArr_at (a : Vec Ideal S8x256x128 .f32) (b : Fin 8) (r : Fin 256) (c : Fin 128) :
    softplusArr a (ix3 b r c) = max (a (ix3 b r c)) 0 + Ideal.log1p (Ideal.exp (-(FloatOps.absf (F := Ideal) (φ := .f32) (a (ix3 b r c)) : EReal))) := by
  pointwise [softplusArr]
  exact if_neg fun h => h rfl

end Cert.SsmCtxRefIdeal.Value
-- ==== Proof.SsmCtxFinal.lean ====
/- The mixer input kernel's blocks at a grid point are the reference's terms of the arguments. -/
module

public import proofs.«01_k».proof.Proof.SsmCtxOut
public import proofs.«01_k».proof.Proof.SsmCtxRef

@[expose] public section

set_option maxRecDepth 16384

noncomputable section

open Idealize.ShloMosaic Idealize.ShloMosaic.TcCoe Idealize.SL.Sem
open Idealize.ShloMosaic.Pipeline (Dat)

namespace Cert.SsmCtxIdeal.Value

open Cert.SsmCtxIdeal Cert.SsmCtxIdeal.Gen
open Cert.SsmCtxRefIdeal.Value (invRms normArr modArr inArr zArr padArr convArr siluArr xsArr bArr cArr rawArr softplusArr hArr sArr)

section Point

variable (X : Vec Ideal S8x256x1024 .f32) (SH SC : Vec Ideal S1x1x1024 .f32) (NW : Vec Ideal S1024 .f32)
  (W : Vec Ideal S1024x5120 .f32) (CW : Vec Ideal S3072x4 .f32) (CB : Vec Ideal S3072 .f32) (WDT : Vec Ideal S1024x128 .f32) (DTB : Vec Ideal S128 .f32)
  (x : Vec Ideal S1x256x1024 .f32) (xp xn : Vec Ideal S1x8x1024 .f32) (sh sc : Vec Ideal S1x1x1024 .f32)
  (nw : Vec Ideal S1x1024 .f32) (wz : Vec Ideal S1024x2048 .bf16) (wx : Vec Ideal S1024x3072 .bf16) (wdt : Vec Ideal S1024x128 .bf16)
  (cw : Vec Ideal S4x3072 .f32) (cb : Vec Ideal S1x3072 .f32) (dtb : Vec Ideal S1x128 .f32) (b : Fin 8)

/-- What each input block of a grid point reads of the arguments. -/
structure Reads : Prop where
  hx : ∀ (r : Fin 256) (d : Fin 1024), x (ix3 0 r d) = X (ix3 b r d)
  hsh : ∀ d : Fin 1024, sh (ix3 0 0 d) = SH (ix3 0 0 d)
  hsc : ∀ d : Fin 1024, sc (ix3 0 0 d) = SC (ix3 0 0 d)
  hnw : ∀ d : Fin 1024, nw (ix2 0 d) = NW (ix1 d)
  hwz : ∀ (d : Fin 1024) (C : Fin 2048), wz (ix2 d C) = W (ix2 d ⟨C.val, by omega⟩)
  hwx : ∀ (d : Fin 1024) (C : Fin 3072), wx (ix2 d C) = W (ix2 d ⟨2048 + C.val, by omega⟩)
  hwdt : ∀ (d : Fin 1024) (C : Fin 128), wdt (ix2 d C) = WDT (ix2 d C)
  hcw : ∀ (k : Fin 4) (C : Fin 3072), cw (ix2 k C) = CW (ix2 C k)
  hcb : ∀ C : Fin 3072, cb (ix2 0 C) = CB (ix1 C)
  hdtb : ∀ C : Fin 128, dtb (ix2 0 C) = DTB (ix1 C)

variable {X SH SC NW W CW CB WDT DTB x xp xn sh sc nw wz wx wdt cw cb dtb b}
variable (H : Reads X SH SC NW W CW CB WDT DTB x sh sc nw wz wx wdt cw cb dtb b)
include H

/-- A row of the tile that lies in the sequence is the argument's row. -/
theorem rows_eq (r : Fin 272) (R : Fin 256) (hR : R.val + 8 = r.val) (d : Fin 1024) :
    rows x xp xn (ix2 r d) = X (ix3 b R d) := by
  rw [rows_at, dif_neg (by omega), dif_pos (by omega), H.hx]
  exact congrArg X (congrArg (fun z => ix3 b z d) (Fin.ext (by simp only; omega)))

/-- So is its normed and modulated row. -/
theorem he_eq (r : Fin 272) (R : Fin 256) (hR : R.val + 8 = r.val) (d : Fin 1024) :
    he x xp xn sh sc nw (ix2 r d) = hArr X SH SC NW (ix3 b R d) := by
  unfold he hArr
  rw [normed_at, Cert.SsmCtxRefIdeal.Value.modArr_at, Cert.SsmCtxRefIdeal.Value.normArr_at, Cert.SsmCtxRefIdeal.Value.invRms_at]
  simp only [rows_eq H r R hR, H.hnw, H.hsc, H.hsh]

/-- The gate branch's block. -/
theorem z_eq (r : Fin 256) (C : Fin 2048) :
    midAt (N := 2048) (he x xp xn sh sc nw) wz r C = zArr (inArr (hArr X SH SC NW) W) (ix3 b r C) := by
  unfold midAt
  rw [Cert.SsmCtxRefIdeal.Value.zArr_at, Cert.SsmCtxRefIdeal.Value.inArr_at]
  refine Finset.sum_congr rfl fun d _ => ?_
  rw [he_eq H ⟨8 + r.val, by omega⟩ r (by simp only; omega), H.hwz]

/-- The rows the convolution reads are the reference's padded rows. -/
theorem hid_eq (q : Fin 272) (C : Fin 3072) (p : Fin 259) (hp : p.val + 6 = q.val)
    (h6 : 6 ≤ q.val) (h264 : q.val ≤ 264) :
    hidAt (he x xp xn sh sc nw) wx q C = padArr (inArr (hArr X SH SC NW) W) (ix3 b p C) := by
  unfold hidAt
  rw [Cert.SsmCtxRefIdeal.Value.padArr_at]
  by_cases h : q.val < 8 ∨ 264 ≤ q.val
  · rw [if_pos h, dif_neg (by omega)]
  · rw [if_neg h, dif_pos (by omega), Cert.SsmCtxRefIdeal.Value.inArr_at]
    refine Finset.sum_congr rfl fun d _ => ?_
    rw [he_eq H q ⟨p.val - 2, by omega⟩ (by simp only; omega), H.hwx]

/-- The convolution's block, with its silu. -/
theorem s_eq (r : Fin 256) (C : Fin 3072) :
    silu (cAt (he x xp xn sh sc nw) wx cw cb r C) = sArr (hArr X SH SC NW) W CW CB (ix3 b r C) := by
  have e : cAt (he x xp xn sh sc nw) wx cw cb r C
      = convArr (padArr (inArr (hArr X SH SC NW) W)) CW CB (ix3 b r C) := by
    unfold cAt
    rw [Cert.SsmCtxRefIdeal.Value.convArr_at,
      hid_eq H ⟨6 + r.val, by omega⟩ C ⟨r.val, by omega⟩ (by simp only; omega) (by simp only; omega) (by simp only; omega),
      hid_eq H ⟨7 + r.val, by omega⟩ C ⟨1 + r.val, by omega⟩ (by simp only; omega) (by simp only; omega) (by simp only; omega),
      hid_eq H ⟨8 + r.val, by omega⟩ C ⟨2 + r.val, by omega⟩ (by simp only; omega) (by simp only; omega) (by simp only; omega),
      hid_eq H ⟨9 + r.val, by omega⟩ C ⟨3 + r.val, by omega⟩ (by simp only; omega) (by simp only; omega) (by simp only; omega),
      H.hcb, H.hcw, H.hcw, H.hcw, H.hcw]
  unfold sArr
  rw [e, Cert.SsmCtxRefIdeal.Value.siluArr_at]
  rfl

/-- The time steps' block. -/
theorem dt_eq (r : Fin 256) (C : Fin 128) :
    softplus (midAt (N := 128) (he x xp xn sh sc nw) wdt r C + dtb (ix2 0 C))
      = softplusArr (rawArr (hArr X SH SC NW) WDT DTB) (ix3 b r C) := by
  have e : midAt (N := 128) (he x xp xn sh sc nw) wdt r C + dtb (ix2 0 C)
      = rawArr (hArr X SH SC NW) WDT DTB (ix3 b r C) := by
    unfold midAt
    rw [Cert.SsmCtxRefIdeal.Value.rawArr_at, H.hdtb]
    refine congrArg (fun z => z + DTB (ix1 C)) (Finset.sum_congr rfl fun d _ => ?_)
    rw [he_eq H ⟨8 + r.val, by omega⟩ r (by simp only; omega), H.hwdt]
  rw [e, Cert.SsmCtxRefIdeal.Value.softplusArr_at]
  rfl

end Point

end Cert.SsmCtxIdeal.Value
-- ==== Proof.SsmCtxTile.lean ====
/- The recurrent mixer's input kernel's output blocks on the context, at an index. -/
module

public import proofs.«01_k».proof.Proof.SsmCtxOut

@[expose] public section

set_option maxRecDepth 16384

noncomputable section

open Idealize.ShloMosaic Idealize.ShloMosaic.TcCoe Idealize.SL.Sem
open Idealize.ShloMosaic.Pipeline (Dat)

namespace Cert.SsmCtxIdeal.Value

open Cert.SsmCtxIdeal Cert.SsmCtxIdeal.Gen
open Cert.SsmIdeal.Value (readCov_ld canon_col_mem canon_col_not_mem)

set_option maxHeartbeats 800000

variable (m : (ℓ : Loc nD τ sig) → Buf (Elt Ideal) ℓ)

theorem z_D (c : Dev nD) (t : Fin cfg0.N) (z : Fin 1) (r : Fin 256) (C : Fin 2048) :
    (outsAt0 m c t).1 (ix3 z r C) = midAt (N := 2048) (he (iblk m c 0 t) (iblk m c 1 t) (iblk m c 2 t) (iblk m c 3 t) (iblk m c 4 t) (iblk m c 5 t)) (iblk m c 6 t) r C := by
  have hz : (![0, 0] : Fin 2 → Nat) = fun _ => 0 := funext fun a => by fin_cases a <;> rfl
  rw [outsAt0]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  by_cases h3c : 1536 ≤ C.val
  · have hC : C.val = 1536 + (⟨C.val - 1536, by omega⟩ : Fin 512).val := by simp only; omega
    refine (canon_col_mem inb_S1x256x2048_S1x256x512_0_0_1536 _ _ z r C ⟨C.val - 1536, by omega⟩ hC).trans ?_
    refine (pay13_at ..).trans ?_
    exact mid_chunk _ _ _ _ _ _ _ C hC
  refine (canon_col_not_mem inb_S1x256x2048_S1x256x512_0_0_1536 _ _ z r C (by omega)).trans ?_
  by_cases h2c : 1024 ≤ C.val
  · have hC : C.val = 1024 + (⟨C.val - 1024, by omega⟩ : Fin 512).val := by simp only; omega
    refine (canon_col_mem inb_S1x256x2048_S1x256x512_0_0_1024 _ _ z r C ⟨C.val - 1024, by omega⟩ hC).trans ?_
    refine (pay11_at ..).trans ?_
    exact mid_chunk _ _ _ _ _ _ _ C hC
  refine (canon_col_not_mem inb_S1x256x2048_S1x256x512_0_0_1024 _ _ z r C (by omega)).trans ?_
  by_cases h1c : 512 ≤ C.val
  · have hC : C.val = 512 + (⟨C.val - 512, by omega⟩ : Fin 512).val := by simp only; omega
    refine (canon_col_mem inb_S1x256x2048_S1x256x512_0_0_512 _ _ z r C ⟨C.val - 512, by omega⟩ hC).trans ?_
    refine (pay10_at ..).trans ?_
    exact mid_chunk _ _ _ _ _ _ _ C hC
  refine (canon_col_not_mem inb_S1x256x2048_S1x256x512_0_0_512 _ _ z r C (by omega)).trans ?_
  have hC : C.val = 0 + (⟨C.val - 0, by omega⟩ : Fin 512).val := by simp only; omega
  refine (canon_col_mem inb_S1x256x2048_S1x256x512_0_0_0 _ _ z r C ⟨C.val - 0, by omega⟩ hC).trans ?_
  refine (pay9_at ..).trans ?_
  exact mid_chunk _ _ _ _ _ _ _ C hC

theorem xs_D (c : Dev nD) (t : Fin cfg0.N) (z : Fin 1) (r : Fin 256) (C : Fin 2048) :
    (outsAt0 m c t).2.1 (ix3 z r C)
      = silu (cAt (he (iblk m c 0 t) (iblk m c 1 t) (iblk m c 2 t) (iblk m c 3 t) (iblk m c 4 t) (iblk m c 5 t)) (iblk m c 7 t) (iblk m c 9 t) (iblk m c 10 t) r ⟨C.val, by omega⟩) := by
  have hz : (![0, 0] : Fin 2 → Nat) = fun _ => 0 := funext fun a => by fin_cases a <;> rfl
  rw [outsAt0]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  by_cases h3c : 1536 ≤ C.val
  · have hC : C.val = 1536 + (⟨C.val - 1536, by omega⟩ : Fin 512).val := by simp only; omega
    refine (canon_col_mem inb_S1x256x2048_S1x256x512_0_0_1536 _ _ z r C ⟨C.val - 1536, by omega⟩ hC).trans ?_
    refine (chunk3_at ..).trans (congrArg silu ?_)
    refine conv_chunk (he x0 x1 x2 x3 x4 x5) x7 x9 x10 _ _ _ _ _ _ r _ _ hC ?_
    exact hidD _ _ _ _ pay32_at pay33_at _ _ _ _ (fun q => (pay31_at _ _ q _).trans (up_chunk _ _ _ q _ _ hC))
  refine (canon_col_not_mem inb_S1x256x2048_S1x256x512_0_0_1536 _ _ z r C (by omega)).trans ?_
  by_cases h2c : 1024 ≤ C.val
  · have hC : C.val = 1024 + (⟨C.val - 1024, by omega⟩ : Fin 512).val := by simp only; omega
    refine (canon_col_mem inb_S1x256x2048_S1x256x512_0_0_1024 _ _ z r C ⟨C.val - 1024, by omega⟩ hC).trans ?_
    refine (chunk2_at ..).trans (congrArg silu ?_)
    refine conv_chunk (he x0 x1 x2 x3 x4 x5) x7 x9 x10 _ _ _ _ _ _ r _ _ hC ?_
    exact hidD _ _ _ _ pay26_at pay27_at _ _ _ _ (fun q => (pay25_at _ _ q _).trans (up_chunk _ _ _ q _ _ hC))
  refine (canon_col_not_mem inb_S1x256x2048_S1x256x512_0_0_1024 _ _ z r C (by omega)).trans ?_
  by_cases h1c : 512 ≤ C.val
  · have hC : C.val = 512 + (⟨C.val - 512, by omega⟩ : Fin 512).val := by simp only; omega
    refine (canon_col_mem inb_S1x256x2048_S1x256x512_0_0_512 _ _ z r C ⟨C.val - 512, by omega⟩ hC).trans ?_
    refine (chunk1_at ..).trans (congrArg silu ?_)
    refine conv_chunk (he x0 x1 x2 x3 x4 x5) x7 x9 x10 _ _ _ _ _ _ r _ _ hC ?_
    exact hidD _ _ _ _ pay21_at pay22_at _ _ _ _ (fun q => (pay20_at _ _ q _).trans (up_chunk _ _ _ q _ _ hC))
  refine (canon_col_not_mem inb_S1x256x2048_S1x256x512_0_0_512 _ _ z r C (by omega)).trans ?_
  have hC : C.val = 0 + (⟨C.val - 0, by omega⟩ : Fin 512).val := by simp only; omega
  refine (canon_col_mem inb_S1x256x2048_S1x256x512_0_0_0 _ _ z r C ⟨C.val - 0, by omega⟩ hC).trans ?_
  refine (chunk0_at ..).trans (congrArg silu ?_)
  refine conv_chunk (he x0 x1 x2 x3 x4 x5) x7 x9 x10 _ _ _ _ _ _ r _ _ hC ?_
  exact hidD _ _ _ _ pay16_at pay17_at _ _ _ _ (fun q => (pay15_at _ _ q _).trans (up_chunk _ _ _ q _ _ hC))

theorem bm_D (c : Dev nD) (t : Fin cfg0.N) (z : Fin 1) (r : Fin 256) (C : Fin 512) :
    (outsAt0 m c t).2.2.1 (ix3 z r C)
      = silu (cAt (he (iblk m c 0 t) (iblk m c 1 t) (iblk m c 2 t) (iblk m c 3 t) (iblk m c 4 t) (iblk m c 5 t)) (iblk m c 7 t) (iblk m c 9 t) (iblk m c 10 t) r ⟨2048 + C.val, by omega⟩) := by
  have hz : (![0, 0] : Fin 2 → Nat) = fun _ => 0 := funext fun a => by fin_cases a <;> rfl
  rw [outsAt0]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have hC : (⟨2048 + C.val, by omega⟩ : Fin 3072).val = 2048 + C.val := rfl
  refine (chunk4_at ..).trans (congrArg silu ?_)
  refine conv_chunk (he x0 x1 x2 x3 x4 x5) x7 x9 x10 _ _ _ _ _ _ r _ _ hC ?_
  exact hidD _ _ _ _ pay38_at pay39_at _ _ _ _ (fun q => (pay37_at _ _ q _).trans (up_chunk _ _ _ q _ _ hC))

theorem cm_D (c : Dev nD) (t : Fin cfg0.N) (z : Fin 1) (r : Fin 256) (C : Fin 512) :
    (outsAt0 m c t).2.2.2.1 (ix3 z r C)
      = silu (cAt (he (iblk m c 0 t) (iblk m c 1 t) (iblk m c 2 t) (iblk m c 3 t) (iblk m c 4 t) (iblk m c 5 t)) (iblk m c 7 t) (iblk m c 9 t) (iblk m c 10 t) r ⟨2560 + C.val, by omega⟩) := by
  have hz : (![0, 0] : Fin 2 → Nat) = fun _ => 0 := funext fun a => by fin_cases a <;> rfl
  rw [outsAt0]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have hC : (⟨2560 + C.val, by omega⟩ : Fin 3072).val = 2560 + C.val := rfl
  refine (chunk5_at ..).trans (congrArg silu ?_)
  refine conv_chunk (he x0 x1 x2 x3 x4 x5) x7 x9 x10 _ _ _ _ _ _ r _ _ hC ?_
  exact hidD _ _ _ _ pay44_at pay45_at _ _ _ _ (fun q => (pay43_at _ _ q _).trans (up_chunk _ _ _ q _ _ hC))

theorem dt_D (c : Dev nD) (t : Fin cfg0.N) (z : Fin 1) (r : Fin 256) (C : Fin 128) :
    (outsAt0 m c t).2.2.2.2 (ix3 z r C)
      = softplus (midAt (N := 128) (he (iblk m c 0 t) (iblk m c 1 t) (iblk m c 2 t) (iblk m c 3 t) (iblk m c 4 t) (iblk m c 5 t)) (iblk m c 8 t) r C + iblk m c 11 t (ix2 0 C)) := by
  have hz : (![0, 0] : Fin 2 → Nat) = fun _ => 0 := funext fun a => by fin_cases a <;> rfl
  rw [outsAt0]
  frame_out
  simp only [readCov_ld, View.ld_unit_zero (S := S272x1024) hz]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  refine (pay14_at ..).trans ?_
  refine congrArg softplus (congrArg (· + _) ?_)
  exact Finset.sum_congr rfl fun d _ => congrArg (· * _) (mid_at ..)

end Cert.SsmCtxIdeal.Value
-- ==== Proof.SsmCtxEntry.lean ====
/- The mixer input kernel on the context: result arrays are the reference's terms of the arguments. -/
module

public import proofs.«01_k».proof.Proof.SsmCtxFinal
public import proofs.«01_k».proof.Proof.SsmCtxTile
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsmCtxIdeal.Value

open Cert.SsmCtxIdeal Cert.SsmCtxIdeal.Gen
open Cert.SsmCtxRefIdeal.Value (inArr zArr xsArr bArr cArr rawArr softplusArr hArr sArr)

variable (m : (ℓ : Loc nD τ sig) → Buf (Elt Ideal) ℓ)

/-- The norm weight as a row. -/
theorem V_main_v1_at (c : Dev nD) (d : Fin 1024) :
    (V m c main_v1 : Vec Ideal S1x1024 .f32) (ix2 0 d) = (m ((c.tc : Thread nD τ).loc main_arg3) : Vec Ideal S1024 .f32) (ix1 d) := by
  entry_read
  pointwise []

/-- The gate branch's columns of the projection. -/
theorem V_main_v2_at (c : Dev nD) (d : Fin 1024) (C : Fin 2048) :
    (V m c main_v2 : Vec Ideal S1024x2048 .bf16) (ix2 d C) = (m ((c.tc : Thread nD τ).loc main_arg4) : Vec Ideal S1024x5120 .f32) (ix2 d ⟨C.val, by omega⟩) := by
  entry_read
  pointwise []

/-- The convolved columns of the projection. -/
theorem V_main_v3_at (c : Dev nD) (d : Fin 1024) (C : Fin 3072) :
    (V m c main_v3 : Vec Ideal S1024x3072 .bf16) (ix2 d C) = (m ((c.tc : Thread nD τ).loc main_arg4) : Vec Ideal S1024x5120 .f32) (ix2 d ⟨2048 + C.val, by omega⟩) := by
  entry_read
  pointwise []

/-- The time-step weights. -/
theorem V_main_v4_at (c : Dev nD) (d : Fin 1024) (C : Fin 128) :
    (V m c main_v4 : Vec Ideal S1024x128 .bf16) (ix2 d C) = (m ((c.tc : Thread nD τ).loc main_arg7) : Vec Ideal S1024x128 .f32) (ix2 d C) := by
  entry_read
  pointwise []

/-- The taps, one row per tap. -/
theorem V_main_v5_at (c : Dev nD) (k : Fin 4) (C : Fin 3072) :
    (V m c main_v5 : Vec Ideal S4x3072 .f32) (ix2 k C) = (m ((c.tc : Thread nD τ).loc main_arg5) : Vec Ideal S3072x4 .f32) (ix2 C k) := by
  entry_read
  pointwise []

/-- The convolution's bias as a row. -/
theorem V_main_v6_at (c : Dev nD) (C : Fin 3072) :
    (V m c main_v6 : Vec Ideal S1x3072 .f32) (ix2 0 C) = (m ((c.tc : Thread nD τ).loc main_arg6) : Vec Ideal S3072 .f32) (ix1 C) := by
  entry_read
  pointwise []

/-- The time-step bias as a row. -/
theorem V_main_v7_at (c : Dev nD) (C : Fin 128) :
    (V m c main_v7 : Vec Ideal S1x128 .f32) (ix2 0 C) = (m ((c.tc : Thread nD τ).loc main_arg8) : Vec Ideal S128 .f32) (ix1 C) := by
  entry_read
  pointwise []

/-- The block each window stages at a grid point. -/
theorem idx : ∀ t : Fin cfg0.N, win0_0.index t = ![t.val, 0, 0]
    ∧ win0_3.index t = ![0, 0, 0] ∧ win0_4.index t = ![0, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val, 0, 0] ∧ win0_13.index t = ![t.val, 0, 0]
    ∧ win0_14.index t = ![t.val, 0, 0] ∧ win0_15.index t = ![t.val, 0, 0]
    ∧ win0_16.index t = ![t.val, 0, 0] ∧ t.val < 8 :=
  (by decide +kernel : ∀ t : Fin grid0.N, _)

set_option maxHeartbeats 1600000 in
/-- At every grid point the input blocks read the arguments. -/
theorem reads (c : Dev nD) (t : Fin cfg0.N) (hb : t.val < 8) :
    Reads (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (iblk m c 0 t) (iblk m c 3 t) (iblk m c 4 t) (iblk m c 5 t) (iblk m c 6 t) (iblk m c 7 t) (iblk m c 8 t) (iblk m c 9 t) (iblk m c 10 t) (iblk m c 11 t)
      ⟨t.val, hb⟩ where
  hx r d := by refine Eq.trans ?_ (congrFun (V_main_arg0 m c) _); blk_ext [iblk, idx t]
  hsh d := by refine Eq.trans ?_ (congrFun (V_main_arg1 m c) _); blk_ext [iblk, idx t]
  hsc d := by refine Eq.trans ?_ (congrFun (V_main_arg2 m c) _); blk_ext [iblk, idx t]
  hnw d := by refine Eq.trans ?_ (V_main_v1_at m c d); blk_ext [iblk, idx t]
  hwz d C := by refine Eq.trans ?_ (V_main_v2_at m c d C); blk_ext [iblk, idx t]
  hwx d C := by refine Eq.trans ?_ (V_main_v3_at m c d C); blk_ext [iblk, idx t]
  hwdt d C := by refine Eq.trans ?_ (V_main_v4_at m c d C); blk_ext [iblk, idx t]
  hcw k C := by refine Eq.trans ?_ (V_main_v5_at m c k C); blk_ext [iblk, idx t]
  hcb C := by refine Eq.trans ?_ (V_main_v6_at m c C); blk_ext [iblk, idx t]
  hdtb C := by refine Eq.trans ?_ (V_main_v7_at m c C); blk_ext [iblk, idx t]

/-- The gate branch, at a grid point: the reference's term. -/
theorem z_point (c : Dev nD) (t : Fin cfg0.N) (hb : t.val < 8) (z : Fin 1) (r : Fin 256) (C : Fin 2048) :
    (outsAt0 m c t).1 (ix3 z r C) = zArr (inArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (ix3 ⟨t.val, hb⟩ r C) := by
  refine (z_D m c t z r C).trans ?_
  exact z_eq (reads m c t hb) r C

/-- The gate branch after the run: the reference's term of the arguments. -/
theorem z_final (c : Dev nD) : (dats m 0 c).arrAt 12 cfg0.N = zArr (inArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := by
  refine (dats m 0 c).arrAt_eq_of_covers 12 _ (by decide +kernel) fun t _ y => ?_
  blk_simp
  rw [after0_12]
  have ht : t.val < 8 := (idx t).2.2.2.2.2.2.2.2.2.2.2.2.2.2.2
  have hy1 : (y 1).val < 256 := (y 1).isLt
  have hy2 : (y 2).val < 2048 := (y 2).isLt
  have hy : y = ix3 (n0 := 1) (n1 := 256) (n2 := 2048) ⟨(y 0).val, (y 0).isLt⟩ ⟨(y 1).val, hy1⟩ ⟨(y 2).val, hy2⟩ := by
    blk_ext []
  rw [hy]
  refine (z_point m c t ht ⟨(y 0).val, (y 0).isLt⟩ ⟨(y 1).val, hy1⟩ ⟨(y 2).val, hy2⟩).trans ?_
  refine congrArg _ ?_
  blk_ext [idx t]

/-- The convolved inputs, at a grid point: the reference's term. -/
theorem xs_point (c : Dev nD) (t : Fin cfg0.N) (hb : t.val < 8) (z : Fin 1) (r : Fin 256) (C : Fin 2048) :
    (outsAt0 m c t).2.1 (ix3 z r C) = xsArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) (ix3 ⟨t.val, hb⟩ r C) := by
  refine (xs_D m c t z r C).trans ?_
  rw [Cert.SsmCtxRefIdeal.Value.xsArr_at]
  exact s_eq (reads m c t hb) r _

/-- The convolved inputs after the run: the reference's term of the arguments. -/
theorem xs_final (c : Dev nD) : (dats m 0 c).arrAt 13 cfg0.N = xsArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  refine (dats m 0 c).arrAt_eq_of_covers 13 _ (by decide +kernel) fun t _ y => ?_
  blk_simp
  rw [after0_13]
  have ht : t.val < 8 := (idx t).2.2.2.2.2.2.2.2.2.2.2.2.2.2.2
  have hy1 : (y 1).val < 256 := (y 1).isLt
  have hy2 : (y 2).val < 2048 := (y 2).isLt
  have hy : y = ix3 (n0 := 1) (n1 := 256) (n2 := 2048) ⟨(y 0).val, (y 0).isLt⟩ ⟨(y 1).val, hy1⟩ ⟨(y 2).val, hy2⟩ := by
    blk_ext []
  rw [hy]
  refine (xs_point m c t ht ⟨(y 0).val, (y 0).isLt⟩ ⟨(y 1).val, hy1⟩ ⟨(y 2).val, hy2⟩).trans ?_
  refine congrArg _ ?_
  blk_ext [idx t]

/-- B, at a grid point: the reference's term. -/
theorem bm_point (c : Dev nD) (t : Fin cfg0.N) (hb : t.val < 8) (z : Fin 1) (r : Fin 256) (C : Fin 512) :
    (outsAt0 m c t).2.2.1 (ix3 z r C) = bArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) (ix3 ⟨t.val, hb⟩ r C) := by
  refine (bm_D m c t z r C).trans ?_
  rw [Cert.SsmCtxRefIdeal.Value.bArr_at]
  exact s_eq (reads m c t hb) r _

/-- B after the run: the reference's term of the arguments. -/
theorem bm_final (c : Dev nD) : (dats m 0 c).arrAt 14 cfg0.N = bArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  refine (dats m 0 c).arrAt_eq_of_covers 14 _ (by decide +kernel) fun t _ y => ?_
  blk_simp
  rw [after0_14]
  have ht : t.val < 8 := (idx t).2.2.2.2.2.2.2.2.2.2.2.2.2.2.2
  have hy1 : (y 1).val < 256 := (y 1).isLt
  have hy2 : (y 2).val < 512 := (y 2).isLt
  have hy : y = ix3 (n0 := 1) (n1 := 256) (n2 := 512) ⟨(y 0).val, (y 0).isLt⟩ ⟨(y 1).val, hy1⟩ ⟨(y 2).val, hy2⟩ := by
    blk_ext []
  rw [hy]
  refine (bm_point m c t ht ⟨(y 0).val, (y 0).isLt⟩ ⟨(y 1).val, hy1⟩ ⟨(y 2).val, hy2⟩).trans ?_
  refine congrArg _ ?_
  blk_ext [idx t]

/-- C, at a grid point: the reference's term. -/
theorem cm_point (c : Dev nD) (t : Fin cfg0.N) (hb : t.val < 8) (z : Fin 1) (r : Fin 256) (C : Fin 512) :
    (outsAt0 m c t).2.2.2.1 (ix3 z r C) = cArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) (ix3 ⟨t.val, hb⟩ r C) := by
  refine (cm_D m c t z r C).trans ?_
  rw [Cert.SsmCtxRefIdeal.Value.cArr_at]
  exact s_eq (reads m c t hb) r _

/-- C after the run: the reference's term of the arguments. -/
theorem cm_final (c : Dev nD) : (dats m 0 c).arrAt 15 cfg0.N = cArr (sArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  refine (dats m 0 c).arrAt_eq_of_covers 15 _ (by decide +kernel) fun t _ y => ?_
  blk_simp
  rw [after0_15]
  have ht : t.val < 8 := (idx t).2.2.2.2.2.2.2.2.2.2.2.2.2.2.2
  have hy1 : (y 1).val < 256 := (y 1).isLt
  have hy2 : (y 2).val < 512 := (y 2).isLt
  have hy : y = ix3 (n0 := 1) (n1 := 256) (n2 := 512) ⟨(y 0).val, (y 0).isLt⟩ ⟨(y 1).val, hy1⟩ ⟨(y 2).val, hy2⟩ := by
    blk_ext []
  rw [hy]
  refine (cm_point m c t ht ⟨(y 0).val, (y 0).isLt⟩ ⟨(y 1).val, hy1⟩ ⟨(y 2).val, hy2⟩).trans ?_
  refine congrArg _ ?_
  blk_ext [idx t]

/-- The time steps, at a grid point: the reference's term. -/
theorem dt_point (c : Dev nD) (t : Fin cfg0.N) (hb : t.val < 8) (z : Fin 1) (r : Fin 256) (C : Fin 128) :
    (outsAt0 m c t).2.2.2.2 (ix3 z r C) = softplusArr (rawArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)) (m ((c.tc : Thread nD τ).loc main_arg8))) (ix3 ⟨t.val, hb⟩ r C) := by
  refine (dt_D m c t z r C).trans ?_
  exact dt_eq (reads m c t hb) r C

/-- The time steps after the run: the reference's term of the arguments. -/
theorem dt_final (c : Dev nD) : (dats m 0 c).arrAt 16 cfg0.N = softplusArr (rawArr (hArr (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg7)) (m ((c.tc : Thread nD τ).loc main_arg8))) := by
  refine (dats m 0 c).arrAt_eq_of_covers 16 _ (by decide +kernel) fun t _ y => ?_
  blk_simp
  rw [after0_16]
  have ht : t.val < 8 := (idx t).2.2.2.2.2.2.2.2.2.2.2.2.2.2.2
  have hy1 : (y 1).val < 256 := (y 1).isLt
  have hy2 : (y 2).val < 128 := (y 2).isLt
  have hy : y = ix3 (n0 := 1) (n1 := 256) (n2 := 128) ⟨(y 0).val, (y 0).isLt⟩ ⟨(y 1).val, hy1⟩ ⟨(y 2).val, hy2⟩ := by
    blk_ext []
  rw [hy]
  refine (dt_point m c t ht ⟨(y 0).val, (y 0).isLt⟩ ⟨(y 1).val, hy1⟩ ⟨(y 2).val, hy2⟩).trans ?_
  refine congrArg _ ?_
  blk_ext [idx t]

end Cert.SsmCtxIdeal.Value
-- ==== Proof.SsmCtxClaims.lean ====
/- The five claims about the recurrent mixer's input on the context. -/
module

public import proofs.«01_k».proof.Defs
public import proofs.«01_k».proof.Proof.SsmCtxEntry
public import proofs.«01_k».proof.Proof.Gen.SsmCtx.Frame
public import proofs.«01_k».proof.Proof.Gen.SsmCtxIdeal.Frame
public import proofs.«01_k».proof.Proof.Gen.SsmCtxIdeal.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.SsmCtxClaims

/-- The kernel runs, leaves its arguments alone and ends quiet. -/
theorem frame_p : Cert.quiescent_SsmCtx := fun m ρ _ => Cert.SsmCtx.Gen.frame m ρ

/-- So does its ideal reading. -/
theorem frame_pi : Cert.quiescent_SsmCtxIdeal := fun m ρ _ => Cert.SsmCtxIdeal.Gen.frame m ρ

/-- So does the reference's ideal reading. -/
theorem frame_ri : Cert.quiescent_SsmCtxRefIdeal := fun m ρ _ =>
  (θ_run Cert.SsmCtxRefIdeal.defs _ _).mono (fun r h => ⟨fun c => (h c).2.2.2.2.2, sem_eq_zero_of_no_sems (by decide) r.2⟩)
    (Cert.SsmCtxRefIdeal.Value.run (F := Ideal) m ρ)

/-- The ideal reading rewrites no operation. -/
theorem preserves : Cert.preserves_SsmCtx_SsmCtxIdeal := trivial

/-- Kernel and reference end with equal results from equal arguments. -/
theorem algebraic : Cert.algebraic_SsmCtxIdeal_SsmCtxRefIdeal := by
  pair_intro
  · run_from Cert.SsmCtxIdeal.Value.run_blocks m g
  · refine (θ_run Cert.SsmCtxRefIdeal.defs _ _).mono (fun r h c => ?_) (Cert.SsmCtxRefIdeal.Value.run (F := Ideal) m' g')
    obtain ⟨h0, h1, h2, h3, h4, h5, h6, h7, h8⟩ := hagree c
    refine ⟨(h c).1.trans ?_, (h c).2.1.trans ?_, (h c).2.2.1.trans ?_, (h c).2.2.2.1.trans ?_, (h c).2.2.2.2.1.trans ?_, (h c).2.2.2.2.2⟩
    · rw [Cert.SsmCtxIdeal.Value.z_final m c, ← h0, ← h1, ← h2, ← h3, ← h4]
      unfold Cert.SsmCtxRefIdeal.Value.zArr Cert.SsmCtxRefIdeal.Value.inArr Cert.SsmCtxRefIdeal.Value.hArr Cert.SsmCtxRefIdeal.Value.modArr
        Cert.SsmCtxRefIdeal.Value.normArr Cert.SsmCtxRefIdeal.Value.invRms
      rfl
    · refine (Cert.SsmCtxRefIdeal.Value.res1_eq m' c).trans ?_
      rw [Cert.SsmCtxIdeal.Value.xs_final m c, h0, h1, h2, h3, h4, h5, h6]
    · refine (Cert.SsmCtxRefIdeal.Value.res2_eq m' c).trans ?_
      rw [Cert.SsmCtxIdeal.Value.bm_final m c, h0, h1, h2, h3, h4, h5, h6]
    · refine (Cert.SsmCtxRefIdeal.Value.res3_eq m' c).trans ?_
      rw [Cert.SsmCtxIdeal.Value.cm_final m c, h0, h1, h2, h3, h4, h5, h6]
    · refine (Cert.SsmCtxRefIdeal.Value.res4_eq m' c).trans ?_
      rw [Cert.SsmCtxIdeal.Value.dt_final m c, h0, h1, h2, h3, h7, h8]

end Cert.Proof.SsmCtxClaims
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.AttnClaims
public import proofs.«01_k».proof.Proof.Gen.Ffn
public import proofs.«01_k».proof.Proof.Gen.Ffn.Skeleton
public import proofs.«01_k».proof.Proof.Gen.Ffn.Loops
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Loops
public import proofs.«01_k».proof.Proof.Gen.FfnIdeal.Launch
public import proofs.«01_k».proof.Proof.Gen.FfnIdeal.Points
public import proofs.«01_k».proof.Proof.Gen.FfnRefIdeal
public import proofs.«01_k».proof.Proof.Gen.FfnRefIdeal.Run
public import proofs.«01_k».proof.Proof.FfnClaims
public import proofs.«01_k».proof.Proof.Gen.Ssm
public import proofs.«01_k».proof.Proof.Gen.Ssm.Skeleton
public import proofs.«01_k».proof.Proof.Gen.Ssm.Launch
public import proofs.«01_k».proof.Proof.Gen.Ssm.Points
public import proofs.«01_k».proof.Proof.Gen.Ssm.Frame
public import proofs.«01_k».proof.Proof.Gen.SsmIdeal
public import proofs.«01_k».proof.Proof.Gen.SsmIdeal.Skeleton
public import proofs.«01_k».proof.Proof.Gen.SsmIdeal.Launch
public import proofs.«01_k».proof.Proof.Gen.SsmIdeal.Points
public import proofs.«01_k».proof.Proof.Gen.SsmIdeal.Frame
public import proofs.«01_k».proof.Proof.Gen.SsmIdeal.Value
public import proofs.«01_k».proof.Proof.Gen.SsmRefIdeal
public import proofs.«01_k».proof.Proof.Gen.SsmRefIdeal.Run
public import proofs.«01_k».proof.Proof.SsmClaims
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.QkvClaims
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.MixClaims
public import proofs.«01_k».proof.Proof.Gen.SsmCtx
public import proofs.«01_k».proof.Proof.Gen.SsmCtx.Skeleton
public import proofs.«01_k».proof.Proof.Gen.SsmCtx.Launch
public import proofs.«01_k».proof.Proof.Gen.SsmCtx.Points
public import proofs.«01_k».proof.Proof.Gen.SsmCtx.Frame
public import proofs.«01_k».proof.Proof.Gen.SsmCtxIdeal
public import proofs.«01_k».proof.Proof.Gen.SsmCtxIdeal.Skeleton
public import proofs.«01_k».proof.Proof.Gen.SsmCtxIdeal.Launch
public import proofs.«01_k».proof.Proof.Gen.SsmCtxIdeal.Points
public import proofs.«01_k».proof.Proof.Gen.SsmCtxIdeal.Frame
public import proofs.«01_k».proof.Proof.Gen.SsmCtxIdeal.Value
public import proofs.«01_k».proof.Proof.Gen.SsmCtxRefIdeal
public import proofs.«01_k».proof.Proof.Gen.SsmCtxRefIdeal.Run
public import proofs.«01_k».proof.Proof.SsmCtxClaims
public import Idealize.ShloMosaic.Adequacy
public import Idealize.ShloMosaic.Init

@[expose] public section

noncomputable section

namespace Cert.Proof

open Idealize.ShloMosaic Idealize.SL.Sem Cert.Attn

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.Ssm.Gen.facts, Cert.SsmIdeal.Gen.facts, Cert.SsmRefIdeal.Gen.facts, Cert.Qkv.Gen.facts,
    Cert.QkvIdeal.Gen.facts, Cert.QkvRefIdeal.Gen.facts,
    Cert.Mix.Gen.facts, Cert.MixIdeal.Gen.facts, Cert.MixRefIdeal.Gen.facts,
    Cert.SsmCtx.Gen.facts, Cert.SsmCtxIdeal.Gen.facts, Cert.SsmCtxRefIdeal.Gen.facts, Cert.Pre_finite_queries_keys.facts,
    AttnClaims.frame_p, AttnClaims.frame_pi, AttnClaims.frame_pi_pre, AttnClaims.frame_ri, AttnClaims.frame_ri_pre,
    FfnClaims.frame_p, FfnClaims.frame_pi, FfnClaims.frame_ri,
    SsmClaims.frame_p, SsmClaims.frame_pi, SsmClaims.frame_ri,
    QkvClaims.frame_p, QkvClaims.frame_pi, QkvClaims.frame_ri,
    MixClaims.frame_p, MixClaims.frame_pi, MixClaims.frame_ri,
    SsmCtxClaims.frame_p, SsmCtxClaims.frame_pi, SsmCtxClaims.frame_ri,
    AttnClaims.preserves, AttnClaims.algebraic, FfnClaims.preserves, FfnClaims.algebraic, SsmClaims.preserves, SsmClaims.algebraic,
    QkvClaims.preserves, QkvClaims.algebraic, MixClaims.preserves, MixClaims.algebraic,
    SsmCtxClaims.preserves, SsmCtxClaims.algebraic⟩

end Cert.Proof

end
